-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_nonneg [hPre_gates_nonneg : Cert.Pre_gates_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gates_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_nonneg [hPre_gates_nonneg : Cert.Pre_gates_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3))) = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_finite [hPre_finite : Cert.Pre_finite.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_finite.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1)) (m ((c.tc : Thread Cert.AttendReferenceIdeal.nD Cert.AttendReferenceIdeal.τ).loc Cert.AttendReferenceIdeal.main_arg2)) (m ((c.tc : Thread Cert.AttendReferenceIdeal.nD Cert.AttendReferenceIdeal.τ).loc Cert.AttendReferenceIdeal.main_arg3))) = (fun _ => 1#1)

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmReferenceIdeal (m : (ℓ : Loc Cert.MlstmReferenceIdeal.nD Cert.MlstmReferenceIdeal.τ Cert.MlstmReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gates_nonneg [hKernelIdeal : Cert.KernelIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gates_nonneg [hReferenceIdeal : Cert.ReferenceIdeal.Facts] [hPre_gates_nonneg : Cert.Pre_gates_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_AttendReferenceIdeal_pre_finite [hAttendReferenceIdeal : Cert.AttendReferenceIdeal.Facts] [hPre_finite : Cert.Pre_finite.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_finite m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1)
      ∧ r.2.mem ((c.tc : Thread Cert.AttendReferenceIdeal.nD Cert.AttendReferenceIdeal.τ).loc Cert.AttendReferenceIdeal.main_arg2) = m ((c.tc : Thread Cert.AttendReferenceIdeal.nD Cert.AttendReferenceIdeal.τ).loc Cert.AttendReferenceIdeal.main_arg2)
      ∧ r.2.mem ((c.tc : Thread Cert.AttendReferenceIdeal.nD Cert.AttendReferenceIdeal.τ).loc Cert.AttendReferenceIdeal.main_arg3) = m ((c.tc : Thread Cert.AttendReferenceIdeal.nD Cert.AttendReferenceIdeal.τ).loc Cert.AttendReferenceIdeal.main_arg3))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7)
      ∧ r.2.mem ((c.tc : Thread Cert.Mlstm.nD Cert.Mlstm.τ).loc Cert.Mlstm.main_arg8) = m ((c.tc : Thread Cert.Mlstm.nD Cert.Mlstm.τ).loc Cert.Mlstm.main_arg8))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8))
      ∧ r.2.sem = fun _ => 0)

def quiescent_MlstmReferenceIdeal [hMlstmReferenceIdeal : Cert.MlstmReferenceIdeal.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3)
      ∧ r.2.mem ((c.tc : Thread Cert.MlstmReferenceIdeal.nD Cert.MlstmReferenceIdeal.τ).loc Cert.MlstmReferenceIdeal.main_arg4) = m ((c.tc : Thread Cert.MlstmReferenceIdeal.nD Cert.MlstmReferenceIdeal.τ).loc Cert.MlstmReferenceIdeal.main_arg4)
      ∧ r.2.mem ((c.tc : Thread Cert.MlstmReferenceIdeal.nD Cert.MlstmReferenceIdeal.τ).loc Cert.MlstmReferenceIdeal.main_arg5) = m ((c.tc : Thread Cert.MlstmReferenceIdeal.nD Cert.MlstmReferenceIdeal.τ).loc Cert.MlstmReferenceIdeal.main_arg5)
      ∧ r.2.mem ((c.tc : Thread Cert.MlstmReferenceIdeal.nD Cert.MlstmReferenceIdeal.τ).loc Cert.MlstmReferenceIdeal.main_arg6) = m ((c.tc : Thread Cert.MlstmReferenceIdeal.nD Cert.MlstmReferenceIdeal.τ).loc Cert.MlstmReferenceIdeal.main_arg6)
      ∧ r.2.mem ((c.tc : Thread Cert.MlstmReferenceIdeal.nD Cert.MlstmReferenceIdeal.τ).loc Cert.MlstmReferenceIdeal.main_arg7) = m ((c.tc : Thread Cert.MlstmReferenceIdeal.nD Cert.MlstmReferenceIdeal.τ).loc Cert.MlstmReferenceIdeal.main_arg7)
      ∧ r.2.mem ((c.tc : Thread Cert.MlstmReferenceIdeal.nD Cert.MlstmReferenceIdeal.τ).loc Cert.MlstmReferenceIdeal.main_arg8) = m ((c.tc : Thread Cert.MlstmReferenceIdeal.nD Cert.MlstmReferenceIdeal.τ).loc Cert.MlstmReferenceIdeal.main_arg8))
      ∧ r.2.sem = fun _ => 0)

def preserves_Kernel_KernelIdeal : Prop :=
  True

def algebraic_KernelIdeal_ReferenceIdeal_pre_gates_nonneg [hKernelIdeal : Cert.KernelIdeal.Facts] [hReferenceIdeal : Cert.ReferenceIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v15) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v12_0)) (v1 : (c : Dev Cert.InProjIdeal.nD) → Buf (Elt Ideal) ((c.tc : Thread Cert.InProjIdeal.nD Cert.InProjIdeal.τ).loc Cert.InProjIdeal.main_v12_1)) (v2 : (c : Dev Cert.InProjIdeal.nD) → Buf (Elt Ideal) ((c.tc : Thread Cert.InProjIdeal.nD Cert.InProjIdeal.τ).loc Cert.InProjIdeal.main_v12_2)) (v3 : (c : Dev Cert.InProjIdeal.nD) → Buf (Elt Ideal) ((c.tc : Thread Cert.InProjIdeal.nD Cert.InProjIdeal.τ).loc Cert.InProjIdeal.main_v12_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12_0) = v0 c
          ∧ r.2.mem ((c.tc : Thread Cert.InProjIdeal.nD Cert.InProjIdeal.τ).loc Cert.InProjIdeal.main_v12_1) = v1 c
          ∧ r.2.mem ((c.tc : Thread Cert.InProjIdeal.nD Cert.InProjIdeal.τ).loc Cert.InProjIdeal.main_v12_2) = v2 c
          ∧ r.2.mem ((c.tc : Thread Cert.InProjIdeal.nD Cert.InProjIdeal.τ).loc Cert.InProjIdeal.main_v12_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v29) = v0 c
          ∧ r.2.mem ((c.tc : Thread Cert.InProjReferenceIdeal.nD Cert.InProjReferenceIdeal.τ).loc Cert.InProjReferenceIdeal.main_v30) = v1 c
          ∧ r.2.mem ((c.tc : Thread Cert.InProjReferenceIdeal.nD Cert.InProjReferenceIdeal.τ).loc Cert.InProjReferenceIdeal.main_v34) = v2 c
          ∧ r.2.mem ((c.tc : Thread Cert.InProjReferenceIdeal.nD Cert.InProjReferenceIdeal.τ).loc Cert.InProjReferenceIdeal.main_v2) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7))

def preserves_Attend_AttendIdeal : Prop :=
  True

def algebraic_AttendIdeal_AttendReferenceIdeal_pre_finite [hAttendIdeal : Cert.AttendIdeal.Facts] [hAttendReferenceIdeal : Cert.AttendReferenceIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_finite m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)
      ∧ m' ((c.tc : Thread Cert.AttendReferenceIdeal.nD Cert.AttendReferenceIdeal.τ).loc Cert.AttendReferenceIdeal.main_arg2) = m ((c.tc : Thread Cert.AttendIdeal.nD Cert.AttendIdeal.τ).loc Cert.AttendIdeal.main_arg2)
      ∧ m' ((c.tc : Thread Cert.AttendReferenceIdeal.nD Cert.AttendReferenceIdeal.τ).loc Cert.AttendReferenceIdeal.main_arg3) = m ((c.tc : Thread Cert.AttendIdeal.nD Cert.AttendIdeal.τ).loc Cert.AttendIdeal.main_arg3)) →
    ∃ (v0 : (c : Dev Cert.AttendIdeal.nD) → Buf (Elt Ideal) ((c.tc : Thread Cert.AttendIdeal.nD Cert.AttendIdeal.τ).loc Cert.AttendIdeal.main_v11)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v11) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v24) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1)
          ∧ r.2.mem ((c.tc : Thread Cert.AttendReferenceIdeal.nD Cert.AttendReferenceIdeal.τ).loc Cert.AttendReferenceIdeal.main_arg2) = m' ((c.tc : Thread Cert.AttendReferenceIdeal.nD Cert.AttendReferenceIdeal.τ).loc Cert.AttendReferenceIdeal.main_arg2)
          ∧ r.2.mem ((c.tc : Thread Cert.AttendReferenceIdeal.nD Cert.AttendReferenceIdeal.τ).loc Cert.AttendReferenceIdeal.main_arg3) = m' ((c.tc : Thread Cert.AttendReferenceIdeal.nD Cert.AttendReferenceIdeal.τ).loc Cert.AttendReferenceIdeal.main_arg3))

def preserves_Mlstm_MlstmIdeal : Prop :=
  IdealRules.named_const.Statement Cert.MlstmIdeal.κ "mask" .f32 0xF149F2CA#32 ⊥

def algebraic_MlstmIdeal_MlstmReferenceIdeal [hMlstmIdeal : Cert.MlstmIdeal.Facts] [hMlstmReferenceIdeal : Cert.MlstmReferenceIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmReferenceIdeal.nD Cert.MlstmReferenceIdeal.τ Cert.MlstmReferenceIdeal.sig) → Buf (Elt Ideal) ℓ) (g' : Dev Cert.MlstmReferenceIdeal.nD → PrngReg), Pre_MlstmIdeal m →
    (∀ c : Dev Cert.MlstmIdeal.nD,
      m' ((c.tc : Thread Cert.MlstmReferenceIdeal.nD Cert.MlstmReferenceIdeal.τ).loc Cert.MlstmReferenceIdeal.main_arg0) = m ((c.tc : Thread Cert.MlstmIdeal.nD Cert.MlstmIdeal.τ).loc Cert.MlstmIdeal.main_arg0)
      ∧ m' ((c.tc : Thread Cert.MlstmReferenceIdeal.nD Cert.MlstmReferenceIdeal.τ).loc Cert.MlstmReferenceIdeal.main_arg1) = m ((c.tc : Thread Cert.MlstmIdeal.nD Cert.MlstmIdeal.τ).loc Cert.MlstmIdeal.main_arg1)
      ∧ m' ((c.tc : Thread Cert.MlstmReferenceIdeal.nD Cert.MlstmReferenceIdeal.τ).loc Cert.MlstmReferenceIdeal.main_arg2) = m ((c.tc : Thread Cert.MlstmIdeal.nD Cert.MlstmIdeal.τ).loc Cert.MlstmIdeal.main_arg2)
      ∧ m' ((c.tc : Thread Cert.MlstmReferenceIdeal.nD Cert.MlstmReferenceIdeal.τ).loc Cert.MlstmReferenceIdeal.main_arg3) = m ((c.tc : Thread Cert.MlstmIdeal.nD Cert.MlstmIdeal.τ).loc Cert.MlstmIdeal.main_arg3)
      ∧ m' ((c.tc : Thread Cert.MlstmReferenceIdeal.nD Cert.MlstmReferenceIdeal.τ).loc Cert.MlstmReferenceIdeal.main_arg4) = m ((c.tc : Thread Cert.MlstmIdeal.nD Cert.MlstmIdeal.τ).loc Cert.MlstmIdeal.main_arg4)
      ∧ m' ((c.tc : Thread Cert.MlstmReferenceIdeal.nD Cert.MlstmReferenceIdeal.τ).loc Cert.MlstmReferenceIdeal.main_arg5) = m ((c.tc : Thread Cert.MlstmIdeal.nD Cert.MlstmIdeal.τ).loc Cert.MlstmIdeal.main_arg5)
      ∧ m' ((c.tc : Thread Cert.MlstmReferenceIdeal.nD Cert.MlstmReferenceIdeal.τ).loc Cert.MlstmReferenceIdeal.main_arg6) = m ((c.tc : Thread Cert.MlstmIdeal.nD Cert.MlstmIdeal.τ).loc Cert.MlstmIdeal.main_arg6)
      ∧ m' ((c.tc : Thread Cert.MlstmReferenceIdeal.nD Cert.MlstmReferenceIdeal.τ).loc Cert.MlstmReferenceIdeal.main_arg7) = m ((c.tc : Thread Cert.MlstmIdeal.nD Cert.MlstmIdeal.τ).loc Cert.MlstmIdeal.main_arg7)
      ∧ m' ((c.tc : Thread Cert.MlstmReferenceIdeal.nD Cert.MlstmReferenceIdeal.τ).loc Cert.MlstmReferenceIdeal.main_arg8) = m ((c.tc : Thread Cert.MlstmIdeal.nD Cert.MlstmIdeal.τ).loc Cert.MlstmIdeal.main_arg8)) →
    ∃ (v0 : (c : Dev Cert.MlstmIdeal.nD) → Buf (Elt Ideal) ((c.tc : Thread Cert.MlstmIdeal.nD Cert.MlstmIdeal.τ).loc Cert.MlstmIdeal.main_v11_0)) (v1 : (c : Dev Cert.MlstmIdeal.nD) → Buf (Elt Ideal) ((c.tc : Thread Cert.MlstmIdeal.nD Cert.MlstmIdeal.τ).loc Cert.MlstmIdeal.main_v11_1)) (v2 : (c : Dev Cert.MlstmIdeal.nD) → Buf (Elt Ideal) ((c.tc : Thread Cert.MlstmIdeal.nD Cert.MlstmIdeal.τ).loc Cert.MlstmIdeal.main_v11_2)) (v3 : (c : Dev Cert.MlstmIdeal.nD) → Buf (Elt Ideal) ((c.tc : Thread Cert.MlstmIdeal.nD Cert.MlstmIdeal.τ).loc Cert.MlstmIdeal.main_v11_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v11_0) = v0 c
          ∧ r.2.mem ((c.tc : Thread Cert.MlstmIdeal.nD Cert.MlstmIdeal.τ).loc Cert.MlstmIdeal.main_v11_1) = v1 c
          ∧ r.2.mem ((c.tc : Thread Cert.MlstmIdeal.nD Cert.MlstmIdeal.τ).loc Cert.MlstmIdeal.main_v11_2) = v2 c
          ∧ r.2.mem ((c.tc : Thread Cert.MlstmIdeal.nD Cert.MlstmIdeal.τ).loc Cert.MlstmIdeal.main_v11_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
          ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
          ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8))
      ∧ θ_run (Cert.MlstmReferenceIdeal.defs (F := Ideal)) (onTc (τ := Cert.MlstmReferenceIdeal.τ) (Cert.MlstmReferenceIdeal.main (F := Ideal))) ⟨m', fun _ => 0, g'⟩ (fun r => ∀ c : Dev Cert.MlstmReferenceIdeal.nD,
          r.2.mem ((c.tc : Thread Cert.MlstmReferenceIdeal.nD Cert.MlstmReferenceIdeal.τ).loc Cert.MlstmReferenceIdeal.main_v118) = v0 c
          ∧ r.2.mem ((c.tc : Thread Cert.MlstmReferenceIdeal.nD Cert.MlstmReferenceIdeal.τ).loc Cert.MlstmReferenceIdeal.main_v81) = v1 c
          ∧ r.2.mem ((c.tc : Thread Cert.MlstmReferenceIdeal.nD Cert.MlstmReferenceIdeal.τ).loc Cert.MlstmReferenceIdeal.main_v119) = v2 c
          ∧ r.2.mem ((c.tc : Thread Cert.MlstmReferenceIdeal.nD Cert.MlstmReferenceIdeal.τ).loc Cert.MlstmReferenceIdeal.main_v121) = v3 c
          ∧ r.2.mem ((c.tc : Thread Cert.MlstmReferenceIdeal.nD Cert.MlstmReferenceIdeal.τ).loc Cert.MlstmReferenceIdeal.main_arg0) = m' ((c.tc : Thread Cert.MlstmReferenceIdeal.nD Cert.MlstmReferenceIdeal.τ).loc Cert.MlstmReferenceIdeal.main_arg0)
          ∧ r.2.mem ((c.tc : Thread Cert.MlstmReferenceIdeal.nD Cert.MlstmReferenceIdeal.τ).loc Cert.MlstmReferenceIdeal.main_arg1) = m' ((c.tc : Thread Cert.MlstmReferenceIdeal.nD Cert.MlstmReferenceIdeal.τ).loc Cert.MlstmReferenceIdeal.main_arg1)
          ∧ r.2.mem ((c.tc : Thread Cert.MlstmReferenceIdeal.nD Cert.MlstmReferenceIdeal.τ).loc Cert.MlstmReferenceIdeal.main_arg2) = m' ((c.tc : Thread Cert.MlstmReferenceIdeal.nD Cert.MlstmReferenceIdeal.τ).loc Cert.MlstmReferenceIdeal.main_arg2)
          ∧ r.2.mem ((c.tc : Thread Cert.MlstmReferenceIdeal.nD Cert.MlstmReferenceIdeal.τ).loc Cert.MlstmReferenceIdeal.main_arg3) = m' ((c.tc : Thread Cert.MlstmReferenceIdeal.nD Cert.MlstmReferenceIdeal.τ).loc Cert.MlstmReferenceIdeal.main_arg3)
          ∧ r.2.mem ((c.tc : Thread Cert.MlstmReferenceIdeal.nD Cert.MlstmReferenceIdeal.τ).loc Cert.MlstmReferenceIdeal.main_arg4) = m' ((c.tc : Thread Cert.MlstmReferenceIdeal.nD Cert.MlstmReferenceIdeal.τ).loc Cert.MlstmReferenceIdeal.main_arg4)
          ∧ r.2.mem ((c.tc : Thread Cert.MlstmReferenceIdeal.nD Cert.MlstmReferenceIdeal.τ).loc Cert.MlstmReferenceIdeal.main_arg5) = m' ((c.tc : Thread Cert.MlstmReferenceIdeal.nD Cert.MlstmReferenceIdeal.τ).loc Cert.MlstmReferenceIdeal.main_arg5)
          ∧ r.2.mem ((c.tc : Thread Cert.MlstmReferenceIdeal.nD Cert.MlstmReferenceIdeal.τ).loc Cert.MlstmReferenceIdeal.main_arg6) = m' ((c.tc : Thread Cert.MlstmReferenceIdeal.nD Cert.MlstmReferenceIdeal.τ).loc Cert.MlstmReferenceIdeal.main_arg6)
          ∧ r.2.mem ((c.tc : Thread Cert.MlstmReferenceIdeal.nD Cert.MlstmReferenceIdeal.τ).loc Cert.MlstmReferenceIdeal.main_arg7) = m' ((c.tc : Thread Cert.MlstmReferenceIdeal.nD Cert.MlstmReferenceIdeal.τ).loc Cert.MlstmReferenceIdeal.main_arg7)
          ∧ r.2.mem ((c.tc : Thread Cert.MlstmReferenceIdeal.nD Cert.MlstmReferenceIdeal.τ).loc Cert.MlstmReferenceIdeal.main_arg8) = m' ((c.tc : Thread Cert.MlstmReferenceIdeal.nD Cert.MlstmReferenceIdeal.τ).loc Cert.MlstmReferenceIdeal.main_arg8))

def Claim : Prop :=
  ∃ (hKernel : Cert.Kernel.Facts) (hKernelIdeal : Cert.KernelIdeal.Facts) (hReferenceIdeal : Cert.ReferenceIdeal.Facts) (hFinal : Cert.Final.Facts) (hFinalIdeal : Cert.FinalIdeal.Facts) (hFinalReferenceIdeal : Cert.FinalReferenceIdeal.Facts) (hInProj : Cert.InProj.Facts) (hInProjIdeal : Cert.InProjIdeal.Facts) (hInProjReferenceIdeal : Cert.InProjReferenceIdeal.Facts) (hAttend : Cert.Attend.Facts) (hAttendIdeal : Cert.AttendIdeal.Facts) (hAttendReferenceIdeal : Cert.AttendReferenceIdeal.Facts) (hMlstm : Cert.Mlstm.Facts) (hMlstmIdeal : Cert.MlstmIdeal.Facts) (hMlstmReferenceIdeal : Cert.MlstmReferenceIdeal.Facts) (hPre_gates_nonneg : Cert.Pre_gates_nonneg.Facts) (hPre_finite : Cert.Pre_finite.Facts),
    quiescent_Kernel (hKernel := hKernel)
    ∧ quiescent_KernelIdeal (hKernelIdeal := hKernelIdeal)
    ∧ quiescent_KernelIdeal_pre_gates_nonneg (hKernelIdeal := hKernelIdeal) (hPre_gates_nonneg := hPre_gates_nonneg)
    ∧ quiescent_ReferenceIdeal (hReferenceIdeal := hReferenceIdeal)
    ∧ quiescent_ReferenceIdeal_pre_gates_nonneg (hReferenceIdeal := hReferenceIdeal) (hPre_gates_nonneg := hPre_gates_nonneg)
    ∧ quiescent_Final (hFinal := hFinal)
    ∧ quiescent_FinalIdeal (hFinalIdeal := hFinalIdeal)
    ∧ quiescent_FinalReferenceIdeal (hFinalReferenceIdeal := hFinalReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Attend (hAttend := hAttend)
    ∧ quiescent_AttendIdeal (hAttendIdeal := hAttendIdeal)
    ∧ quiescent_AttendIdeal_pre_finite (hAttendIdeal := hAttendIdeal) (hPre_finite := hPre_finite)
    ∧ quiescent_AttendReferenceIdeal (hAttendReferenceIdeal := hAttendReferenceIdeal)
    ∧ quiescent_AttendReferenceIdeal_pre_finite (hAttendReferenceIdeal := hAttendReferenceIdeal) (hPre_finite := hPre_finite)
    ∧ quiescent_Mlstm (hMlstm := hMlstm)
    ∧ quiescent_MlstmIdeal (hMlstmIdeal := hMlstmIdeal)
    ∧ quiescent_MlstmReferenceIdeal (hMlstmReferenceIdeal := hMlstmReferenceIdeal)
    ∧ preserves_Kernel_KernelIdeal
    ∧ algebraic_KernelIdeal_ReferenceIdeal_pre_gates_nonneg (hKernelIdeal := hKernelIdeal) (hReferenceIdeal := hReferenceIdeal) (hPre_gates_nonneg := hPre_gates_nonneg)
    ∧ preserves_Final_FinalIdeal
    ∧ algebraic_FinalIdeal_FinalReferenceIdeal (hFinalIdeal := hFinalIdeal) (hFinalReferenceIdeal := hFinalReferenceIdeal)
    ∧ preserves_InProj_InProjIdeal
    ∧ algebraic_InProjIdeal_InProjReferenceIdeal (hInProjIdeal := hInProjIdeal) (hInProjReferenceIdeal := hInProjReferenceIdeal)
    ∧ preserves_Attend_AttendIdeal
    ∧ algebraic_AttendIdeal_AttendReferenceIdeal_pre_finite (hAttendIdeal := hAttendIdeal) (hAttendReferenceIdeal := hAttendReferenceIdeal) (hPre_finite := hPre_finite)
    ∧ preserves_Mlstm_MlstmIdeal
    ∧ algebraic_MlstmIdeal_MlstmReferenceIdeal (hMlstmIdeal := hMlstmIdeal) (hMlstmReferenceIdeal := hMlstmReferenceIdeal)
-- ==== Pre_finite.lean ====
abbrev S2x8192x8x64 : Shape := ⟨4, ![2, 8192, 8, 64]⟩
abbrev S8 : Shape := ⟨1, ![8]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S2x8192x8x64 .f32) (main_arg1 : FVec F S2x8192x8x64 .f32) (main_arg2 : FVec F S2x8192x8x64 .f32) (main_arg3 : FVec F S8 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_gates_nonneg.lean ====
abbrev S16384x1024 : Shape := ⟨2, ![16384, 1024]⟩
abbrev S16384x32 : Shape := ⟨2, ![16384, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel

variable [Facts]

def fn {F : FTy → Type} [FloatOps F] (main_arg0 : FVec F S16384x1024 .f32) (main_arg1 : FVec F S16384x32 .f32) (main_arg2 : FVec F S32x1024x2048 .f32) (main_arg3 : FVec F S32x2048 .f32) (main_arg4 : FVec F S32x1024x1024 .f32) (main_arg5 : FVec F S32x1024 .f32) : IVec S_ 1 :=
  let main_cst : FVec F S_ .f32 := constant S_ .f32 0x00000000#32
  let main_v0 : FVec F S16384x32 .f32 := broadcastInDim S16384x32 ![] bcast_S_S16384x32 main_cst
  let main_v1 : IVec S16384x32 1 := cmpf .oge main_arg1 main_v0
  let main_c : IVec S_ 1 := constantI S_ 1 1#1
  let main_v2 : IVec S_ 1 := (fun x v => Host.reduce IntOp.andi x v reducesTo_S16384x32_S_d0_1 h_S_) main_v1 main_c
  main_v2
-- ==== Kernel.lean ====
abbrev S16384x1024 : Shape := ⟨2, ![16384, 1024]⟩
abbrev S16384x32 : Shape := ⟨2, ![16384, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S16384x128 : Shape := ⟨2, ![16384, 128]⟩
abbrev S128x16384 : Shape := ⟨2, ![128, 16384]⟩
abbrev S16x1024x128 : Shape := ⟨3, ![16, 1024, 128]⟩
abbrev S16x128 : Shape := ⟨2, ![16, 128]⟩
abbrev S1024x1024 : Shape := ⟨2, ![1024, 1024]⟩
abbrev S32x1x2048 : Shape := ⟨3, ![32, 1, 2048]⟩
abbrev S32x1x1024 : Shape := ⟨3, ![32, 1, 1024]⟩
abbrev S128x1024 : Shape := ⟨2, ![128, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1x1024 : Shape := ⟨2, ![1, 1024]⟩
abbrev S192x1024 : Shape := ⟨2, ![192, 1024]⟩
abbrev S1x1 : Shape := ⟨2, ![1, 1]⟩
abbrev S192 : Shape := ⟨1, ![192]⟩
abbrev S192x1 : Shape := ⟨2, ![192, 1]⟩
abbrev S1024x2048 : Shape := ⟨2, ![1024, 2048]⟩
abbrev S192x2048 : Shape := ⟨2, ![192, 2048]⟩
abbrev S1x2048 : Shape := ⟨2, ![1, 2048]⟩

abbrev nBuf : Space → Nat
  | .hbm => 31
  | .vmem => 16
  | .smem => 1
  | _ => 0

abbrev bufTy : (tb : Table) → Fin (tcTables nBuf tb) → BufTy
  | .hbm, ⟨0, _⟩ => ⟨S16384x1024, .f32⟩
  | .hbm, ⟨1, _⟩ => ⟨S16384x32, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S16384x1024, .bf16⟩
  | .hbm, ⟨10, _⟩ => ⟨S32x1024x2048, .bf16⟩
  | .hbm, ⟨11, _⟩ => ⟨S32x1024x1024, .bf16⟩
  | .hbm, ⟨12, _⟩ => ⟨S128x16384, .f32⟩
  | .hbm, ⟨13, _⟩ => ⟨S_, .f32⟩
  | .hbm, ⟨14, _⟩ => ⟨S16384x128, .f32⟩
  | .hbm, ⟨15, _⟩ => ⟨S16384x128, .i1⟩
  | .hbm, ⟨16, _⟩ => ⟨S16x1024x128, .i1⟩
  | .hbm, ⟨17, _⟩ => ⟨S16x1024x128, .i32⟩
  | .hbm, ⟨18, _⟩ => ⟨S_, .i32⟩
  | .hbm, ⟨19, _⟩ => ⟨S1024x1024, .i32⟩
  | .hbm, ⟨20, _⟩ => ⟨S1024x1024, .i32⟩
  | .hbm, ⟨21, _⟩ => ⟨S1024x1024, .i1⟩
  | .hbm, ⟨22, _⟩ => ⟨S_, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S32x1x2048, .f32⟩
  | .hbm, ⟨29, _⟩ => ⟨S32x1x1024, .f32⟩
  | .hbm, ⟨30, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .f32⟩
  | .local _ .vmem, ⟨3, _⟩ => ⟨S128x1024, .f32⟩
  | .local _ .vmem, ⟨4, _⟩ => ⟨S1024x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1x2048, .f32⟩
  | .local _ .vmem, ⟨8, _⟩ => ⟨S1x1x2048, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1024x1024, .f32⟩
  | .local _ .vmem, ⟨14, _⟩ => ⟨S1024x1024, .f32⟩
  | .local _ .vmem, ⟨15, _⟩ => ⟨S128x1024, .f32⟩
  | .local _ .smem, ⟨0, _⟩ => ⟨S16x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 32], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let v3 : Index := Scalar.indexCast arg1
  let c0 : Index := 0#32
  ![v3.toNat, 0]
def k0_off2 (i : grid0.Coords) : Fin 2 → Nat :=
  let arg0 : BitVec 32 := BitVec.ofNat 32 (i 0).val
  let v10 : Index := Scalar.indexCast arg0
  let arg1 : BitVec 32 := BitVec.ofNat 32 (i 1).val
  let v11 : Index := Scalar.indexCast arg1
  ![v10.toNat, v11.toNat]
@[reducible] def k0_t1_loop (v12 : BitVec 32) : Scf.Loop 32 :=
  let c0_i32_10 : BitVec 32 := 0#32
  let c192_i32 : BitVec 32 := 192#32
  let v13 : BitVec 32 := Scalar.addi v12 c192_i32
  let c1_i32 : BitVec 32 := 1#32
  let v14 : BitVec 32 := Scalar.subi v13 c1_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c192_i32_2 : BitVec 32 := 192#32
  let c0_i32_5 : BitVec 32 := 0#32
  let v21 : BitVec 1 := Scalar.cmpi .sgt c192_i32_2 c0_i32_5
  let v22 : BitVec 32 := Scalar.extui v21
  let c0_i32_6 : BitVec 32 := 0#32
  let v23 : BitVec 1 := Scalar.cmpi .slt c192_i32_2 c0_i32_6
  let v24 : BitVec 32 := Scalar.extui v23
  let v25 : BitVec 32 := Scalar.subi v22 v24
  let v26 : BitVec 1 := Scalar.cmpi .ne v20 v25
  let v27 : BitVec 32 := Scalar.remsi v14 c192_i32_2
  let c0_i32_7 : BitVec 32 := 0#32
  let v28 : BitVec 1 := Scalar.cmpi .ne v27 c0_i32_7
  let v29 : BitVec 1 := Scalar.andi v26 v28
  let v15 : BitVec 32 := Scalar.divsi v14 c192_i32_2
  let c1_i32_8 : BitVec 32 := 1#32
  let v30 : BitVec 32 := Scalar.subi v15 c1_i32_8
  let v31 : BitVec 32 := Scalar.select v29 v30 v15
  let v32 : BitVec 32 := Scalar.subi v31 c0_i32_10
  let c1_i32_11 : BitVec 32 := 1#32
  let v34 : BitVec 32 := Scalar.divsi v32 c1_i32_11
  let v35 : BitVec 32 := Scalar.muli v34 c1_i32_11
  let v36 : BitVec 32 := Scalar.addi c0_i32_10 v35
  let c1_i32_12 : BitVec 32 := 1#32
  ⟨c0_i32_10, v36, c1_i32_12⟩

@[reducible] def k0_t2_loop (v12 : BitVec 32) : Scf.Loop 32 :=
  let c0_i32_10 : BitVec 32 := 0#32
  let c192_i32 : BitVec 32 := 192#32
  let v13 : BitVec 32 := Scalar.addi v12 c192_i32
  let c1_i32 : BitVec 32 := 1#32
  let v14 : BitVec 32 := Scalar.subi v13 c1_i32
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c192_i32_2 : BitVec 32 := 192#32
  let c0_i32_5 : BitVec 32 := 0#32
  let v21 : BitVec 1 := Scalar.cmpi .sgt c192_i32_2 c0_i32_5
  let v22 : BitVec 32 := Scalar.extui v21
  let c0_i32_6 : BitVec 32 := 0#32
  let v23 : BitVec 1 := Scalar.cmpi .slt c192_i32_2 c0_i32_6
  let v24 : BitVec 32 := Scalar.extui v23
  let v25 : BitVec 32 := Scalar.subi v22 v24
  let v26 : BitVec 1 := Scalar.cmpi .ne v20 v25
  let v27 : BitVec 32 := Scalar.remsi v14 c192_i32_2
  let c0_i32_7 : BitVec 32 := 0#32
  let v28 : BitVec 1 := Scalar.cmpi .ne v27 c0_i32_7
  let v29 : BitVec 1 := Scalar.andi v26 v28
  let v15 : BitVec 32 := Scalar.divsi v14 c192_i32_2
  let c1_i32_8 : BitVec 32 := 1#32
  let v30 : BitVec 32 := Scalar.subi v15 c1_i32_8
  let v31 : BitVec 32 := Scalar.select v29 v30 v15
  let v32 : BitVec 32 := Scalar.subi v31 c0_i32_10
  let c1_i32_11 : BitVec 32 := 1#32
  let v34 : BitVec 32 := Scalar.divsi v32 c1_i32_11
  let v35 : BitVec 32 := Scalar.muli v34 c1_i32_11
  let v36 : BitVec 32 := Scalar.addi c0_i32_10 v35
  let v33 : BitVec 32 := Scalar.addi c0_i32_10 v32
  let c1_i32_13 : BitVec 32 := 1#32
  ⟨v36, v33, c1_i32_13⟩

def k0_chk1 (v12 : BitVec 32) : Prop :=
  ((k0_t1_loop v12).OK) ∧
  ((k0_t2_loop v12).OK)
theorem k0_t1_ok : ∀ (v12 : BitVec 32) (k0_hw1 : k0_chk1 v12), (k0_t1_loop v12).OK := fun v12 k0_hw1 => k0_hw1.1
theorem k0_t2_ok : ∀ (v12 : BitVec 32) (k0_hw1 : k0_chk1 v12), (k0_t2_loop v12).OK := fun v12 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x1024 : Shape := ⟨2, ![16384, 1024]⟩
abbrev S16384x32 : Shape := ⟨2, ![16384, 32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x2048x16384 : Shape := ⟨3, ![32, 2048, 16384]⟩
abbrev S32x16384x2048 : Shape := ⟨3, ![32, 16384, 2048]⟩
abbrev S32x1x2048 : Shape := ⟨3, ![32, 1, 2048]⟩
abbrev S32x16384x1024 : Shape := ⟨3, ![32, 16384, 1024]⟩
abbrev S_ : Shape := ⟨0, ![]⟩
abbrev S32x1x1024 : Shape := ⟨3, ![32, 1, 1024]⟩
abbrev S32x16384 : Shape := ⟨2, ![32, 16384]⟩
abbrev S32x16384x1 : Shape := ⟨3, ![32, 16384, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x32, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S32x2048x16384, .f32⟩
  | .hbm, ⟨7, _⟩ => ⟨S32x16384x2048, .f32⟩
  | .hbm, ⟨8, _⟩ => ⟨S32x1x2048, .f32⟩
  | .hbm, ⟨9, _⟩ => ⟨S32x16384x2048, .f32⟩
  | .hbm, ⟨10, _⟩ => ⟨S32x16384x2048, .f32⟩
  | .hbm, ⟨11, _⟩ => ⟨S32x16384x1024, .f32⟩
  | .hbm, ⟨12, _⟩ => ⟨S_, .f32⟩
  | .hbm, ⟨13, _⟩ => ⟨S32x16384x1024, .f32⟩
  | .hbm, ⟨14, _⟩ => ⟨S32x16384x1024, .f32⟩
  | .hbm, ⟨15, _⟩ => ⟨S32x16384x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32x16384x1024, .f32⟩
  | .hbm, ⟨20, _⟩ => ⟨S32x16384x1024, .f32⟩
  | .hbm, ⟨21, _⟩ => ⟨S_, .f32⟩
  | .hbm, ⟨22, _⟩ => ⟨S32x16384x1024, .f32⟩
  | .hbm, ⟨23, _⟩ => ⟨S32x16384x1024, .f32⟩
  | .hbm, ⟨24, _⟩ => ⟨S_, .f32⟩
  | .hbm, ⟨25, _⟩ => ⟨S32x16384x1024, .f32⟩
  | .hbm, ⟨26, _⟩ => ⟨S32x16384x1024, .f32⟩
  | .hbm, ⟨27, _⟩ => ⟨S32x16384x1024, .f32⟩
  | .hbm, ⟨28, _⟩ => ⟨S32x16384x1024, .f32⟩
  | .hbm, ⟨29, _⟩ => ⟨S_, .f32⟩
  | .hbm, ⟨30, _⟩ => ⟨S32x16384x1024, .f32⟩
  | .hbm, ⟨31, _⟩ => ⟨S32x16384x1024, .f32⟩
  | .hbm, ⟨32, _⟩ => ⟨S_, .f32⟩
  | .hbm, ⟨33, _⟩ => ⟨S32x16384x1024, .f32⟩
  | .hbm, ⟨34, _⟩ => ⟨S32x16384x1024, .f32⟩
  | .hbm, ⟨35, _⟩ => ⟨S32x16384x1024, .f32⟩
  | .hbm, ⟨36, _⟩ => ⟨S_, .f32⟩
  | .hbm, ⟨37, _⟩ => ⟨S32x16384x1024, .f32⟩
  | .hbm, ⟨38, _⟩ => ⟨S32x16384x1024, .f32⟩
  | .hbm, ⟨39, _⟩ => ⟨S32x16384x1024, .f32⟩
  | .hbm, ⟨40, _⟩ => ⟨S32x16384x1024, .f32⟩
  | .hbm, ⟨41, _⟩ => ⟨S32x1x1024, .f32⟩
  | .hbm, ⟨42, _⟩ => ⟨S32x16384x1024, .f32⟩
  | .hbm, ⟨43, _⟩ => ⟨S32x16384x1024, .f32⟩
  | .hbm, ⟨44, _⟩ => ⟨S32x16384, .f32⟩
  | .hbm, ⟨45, _⟩ => ⟨S32x16384x1, .f32⟩
  | .hbm, ⟨46, _⟩ => ⟨S32x16384x1024, .f32⟩
  | .hbm, ⟨47, _⟩ => ⟨S32x16384x1024, .f32⟩
  | .hbm, ⟨48, _⟩ => ⟨S_, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Final.lean ====
abbrev S2x8192x1024 : Shape := ⟨3, ![2, 8192, 1024]⟩
abbrev S2x1x1024 : Shape := ⟨3, ![2, 1, 1024]⟩
abbrev S1024 : Shape := ⟨1, ![1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S1024, .f32⟩
  | .hbm, ⟨4, _⟩ => ⟨S1x1024, .f32⟩
  | .hbm, ⟨5, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S1024, .f32⟩
  | .hbm, ⟨4, _⟩ => ⟨S2x8192x1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== InProj.lean ====
abbrev S2x8192x1024 : Shape := ⟨3, ![2, 8192, 1024]⟩
abbrev S2x1x1024 : Shape := ⟨3, ![2, 1, 1024]⟩
abbrev S1024 : Shape := ⟨1, ![1024]⟩
abbrev S1024x7688 : Shape := ⟨2, ![1024, 7688]⟩
abbrev S8 : Shape := ⟨1, ![8]⟩
abbrev S1024x2048 : Shape := ⟨2, ![1024, 2048]⟩
abbrev S1024x1024 : Shape := ⟨2, ![1024, 1024]⟩
abbrev S1024x3072 : Shape := ⟨2, ![1024, 3072]⟩
abbrev S1024x1536 : Shape := ⟨2, ![1024, 1536]⟩
abbrev S1024x7680 : Shape := ⟨2, ![1024, 7680]⟩
abbrev S1024x8 : Shape := ⟨2, ![1024, 8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S2x8192x7680 : Shape := ⟨3, ![2, 8192, 7680]⟩
abbrev S2x8192x128 : Shape := ⟨3, ![2, 8192, 128]⟩
abbrev S1x1024x1024 : Shape := ⟨3, ![1, 1024, 1024]⟩
abbrev S1x1x1024 : Shape := ⟨3, ![1, 1, 1024]⟩
abbrev S1024x512 : Shape := ⟨2, ![1024, 512]⟩
abbrev S1x1024x512 : Shape := ⟨3, ![1, 1024, 512]⟩
abbrev S1x1024x128 : Shape := ⟨3, ![1, 1024, 128]⟩
abbrev S1024x1 : Shape := ⟨2, ![1024, 1]⟩

abbrev nBuf : Space → Nat
  | .hbm => 28
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024, .f32⟩
  | .hbm, ⟨6, _⟩ => ⟨S1024x7688, .f32⟩
  | .hbm, ⟨7, _⟩ => ⟨S8, .f32⟩
  | .hbm, ⟨8, _⟩ => ⟨S1024x2048, .f32⟩
  | .hbm, ⟨9, _⟩ => ⟨S1024x1024, .f32⟩
  | .hbm, ⟨10, _⟩ => ⟨S1024x3072, .f32⟩
  | .hbm, ⟨11, _⟩ => ⟨S1024x1536, .f32⟩
  | .hbm, ⟨12, _⟩ => ⟨S1024x7680, .f32⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S1x1024, .f32⟩
  | .hbm, ⟨22, _⟩ => ⟨S1024x7680, .bf16⟩
  | .hbm, ⟨23, _⟩ => ⟨S1024x128, .bf16⟩
  | .hbm, ⟨24, _⟩ => ⟨S2x8192x7680, .bf16⟩
  | .hbm, ⟨25, _⟩ => ⟨S2x8192x1024, .f32⟩
  | .hbm, ⟨26, _⟩ => ⟨S2x8192x128, .f32⟩
  | .hbm, ⟨27, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x512, .bf16⟩
  | .local _ .vmem, ⟨12, _⟩ => ⟨S1024x512, .bf16⟩
  | .local _ .vmem, ⟨13, _⟩ => ⟨S1024x128, .bf16⟩
  | .local _ .vmem, ⟨14, _⟩ => ⟨S1x128, .f32⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .f32⟩
  | .local _ .vmem, ⟨18, _⟩ => ⟨S1x1024x512, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x1024, .f32⟩
  | .local _ .vmem, ⟨22, _⟩ => ⟨S1x1024x1024, .f32⟩
  | .local _ .vmem, ⟨23, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨3, ![2, 8, 15], ![false, false, false]⟩

def k0_cond2 (i : grid0.Coords) : BitVec 1 :=
  let arg2 : BitVec 32 := BitVec.ofNat 32 (i 2).val
  let c13_i32 : BitVec 32 := 13#32
  let v11 : BitVec 1 := Scalar.cmpi .sge arg2 c13_i32
  let c15_i32 : BitVec 32 := 15#32
  let v12 : BitVec 1 := Scalar.cmpi .slt arg2 c15_i32
  let v13 : BitVec 1 := Scalar.andi v11 v12
  let v14 : BitVec 32 := Scalar.extui v13
  let c0_i32_7 : BitVec 32 := 0#32
  let v15 : BitVec 1 := Scalar.cmpi .ne v14 c0_i32_7
  v15

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.subi arg2 c13_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== InProjReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x7688 : Shape := ⟨2, ![1024, 7688]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x7688 : Shape := ⟨3, ![2, 8192, 7688]⟩
abbrev S2x8192x2048 : Shape := ⟨3, ![2, 8192, 2048]⟩
abbrev S2x8192x8 : Shape := ⟨3, ![2, 8192, 8]⟩
abbrev S2x8192x1536 : Shape := ⟨3, ![2, 8192, 1536]⟩
abbrev S2x8192x3072 : Shape := ⟨3, ![2, 8192, 3072]⟩
abbrev S2x8192x7680 : Shape := ⟨3, ![2, 8192, 7680]⟩
abbrev S1x1x8 : Shape := ⟨3, ![1, 1, 8]⟩
abbrev S2x8192x128 : Shape := ⟨3, ![2, 8192, 128]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S2x1x1024, .f32⟩
  | .hbm, ⟨4, _⟩ => ⟨S2x1x1024, .f32⟩
  | .hbm, ⟨5, _⟩ => ⟨S1024, .f32⟩
  | .hbm, ⟨6, _⟩ => ⟨S1024x7688, .f32⟩
  | .hbm, ⟨7, _⟩ => ⟨S8, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x7688, .f32⟩
  | .hbm, ⟨35, _⟩ => ⟨S2x8192x2048, .f32⟩
  | .hbm, ⟨36, _⟩ => ⟨S2x8192x8, .f32⟩
  | .hbm, ⟨37, _⟩ => ⟨S2x8192x1024, .f32⟩
  | .hbm, ⟨38, _⟩ => ⟨S2x8192x1536, .f32⟩
  | .hbm, ⟨39, _⟩ => ⟨S2x8192x3072, .f32⟩
  | .hbm, ⟨40, _⟩ => ⟨S2x8192x7680, .f32⟩
  | .hbm, ⟨41, _⟩ => ⟨S2x8192x7680, .bf16⟩
  | .hbm, ⟨42, _⟩ => ⟨S2x8192x1024, .f32⟩
  | .hbm, ⟨43, _⟩ => ⟨S1x1x8, .f32⟩
  | .hbm, ⟨44, _⟩ => ⟨S2x8192x8, .f32⟩
  | .hbm, ⟨45, _⟩ => ⟨S2x8192x8, .f32⟩
  | .hbm, ⟨46, _⟩ => ⟨S_, .i32⟩
  | .hbm, ⟨47, _⟩ => ⟨S_, .f32⟩
  | .hbm, ⟨48, _⟩ => ⟨S2x8192x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Attend.lean ====
abbrev S2x8192x8x64 : Shape := ⟨4, ![2, 8192, 8, 64]⟩
abbrev S8 : Shape := ⟨1, ![8]⟩
abbrev S_ : Shape := ⟨0, ![]⟩
abbrev S2x8192x6144 : Shape := ⟨3, ![2, 8192, 6144]⟩
abbrev S2x8192x512 : Shape := ⟨3, ![2, 8192, 512]⟩
abbrev S2x8192x7680 : Shape := ⟨3, ![2, 8192, 7680]⟩
abbrev S256x256 : Shape := ⟨2, ![256, 256]⟩
abbrev S1x256x256 : Shape := ⟨3, ![1, 256, 256]⟩
abbrev S1x8192x256 : Shape := ⟨3, ![1, 8192, 256]⟩
abbrev S1024x256 : Shape := ⟨2, ![1024, 256]⟩
abbrev S8x128x128 : Shape := ⟨3, ![8, 128, 128]⟩
abbrev S1x256 : Shape := ⟨2, ![1, 256]⟩
abbrev S128x256 : Shape := ⟨2, ![128, 256]⟩
abbrev S1 : Shape := ⟨1, ![1]⟩
abbrev S128x512 : Shape := ⟨2, ![128, 512]⟩
abbrev S1x512x256 : Shape := ⟨3, ![1, 512, 256]⟩
abbrev S512x256 : Shape := ⟨2, ![512, 256]⟩
abbrev S1024x512 : Shape := ⟨2, ![1024, 512]⟩
abbrev S2048x256 : Shape := ⟨2, ![2048, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x128x256 : Shape := ⟨3, ![1, 128, 256]⟩

abbrev nBuf : Space → Nat
  | .hbm => 21
  | .vmem => 11
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S8, .f32⟩
  | .hbm, ⟨4, _⟩ => ⟨S_, .f32⟩
  | .hbm, ⟨5, _⟩ => ⟨S2x8192x6144, .f32⟩
  | .hbm, ⟨6, _⟩ => ⟨S2x8192x512, .f32⟩
  | .hbm, ⟨7, _⟩ => ⟨S2x8192x512, .f32⟩
  | .hbm, ⟨8, _⟩ => ⟨S2x8192x512, .f32⟩
  | .hbm, ⟨9, _⟩ => ⟨S2x8192x7680, .f32⟩
  | .hbm, ⟨10, _⟩ => ⟨S2x8192x7680, .bf16⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .bf16⟩
  | .hbm, ⟨20, _⟩ => ⟨S2x8192x512, .bf16⟩
  | .local _ .vmem, ⟨0, _⟩ => ⟨S256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x8192x256, .bf16⟩
  | .local _ .vmem, ⟨7, _⟩ => ⟨S1x256x256, .bf16⟩
  | .local _ .vmem, ⟨8, _⟩ => ⟨S1x256x256, .bf16⟩
  | .local _ .vmem, ⟨9, _⟩ => ⟨S1024x256, .f32⟩
  | .local _ .vmem, ⟨10, _⟩ => ⟨S8x128x128, .f32⟩
  | .local _ .smem, ⟨0, _⟩ => ⟨S8, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 32], ![false, false, false]⟩

def k0_off1 (i : grid0.Coords) (c0_i32_69 : BitVec 32) : Fin 1 → Nat :=
  let c4_i32 : BitVec 32 := 4#32
  let arg1 : BitVec 32 := BitVec.ofNat 32 (i 1).val
  let v263 : BitVec 32 := Scalar.muli c4_i32 arg1
  let v264 : BitVec 32 := Scalar.addi v263 c0_i32_69
  let v265 : Index := Scalar.indexCast v264
  ![v265.toNat]
def k0_mult1 (i : grid0.Coords) : BitVec 32 :=
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let c512_i32_89 : BitVec 32 := 512#32
  let v307 : BitVec 32 := Scalar.muli v306 c512_i32_89
  v307
def k0_off2 (i : grid0.Coords) : Fin 3 → Nat :=
  let c0_90 : Index := 0#32
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let c512_i32_89 : BitVec 32 := 512#32
  let v307 : BitVec 32 := Scalar.muli v306 c512_i32_89
  let v308 : BitVec 32 := v307
  let v309 : Index := Scalar.indexCast v308
  let c0_91 : Index := 0#32
  ![0, v309.toNat, 0]
@[reducible] def k0_t1_loop (i : grid0.Coords) : Scf.Loop 32 :=
  let c0_i32_206 : BitVec 32 := 0#32
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let v751 : BitVec 32 := Scalar.subi v306 c0_i32_206
  let c1_i32_207 : BitVec 32 := 1#32
  let v753 : BitVec 32 := Scalar.divsi v751 c1_i32_207
  let v754 : BitVec 32 := Scalar.muli v753 c1_i32_207
  let v755 : BitVec 32 := Scalar.addi c0_i32_206 v754
  let c1_i32_208 : BitVec 32 := 1#32
  ⟨c0_i32_206, v755, c1_i32_208⟩
def k0_mult2 (i : grid0.Coords) (k0_t1 : Fin (k0_t1_loop i).trips) : BitVec 32 :=
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let c1_i32_238 : BitVec 32 := 1#32
  let v815 : BitVec 32 := Scalar.subi v306 c1_i32_238
  let c0_i32_206 : BitVec 32 := 0#32
  let c1_i32_208 : BitVec 32 := 1#32
  let arg11 : BitVec 32 := Scf.iv c0_i32_206 c1_i32_208 k0_t1
  let v816 : BitVec 32 := Scalar.subi v815 arg11
  let c512_i32_239 : BitVec 32 := 512#32
  let v817 : BitVec 32 := Scalar.muli v816 c512_i32_239
  v817
def k0_off3 (i : grid0.Coords) (k0_t1 : Fin (k0_t1_loop i).trips) : Fin 3 → Nat :=
  let c0_240 : Index := 0#32
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let c1_i32_238 : BitVec 32 := 1#32
  let v815 : BitVec 32 := Scalar.subi v306 c1_i32_238
  let c0_i32_206 : BitVec 32 := 0#32
  let c1_i32_208 : BitVec 32 := 1#32
  let arg11 : BitVec 32 := Scf.iv c0_i32_206 c1_i32_208 k0_t1
  let v816 : BitVec 32 := Scalar.subi v815 arg11
  let c512_i32_239 : BitVec 32 := 512#32
  let v817 : BitVec 32 := Scalar.muli v816 c512_i32_239
  let v818 : BitVec 32 := v817
  let v819 : Index := Scalar.indexCast v818
  let c0_241 : Index := 0#32
  ![0, v819.toNat, 0]
@[reducible] def k0_t2_loop (i : grid0.Coords) : Scf.Loop 32 :=
  let c0_i32_206 : BitVec 32 := 0#32
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let v751 : BitVec 32 := Scalar.subi v306 c0_i32_206
  let c1_i32_207 : BitVec 32 := 1#32
  let v753 : BitVec 32 := Scalar.divsi v751 c1_i32_207
  let v754 : BitVec 32 := Scalar.muli v753 c1_i32_207
  let v755 : BitVec 32 := Scalar.addi c0_i32_206 v754
  let v752 : BitVec 32 := Scalar.addi c0_i32_206 v751
  let c1_i32_209 : BitVec 32 := 1#32
  ⟨v755, v752, c1_i32_209⟩
def k0_mult3 (i : grid0.Coords) (k0_t2 : Fin (k0_t2_loop i).trips) : BitVec 32 :=
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let c1_i32_238 : BitVec 32 := 1#32
  let v815 : BitVec 32 := Scalar.subi v306 c1_i32_238
  let c0_i32_206 : BitVec 32 := 0#32
  let v751 : BitVec 32 := Scalar.subi v306 c0_i32_206
  let c1_i32_207 : BitVec 32 := 1#32
  let v753 : BitVec 32 := Scalar.divsi v751 c1_i32_207
  let v754 : BitVec 32 := Scalar.muli v753 c1_i32_207
  let v755 : BitVec 32 := Scalar.addi c0_i32_206 v754
  let c1_i32_209 : BitVec 32 := 1#32
  let arg11 : BitVec 32 := Scf.iv v755 c1_i32_209 k0_t2
  let v816 : BitVec 32 := Scalar.subi v815 arg11
  let c512_i32_239 : BitVec 32 := 512#32
  let v817 : BitVec 32 := Scalar.muli v816 c512_i32_239
  v817
def k0_off4 (i : grid0.Coords) (k0_t2 : Fin (k0_t2_loop i).trips) : Fin 3 → Nat :=
  let c0_240 : Index := 0#32
  let arg2 : BitVec 32 := BitVec.ofNat 32 (i 2).val
  let c256_i32 : BitVec 32 := 256#32
  let v289 : BitVec 32 := Scalar.muli arg2 c256_i32
  let c0_i32_83 : BitVec 32 := 0#32
  let v291 : BitVec 1 := Scalar.cmpi .sgt v289 c0_i32_83
  let v292 : BitVec 32 := Scalar.extui v291
  let c0_i32_84 : BitVec 32 := 0#32
  let v293 : BitVec 1 := Scalar.cmpi .slt v289 c0_i32_84
  let v294 : BitVec 32 := Scalar.extui v293
  let v295 : BitVec 32 := Scalar.subi v292 v294
  let c512_i32 : BitVec 32 := 512#32
  let c0_i32_85 : BitVec 32 := 0#32
  let v296 : BitVec 1 := Scalar.cmpi .sgt c512_i32 c0_i32_85
  let v297 : BitVec 32 := Scalar.extui v296
  let c0_i32_86 : BitVec 32 := 0#32
  let v298 : BitVec 1 := Scalar.cmpi .slt c512_i32 c0_i32_86
  let v299 : BitVec 32 := Scalar.extui v298
  let v300 : BitVec 32 := Scalar.subi v297 v299
  let v301 : BitVec 1 := Scalar.cmpi .ne v295 v300
  let v302 : BitVec 32 := Scalar.remsi v289 c512_i32
  let c0_i32_87 : BitVec 32 := 0#32
  let v303 : BitVec 1 := Scalar.cmpi .ne v302 c0_i32_87
  let v304 : BitVec 1 := Scalar.andi v301 v303
  let v290 : BitVec 32 := Scalar.divsi v289 c512_i32
  let c1_i32_88 : BitVec 32 := 1#32
  let v305 : BitVec 32 := Scalar.subi v290 c1_i32_88
  let v306 : BitVec 32 := Scalar.select v304 v305 v290
  let c1_i32_238 : BitVec 32 := 1#32
  let v815 : BitVec 32 := Scalar.subi v306 c1_i32_238
  let c0_i32_206 : BitVec 32 := 0#32
  let v751 : BitVec 32 := Scalar.subi v306 c0_i32_206
  let c1_i32_207 : BitVec 32 := 1#32
  let v753 : BitVec 32 := Scalar.divsi v751 c1_i32_207
  let v754 : BitVec 32 := Scalar.muli v753 c1_i32_207
  let v755 : BitVec 32 := Scalar.addi c0_i32_206 v754
  let c1_i32_209 : BitVec 32 := 1#32
  let arg11 : BitVec 32 := Scf.iv v755 c1_i32_209 k0_t2
  let v816 : BitVec 32 := Scalar.subi v815 arg11
  let c512_i32_239 : BitVec 32 := 512#32
  let v817 : BitVec 32 := Scalar.muli v816 c512_i32_239
  let v818 : BitVec 32 := v817
  let v819 : Index := Scalar.indexCast v818
  let c0_241 : Index := 0#32
  ![0, v819.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttendReferenceIdeal.lean ====
abbrev S2x8192x8x64 : Shape := ⟨4, ![2, 8192, 8, 64]⟩
abbrev S8 : Shape := ⟨1, ![8]⟩
abbrev S8192 : Shape := ⟨1, ![8192]⟩
abbrev S2x8x8192x8192 : Shape := ⟨4, ![2, 8, 8192, 8192]⟩
abbrev S_ : Shape := ⟨0, ![]⟩
abbrev S1x8x1x1 : Shape := ⟨4, ![1, 8, 1, 1]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩
abbrev S2x8192x512 : Shape := ⟨3, ![2, 8192, 512]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S8, .f32⟩
  | .hbm, ⟨4, _⟩ => ⟨S8192, .i32⟩
  | .hbm, ⟨5, _⟩ => ⟨S2x8x8192x8192, .f32⟩
  | .hbm, ⟨6, _⟩ => ⟨S_, .f32⟩
  | .hbm, ⟨7, _⟩ => ⟨S2x8x8192x8192, .f32⟩
  | .hbm, ⟨8, _⟩ => ⟨S2x8x8192x8192, .f32⟩
  | .hbm, ⟨9, _⟩ => ⟨S1x8x1x1, .f32⟩
  | .hbm, ⟨10, _⟩ => ⟨S2x8x8192x8192, .f32⟩
  | .hbm, ⟨11, _⟩ => ⟨S2x8x8192x8192, .f32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S2x8x8192x8192, .f32⟩
  | .hbm, ⟨18, _⟩ => ⟨S_, .f32⟩
  | .hbm, ⟨19, _⟩ => ⟨S2x8x8192x8192, .f32⟩
  | .hbm, ⟨20, _⟩ => ⟨S2x8x8192x8192, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .i1⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S2x8x8192x8192, .f32⟩
  | .hbm, ⟨35, _⟩ => ⟨S_, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .i1⟩
  | .hbm, ⟨41, _⟩ => ⟨S2x8x8192x8192, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S_, .f32⟩
  | .hbm, ⟨51, _⟩ => ⟨S_, .f32⟩
  | .hbm, ⟨52, _⟩ => ⟨S2x8x8192x8192, .i1⟩
  | .hbm, ⟨53, _⟩ => ⟨S2x8x8192x8192, .f32⟩
  | .hbm, ⟨54, _⟩ => ⟨S2x8x8192x8192, .f32⟩
  | .hbm, ⟨55, _⟩ => ⟨S_, .f32⟩
  | .hbm, ⟨56, _⟩ => ⟨S_, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S_, .f32⟩
  | .hbm, ⟨62, _⟩ => ⟨S_, .f32⟩
  | .hbm, ⟨63, _⟩ => ⟨S2x8x8192x8192, .i1⟩
  | .hbm, ⟨64, _⟩ => ⟨S2x8x8192x8192, .f32⟩
  | .hbm, ⟨65, _⟩ => ⟨S2x8x8192x8192, .f32⟩
  | .hbm, ⟨66, _⟩ => ⟨S2x8x64x8192, .f32⟩
  | .hbm, ⟨67, _⟩ => ⟨S2x8192x8x64, .f32⟩
  | .hbm, ⟨68, _⟩ => ⟨S2x8192x512, .f32⟩
  | .hbm, ⟨69, _⟩ => ⟨S2x8192x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v14 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩

abbrev nD : Nat := 1
abbrev τ : Topo := Topo.v7x

variable {F : FTy → Type} [FloatOps F]
-- ==== Mlstm.lean ====
abbrev S32x8x4x128 : Shape := ⟨4, ![32, 8, 4, 128]⟩
abbrev S32x8x512 : Shape := ⟨3, ![32, 8, 512]⟩
abbrev S32x8x8 : Shape := ⟨3, ![32, 8, 8]⟩
abbrev S32x4x128x128 : Shape := ⟨4, ![32, 4, 128, 128]⟩
abbrev S32x4x128 : Shape := ⟨3, ![32, 4, 128]⟩
abbrev S32x4 : Shape := ⟨2, ![32, 4]⟩
abbrev S512 : Shape := ⟨1, ![512]⟩
abbrev S32x8x2048 : Shape := ⟨3, ![32, 8, 2048]⟩
abbrev S_ : Shape := ⟨0, ![]⟩
abbrev S32x128x2048 : Shape := ⟨3, ![32, 128, 2048]⟩
abbrev S32x128x128 : Shape := ⟨3, ![32, 128, 128]⟩
abbrev S32x4x1x128 : Shape := ⟨4, ![32, 4, 1, 128]⟩
abbrev S32x4x1x1 : Shape := ⟨4, ![32, 4, 1, 1]⟩
abbrev S4x1x128 : Shape := ⟨3, ![4, 1, 128]⟩
abbrev S32x128x512 : Shape := ⟨3, ![32, 128, 512]⟩
abbrev S1x128x128 : Shape := ⟨3, ![1, 128, 128]⟩
abbrev S1x1x128x128 : Shape := ⟨4, ![1, 1, 128, 128]⟩
abbrev S1x1x1x128 : Shape := ⟨4, ![1, 1, 1, 128]⟩
abbrev S1x1x128 : Shape := ⟨3, ![1, 1, 128]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 28
  | .vmem => 30
  | .smem => 0
  | _ => 0

abbrev bufTy : (tb : Table) → Fin (tcTables nBuf tb) → BufTy
  | .hbm, ⟨0, _⟩ => ⟨S32x8x4x128, .f32⟩
  | .hbm, ⟨1, _⟩ => ⟨S32x8x4x128, .f32⟩
  | .hbm, ⟨2, _⟩ => ⟨S32x8x4x128, .f32⟩
  | .hbm, ⟨3, _⟩ => ⟨S32x8x512, .f32⟩
  | .hbm, ⟨4, _⟩ => ⟨S32x8x8, .f32⟩
  | .hbm, ⟨5, _⟩ => ⟨S32x4x128x128, .f32⟩
  | .hbm, ⟨6, _⟩ => ⟨S32x4x128, .f32⟩
  | .hbm, ⟨7, _⟩ => ⟨S32x4, .f32⟩
  | .hbm, ⟨8, _⟩ => ⟨S512, .f32⟩
  | .hbm, ⟨9, _⟩ => ⟨S32x8x512, .f32⟩
  | .hbm, ⟨10, _⟩ => ⟨S32x8x512, .f32⟩
  | .hbm, ⟨11, _⟩ => ⟨S32x8x512, .f32⟩
  | .hbm, ⟨12, _⟩ => ⟨S32x8x2048, .f32⟩
  | .hbm, ⟨13, _⟩ => ⟨S32x8x2048, .bf16⟩
  | .hbm, ⟨14, _⟩ => ⟨S_, .i32⟩
  | .hbm, ⟨15, _⟩ => ⟨S_, .bf16⟩
  | .hbm, ⟨16, _⟩ => ⟨S32x128x2048, .bf16⟩
  | .hbm, ⟨17, _⟩ => ⟨S_, .i32⟩
  | .hbm, ⟨18, _⟩ => ⟨S_, .f32⟩
  | .hbm, ⟨19, _⟩ => ⟨S32x128x128, .f32⟩
  | .hbm, ⟨20, _⟩ => ⟨S32x4x1x128, .f32⟩
  | .hbm, ⟨21, _⟩ => ⟨S32x4x1x1, .f32⟩
  | .hbm, ⟨22, _⟩ => ⟨S32x4x1x128, .f32⟩
  | .hbm, ⟨23, _⟩ => ⟨S4x1x128, .f32⟩
  | .hbm, ⟨24, _⟩ => ⟨S32x128x512, .bf16⟩
  | .hbm, ⟨25, _⟩ => ⟨S32x4x128x128, .f32⟩
  | .hbm, ⟨26, _⟩ => ⟨S32x4x1x128, .f32⟩
  | .hbm, ⟨27, _⟩ => ⟨S32x4x1x128, .f32⟩
  | .local _ .vmem, ⟨0, _⟩ => ⟨S1x128x128, .bf16⟩
  | .local _ .vmem, ⟨1, _⟩ => ⟨S1x128x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .f32⟩
  | .local _ .vmem, ⟨9, _⟩ => ⟨S1x128x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x1x128, .f32⟩
  | .local _ .vmem, ⟨13, _⟩ => ⟨S1x1x1x128, .f32⟩
  | .local _ .vmem, ⟨14, _⟩ => ⟨S1x1x1x128, .f32⟩
  | .local _ .vmem, ⟨15, _⟩ => ⟨S1x1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x128x128, .bf16⟩
  | .local _ .vmem, ⟨19, _⟩ => ⟨S1x128x128, .bf16⟩
  | .local _ .vmem, ⟨20, _⟩ => ⟨S1x1x128x128, .f32⟩
  | .local _ .vmem, ⟨21, _⟩ => ⟨S1x1x128x128, .f32⟩
  | .local _ .vmem, ⟨22, _⟩ => ⟨S1x1x1x128, .f32⟩
  | .local _ .vmem, ⟨23, _⟩ => ⟨S1x1x1x128, .f32⟩
  | .local _ .vmem, ⟨24, _⟩ => ⟨S1x1x1x128, .f32⟩
  | .local _ .vmem, ⟨25, _⟩ => ⟨S1x1x1x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S128x128, .f32⟩
  | _, _ => ⟨S32x8x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![32, 4, 1], ![false, false, false]⟩

def k0_off1 (i : grid0.Coords) : Fin 2 → Nat :=
  let arg1 : BitVec 32 := BitVec.ofNat 32 (i 1).val
  let v33 : Index := Scalar.indexCast arg1
  let c0_18 : Index := 0#32
  ![v33.toNat, 0]
def k0_off2 (i : grid0.Coords) : Fin 2 → Nat :=
  let arg1 : BitVec 32 := BitVec.ofNat 32 (i 1).val
  let c4_i32_19 : BitVec 32 := 4#32
  let v35 : BitVec 32 := Scalar.addi arg1 c4_i32_19
  let v36 : Index := Scalar.indexCast v35
  let c0_20 : Index := 0#32
  ![v36.toNat, 0]
def k0_cond2 (i : grid0.Coords) : BitVec 1 :=
  let arg2 : BitVec 32 := BitVec.ofNat 32 (i 2).val
  let c0_i32_77 : BitVec 32 := 0#32
  let v214 : BitVec 1 := Scalar.cmpi .eq arg2 c0_i32_77
  let v215 : BitVec 32 := Scalar.extui v214
  let c0_i32_78 : BitVec 32 := 0#32
  let v216 : BitVec 1 := Scalar.cmpi .ne v215 c0_i32_78
  v216

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== MlstmIdeal.lean ====
variable {F : FTy → Type} [FloatOps F] [Named F]
def κ : String → Option EReal := fun
  | "mask" => some ⊥
  | _ => none
-- ==== MlstmReferenceIdeal.lean ====
abbrev S32x8x4x128 : Shape := ⟨4, ![32, 8, 4, 128]⟩
abbrev S32x8x512 : Shape := ⟨3, ![32, 8, 512]⟩
abbrev S32x8x8 : Shape := ⟨3, ![32, 8, 8]⟩
abbrev S32x4x128x128 : Shape := ⟨4, ![32, 4, 128, 128]⟩
abbrev S32x4x128 : Shape := ⟨3, ![32, 4, 128]⟩
abbrev S32x4 : Shape := ⟨2, ![32, 4]⟩
abbrev S512 : Shape := ⟨1, ![512]⟩
abbrev S_ : Shape := ⟨0, ![]⟩
abbrev S32x8x4 : Shape := ⟨3, ![32, 8, 4]⟩
abbrev S32x4x8 : Shape := ⟨3, ![32, 4, 8]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S32x4x8x1 : Shape := ⟨4, ![32, 4, 8, 1]⟩
abbrev S32x4x1x8 : Shape := ⟨4, ![32, 4, 1, 8]⟩
abbrev S32x4x8x8 : Shape := ⟨4, ![32, 4, 8, 8]⟩
abbrev S32x4x1 : Shape := ⟨3, ![32, 4, 1]⟩
abbrev S32x4x128x8 : Shape := ⟨4, ![32, 4, 128, 8]⟩
abbrev S32x8x4x1 : Shape := ⟨4, ![32, 8, 4, 1]⟩
abbrev S32x4x8x128 : Shape := ⟨4, ![32, 4, 8, 128]⟩
abbrev S32x4x1x1 : Shape := ⟨4, ![32, 4, 1, 1]⟩
abbrev S4x128 : Shape := ⟨2, ![4, 128]⟩
abbrev S1x1x4x128 : Shape := ⟨4, ![1, 1, 4, 128]⟩
abbrev S32x128x512 : Shape := ⟨3, ![32, 128, 512]⟩
abbrev S32x4x1x128 : Shape := ⟨4, ![32, 4, 1, 128]⟩

abbrev nBuf : Space → Nat
  | .hbm => 165
  | .vmem => 0
  | .smem => 0
  | _ => 0

abbrev hbmTy0_0 (i : Nat) : BufTy := match i % 128 with
  | 0 => ⟨S32x8x4x128, .f32⟩
  | 1 => ⟨S32x8x4x128, .f32⟩
  | 2 => ⟨S32x8x4x128, .f32⟩
  | 3 => ⟨S32x8x512, .f32⟩
  | 4 => ⟨S32x8x8, .f32⟩
  | 5 => ⟨S32x4x128x128, .f32⟩
  | 6 => ⟨S32x4x128, .f32⟩
  | 7 => ⟨S32x4, .f32⟩
  | 8 => ⟨S512, .f32⟩
  | 9 => ⟨S_, .f32⟩
  | 10 => ⟨S32x8x4x128, .f32⟩
  | 11 => ⟨S32x8x4x128, .f32⟩
  | 12 => ⟨S32x8x4, .f32⟩
  | 13 => ⟨S32x4x8, .f32⟩
  | 14 => ⟨S32x8x4, .f32⟩
  | 15 => ⟨S32x8x4, .f32⟩
  | 16 => ⟨S_, .f32⟩
  | 17 => ⟨S32x8x4, .f32⟩
  | 18 => ⟨S32x8x4, .f32⟩
  | 19 => ⟨S32x8x4, .f32⟩
  | 20 => ⟨S32x8x4, .f32⟩
  | 21 => ⟨S32x8x4, .i1⟩
  | 22 => ⟨S32x8x4, .f32⟩
  | 23 => ⟨S32x8x4, .f32⟩
  | 24 => ⟨S32x8x4, .f32⟩
  | 25 => ⟨S32x8x4, .f32⟩
  | 26 => ⟨S32x8x4, .f32⟩
  | 27 => ⟨S32x8x4, .f32⟩
  | 28 => ⟨S32x8x4, .f32⟩
  | 29 => ⟨S32x8x4, .f32⟩
  | 30 => ⟨S32x8x4, .f32⟩
  | 31 => ⟨S_, .f32⟩
  | 32 => ⟨S_, .f32⟩
  | 33 => ⟨S32x8x4, .f32⟩
  | 34 => ⟨S32x4x8, .f32⟩
  | 35 => ⟨S8, .i32⟩
  | 36 => ⟨S1x8, .i32⟩
  | 37 => ⟨S8x1, .i32⟩
  | 38 => ⟨S8x8, .i32⟩
  | 39 => ⟨S8x8, .i32⟩
  | 40 => ⟨S8x8, .i1⟩
  | 41 => ⟨S32x4x8x1, .f32⟩
  | 42 => ⟨S32x4x1x8, .f32⟩
  | 43 => ⟨S32x4x8x8, .f32⟩
  | 44 => ⟨S32x4x8x8, .f32⟩
  | 45 => ⟨S32x4x8x8, .f32⟩
  | 46 => ⟨S32x4x1x8, .f32⟩
  | 47 => ⟨S32x4x8x8, .f32⟩
  | 48 => ⟨S32x4x8x8, .f32⟩
  | 49 => ⟨S_, .f32⟩
  | 50 => ⟨S_, .f32⟩
  | 51 => ⟨S32x4x8x8, .i1⟩
  | 52 => ⟨S32x4x8x8, .f32⟩
  | 53 => ⟨S32x4x8x8, .f32⟩
  | 54 => ⟨S32x4x1, .f32⟩
  | 55 => ⟨S32x4x8, .f32⟩
  | 56 => ⟨S32x4x8, .f32⟩
  | 57 => ⟨S_, .f32⟩
  | 58 => ⟨S32x4x8, .f32⟩
  | 59 => ⟨S32x4x8, .f32⟩
  | 60 => ⟨S32x4x8x8, .f32⟩
  | 61 => ⟨S32x4x8x1, .f32⟩
  | 62 => ⟨S32x4x8x8, .f32⟩
  | 63 => ⟨S32x4x8x8, .f32⟩
  | 64 => ⟨S32x4x8x8, .f32⟩
  | 65 => ⟨S32x4x8x8, .f32⟩
  | 66 => ⟨S32x4x8, .f32⟩
  | 67 => ⟨S32x4x8, .f32⟩
  | 68 => ⟨S32x4x128x8, .f32⟩
  | 69 => ⟨S32x8x4x128, .f32⟩
  | 70 => ⟨S32x8x4, .f32⟩
  | 71 => ⟨S32x8x4x1, .f32⟩
  | 72 => ⟨S32x4x8x128, .f32⟩
  | 73 => ⟨S32x8x4x128, .f32⟩
  | 74 => ⟨S32x8x4x128, .f32⟩
  | 75 => ⟨S32x8x4x128, .f32⟩
  | 76 => ⟨S32x8x4x128, .f32⟩
  | 77 => ⟨S_, .f32⟩
  | 78 => ⟨S32x4x8, .f32⟩
  | 79 => ⟨S32x4x8, .f32⟩
  | 80 => ⟨S32x4x8, .f32⟩
  | 81 => ⟨S32x4x8, .f32⟩
  | 82 => ⟨S32x4x8, .f32⟩
  | 83 => ⟨S32x4x8, .f32⟩
  | 84 => ⟨S32x4x8, .f32⟩
  | 85 => ⟨S32x4x8, .f32⟩
  | 86 => ⟨S32x8x4, .f32⟩
  | 87 => ⟨S32x8x4x1, .f32⟩
  | 88 => ⟨S32x8x4x128, .f32⟩
  | 89 => ⟨S32x8x4x128, .f32⟩
  | 90 => ⟨S32x4x1, .f32⟩
  | 91 => ⟨S32x4, .f32⟩
  | 92 => ⟨S32x4x1, .f32⟩
  | 93 => ⟨S32x4x8, .f32⟩
  | 94 => ⟨S32x4x8, .f32⟩
  | 95 => ⟨S32x4x8, .f32⟩
  | 96 => ⟨S32x4, .f32⟩
  | 97 => ⟨S_, .f32⟩
  | 98 => ⟨S32x4, .f32⟩
  | 99 => ⟨S32x4, .f32⟩
  | 100 => ⟨S32x4x1, .f32⟩
  | 101 => ⟨S32x4x8, .f32⟩
  | 102 => ⟨S32x4x8, .f32⟩
  | 103 => ⟨S32x4x8, .f32⟩
  | 104 => ⟨S32x4, .f32⟩
  | 105 => ⟨S32x4, .f32⟩
  | 106 => ⟨S32x4, .f32⟩
  | 107 => ⟨S32x4x1x1, .f32⟩
  | 108 => ⟨S32x4x128x128, .f32⟩
  | 109 => ⟨S32x4x128x128, .f32⟩
  | 110 => ⟨S32x8x4, .f32⟩
  | 111 => ⟨S32x8x4x1, .f32⟩
  | 112 => ⟨S32x8x4x128, .f32⟩
  | 113 => ⟨S32x8x4x128, .f32⟩
  | 114 => ⟨S32x4x128x128, .f32⟩
  | 115 => ⟨S32x4x128x128, .f32⟩
  | 116 => ⟨S32x4x1, .f32⟩
  | 117 => ⟨S32x4x128, .f32⟩
  | 118 => ⟨S32x4x128, .f32⟩
  | 119 => ⟨S32x4x128, .f32⟩
  | 120 => ⟨S32x4x128, .f32⟩
  | 121 => ⟨S_, .f32⟩
  | 122 => ⟨S32x8x4, .f32⟩
  | 123 => ⟨S32x8x4x1, .f32⟩
  | 124 => ⟨S_, .f32⟩
  | 125 => ⟨S32x8x4x1, .f32⟩
  | 126 => ⟨S32x8x4x1, .f32⟩
  | 127 => ⟨S32x8x4x128, .f32⟩
  | _ => ⟨S32x8x4x128, .f32⟩

abbrev hbmTy0_1 (i : Nat) : BufTy := match i % 128 with
  | 0 => ⟨S32x8x4x128, .f32⟩
  | 1 => ⟨S32x8x4x128, .f32⟩
  | 2 => ⟨S_, .f32⟩
  | 3 => ⟨S32x8x4, .f32⟩
  | 4 => ⟨S32x8x4x1, .f32⟩
  | 5 => ⟨S_, .f32⟩
  | 6 => ⟨S32x8x4x1, .f32⟩
  | 7 => ⟨S32x8x4x1, .f32⟩
  | 8 => ⟨S32x8x4x128, .f32⟩
  | 9 => ⟨S32x8x4x128, .f32⟩
  | 10 => ⟨S_, .f32⟩
  | 11 => ⟨S32x8x4x1, .f32⟩
  | 12 => ⟨S32x8x4x1, .f32⟩
  | 13 => ⟨S32x8x4x1, .f32⟩
  | 14 => ⟨S32x8x4x128, .f32⟩
  | 15 => ⟨S32x8x4x128, .f32⟩
  | 16 => ⟨S4x128, .f32⟩
  | 17 => ⟨S1x1x4x128, .f32⟩
  | 18 => ⟨S32x8x4x128, .f32⟩
  | 19 => ⟨S32x8x4x128, .f32⟩
  | 20 => ⟨S32x8x512, .f32⟩
  | 21 => ⟨S32x8x512, .f32⟩
  | 22 => ⟨S32x8x512, .f32⟩
  | 23 => ⟨S_, .f32⟩
  | 24 => ⟨S32x8x512, .f32⟩
  | 25 => ⟨S32x8x512, .f32⟩
  | 26 => ⟨S_, .f32⟩
  | 27 => ⟨S32x8x512, .f32⟩
  | 28 => ⟨S32x8x512, .f32⟩
  | 29 => ⟨S32x8x512, .f32⟩
  | 30 => ⟨S32x8x512, .bf16⟩
  | 31 => ⟨S_, .i32⟩
  | 32 => ⟨S_, .bf16⟩
  | 33 => ⟨S32x128x512, .bf16⟩
  | 34 => ⟨S32x4x1x128, .f32⟩
  | 35 => ⟨S32x4x1x1, .f32⟩
  | 36 => ⟨S32x4x1x128, .f32⟩
  | _ => ⟨S32x8x4x128, .f32⟩

abbrev hbmTy (i : Nat) : BufTy := match i / 128 with
  | 0 => hbmTy0_0 i
  | 1 => hbmTy0_1 i
  | _ => ⟨S32x8x4x128, .f32⟩

abbrev bufTy : (tb : Table) → Fin (tcTables nBuf tb) → BufTy
  | .hbm, ⟨i, _⟩ => hbmTy i
  | _, _ => ⟨S32x8x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v5 : Ref sig .tc := ⟨.hbm, 30, rfl⟩
abbrev main_call1_call0_cst : Ref sig .tc := ⟨.hbm, 31, rfl⟩
abbrev main_call1_call0_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_1 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_2 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_3 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_4 : Ref sig .tc := ⟨.hbm, 121, rfl⟩
abbrev main_v87 : Ref sig .tc := ⟨.hbm, 122, rfl⟩
abbrev main_v88 : Ref sig .tc := ⟨.hbm, 123, rfl⟩
abbrev main_cst_5 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_6 : Ref sig .tc := ⟨.hbm, 130, rfl⟩
abbrev main_v94 : Ref sig .tc := ⟨.hbm, 131, rfl⟩
abbrev main_v95 : Ref sig .tc := ⟨.hbm, 132, rfl⟩
abbrev main_cst_7 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_8 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_9 : Ref sig .tc := ⟨.hbm, 151, rfl⟩
abbrev main_v112 : Ref sig .tc := ⟨.hbm, 152, rfl⟩
abbrev main_v113 : Ref sig .tc := ⟨.hbm, 153, rfl⟩
abbrev main_cst_10 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c : Ref sig .tc := ⟨.hbm, 159, rfl⟩
abbrev main_call3_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩

abbrev nD : Nat := 1
abbrev τ : Topo := Topo.v7x

variable {F : FTy → Type} [FloatOps F]
-- ==== Proof.Run.lean ====
/-
  The two runs of the routed experts' body: at the first expert of a row block (the output block reset, the ranks
  computed and kept in the scratch), and at each later one (the scratch read at the contents it was left with).
-/
module

public import proofs.«01_k».proof.Proof.Gen.KernelIdeal.Frame.Runs

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a row block's first expert: the pieces its stores leave in the output block and in the scratch, with
    the proof that it runs; the scratch is found at anything. -/
noncomputable def runA (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .bf16) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S128x1024 .f32) (harg11 : arg11.IsWhole) (hc0 : cond0_0 i)
    (x0 : Vec F S1024x1024 .bf16) (x1 : Vec F S128x1024 .f32) (x2 : Vec F S1024x1024 .bf16) (x3 : Vec F S1x1024x2048 .bf16) (x4 : Vec F S1x1x2048 .f32) (x5 : Vec F S1x1024x1024 .bf16) (x6 : Vec F S1x1x1024 .f32) (xt0 : TbBuf0 (F := F) c tbM0_0) (k0_hw1 : k0_chk1 (tbM0_0.view.readAt (Elt F) (Rect.unit (s := S16x128) (k0_off2 i) S1x1.size (k0_off2_inb i)).toLoadRect xt0 (Shape.Idx.first (numel1_S1x1.symm ▸ Nat.one_pos)))) :
    { L : List (View.Piece (Elt F) S1024x1024 .f32) × List (View.Piece (Elt F) S128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2) ∗ tbPt0 c tbM0_0 xt0) -∗ K ⟨⟩))
          ⊢ wp frame (wpE (defs₀ (F := F)) Variants.none c none) E (cc0__moe_kernel i tbM0_0 htbM0_0 arg3 harg3 arg4 harg4 arg5 harg5 arg6 harg6 arg7 harg7 arg8 harg8 arg9 harg9 arg10 harg10 arg11 harg11) K } := by
  refine ⟨(?_, ?_), fun E K => ?run⟩
  case run =>
    simp only [cc0__moe_kernel_eq_skeleton]; unfold cc0__moe_kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]
    · iexists _; iexact HS0
    iexact HT0

set_option maxHeartbeats 1000000 in
/-- The body at a later expert: the output block found at `xo7` and the scratch at `xs`, which it keeps. -/
noncomputable def runB (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .bf16) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S128x1024 .f32) (harg11 : arg11.IsWhole) (hc0 : ¬cond0_0 i)
    (x0 : Vec F S1024x1024 .bf16) (x1 : Vec F S128x1024 .f32) (x2 : Vec F S1024x1024 .bf16) (x3 : Vec F S1x1024x2048 .bf16) (x4 : Vec F S1x1x2048 .f32) (x5 : Vec F S1x1024x1024 .bf16) (x6 : Vec F S1x1x1024 .f32) (xt0 : TbBuf0 (F := F) c tbM0_0) (xo7 : Vec F S1024x1024 .f32) (xs : Vec F S128x1024 .f32) (k0_hw1 : k0_chk1 (tbM0_0.view.readAt (Elt F) (Rect.unit (s := S16x128) (k0_off2 i) S1x1.size (k0_off2_inb i)).toLoadRect xt0 (Shape.Idx.first (numel1_S1x1.symm ▸ Nat.one_pos)))) :
    { L7 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xs ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (arg10.view.loc (c : Thread nD τ) ↦[arg10.view.set]{fullShare} arg10.view.writes (Elt F) (harg10.unread xo7) L7) ∗ owns (c : Thread nD τ) arg11 fullShare xs ∗ tbPt0 c tbM0_0 xt0) -∗ K ⟨⟩))
          ⊢ wp frame (wpE (defs₀ (F := F)) Variants.none c none) E (cc0__moe_kernel i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0__moe_kernel_eq_skeleton]; unfold cc0__moe_kernel_skel
    simp only [k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexact H7
    isplitl [HS0]
    · iexists _; isplitr; · ipureintro; exact harg11.read_unread _
      iexact HS0
    iexact HT0

end Cert.KernelIdeal.Moe

end
-- ==== Proof.Body.lean ====
/-
  What the body's loop over the expert's token chunks leaves: the trips' payloads folded into the output block.
-/
module

public import proofs.«01_k».proof.Proof.Run
public import Idealize.ShloMosaic.Lib.VecWindow
public import Idealize.ShloMosaic.Lib.LoopRemainder
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a list of writes leaves depends only on what the contents under them read as. -/
theorem read_writes_congr {κ} {sp} {s : Shape} {e : EltTy} (v : View sig κ sp s e)
    (f f' : v.ty.Contents (Elt F)) (h : v.read (Elt F) f = v.read (Elt F) f') (L : List (View.Piece (Elt F) s e)) :
    v.read (Elt F) (v.writes (Elt F) f L) = v.read (Elt F) (v.writes (Elt F) f' L) := by
  funext y
  by_cases hy : ∃ p ∈ L, y ∈ p.1.set
  · exact View.read_writes_apply_eq v f v f' y L hy
  · have hn : ∀ p ∈ L, y ∉ p.1.set := fun p hp hm => hy ⟨p, hp, hm⟩
    rw [View.read_writes_apply_of_forall_not_mem v f y L hn, View.read_writes_apply_of_forall_not_mem v f' y L hn, h]

/-- The output block after one more chunk of 192 slots: the payload of the loop's store, as a function of the rank row,
    the gate row, the routed count, the block's tokens, the expert's weights and biases, and the block found. -/
def chunkVal (v4 v6 : Vec F S1x1024 .f32) (w : BitVec 32) (x0 : Vec F S1024x1024 .bf16) (x3 : Vec F S1x1024x2048 .bf16)
    (x4 : Vec F S1x1x2048 .f32) (x5 : Vec F S1x1024x1024 .bf16) (x6 : Vec F S1x1x1024 .f32)
    (k : Fin (k0_t1_loop w).trips) (o : Vec F S1024x1024 .f32) : Vec F S1024x1024 .f32 :=
  k0_pay22 (k0_pay3 v4 (k0_pay21 (F := F)) w 0#32 1#32 k) (k0_pay4 v4 (k0_pay20 v6) (k0_pay21 (F := F)) w 0#32 1#32 k)
    (k0_pay6 v4 (k0_pay21 (F := F)) w 0#32 1#32 k x0 x3 x4) (k0_pay7 v4 (k0_pay21 (F := F)) w 0#32 1#32 k x0 x3 x4)
    (k0_pay8 v4 (k0_pay21 (F := F)) w 0#32 1#32 k x0 x3 x4) (k0_pay9 (F := F)) x5 x6 o

/-- The output block after the first `k` chunks. -/
def loopVal (v4 v6 : Vec F S1x1024 .f32) (w : BitVec 32) (x0 : Vec F S1024x1024 .bf16) (x3 : Vec F S1x1024x2048 .bf16)
    (x4 : Vec F S1x1x2048 .f32) (x5 : Vec F S1x1024x1024 .bf16) (x6 : Vec F S1x1x1024 .f32)
    (o : Vec F S1024x1024 .f32) : ℕ → Vec F S1024x1024 .f32
  | 0 => o
  | k + 1 => if h : k < (k0_t1_loop w).trips then chunkVal v4 v6 w x0 x3 x4 x5 x6 ⟨k, h⟩ (loopVal v4 v6 w x0 x3 x4 x5 x6 o k)
      else loopVal v4 v6 w x0 x3 x4 x5 x6 o k

set_option maxHeartbeats 1000000 in
theorem read_pb (𝒱 : Variants) (c : Dev nD) (bd : Option 𝒱.V) (i : grid0.Coords) (arg2 : Memref sig .tc .smem S16x128 .i32) (harg2 : arg2.IsWhole) (arg3 : Memref sig .tc .vmem S1024x1024 .bf16) (harg3 : arg3.IsWhole) (arg4 : Memref sig .tc .vmem S128x1024 .f32) (harg4 : arg4.IsWhole) (arg5 : Memref sig .tc .vmem S1024x1024 .bf16) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S128x1024 .f32) (harg11 : arg11.IsWhole) (v4 : Vec F S1x1024 .f32) (v6 : Vec F S1x1024 .f32) (v12 : Elt F .i32) (k0_hw1 : k0_chk1 v12) (X_arg3 : BufTy.Contents (Elt F) arg3.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) :
    ∀ k, k ≤ (k0_t1_loop v12).trips → arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 v4 v6 v12 k0_hw1 X_arg3 X_arg6 X_arg7 X_arg8 X_arg9 G_arg10 k))
      = loopVal v4 v6 v12 (arg3.view.read (Elt F) X_arg3) (arg6.view.read (Elt F) X_arg6) (arg7.view.read (Elt F) X_arg7)
          (arg8.view.read (Elt F) X_arg8) (arg9.view.read (Elt F) X_arg9) (arg10.view.read (Elt F) G_arg10) k := by
  intro k
  induction k with
  | zero => intro _; rfl
  | succ k ih =>
    intro hk
    have h : k < (k0_t1_loop v12).trips := hk
    have e := pb_k0_t1_succ (F := F) 𝒱 c bd i arg2 harg2 arg3 harg3 arg4 harg4 arg5 harg5 arg6 harg6 arg7 harg7 arg8 harg8 arg9 harg9 arg10 harg10 arg11 harg11 v4 v6 v12 k0_hw1 X_arg3 X_arg6 X_arg7 X_arg8 X_arg9 G_arg10 ⟨k, h⟩
    dsimp only at e
    rw [e]
    unfold loopVal
    rw [dif_pos h, ← ih h.le]
    unfold tripL_k0_t1 trip_k0_t1
    dsimp only
    sl_unfold_words
    refine (View.read_writes_full ..).trans ?_
    unfold chunkVal
    rw [← View.readAt_full arg3.view X_arg3 inb_S1024x1024_S1024x1024_0_0,
      ← View.readAt_full arg6.view X_arg6 inb_S1x1024x2048_S1x1024x2048_0_0_0,
      ← View.readAt_full arg7.view X_arg7 inb_S1x1x2048_S1x1x2048_0_0_0,
      ← View.readAt_full arg8.view X_arg8 inb_S1x1024x1024_S1x1024x1024_0_0_0,
      ← View.readAt_full arg9.view X_arg9 inb_S1x1x1024_S1x1x1024_0_0_0,
      ← View.readAt_full arg10.view _ inb_S1024x1024_S1024x1024_0_0]

/-- The remainder loop of the printed program never runs: its bounds meet. -/
theorem trips_t2 (w : BitVec 32) : (k0_t2_loop w).trips = 0 := by
  exact Scf.rem_trips 0#32 _

/-- The row of the block that belongs to the expert of grid point `i`. -/
abbrev rowOf (i : grid0.Coords) (x : Vec F S128x1024 .f32) : Vec F S1x1024 .f32 :=
  fun y => x ((Rect.unit (s := S128x1024) (k0_off1 i) S1x1024.size (k0_off1_inb i)).toLoadRect.idx y)

/-- The routed count of grid point `i`, as the table holds it. -/
abbrev wordOf (c : Dev nD) (i : grid0.Coords) (xt0 : TbBuf0 (F := F) c tbM0_0) : BitVec 32 :=
  (tbM0_0.view.readAt (Elt F) (Rect.unit (s := S16x128) (k0_off2 i) S1x1.size (k0_off2_inb i)).toLoadRect xt0 (Shape.Idx.first (numel1_S1x1.symm ▸ Nat.one_pos)))

set_option maxHeartbeats 1000000 in
theorem out_A (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .bf16) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S128x1024 .f32) (harg11 : arg11.IsWhole) (hc0 : cond0_0 i)
    (x0 : Vec F S1024x1024 .bf16) (x1 : Vec F S128x1024 .f32) (x2 : Vec F S1024x1024 .bf16) (x3 : Vec F S1x1024x2048 .bf16) (x4 : Vec F S1x1x2048 .f32) (x5 : Vec F S1x1024x1024 .bf16) (x6 : Vec F S1x1x1024 .f32) (xt0 : TbBuf0 (F := F) c tbM0_0) (k0_hw1 : k0_chk1 (tbM0_0.view.readAt (Elt F) (Rect.unit (s := S16x128) (k0_off2 i) S1x1.size (k0_off2_inb i)).toLoadRect xt0 (Shape.Idx.first (numel1_S1x1.symm ▸ Nat.one_pos)))) (f : BufTy.Contents (Elt F) arg10.view.ty) :
    arg10.view.read (Elt F) (arg10.view.writes (Elt F) f (runA (F := F) c i arg3 harg3 arg4 harg4 arg5 harg5 arg6 harg6 arg7 harg7 arg8 harg8 arg9 harg9 arg10 harg10 arg11 harg11 hc0 x0 x1 x2 x3 x4 x5 x6 xt0 k0_hw1).1.1)
      = loopVal (rowOf i (k0_pay19 x1 x2)) (rowOf i x1) (wordOf c i xt0) x0 x3 x4 x5 x6 (k0_pay18 (F := F))
          (k0_t1_loop (wordOf c i xt0)).trips := by
  unfold runA

  show View.read (Elt F) arg10.view (arg10.view.writes (Elt F) f
    (pb_k0_t2 (F := F) Variants.none c none i tbM0_0 htbM0_0 arg3 harg3 arg4 harg4 arg5 harg5 arg6 harg6 arg7 harg7 arg8 harg8 arg9 harg9 arg10 harg10 arg11 harg11 _ _ _ _ _ _ _ _ _ _ _ _ _ (k0_t2_loop (wordOf c i xt0)).trips
      ++ (pb_k0_t1 (F := F) Variants.none c none i tbM0_0 htbM0_0 arg3 harg3 arg4 harg4 arg5 harg5 arg6 harg6 arg7 harg7 arg8 harg8 arg9 harg9 arg10 harg10 arg11 harg11 _ _ _ _ _ _ _ _ _ _ (k0_t1_loop (wordOf c i xt0)).trips ++ [_]))) = _
  rw [trips_t2]
  show View.read (Elt F) arg10.view (arg10.view.writes (Elt F) f (pb_k0_t1 (F := F) Variants.none c none i tbM0_0 htbM0_0 arg3 harg3 arg4 harg4 arg5 harg5 arg6 harg6 arg7 harg7 arg8 harg8 arg9 harg9 arg10 harg10 arg11 harg11 _ _ _ _ _ _ _ _ _ _ (k0_t1_loop (wordOf c i xt0)).trips ++ [_])) = _
  refine (congrArg _ (View.writes_append ..)).trans ?_
  have hz : ∀ g : BufTy.Contents (Elt F) arg10.view.ty, arg10.view.read (Elt F) (arg10.view.writes (Elt F) g
      [⟨Rect.unit ![0, 0] S1024x1024.size inb_S1024x1024_S1024x1024_0_0, k0_pay18 (F := F)⟩]) = k0_pay18 (F := F) :=
    fun g => View.read_writes_full ..
  refine (read_writes_congr arg10.view _ _ ((hz f).trans (hz arg10.view.junk).symm) _).trans ?_
  refine (read_pb Variants.none c none i tbM0_0 htbM0_0 arg3 harg3 arg4 harg4 arg5 harg5 arg6 harg6 arg7 harg7 arg8 harg8 arg9 harg9 arg10 harg10 arg11 harg11 _ _ _ _ _ _ _ _ _ _ _ le_rfl).trans ?_
  rw [harg3.read_unread, harg6.read_unread, harg7.read_unread, harg8.read_unread, harg9.read_unread]
  rw [hz]
  have e4 : arg4.view.readAt (Elt F) (Rect.unit (s := S128x1024) (k0_off1 i) S1x1024.size (k0_off1_inb i)).toLoadRect (harg4.unread x1) = rowOf i x1 :=
    funext fun y => congrFun (harg4.read_unread x1) _
  have e11 : runA.sl.v4 c i arg4 harg4 arg5 harg5 arg11 x1 x2 = rowOf i (k0_pay19 x1 x2) := by
    sl_unfold_words
    refine funext fun y => ?_
    refine (congrFun (View.read_writes_full ..) _).trans ?_
    rw [View.readAt_full, View.readAt_full, harg4.read_unread, harg5.read_unread]
    rfl
  rw [e4, e11]
  rfl

set_option maxHeartbeats 1000000 in
theorem scr_A (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .bf16) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S128x1024 .f32) (harg11 : arg11.IsWhole) (hc0 : cond0_0 i)
    (x0 : Vec F S1024x1024 .bf16) (x1 : Vec F S128x1024 .f32) (x2 : Vec F S1024x1024 .bf16) (x3 : Vec F S1x1024x2048 .bf16) (x4 : Vec F S1x1x2048 .f32) (x5 : Vec F S1x1024x1024 .bf16) (x6 : Vec F S1x1x1024 .f32) (xt0 : TbBuf0 (F := F) c tbM0_0) (k0_hw1 : k0_chk1 (tbM0_0.view.readAt (Elt F) (Rect.unit (s := S16x128) (k0_off2 i) S1x1.size (k0_off2_inb i)).toLoadRect xt0 (Shape.Idx.first (numel1_S1x1.symm ▸ Nat.one_pos)))) (f : BufTy.Contents (Elt F) arg11.view.ty) :
    arg11.view.read (Elt F) (arg11.view.writes (Elt F) f (runA (F := F) c i arg3 harg3 arg4 harg4 arg5 harg5 arg6 harg6 arg7 harg7 arg8 harg8 arg9 harg9 arg10 harg10 arg11 harg11 hc0 x0 x1 x2 x3 x4 x5 x6 xt0 k0_hw1).1.2)
      = k0_pay19 x1 x2 := by
  unfold runA

  dsimp only
  sl_unfold_words
  refine (View.read_writes_full ..).trans ?_
  rw [View.readAt_full, View.readAt_full, harg4.read_unread, harg5.read_unread]

set_option maxHeartbeats 1000000 in
theorem out_B (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .bf16) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1024x1024 .f32) (harg10 : arg10.IsWhole) (arg11 : Memref sig .tc .vmem S128x1024 .f32) (harg11 : arg11.IsWhole) (hc0 : ¬cond0_0 i)
    (x0 : Vec F S1024x1024 .bf16) (x1 : Vec F S128x1024 .f32) (x2 : Vec F S1024x1024 .bf16) (x3 : Vec F S1x1024x2048 .bf16) (x4 : Vec F S1x1x2048 .f32) (x5 : Vec F S1x1024x1024 .bf16) (x6 : Vec F S1x1x1024 .f32) (xt0 : TbBuf0 (F := F) c tbM0_0) (xo7 : Vec F S1024x1024 .f32) (xs : Vec F S128x1024 .f32) (k0_hw1 : k0_chk1 (tbM0_0.view.readAt (Elt F) (Rect.unit (s := S16x128) (k0_off2 i) S1x1.size (k0_off2_inb i)).toLoadRect xt0 (Shape.Idx.first (numel1_S1x1.symm ▸ Nat.one_pos)))) :
    arg10.view.read (Elt F) (arg10.view.writes (Elt F) (harg10.unread xo7) (runB (F := F) c i arg3 harg3 arg4 harg4 arg5 harg5 arg6 harg6 arg7 harg7 arg8 harg8 arg9 harg9 arg10 harg10 arg11 harg11 hc0 x0 x1 x2 x3 x4 x5 x6 xt0 xo7 xs k0_hw1).1)
      = loopVal (rowOf i xs) (rowOf i x1) (wordOf c i xt0) x0 x3 x4 x5 x6 xo7
          (k0_t1_loop (wordOf c i xt0)).trips := by
  unfold runB

  show View.read (Elt F) arg10.view (arg10.view.writes (Elt F) (harg10.unread xo7)
    (pb_k0_t2 (F := F) Variants.none c none i tbM0_0 htbM0_0 arg3 harg3 arg4 harg4 arg5 harg5 arg6 harg6 arg7 harg7 arg8 harg8 arg9 harg9 arg10 harg10 arg11 harg11 _ _ _ _ _ _ _ _ _ _ _ _ _ (k0_t2_loop (wordOf c i xt0)).trips
      ++ pb_k0_t1 (F := F) Variants.none c none i tbM0_0 htbM0_0 arg3 harg3 arg4 harg4 arg5 harg5 arg6 harg6 arg7 harg7 arg8 harg8 arg9 harg9 arg10 harg10 arg11 harg11 _ _ _ _ _ _ _ _ _ _ (k0_t1_loop (wordOf c i xt0)).trips)) = _
  rw [trips_t2]
  show View.read (Elt F) arg10.view (arg10.view.writes (Elt F) (harg10.unread xo7) (pb_k0_t1 (F := F) Variants.none c none i tbM0_0 htbM0_0 arg3 harg3 arg4 harg4 arg5 harg5 arg6 harg6 arg7 harg7 arg8 harg8 arg9 harg9 arg10 harg10 arg11 harg11 _ _ _ _ _ _ _ _ _ _ (k0_t1_loop (wordOf c i xt0)).trips)) = _
  refine (read_pb Variants.none c none i tbM0_0 htbM0_0 arg3 harg3 arg4 harg4 arg5 harg5 arg6 harg6 arg7 harg7 arg8 harg8 arg9 harg9 arg10 harg10 arg11 harg11 _ _ _ _ _ _ _ _ _ _ _ le_rfl).trans ?_
  simp only [harg3.read_unread, harg6.read_unread, harg7.read_unread, harg8.read_unread, harg9.read_unread, harg10.read_unread]
  have e11 : arg11.view.readAt (Elt F) (Rect.unit (s := S128x1024) (k0_off1 i) S1x1024.size (k0_off1_inb i)).toLoadRect (harg11.unread xs) = rowOf i xs :=
    funext fun y => congrFun (harg11.read_unread xs) _
  have e4 : arg4.view.readAt (Elt F) (Rect.unit (s := S128x1024) (k0_off1 i) S1x1024.size (k0_off1_inb i)).toLoadRect (harg4.unread x1) = rowOf i x1 :=
    funext fun y => congrFun (harg4.read_unread x1) _
  rw [← e11, ← e4]
  rfl

end Cert.KernelIdeal.Moe

end
-- ==== Proof.Launch.lean ====
/-
  The launch of the routed experts' call, with the ranks followed in the scratch from point to point.
-/
module

public import proofs.«01_k».proof.Proof.Body
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ranks of the row block that point `n` lies in, from the block's gates and the triangle of ones. -/
def rankAt (hO : Ok m) (c : Dev nD) (n : ℕ) : Vec F S128x1024 .f32 :=
  if h : 32 * (n / 32) < (cfgM m hO).N then k0_pay19 (iblk m hO c 1 ⟨32 * (n / 32), h⟩) (iblk m hO c 2 ⟨32 * (n / 32), h⟩)
    else broadcast S128x1024 (Scalar.ofBits .f32 0x00000000#32)

theorem rankAt_A (hO : Ok m) (c : Dev nD) (t : Fin (cfgM m hO).N) (h0 : t.val % 32 = 0) :
    rankAt m hO c t.val = k0_pay19 (iblk m hO c 1 t) (iblk m hO c 2 t) := by
  have e : 32 * (t.val / 32) = t.val := by omega
  have ht : (⟨32 * (t.val / 32), by rw [e]; exact t.isLt⟩ : Fin (cfgM m hO).N) = t := Fin.ext e
  unfold rankAt
  rw [dif_pos (by rw [e]; exact t.isLt), ht]

/-- What one point makes of the output block it finds: the expert's chunks folded in. -/
def stepAt (hO : Ok m) (c : Dev nD) (t : Fin (cfgM m hO).N) (o : Vec F S1024x1024 .f32) : Vec F S1024x1024 .f32 :=
  loopVal (rowOf (grid0.coords t) (rankAt m hO c t.val)) (rowOf (grid0.coords t) (iblk m hO c 1 t)) (wordOf c (grid0.coords t) (tbl m 0))
    (iblk m hO c 0 t) (iblk m hO c 3 t) (iblk m hO c 4 t) (iblk m hO c 5 t) (iblk m hO c 6 t) o
    (k0_t1_loop (wordOf c (grid0.coords t) (tbl m 0))).trips

/-- What the output block holds after point `n`: from zero at a row block's first expert. -/
def outAt (hO : Ok m) (c : Dev nD) : (n : ℕ) → n < (cfgM m hO).N → Vec F S1024x1024 .f32
  | 0, hn => stepAt m hO c ⟨0, hn⟩ (k0_pay18 (F := F))
  | n + 1, hn => stepAt m hO c ⟨n + 1, hn⟩ (if (n + 1) % 32 = 0 then k0_pay18 (F := F) else outAt hO c n (Nat.lt_of_succ_lt hn))

theorem outAt_A (hO : Ok m) (c : Dev nD) (t : Fin (cfgM m hO).N) (h0 : t.val % 32 = 0) :
    outAt m hO c t.val t.isLt = loopVal (rowOf (grid0.coords t) (k0_pay19 (iblk m hO c 1 t) (iblk m hO c 2 t)))
      (rowOf (grid0.coords t) (iblk m hO c 1 t)) (wordOf c (grid0.coords t) (tbl m 0))
      (iblk m hO c 0 t) (iblk m hO c 3 t) (iblk m hO c 4 t) (iblk m hO c 5 t) (iblk m hO c 6 t) (k0_pay18 (F := F))
      (k0_t1_loop (wordOf c (grid0.coords t) (tbl m 0))).trips := by
  rw [← rankAt_A m hO c t h0]
  obtain ⟨n, hn⟩ := t
  cases n with
  | zero => rfl
  | succ n => exact congrArg (stepAt m hO c ⟨n + 1, hn⟩) (if_pos h0)

theorem outAt_B (hO : Ok m) (c : Dev nD) (t : Fin (cfgM m hO).N) (h0 : ¬t.val % 32 = 0) :
    outAt m hO c t.val t.isLt = loopVal (rowOf (grid0.coords t) (rankAt m hO c t.val))
      (rowOf (grid0.coords t) (iblk m hO c 1 t)) (wordOf c (grid0.coords t) (tbl m 0))
      (iblk m hO c 0 t) (iblk m hO c 3 t) (iblk m hO c 4 t) (iblk m hO c 5 t) (iblk m hO c 6 t)
      (outAt m hO c (t.val - 1) (Nat.lt_of_le_of_lt (Nat.sub_le _ _) t.isLt))
      (k0_t1_loop (wordOf c (grid0.coords t) (tbl m 0))).trips := by
  obtain ⟨n, hn⟩ := t
  cases n with
  | zero => exact absurd (Nat.zero_mod _) h0
  | succ n => exact congrArg (stepAt m hO c ⟨n + 1, hn⟩) (if_neg h0)

/-- The scratch before point `n`: at anything when `n` opens a row block, at the block's ranks otherwise. -/
def scrAt (hO : Ok m) (c : Dev nD) (n : ℕ) : sProp 𝕄 :=
  if n % 32 = 0 then iprop(∃ d, owns (c : Thread nD τ) scM0_0 fullShare d)
    else iprop(owns (c : Thread nD τ) scM0_0 fullShare (rankAt m hO c n))

/-- The pipeline's proof data: the inputs at their blocks, the output at `outAt`, the invariant tracking the ranks. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outAt m hO c t.val t.isLt)
  Φ t := iprop((scrAt m hO c t.val ∗ (∃ r, prngReg c r)) ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = (outAt m hO c t.val t.isLt) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
/-- At a point of case B output 7's current staging buffer holds what the body left at the point before: the point is
    not the first, the buffer was not written back between (`flush0_7`), the window is live and uncut (Lib/Pipeline/Frame.lean
    `Dat.before_out_kept`). -/
theorem before0_7_B (hO : Ok m) (hH : Hyps m hO) (c : Dev nD) (t : Fin (cfgM m hO).N) (h0 : ¬t.val % 32 = 0) (d) :
    (dats m hO hH 0 c).before 7 t d = (outAt m hO c (t.val - 1) (Nat.lt_of_le_of_lt (Nat.sub_le _ _) t.isLt)) := by
  have hN : t.val < 512 := lt_of_lt_of_eq t.isLt (show (cfgM m hO).N = 512 from N_0)
  rw [Dat.before_out_kept _ 7 rfl t (by omega) (Bool.eq_false_iff.mpr fun h => by have := (flush0_7 (adm m hO) _).mp h; dsimp only at this; omega)
    (fun _ => rfl) (fun _ _ => rfl)]
  dsimp only [dats]
  try rfl

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t))

/-- The invariant between points. -/
theorem Phi_eq (hO : Ok m) (hH : Hyps m hO) (c : Dev nD) (j : Fin ((cfgM m hO).N + 1)) :
    (dats m hO hH 0 c).Φ j = iprop((scrAt m hO c j.val ∗ (∃ r, prngReg c r)) ∗ Pipeline.ΦT pre0 (tbl m) c) := by
  dsimp only [dats]

/-- Before point `t` the invariant holds the scratch at the ranks of the row block `t` lies in, or at anything when `t` opens one. -/
theorem PhiAt_open (hO : Ok m) (c : Dev nD) (n : ℕ) (h : n % 32 = 0) :
    (scrAt m hO c n : sProp 𝕄) = iprop(∃ d, owns (c : Thread nD τ) scM0_0 fullShare d) := if_pos h

theorem PhiAt_kept (hO : Ok m) (c : Dev nD) (n : ℕ) (h : ¬ n % 32 = 0) :
    (scrAt m hO c n : sProp 𝕄) = iprop(owns (c : Thread nD τ) scM0_0 fullShare (rankAt m hO c n)) := if_neg h

/-- The ranks of point `t` serve the next point's invariant. -/
theorem scr_next (hO : Ok m) (c : Dev nD) (t : Fin (cfgM m hO).N) :
    owns (c : Thread nD τ) scM0_0 fullShare (rankAt m hO c t.val) ⊢ (scrAt m hO c (t.val + 1) : sProp 𝕄) := by
  by_cases h : (t.val + 1) % 32 = 0
  · rw [PhiAt_open m hO c _ h]
    iintro H
    iexists _
    iexact H
  · rw [PhiAt_kept m hO c _ h]
    have e : rankAt m hO c (t.val + 1) = rankAt m hO c t.val := by
      unfold rankAt
      rw [show (t.val + 1) / 32 = t.val / 32 by omega]
    rw [e]

set_option maxHeartbeats 1600000 in
/-- The body at any point: the case of the point decides which run applies; the ranks go into the invariant at a row
    block's first expert and are kept by the later ones. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6]
  rw [show (dats m hO hH 0 c).owesAt () t.succ = (dats m hO hH 0 c).owesAt () t.castSucc from rfl,
    after0_0, after0_1, after0_2, after0_3, after0_4, after0_5, after0_6, after0_7]
  rw [Phi_eq, Phi_eq, Fin.val_castSucc, Fin.val_succ, PhiT0_eq]
  have hN : t.val < 512 := lt_of_lt_of_eq t.isLt (show (cfgM m hO).N = 512 from N_0)
  by_cases h0 : t.val % 32 = 0
  · rw [outAt_A m hO c t h0, PhiAt_open m hO c _ h0]
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0) (Hyps.c0 hH c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HT0]; · iexact HT0
    iintro ⟨H0, H1, H2, H3, H4, H5, H6, ⟨%e7, H7⟩, ⟨%es, HS0⟩, HT0⟩
    isplitl [HS0 Hg HT0]
    · isplitl [HS0 Hg]
      · isplitl [HS0]
        · iapply (scr_next m hO c t)
          unfold owns; iexists _; isplitr
          swap; · iexact HS0
          ipureintro
          refine (scr_A c (grid0.coords t) _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0) (Hyps.c0 hH c t) es).trans ?_
          exact (rankAt_A m hO c t h0).symm
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    exact out_A c (grid0.coords t) _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0) (Hyps.c0 hH c t) e7
  · rw [outAt_B m hO c t h0, PhiAt_kept m hO c _ h0]
    simp only [before0_7_B m hO hH c t h0]
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (tbl m 0) _ (rankAt m hO c t.val) (Hyps.c0 hH c t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HT0]; · iexact HT0
    iintro ⟨H0, H1, H2, H3, H4, H5, H6, H7, HS0, HT0⟩
    isplitl [HS0 Hg HT0]
    · isplitl [HS0 Hg]
      · isplitl [HS0]
        · iapply (scr_next m hO c t)
          iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    exact out_B c (grid0.coords t) _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (tbl m 0) _ (rankAt m hO c t.val) (Hyps.c0 hH c t)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

/-- The invariant at the first point, from the class's: the scratch at anything. -/
theorem entry (hO : Ok m) (c : Dev nD) : iprop(Pipeline.ΦA spec0 c ∗ Pipeline.ΦT pre0 (tbl m) c)
    ⊢ (iprop((scrAt m hO c 0 ∗ (∃ r, prngReg c r)) ∗ Pipeline.ΦT pre0 (tbl m) c) : sProp 𝕄) := by
  rw [PhiA0_eq, PhiAt_open m hO c 0 rfl]

/-- and after the last point it gives the class's back. -/
theorem exit (hO : Ok m) (c : Dev nD) : (iprop((scrAt m hO c (cfgM m hO).N ∗ (∃ r, prngReg c r)) ∗ Pipeline.ΦT pre0 (tbl m) c) : sProp 𝕄)
    ⊢ Pipeline.ΦA spec0 c := by
  rw [PhiA0_eq, PhiAt_open m hO c _ (show (cfgM m hO).N % 32 = 0 by rw [show (cfgM m hO).N = 512 from N_0])]
  iintro ⟨H, -⟩
  iexact H

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := fun c => entry m hO c) (hout := fun c => exit m hO c)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO hH) (A_eq m hO hH) (run_main m ρ hO hH)

/-- The frame: the arguments unchanged and every counter at zero, at any `F`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.KernelIdeal.Moe

end
-- ==== Proof.HostVal.lean ====
/-
  What the operations before the call leave in the arrays it reads.
-/
module

public import proofs.«01_k».proof.Proof.Launch
public import Idealize.ShloMosaic.Lib.Pointwise
public import Idealize.ShloMosaic.Lib.IndicatorCount
public import Idealize.ShloMosaic.Lib.StableHlo.Run

@[expose] public section

set_option maxRecDepth 16384

noncomputable section

namespace Cert.KernelIdeal.Moe

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The gates with the lanes past the experts at the value of zero. -/
abbrev padG (g : Vec F S16384x32 .f32) : Vec F S16384x128 .f32 :=
  pad S16384x128 ![0, 0] ![0, 96] ![0, 0] g (sitofp .f32 (constantI S_ 32 0#32)) pads_S16384x32_S16384x128_000_0960 h_S_

/-- The per-block counts of an expert's routed tokens. -/
abbrev counts (g : Vec F S16384x32 .f32) : IVec S16x128 32 :=
  Host.reduce IntOp.addi (extui 32 (shapeCast S16x1024x128 (cmpf .ogt (padG g) (broadcastInDim S16384x128 ![] bcast_S_S16384x128 (constant S_ .f32 0x00000000#32))) shapeCasts_S16384x128_S16x1024x128) natLt_1_32)
    (constantI S_ 32 0#32) reducesTo_S16x1024x128_S16x128_d1 h_S_

/-- The strict triangle of ones. -/
abbrev tri : Vec F S1024x1024 .bf16 :=
  truncf .bf16 (select (cmpi .slt (iotaInDim S1024x1024 32 0) (iotaInDim S1024x1024 32 1)) (broadcastInDim S1024x1024 ![] bcast_S_S1024x1024 (constant S_ .f32 0x3F800000#32 : FVec F S_ .f32))
    (broadcastInDim S1024x1024 ![] bcast_S_S1024x1024 (constant S_ .f32 0x00000000#32 : FVec F S_ .f32))) bitsLt_bf16_f32

theorem V_v1 (c : Dev nD) : V m c main_v1 = truncf .bf16 (m ((c : Thread nD τ).loc main_arg0) : Vec F S16384x1024 .f32) bitsLt_bf16_f32 := by
  unfold V
  simp only [List.flatten_cons, List.flatten_nil, List.append_nil, List.cons_append, List.nil_append, TRef.binary, TRef.unary, TRef.ternary, TRef.toBuf, TRef.ofBuf, cast_eq]
  after_results_simp

theorem V_v2 (c : Dev nD) : V m c main_v2 = truncf .bf16 (m ((c : Thread nD τ).loc main_arg2) : Vec F S32x1024x2048 .f32) bitsLt_bf16_f32 := by
  unfold V
  simp only [List.flatten_cons, List.flatten_nil, List.append_nil, List.cons_append, List.nil_append, TRef.binary, TRef.unary, TRef.ternary, TRef.toBuf, TRef.ofBuf, cast_eq]
  after_results_simp

theorem V_v3 (c : Dev nD) : V m c main_v3 = truncf .bf16 (m ((c : Thread nD τ).loc main_arg4) : Vec F S32x1024x1024 .f32) bitsLt_bf16_f32 := by
  unfold V
  simp only [List.flatten_cons, List.flatten_nil, List.append_nil, List.cons_append, List.nil_append, TRef.binary, TRef.unary, TRef.ternary, TRef.toBuf, TRef.ofBuf, cast_eq]
  after_results_simp

theorem V_v4 (c : Dev nD) : V m c main_v4 = transpose S128x16384 [1, 0] (padG (m ((c : Thread nD τ).loc main_arg1))) transposes_S16384x128_S128x16384_1_0 := by
  unfold V
  simp only [List.flatten_cons, List.flatten_nil, List.append_nil, List.cons_append, List.nil_append, TRef.binary, TRef.unary, TRef.ternary, TRef.toBuf, TRef.ofBuf, cast_eq]
  after_results_simp

theorem V_v9 (c : Dev nD) : V m c main_v9 = counts (m ((c : Thread nD τ).loc main_arg1)) := by
  unfold V
  simp only [List.flatten_cons, List.flatten_nil, List.append_nil, List.cons_append, List.nil_append, TRef.binary, TRef.unary, TRef.ternary, TRef.toBuf, TRef.ofBuf, cast_eq]
  after_results_simp
  rfl

theorem V_v14 (c : Dev nD) : V m c main_v14 = tri := by
  unfold V
  simp only [List.flatten_cons, List.flatten_nil, List.append_nil, List.cons_append, List.nil_append, TRef.binary, TRef.unary, TRef.ternary, TRef.toBuf, TRef.ofBuf, cast_eq]
  after_results_simp

theorem V_v15 (c : Dev nD) : V m c main_v15 = (shapeCast S32x1x2048 (m ((c : Thread nD τ).loc main_arg3) : Vec F S32x2048 .f32) shapeCasts_S32x2048_S32x1x2048 : Vec F S32x1x2048 .f32) := by
  unfold V
  simp only [List.flatten_cons, List.flatten_nil, List.append_nil, List.cons_append, List.nil_append, TRef.binary, TRef.unary, TRef.ternary, TRef.toBuf, TRef.ofBuf, cast_eq]
  after_results_simp
  rfl

theorem V_v16 (c : Dev nD) : V m c main_v16 = (shapeCast S32x1x1024 (m ((c : Thread nD τ).loc main_arg5) : Vec F S32x1024 .f32) shapeCasts_S32x1024_S32x1x1024 : Vec F S32x1x1024 .f32) := by
  unfold V
  simp only [List.flatten_cons, List.flatten_nil, List.append_nil, List.cons_append, List.nil_append, TRef.binary, TRef.unary, TRef.ternary, TRef.toBuf, TRef.ofBuf, cast_eq]
  after_results_simp
  rfl

theorem padG_apply (g : Vec Ideal S16384x32 .f32) (n : Fin 16384) (e : Fin 32) :
    padG g (ix2 n ⟨e.val, by omega⟩) = g (ix2 n e) := by
  pointwise [padG]

theorem tri_apply (i j : Fin 1024) : (tri : Vec Ideal S1024x1024 .bf16) (ix2 i j) = if i < j then 1 else 0 := by
  pointwise [tri]
  have h1 : (BitVec.ofNat 32 i.val).toInt = (i.val : ℤ) := by
    rw [BitVec.toInt_ofNat', Int.bmod_def]; have := i.isLt; omega
  have h2 : (BitVec.ofNat 32 j.val).toInt = (j.val : ℤ) := by
    rw [BitVec.toInt_ofNat', Int.bmod_def]; have := j.isLt; omega
  by_cases h : i < j
  · rw [if_pos h]
    have : IntOp.cmpi CmpIPredicate.slt (BitVec.ofNat 32 i.val) (BitVec.ofNat 32 j.val) = 1#1 := by
      show BitVec.ofBool ((BitVec.ofNat 32 i.val).slt (BitVec.ofNat 32 j.val)) = 1#1
      rw [BitVec.slt_eq_decide, h1, h2, decide_eq_true (by exact_mod_cast h)]; rfl
    rw [this]; rfl
  · rw [if_neg h]
    have : IntOp.cmpi CmpIPredicate.slt (BitVec.ofNat 32 i.val) (BitVec.ofNat 32 j.val) = 0#1 := by
      show BitVec.ofBool ((BitVec.ofNat 32 i.val).slt (BitVec.ofNat 32 j.val)) = 0#1
      rw [BitVec.slt_eq_decide, h1, h2, decide_eq_false (by exact_mod_cast h)]; rfl
    rw [this]; rfl

/-- The counts, at any values: the number of the block's gates that compare above zero. -/
theorem counts_apply (g : Vec F S16384x32 .f32) (r : Fin 16) (e : Fin 32) :
    counts g (ix2 r ⟨e.val, by omega⟩) = BitVec.ofNat 32 (Finset.univ.filter fun n : Fin 1024 =>
      FloatOps.cmpf .ogt (g (ix2 ⟨r.val * 1024 + n.val, by omega⟩ e)) (FloatOps.ofBits FTy.f32 0x00000000#32) = 1#1).card := by
  rw [counts, Host.reduce_eq_fold]
  pointwise
  rw [IndicatorCount.fold_addi_setWidth_eq_card]
  congr 2
  apply Finset.filter_congr
  intro n _
  rw [dif_pos (by omega)]

end Cert.KernelIdeal.Moe

end
-- ==== Proof.Pay.lean ====
/-
  One chunk of an expert's work read at an element, over the extended reals: the block it finds plus, over the chunk's
  slots, the slot's token times the expert's answer for the row the slot picked.
-/
module

public import proofs.«01_k».proof.Proof.Body
public import Idealize.ShloMosaic.Lib.Pointwise

@[expose] public section

set_option maxRecDepth 16384

noncomputable section

namespace Cert.KernelIdeal.Moe

open Cert.KernelIdeal Cert.KernelIdeal.Gen Idealize.ShloMosaic

/-- The gated unit's value at column `f`, from the two halves of the hidden row. -/
def glu (z : Fin 2048 → EReal) (f : Fin 1024) : EReal :=
  let g := min (z ⟨f.val, by omega⟩) (Ideal.ofBits .f32 0x40E00000#32)
  g * Ideal.div 1 (1 + Ideal.exp (-(Ideal.ofBits .f32 0x3FD9DB23#32 * g)))
    * (min (Ideal.ofBits .f32 0x40E00000#32) (max (Ideal.ofBits .f32 0xC0E00000#32) (z ⟨1024 + f.val, by omega⟩)) + 1)

/-- One expert's answer for the row `h`, at output column `d`. -/
def expert (w1 : Fin 1024 → Fin 2048 → EReal) (b1 : Fin 2048 → EReal) (w2 : Fin 1024 → Fin 1024 → EReal) (b2 : Fin 1024 → EReal)
    (h : Fin 1024 → EReal) (d : Fin 1024) : EReal :=
  (∑ f : Fin 1024, glu (fun p => (∑ k : Fin 1024, h k * w1 k p) + b1 p) f * w2 f d) + b2 d

/-- Whether slot `s` of chunk `k` picks a token of rank `r`, as a number. -/
def pick (r : EReal) (k s : ℕ) : EReal := if r - ((192 * k : ℕ) : EReal) = ((s : ℕ) : EReal) then 1 else 0

theorem toInt_iv (w : BitVec 32) (hk : (k0_t1_loop w).trips ≤ 6) (k : Fin (k0_t1_loop w).trips) :
    (Scalar.muli (Scf.iv 0#32 1#32 k) 192#32).toInt = 192 * (k.val : ℤ) := by
  have h : ∀ j : Fin 6, (Scalar.muli (Scf.iv 0#32 1#32 j.val) 192#32).toInt = 192 * (j.val : ℤ) := by decide
  exact h ⟨k.val, by omega⟩

theorem toInt_slot (s : Fin 192) : (BitVec.ofNat 32 s.val).toInt = (s.val : ℤ) := by
  have h : ∀ j : Fin 192, (BitVec.ofNat 32 j.val).toInt = (j.val : ℤ) := by decide
  exact h s

/-- The words the body needs of a count within a block: its loops are well formed and the chunks cover the count. -/
theorem count_word (n : ℕ) (h : n ≤ 1024) :
    k0_chk1 (BitVec.ofNat 32 n) ∧ (k0_t1_loop (BitVec.ofNat 32 n)).trips = (n + 191) / 192 := by
  have a : ∀ j : Fin 1025, k0_chk1 (BitVec.ofNat 32 j.val) ∧ (k0_t1_loop (BitVec.ofNat 32 j.val)).trips = (j.val + 191) / 192 := by
    decide +kernel
  exact a ⟨n, by omega⟩

theorem pay2_apply (v4 : Vec Ideal S1x1024 .f32) (w : BitVec 32) (hk : (k0_t1_loop w).trips ≤ 6) (k : Fin (k0_t1_loop w).trips) (s : Fin 192) (n : Fin 1024) :
    k0_pay2 v4 (k0_pay21 (F := Ideal)) w 0#32 1#32 k (ix2 s n) = pick (v4 (ix2 0 n)) k s := by
  pointwise [k0_pay2, k0_pay21]
  rw [toInt_iv w hk k]
  unfold pick
  congr 1
  have e : FloatOps.sitofp (F := Ideal) FTy.f32 (BitVec.ofNat 32 s.val) = ((s.val : ℕ) : EReal) := by
    show (((BitVec.ofNat 32 s.val).toInt : ℝ) : EReal) = _
    rw [toInt_slot]
    norm_cast
  rw [e]
  have e' : (((192 * (k.val : ℤ) : ℤ) : ℝ) : EReal) = ((192 * k.val : ℕ) : EReal) := by norm_cast
  rw [e']

theorem pay3_apply (v4 : Vec Ideal S1x1024 .f32) (w : BitVec 32) (hk : (k0_t1_loop w).trips ≤ 6) (k : Fin (k0_t1_loop w).trips) (s : Fin 192) (n : Fin 1024) :
    k0_pay3 v4 (k0_pay21 (F := Ideal)) w 0#32 1#32 k (ix2 s n) = pick (v4 (ix2 0 n)) k s := by
  rw [← pay2_apply v4 w hk k s n]
  pointwise [k0_pay3]

theorem pay4_apply (v4 v6 : Vec Ideal S1x1024 .f32) (w : BitVec 32) (hk : (k0_t1_loop w).trips ≤ 6) (k : Fin (k0_t1_loop w).trips) (s : Fin 192) (z : Fin 1) :
    k0_pay4 v4 (k0_pay20 v6) (k0_pay21 (F := Ideal)) w 0#32 1#32 k (ix2 s z) = ∑ n : Fin 1024, pick (v4 (ix2 0 n)) k s * v6 (ix2 0 n) := by
  simp only [← pay2_apply v4 w hk k s]
  pointwise [k0_pay4, k0_pay20]

/-- The hidden row of slot `s`: the picked row through the first product, with its bias. -/
def hid (v4 : Vec Ideal S1x1024 .f32) (k : ℕ) (x0 : Vec Ideal S1024x1024 .bf16) (x3 : Vec Ideal S1x1024x2048 .bf16) (x4 : Vec Ideal S1x1x2048 .f32)
    (s : Fin 192) (p : Fin 2048) : EReal :=
  (∑ j : Fin 1024, (∑ n : Fin 1024, pick (v4 (ix2 0 n)) k s * x0 (ix2 n j)) * x3 (ix3 0 j p)) + x4 (ix3 0 0 p)

theorem pay5_apply (v4 : Vec Ideal S1x1024 .f32) (w : BitVec 32) (hk : (k0_t1_loop w).trips ≤ 6) (k : Fin (k0_t1_loop w).trips) (x0 : Vec Ideal S1024x1024 .bf16) (x3 : Vec Ideal S1x1024x2048 .bf16) (x4 : Vec Ideal S1x1x2048 .f32)
    (s : Fin 192) (p : Fin 2048) :
    k0_pay5 v4 (k0_pay21 (F := Ideal)) w 0#32 1#32 k x0 x3 x4 (ix2 s p) = hid v4 k x0 x3 x4 s p := by
  unfold hid
  simp only [← pay3_apply v4 w hk k s]
  pointwise [k0_pay5]

theorem pay6_apply (v4 : Vec Ideal S1x1024 .f32) (w : BitVec 32) (hk : (k0_t1_loop w).trips ≤ 6) (k : Fin (k0_t1_loop w).trips) (x0 : Vec Ideal S1024x1024 .bf16) (x3 : Vec Ideal S1x1024x2048 .bf16) (x4 : Vec Ideal S1x1x2048 .f32)
    (s : Fin 192) (f : Fin 1024) :
    k0_pay6 v4 (k0_pay21 (F := Ideal)) w 0#32 1#32 k x0 x3 x4 (ix2 s f)
      = min (hid v4 k x0 x3 x4 s ⟨f.val, by omega⟩) (Ideal.ofBits .f32 0x40E00000#32) := by
  rw [← pay5_apply v4 w hk k x0 x3 x4]
  pointwise [k0_pay6]

theorem pay7_apply (v4 : Vec Ideal S1x1024 .f32) (w : BitVec 32) (hk : (k0_t1_loop w).trips ≤ 6) (k : Fin (k0_t1_loop w).trips) (x0 : Vec Ideal S1024x1024 .bf16) (x3 : Vec Ideal S1x1024x2048 .bf16) (x4 : Vec Ideal S1x1x2048 .f32)
    (s : Fin 192) (f : Fin 1024) :
    k0_pay7 v4 (k0_pay21 (F := Ideal)) w 0#32 1#32 k x0 x3 x4 (ix2 s f)
      = min (Ideal.ofBits .f32 0x40E00000#32) (max (Ideal.ofBits .f32 0xC0E00000#32) (hid v4 k x0 x3 x4 s ⟨1024 + f.val, by omega⟩)) := by
  rw [← pay5_apply v4 w hk k x0 x3 x4]
  pointwise [k0_pay7]

theorem pay8_apply (v4 : Vec Ideal S1x1024 .f32) (w : BitVec 32) (hk : (k0_t1_loop w).trips ≤ 6) (k : Fin (k0_t1_loop w).trips) (x0 : Vec Ideal S1024x1024 .bf16) (x3 : Vec Ideal S1x1024x2048 .bf16) (x4 : Vec Ideal S1x1x2048 .f32)
    (s : Fin 192) (f : Fin 1024) :
    k0_pay8 v4 (k0_pay21 (F := Ideal)) w 0#32 1#32 k x0 x3 x4 (ix2 s f)
      = Ideal.exp (-(Ideal.ofBits .f32 0x3FD9DB23#32 * min (hid v4 k x0 x3 x4 s ⟨f.val, by omega⟩) (Ideal.ofBits .f32 0x40E00000#32))) := by
  rw [← pay6_apply v4 w hk k x0 x3 x4]
  pointwise [k0_pay8]
  simp only [zero_sub]

/-- One chunk at an element. -/
theorem chunk_apply (v4 v6 : Vec Ideal S1x1024 .f32) (w : BitVec 32) (hk : (k0_t1_loop w).trips ≤ 6) (x0 : Vec Ideal S1024x1024 .bf16) (x3 : Vec Ideal S1x1024x2048 .bf16)
    (x4 : Vec Ideal S1x1x2048 .f32) (x5 : Vec Ideal S1x1024x1024 .bf16) (x6 : Vec Ideal S1x1x1024 .f32)
    (k : Fin (k0_t1_loop w).trips) (o : Vec Ideal S1024x1024 .f32) (n d : Fin 1024) :
    chunkVal v4 v6 w x0 x3 x4 x5 x6 k o (ix2 n d)
      = o (ix2 n d) + ∑ s : Fin 192, pick (v4 (ix2 0 n)) k s
          * ((∑ n' : Fin 1024, pick (v4 (ix2 0 n')) k s * v6 (ix2 0 n'))
            * expert (fun j p => x3 (ix3 0 j p)) (fun p => x4 (ix3 0 0 p)) (fun f d => x5 (ix3 0 f d)) (fun d => x6 (ix3 0 0 d))
                (fun j => ∑ n' : Fin 1024, pick (v4 (ix2 0 n')) k s * x0 (ix2 n' j)) d) := by
  pointwise [chunkVal, k0_pay22, k0_pay9]
  simp only [pay3_apply v4 w hk, pay4_apply v4 v6 w hk, pay6_apply v4 w hk, pay7_apply v4 w hk, pay8_apply v4 w hk]
  rfl

end Cert.KernelIdeal.Moe

end
-- ==== Proof.Dispatch.lean ====
/-
  The routing identity: ranking a block's routed tokens, picking each slot's token by its rank and scattering the answers
  back gives every routed token its gate times its answer, once, and every other token nothing.
-/
module

public import proofs.«01_k».proof.Proof.Pay

@[expose] public section

noncomputable section

namespace Cert.KernelIdeal.Moe

open Idealize.ShloMosaic

/-- The tokens of a block routed to an expert before token `n`. -/
def before (g : Fin 1024 → EReal) (n : Fin 1024) : Finset (Fin 1024) := Finset.univ.filter fun n' => n' < n ∧ 0 < g n'

/-- All of them. -/
def routed (g : Fin 1024 → EReal) : Finset (Fin 1024) := Finset.univ.filter fun n => 0 < g n

/-- A token's rank among the routed, as the kernel keeps it: −1 when it is not routed. -/
def rank (g : Fin 1024 → EReal) (n : Fin 1024) : EReal := if 0 < g n then (((before g n).card : ℕ) : EReal) else -1

theorem pick_nat (r k s : ℕ) : pick (r : EReal) k s = if r = 192 * k + s then 1 else 0 := by
  unfold pick
  congr 1
  rw [eq_iff_iff]
  have e : (r : EReal) - ((192 * k : ℕ) : EReal) = (((r : ℝ) - ((192 * k : ℕ) : ℝ) : ℝ) : EReal) := by
    rw [EReal.coe_sub, EReal.coe_natCast, EReal.coe_natCast]
  have e2 : ((s : ℕ) : EReal) = (((s : ℕ) : ℝ) : EReal) := by norm_cast
  rw [e, e2, EReal.coe_eq_coe_iff, sub_eq_iff_eq_add]
  constructor
  · intro h; have : r = s + 192 * k := by exact_mod_cast h
    omega
  · intro h; subst h; push_cast; ring

theorem pick_neg (k s : ℕ) : pick (-1) k s = 0 := by
  unfold pick
  rw [if_neg]
  have e : (-1 : EReal) - ((192 * k : ℕ) : EReal) = ((-1 - ((192 * k : ℕ) : ℝ) : ℝ) : EReal) := by
    rw [EReal.coe_sub, EReal.coe_natCast, EReal.coe_neg, EReal.coe_one]
  have e2 : ((s : ℕ) : EReal) = (((s : ℕ) : ℝ) : EReal) := by norm_cast
  rw [e, e2, EReal.coe_eq_coe_iff]
  have h1 : (0 : ℝ) ≤ ((192 * k : ℕ) : ℝ) := Nat.cast_nonneg _
  have h2 : (0 : ℝ) ≤ ((s : ℕ) : ℝ) := Nat.cast_nonneg _
  intro h; linarith

theorem before_lt (g : Fin 1024 → EReal) {n n' : Fin 1024} (h : n < n') (hn : 0 < g n) : (before g n).card < (before g n').card := by
  apply Finset.card_lt_card
  refine Finset.ssubset_iff_subset_ne.mpr ⟨?_, ?_⟩
  · intro x hx
    simp only [before, Finset.mem_filter, Finset.mem_univ, true_and] at hx ⊢
    exact ⟨hx.1.trans h, hx.2⟩
  · intro e
    have : n ∈ before g n := by rw [e]; simp only [before, Finset.mem_filter, Finset.mem_univ, true_and]; exact ⟨h, hn⟩
    simp [before] at this

theorem before_inj (g : Fin 1024 → EReal) {n n' : Fin 1024} (hn : 0 < g n) (hn' : 0 < g n') (h : (before g n).card = (before g n').card) : n = n' := by
  rcases lt_trichotomy n n' with l | l | l
  · have := before_lt g l hn; omega
  · exact l
  · have := before_lt g l hn'; omega

theorem before_lt_routed (g : Fin 1024 → EReal) {n : Fin 1024} (hn : 0 < g n) : (before g n).card < (routed g).card := by
  apply Finset.card_lt_card
  refine Finset.ssubset_iff_subset_ne.mpr ⟨?_, ?_⟩
  · intro x hx
    simp only [before, routed, Finset.mem_filter, Finset.mem_univ, true_and] at hx ⊢
    exact hx.2
  · intro e
    have : n ∈ before g n := by rw [e]; simp only [routed, Finset.mem_filter, Finset.mem_univ, true_and]; exact hn
    simp [before] at this

/-- At the slot of a routed token's own rank exactly that token is picked. -/
theorem pick_own (g : Fin 1024 → EReal) (n : Fin 1024) (hn : 0 < g n) (k s : ℕ) (h : (before g n).card = 192 * k + s) (n' : Fin 1024) :
    pick (rank g n') k s = if n' = n then 1 else 0 := by
  unfold rank
  by_cases h' : 0 < g n'
  · rw [if_pos h', pick_nat]
    congr 1
    rw [eq_iff_iff]
    constructor
    · intro e; exact before_inj g h' hn (e.trans h.symm)
    · rintro rfl; exact h
  · rw [if_neg h', pick_neg, if_neg]
    rintro rfl; exact h' hn

theorem sum_own (n : Fin 1024) (x : Fin 1024 → EReal) : (∑ n' : Fin 1024, (if n' = n then (1 : EReal) else 0) * x n') = x n := by
  rw [Finset.sum_eq_single n]
  · rw [if_pos rfl, one_mul]
  · intro b _ hb; rw [if_neg hb, zero_mul]
  · intro h; exact absurd (Finset.mem_univ n) h

/-- The routing identity for one token of a block. -/
theorem dispatch (g : Fin 1024 → EReal) (hg : ∀ n, 0 ≤ g n) (x : Fin 1024 → Fin 1024 → EReal) (Y : (Fin 1024 → EReal) → EReal) (n : Fin 1024) :
    (∑ k ∈ Finset.range (((routed g).card + 191) / 192), ∑ s : Fin 192, pick (rank g n) k s
        * ((∑ n' : Fin 1024, pick (rank g n') k s * g n') * Y (fun j => ∑ n' : Fin 1024, pick (rank g n') k s * x n' j)))
      = g n * Y (x n) := by
  by_cases hn : 0 < g n
  · have hr := before_lt_routed g hn
    rw [Finset.sum_eq_single ((before g n).card / 192)]
    · rw [Finset.sum_eq_single (⟨(before g n).card % 192, Nat.mod_lt _ (by norm_num)⟩ : Fin 192)]
      · simp only [pick_own g n hn _ _ (Nat.div_add_mod (before g n).card 192).symm, if_true, one_mul, sum_own]
      · intro s _ hs
        rw [rank, if_pos hn, pick_nat, if_neg, zero_mul]
        intro e
        apply hs
        apply Fin.ext
        show s.val = (before g n).card % 192
        have := s.isLt
        omega
      · intro h; exact absurd (Finset.mem_univ _) h
    · intro k _ hk
      apply Finset.sum_eq_zero
      intro s _
      rw [rank, if_pos hn, pick_nat, if_neg, zero_mul]
      intro e
      have := s.isLt
      omega
    · intro h
      exfalso; apply h
      rw [Finset.mem_range]
      omega
  · have h0 : g n = 0 := le_antisymm (not_lt.mp hn) (hg n)
    rw [h0, zero_mul]
    apply Finset.sum_eq_zero
    intro k _
    apply Finset.sum_eq_zero
    intro s _
    rw [rank, if_neg hn, pick_neg, zero_mul]

open Cert.KernelIdeal Cert.KernelIdeal.Gen in
/-- All of an expert's chunks at an element. -/
theorem loop_apply (v4 v6 : Vec Ideal S1x1024 .f32) (w : BitVec 32) (hk : (k0_t1_loop w).trips ≤ 6) (x0 : Vec Ideal S1024x1024 .bf16) (x3 : Vec Ideal S1x1024x2048 .bf16)
    (x4 : Vec Ideal S1x1x2048 .f32) (x5 : Vec Ideal S1x1024x1024 .bf16) (x6 : Vec Ideal S1x1x1024 .f32)
    (o : Vec Ideal S1024x1024 .f32) (n d : Fin 1024) : ∀ k : ℕ, k ≤ (k0_t1_loop w).trips →
    loopVal v4 v6 w x0 x3 x4 x5 x6 o k (ix2 n d)
      = o (ix2 n d) + ∑ k ∈ Finset.range k, ∑ s : Fin 192, pick (v4 (ix2 0 n)) k s
          * ((∑ n' : Fin 1024, pick (v4 (ix2 0 n')) k s * v6 (ix2 0 n'))
            * expert (fun j p => x3 (ix3 0 j p)) (fun p => x4 (ix3 0 0 p)) (fun f d => x5 (ix3 0 f d)) (fun d => x6 (ix3 0 0 d))
                (fun j => ∑ n' : Fin 1024, pick (v4 (ix2 0 n')) k s * x0 (ix2 n' j)) d)
  | 0, _ => by rw [Finset.sum_range_zero, add_zero]; rfl
  | k + 1, h => by
    have ih := loop_apply v4 v6 w hk x0 x3 x4 x5 x6 o n d k (Nat.le_of_succ_le h)
    rw [Finset.sum_range_succ, ← add_assoc, ← ih]
    have e : loopVal v4 v6 w x0 x3 x4 x5 x6 o (k + 1) = chunkVal v4 v6 w x0 x3 x4 x5 x6 ⟨k, h⟩ (loopVal v4 v6 w x0 x3 x4 x5 x6 o k) :=
      dif_pos (show k < (k0_t1_loop w).trips from h)
    rw [e, chunk_apply v4 v6 w hk]

open Cert.KernelIdeal Cert.KernelIdeal.Gen in
/-- An expert's step at an element, with the ranks and the count of its gates: the block found, plus the gate times the answer. -/
theorem step_apply (g : Fin 1024 → EReal) (hg : ∀ n, 0 ≤ g n) (v4 v6 : Vec Ideal S1x1024 .f32) (w : BitVec 32)
    (h4 : ∀ n, v4 (ix2 0 n) = rank g n) (h6 : ∀ n, v6 (ix2 0 n) = g n) (hw : w = BitVec.ofNat 32 (routed g).card)
    (x0 : Vec Ideal S1024x1024 .bf16) (x3 : Vec Ideal S1x1024x2048 .bf16)
    (x4 : Vec Ideal S1x1x2048 .f32) (x5 : Vec Ideal S1x1024x1024 .bf16) (x6 : Vec Ideal S1x1x1024 .f32)
    (o : Vec Ideal S1024x1024 .f32) (n d : Fin 1024) :
    loopVal v4 v6 w x0 x3 x4 x5 x6 o (k0_t1_loop w).trips (ix2 n d)
      = o (ix2 n d) + g n * expert (fun j p => x3 (ix3 0 j p)) (fun p => x4 (ix3 0 0 p)) (fun f d => x5 (ix3 0 f d)) (fun d => x6 (ix3 0 0 d))
          (fun j => x0 (ix2 n j)) d := by
  have hc : (routed g).card ≤ 1024 := (Finset.card_le_univ _).trans (by simp)
  have ht : (k0_t1_loop w).trips = ((routed g).card + 191) / 192 := by rw [hw]; exact (count_word _ hc).2
  rw [loop_apply v4 v6 w (by omega) x0 x3 x4 x5 x6 o n d _ le_rfl, ht]
  simp only [h4, h6]
  rw [dispatch g hg (fun n' j => x0 (ix2 n' j)) (fun h => expert (fun j p => x3 (ix3 0 j p)) (fun p => x4 (ix3 0 0 p)) (fun f d => x5 (ix3 0 f d)) (fun d => x6 (ix3 0 0 d)) h d) n]

end Cert.KernelIdeal.Moe

end
-- ==== Proof.Value.lean ====
/-
  The value of the call: the blocks the body reads, and the result array at an element.
-/
module

public import proofs.«01_k».proof.Proof.HostVal
public import proofs.«01_k».proof.Proof.Dispatch
public import Idealize.ShloMosaic.Lib.Pipeline.Value

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

section Any

variable {F : FTy → Type} [FloatOps F]
variable (m : (ℓ : Loc nD τ sig) → Buf (Elt F) ℓ)

/-- No index map reads the table, so its contents meet the region's condition. -/
theorem ok : Ok m := by unfold Ok ok0; trivial

theorem coords_val : ∀ t : Fin grid0.N, (grid0.coords t 0).val = t.val / 32 ∧ (grid0.coords t 1).val = t.val % 32 := by decide +kernel

theorem off2_eq (t : Fin grid0.N) : k0_off2 (grid0.coords t) = ![t.val / 32, t.val % 32] := by
  have h : ∀ t : Fin grid0.N, k0_off2 (grid0.coords t) 0 = t.val / 32 ∧ k0_off2 (grid0.coords t) 1 = t.val % 32 := by decide +kernel
  funext a
  match a with
  | ⟨0, _⟩ => exact (h t).1
  | ⟨1, _⟩ => exact (h t).2

theorem off1_eq (t : Fin grid0.N) : k0_off1 (grid0.coords t) = ![t.val % 32, 0] := by
  have h : ∀ t : Fin grid0.N, k0_off1 (grid0.coords t) 0 = t.val % 32 ∧ k0_off1 (grid0.coords t) 1 = 0 := by decide +kernel
  funext a
  match a with
  | ⟨0, _⟩ => exact (h t).1
  | ⟨1, _⟩ => exact (h t).2

/-- The index maps in closed form. -/
theorem maps : ∀ t : Fin grid0.N,
    (cc0_transform_0 (grid0.coords t) 0 = t.val / 32 ∧ cc0_transform_0 (grid0.coords t) 1 = 0)
    ∧ (cc0_transform_1 (grid0.coords t) 0 = 0 ∧ cc0_transform_1 (grid0.coords t) 1 = t.val / 32)
    ∧ (cc0_transform_2 (grid0.coords t) 0 = 0 ∧ cc0_transform_2 (grid0.coords t) 1 = 0)
    ∧ (cc0_transform_3 (grid0.coords t) 0 = t.val % 32 ∧ cc0_transform_3 (grid0.coords t) 1 = 0 ∧ cc0_transform_3 (grid0.coords t) 2 = 0)
    ∧ (cc0_transform_4 (grid0.coords t) 0 = t.val % 32 ∧ cc0_transform_4 (grid0.coords t) 1 = 0 ∧ cc0_transform_4 (grid0.coords t) 2 = 0)
    ∧ (cc0_transform_5 (grid0.coords t) 0 = t.val % 32 ∧ cc0_transform_5 (grid0.coords t) 1 = 0 ∧ cc0_transform_5 (grid0.coords t) 2 = 0)
    ∧ (cc0_transform_6 (grid0.coords t) 0 = t.val % 32 ∧ cc0_transform_6 (grid0.coords t) 1 = 0 ∧ cc0_transform_6 (grid0.coords t) 2 = 0)
    ∧ (cc0_transform_7 (grid0.coords t) 0 = t.val / 32 ∧ cc0_transform_7 (grid0.coords t) 1 = 0) := by decide +kernel

variable (hO : Ok m) (c : Dev nD) (t : Fin (cfgM m hO).N)

theorem lt512 : t.val < 512 := lt_of_lt_of_eq t.isLt (show (cfgM m hO).N = 512 from N_0)

theorem blk0 (n j : Fin 1024) : (iblk m hO c 0 t : Vec F S1024x1024 .bf16) (ix2 n j)
    = (V m c main_v1 : Vec F S16384x1024 .bf16) (ix2 ⟨t.val / 32 * 1024 + n.val, by have := lt512 m hO t; omega⟩ j) := by
  unfold iblk
  refine (View.read_apply _ _).trans ?_
  show V m c main_v1 _ = V m c main_v1 _
  congr 1
  funext a
  apply Fin.ext
  match a with
  | ⟨0, _⟩ => show cc0_transform_0 (grid0.coords t) 0 * 1024 + 1 * n.val = t.val / 32 * 1024 + n.val; rw [(maps t).1.1]; omega
  | ⟨1, _⟩ => show cc0_transform_0 (grid0.coords t) 1 * 1024 + 1 * j.val = j.val; rw [(maps t).1.2]; omega

theorem blk1 (e : Fin 128) (n : Fin 1024) : (iblk m hO c 1 t : Vec F S128x1024 .f32) (ix2 e n)
    = (V m c main_v4 : Vec F S128x16384 .f32) (ix2 e ⟨t.val / 32 * 1024 + n.val, by have := lt512 m hO t; omega⟩) := by
  unfold iblk
  refine (View.read_apply _ _).trans ?_
  show V m c main_v4 _ = V m c main_v4 _
  congr 1
  funext a
  apply Fin.ext
  match a with
  | ⟨0, _⟩ => show cc0_transform_1 (grid0.coords t) 0 * 128 + 1 * e.val = e.val; rw [(maps t).2.1.1]; omega
  | ⟨1, _⟩ => show cc0_transform_1 (grid0.coords t) 1 * 1024 + 1 * n.val = t.val / 32 * 1024 + n.val; rw [(maps t).2.1.2]; omega

theorem blk2 (i j : Fin 1024) : (iblk m hO c 2 t : Vec F S1024x1024 .bf16) (ix2 i j)
    = (V m c main_v14 : Vec F S1024x1024 .bf16) (ix2 i j) := by
  unfold iblk
  refine (View.read_apply _ _).trans ?_
  show V m c main_v14 _ = V m c main_v14 _
  congr 1
  funext a
  apply Fin.ext
  match a with
  | ⟨0, _⟩ => show cc0_transform_2 (grid0.coords t) 0 * 1024 + 1 * i.val = i.val; rw [(maps t).2.2.1.1]; omega
  | ⟨1, _⟩ => show cc0_transform_2 (grid0.coords t) 1 * 1024 + 1 * j.val = j.val; rw [(maps t).2.2.1.2]; omega

theorem blk3 (j : Fin 1024) (p : Fin 2048) : (iblk m hO c 3 t : Vec F S1x1024x2048 .bf16) (ix3 0 j p)
    = (V m c main_v2 : Vec F S32x1024x2048 .bf16) (ix3 ⟨t.val % 32, by omega⟩ j p) := by
  unfold iblk
  refine (View.read_apply _ _).trans ?_
  show V m c main_v2 _ = V m c main_v2 _
  congr 1
  funext a
  apply Fin.ext
  match a with
  | ⟨0, _⟩ => show cc0_transform_3 (grid0.coords t) 0 * 1 + 1 * 0 = t.val % 32; rw [(maps t).2.2.2.1.1]; omega
  | ⟨1, _⟩ => show cc0_transform_3 (grid0.coords t) 1 * 1024 + 1 * j.val = j.val; rw [(maps t).2.2.2.1.2.1]; omega
  | ⟨2, _⟩ => show cc0_transform_3 (grid0.coords t) 2 * 2048 + 1 * p.val = p.val; rw [(maps t).2.2.2.1.2.2]; omega

theorem blk4 (p : Fin 2048) : (iblk m hO c 4 t : Vec F S1x1x2048 .f32) (ix3 0 0 p)
    = (V m c main_v15 : Vec F S32x1x2048 .f32) (ix3 ⟨t.val % 32, by omega⟩ 0 p) := by
  unfold iblk
  refine (View.read_apply _ _).trans ?_
  show V m c main_v15 _ = V m c main_v15 _
  congr 1
  funext a
  apply Fin.ext
  match a with
  | ⟨0, _⟩ => show cc0_transform_4 (grid0.coords t) 0 * 1 + 1 * 0 = t.val % 32; rw [(maps t).2.2.2.2.1.1]; omega
  | ⟨1, _⟩ => show cc0_transform_4 (grid0.coords t) 1 * 1 + 1 * 0 = 0; rw [(maps t).2.2.2.2.1.2.1]
  | ⟨2, _⟩ => show cc0_transform_4 (grid0.coords t) 2 * 2048 + 1 * p.val = p.val; rw [(maps t).2.2.2.2.1.2.2]; omega

theorem blk5 (f d : Fin 1024) : (iblk m hO c 5 t : Vec F S1x1024x1024 .bf16) (ix3 0 f d)
    = (V m c main_v3 : Vec F S32x1024x1024 .bf16) (ix3 ⟨t.val % 32, by omega⟩ f d) := by
  unfold iblk
  refine (View.read_apply _ _).trans ?_
  show V m c main_v3 _ = V m c main_v3 _
  congr 1
  funext a
  apply Fin.ext
  match a with
  | ⟨0, _⟩ => show cc0_transform_5 (grid0.coords t) 0 * 1 + 1 * 0 = t.val % 32; rw [(maps t).2.2.2.2.2.1.1]; omega
  | ⟨1, _⟩ => show cc0_transform_5 (grid0.coords t) 1 * 1024 + 1 * f.val = f.val; rw [(maps t).2.2.2.2.2.1.2.1]; omega
  | ⟨2, _⟩ => show cc0_transform_5 (grid0.coords t) 2 * 1024 + 1 * d.val = d.val; rw [(maps t).2.2.2.2.2.1.2.2]; omega

theorem blk6 (d : Fin 1024) : (iblk m hO c 6 t : Vec F S1x1x1024 .f32) (ix3 0 0 d)
    = (V m c main_v16 : Vec F S32x1x1024 .f32) (ix3 ⟨t.val % 32, by omega⟩ 0 d) := by
  unfold iblk
  refine (View.read_apply _ _).trans ?_
  show V m c main_v16 _ = V m c main_v16 _
  congr 1
  funext a
  apply Fin.ext
  match a with
  | ⟨0, _⟩ => show cc0_transform_6 (grid0.coords t) 0 * 1 + 1 * 0 = t.val % 32; rw [(maps t).2.2.2.2.2.2.1.1]; omega
  | ⟨1, _⟩ => show cc0_transform_6 (grid0.coords t) 1 * 1 + 1 * 0 = 0; rw [(maps t).2.2.2.2.2.2.1.2.1]
  | ⟨2, _⟩ => show cc0_transform_6 (grid0.coords t) 2 * 1024 + 1 * d.val = d.val; rw [(maps t).2.2.2.2.2.2.1.2.2]; omega

/-- The table's word at a point is the count of the point's row block and expert. -/
theorem word_eq : wordOf c (grid0.coords t) (tbl m 0)
    = (V m 0 main_v9 : IVec S16x128 32) (ix2 ⟨t.val / 32, by have := lt512 m hO t; omega⟩ ⟨t.val % 32, by omega⟩) := by
  show tbM0_0.view.readAt (Elt F) _ _ _ = _
  refine (View.readAt_apply _ _ _).trans ?_
  show V m 0 main_v9 _ = V m 0 main_v9 _
  congr 1
  funext a
  apply Fin.ext
  match a with
  | ⟨0, _⟩ => show k0_off2 (grid0.coords t) 0 + 1 * 0 = t.val / 32; rw [off2_eq]; rfl
  | ⟨1, _⟩ => show k0_off2 (grid0.coords t) 1 + 1 * 0 = t.val % 32; rw [off2_eq]; rfl

/-- The row of a 128-row block that the body reads at a point. -/
theorem row_eq (x : Vec F S128x1024 .f32) (n : Fin 1024) : rowOf (grid0.coords t) x (ix2 0 n) = x (ix2 ⟨t.val % 32, by omega⟩ n) := by
  show x _ = x _
  congr 1
  funext a
  apply Fin.ext
  match a with
  | ⟨0, _⟩ => show k0_off1 (grid0.coords t) 0 + 1 * 0 = t.val % 32; rw [off1_eq]; rfl
  | ⟨1, _⟩ => show k0_off1 (grid0.coords t) 1 + 1 * n.val = n.val; rw [off1_eq]; show 0 + 1 * n.val = n.val; omega

theorem hyps : Hyps m (ok m) := by
  apply Hyps.of
  intro c t
  have h := word_eq m (ok m) c t
  unfold Hyps.p0
  rw [show (tbM0_0.view.readAt (Elt F) _ _ _ : BitVec 32) = _ from h, V_v9,
    show counts (m (((0 : Dev nD) : Thread nD τ).loc main_arg1)) (ix2 (⟨t.val / 32, by have := lt512 m (ok m) t; omega⟩ : Fin 16) (⟨t.val % 32, by omega⟩ : Fin 128)) = _ from
      counts_apply (m (((0 : Dev nD) : Thread nD τ).loc main_arg1)) ⟨t.val / 32, by have := lt512 m (ok m) t; omega⟩ ⟨t.val % 32, by omega⟩]
  exact (count_word _ ((Finset.card_le_univ _).trans (by simp))).1

end Any

end Cert.KernelIdeal.Moe

end
-- ==== Proof.Result.lean ====
/-
  The result array over the extended reals: at every row and column the sum over the experts of gate times answer.
-/
module

public import proofs.«01_k».proof.Proof.Value

@[expose] public section

set_option maxRecDepth 16384

noncomputable section

namespace Cert.KernelIdeal.Moe

open Cert.KernelIdeal Cert.KernelIdeal.Gen Idealize.ShloMosaic Idealize.ShloMosaic.TcCoe Idealize.SL.Sem
open Idealize.ShloMosaic.Pipeline (Dat)

/-- One expert's share of the result at a row and column. -/
def share (h : Vec Ideal S16384x1024 .f32) (g : Vec Ideal S16384x32 .f32) (w1 : Vec Ideal S32x1024x2048 .f32) (b1 : Vec Ideal S32x2048 .f32)
    (w2 : Vec Ideal S32x1024x1024 .f32) (b2 : Vec Ideal S32x1024 .f32) (N : Fin 16384) (d : Fin 1024) (e : Fin 32) : EReal :=
  g (ix2 N e) * expert (fun j p => w1 (ix3 e j p)) (fun p => b1 (ix2 e p)) (fun f d => w2 (ix3 e f d)) (fun d => b2 (ix2 e d)) (fun j => h (ix2 N j)) d

variable (m : (ℓ : Loc nD τ sig) → Buf (Elt Ideal) ℓ) (c : Dev nD)

/-- The arguments as launched. -/
abbrev A0 : Vec Ideal S16384x1024 .f32 := m ((c : Thread nD τ).loc main_arg0)
abbrev A1 : Vec Ideal S16384x32 .f32 := m ((c : Thread nD τ).loc main_arg1)
abbrev A2 : Vec Ideal S32x1024x2048 .f32 := m ((c : Thread nD τ).loc main_arg2)
abbrev A3 : Vec Ideal S32x2048 .f32 := m ((c : Thread nD τ).loc main_arg3)
abbrev A4 : Vec Ideal S32x1024x1024 .f32 := m ((c : Thread nD τ).loc main_arg4)
abbrev A5 : Vec Ideal S32x1024 .f32 := m ((c : Thread nD τ).loc main_arg5)

/-- A row block's gates for one expert. -/
def col (r : Fin 16) (e : Fin 32) (n : Fin 1024) : EReal := A1 m c (ix2 ⟨r.val * 1024 + n.val, by omega⟩ e)

variable (t : Fin (cfgM m (ok m)).N)

theorem t_lt : t.val / 32 < 16 := by have := lt512 m (ok m) t; omega

theorem val0 (n j : Fin 1024) : (iblk m (ok m) c 0 t : Vec Ideal S1024x1024 .bf16) (ix2 n j)
    = A0 m c (ix2 ⟨t.val / 32 * 1024 + n.val, by have := t_lt m t; omega⟩ j) := by
  rw [blk0, V_v1]
  rfl

theorem val1 (e : Fin 32) (n : Fin 1024) : (iblk m (ok m) c 1 t : Vec Ideal S128x1024 .f32) (ix2 ⟨e.val, by omega⟩ n)
    = col m c ⟨t.val / 32, t_lt m t⟩ e n := by
  rw [blk1, V_v4]
  refine Eq.trans ?_ (padG_apply (A1 m c) ⟨t.val / 32 * 1024 + n.val, by have := t_lt m t; omega⟩ e)
  pointwise

theorem val2 (i j : Fin 1024) : (iblk m (ok m) c 2 t : Vec Ideal S1024x1024 .bf16) (ix2 i j) = ((if i < j then 1 else 0 : EReal)) := by
  rw [blk2, V_v14]
  exact tri_apply i j

theorem val3 (j : Fin 1024) (p : Fin 2048) : (iblk m (ok m) c 3 t : Vec Ideal S1x1024x2048 .bf16) (ix3 0 j p)
    = A2 m c (ix3 ⟨t.val % 32, by omega⟩ j p) := by
  rw [blk3, V_v2]
  rfl

theorem val4 (p : Fin 2048) : (iblk m (ok m) c 4 t : Vec Ideal S1x1x2048 .f32) (ix3 0 0 p)
    = A3 m c (ix2 ⟨t.val % 32, by omega⟩ p) := by
  rw [blk4, V_v15]
  pointwise

theorem val5 (f d : Fin 1024) : (iblk m (ok m) c 5 t : Vec Ideal S1x1024x1024 .bf16) (ix3 0 f d)
    = A4 m c (ix3 ⟨t.val % 32, by omega⟩ f d) := by
  rw [blk5, V_v3]
  rfl

theorem val6 (d : Fin 1024) : (iblk m (ok m) c 6 t : Vec Ideal S1x1x1024 .f32) (ix3 0 0 d)
    = A5 m c (ix2 ⟨t.val % 32, by omega⟩ d) := by
  rw [blk6, V_v16]
  pointwise

theorem cmp_gt (x : EReal) : (FloatOps.cmpf (F := Ideal) (φ := FTy.f32) .ogt x (FloatOps.ofBits FTy.f32 0x00000000#32) = 1#1) ↔ 0 < x := by
  have e : (FloatOps.ofBits (F := Ideal) FTy.f32 0x00000000#32 : EReal) = 0 := Ideal.ofBits_zero_f32
  rw [e]
  show BitVec.ofBool (decide (0 < x)) = 1#1 ↔ _
  by_cases h : 0 < x <;> simp [h]

/-- The table's word at a point counts the block's routed tokens. -/
theorem word_val : wordOf c (grid0.coords t) (tbl m 0)
    = BitVec.ofNat 32 (routed (col m c ⟨t.val / 32, t_lt m t⟩ ⟨t.val % 32, by omega⟩)).card := by
  obtain rfl : c = 0 := Subsingleton.elim _ _
  rw [word_eq, V_v9]
  refine (counts_apply (A1 m 0) ⟨t.val / 32, t_lt m t⟩ ⟨t.val % 32, by omega⟩).trans ?_
  congr 2
  unfold routed
  apply Finset.filter_congr
  intro n _
  exact cmp_gt _

theorem neg_one_bits : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- The ranks the kernel keeps are the ranks. -/
theorem pay19_apply (x1 : Vec Ideal S128x1024 .f32) (x2 : Vec Ideal S1024x1024 .bf16) (g : Fin 1024 → EReal) (e : Fin 128)
    (h1 : ∀ n, x1 (ix2 e n) = g n) (h2 : ∀ i j : Fin 1024, x2 (ix2 i j) = ((if i < j then 1 else 0 : EReal))) (n : Fin 1024) :
    k0_pay19 x1 x2 (ix2 e n) = rank g n := by
  pointwise [k0_pay19]
  simp only [h1, h2, neg_one_bits]
  unfold rank before
  congr 1
  rw [Finset.sum_congr rfl fun x _ => show ((if 0 < g x then 1 else 0) * if x < n then 1 else 0 : EReal) = if x < n ∧ 0 < g x then 1 else 0 by
    by_cases h : x < n <;> by_cases h' : 0 < g x <;> simp [h, h']]
  rw [Finset.sum_boole]

theorem rank_val (n : Fin 1024) : rowOf (grid0.coords t) (rankAt m (ok m) c t.val) (ix2 0 n)
    = rank (col m c ⟨t.val / 32, t_lt m t⟩ ⟨t.val % 32, by omega⟩) n := by
  have hN := lt512 m (ok m) t
  have hlt : 32 * (t.val / 32) < (cfgM m (ok m)).N := by
    have hN' : (cfgM m (ok m)).N = 512 := N_0
    omega
  rw [row_eq]
  unfold rankAt
  rw [dif_pos hlt]
  have e : 32 * (t.val / 32) / 32 = t.val / 32 := by omega
  refine pay19_apply _ _ _ _ (fun n => ?_) (fun i j => val2 m c ⟨32 * (t.val / 32), hlt⟩ i j) n
  refine (val1 m c ⟨32 * (t.val / 32), hlt⟩ ⟨t.val % 32, by omega⟩ n).trans ?_
  congr 1
  exact Fin.ext e

/-- What one point makes of the block it finds. -/
theorem stepAt_apply (hg : ∀ (N : Fin 16384) (e : Fin 32), 0 ≤ A1 m c (ix2 N e)) (o : Vec Ideal S1024x1024 .f32) (n d : Fin 1024) :
    stepAt m (ok m) c t o (ix2 n d) = o (ix2 n d)
      + share (A0 m c) (A1 m c) (A2 m c) (A3 m c) (A4 m c) (A5 m c) ⟨t.val / 32 * 1024 + n.val, by have := t_lt m t; omega⟩ d ⟨t.val % 32, by omega⟩ := by
  unfold stepAt
  refine (step_apply (col m c ⟨t.val / 32, t_lt m t⟩ ⟨t.val % 32, by omega⟩) (fun n => hg _ _) _ _ _ (fun n => rank_val m c t n)
    (fun n => (row_eq m (ok m) t (iblk m (ok m) c 1 t) n).trans (val1 m c t ⟨t.val % 32, by omega⟩ n)) (word_val m c t) _ _ _ _ _ _ _ _).trans ?_
  simp only [val0, val3, val4, val5, val6]
  rfl

/-- The share of the expert of index `e`, nothing past the last. -/
def shareN (N : Fin 16384) (d : Fin 1024) (e : ℕ) : EReal :=
  if h : e < 32 then share (A0 m c) (A1 m c) (A2 m c) (A3 m c) (A4 m c) (A5 m c) N d ⟨e, h⟩ else 0

theorem outAt_apply (hg : ∀ (N : Fin 16384) (e : Fin 32), 0 ≤ A1 m c (ix2 N e)) (n d : Fin 1024) : ∀ (k : ℕ) (hk : k < (cfgM m (ok m)).N),
    outAt m (ok m) c k hk (ix2 n d)
      = ∑ e ∈ Finset.range (k % 32 + 1), shareN m c ⟨k / 32 * 1024 + n.val, by have := lt512 m (ok m) ⟨k, hk⟩; dsimp only at this; omega⟩ d e
  | 0, hk => by
    rw [outAt, stepAt_apply m c ⟨0, hk⟩ hg, Finset.sum_range_succ]
    simp only [Nat.zero_mod, Finset.range_zero, Finset.sum_empty]
    unfold shareN
    rw [dif_pos (by omega)]
    congr 1
    exact Ideal.ofBits_zero_f32
  | k + 1, hk => by
    have hN := lt512 m (ok m) ⟨k + 1, hk⟩
    dsimp only at hN
    rw [outAt, stepAt_apply m c ⟨k + 1, hk⟩ hg, Finset.sum_range_succ]
    congr 1
    · by_cases h0 : (k + 1) % 32 = 0
      · rw [if_pos h0, h0, Finset.range_zero, Finset.sum_empty]
        exact Ideal.ofBits_zero_f32
      · rw [if_neg h0, outAt_apply hg n d k, show (k + 1) % 32 = k % 32 + 1 by omega]
        refine Finset.sum_congr rfl fun e _ => ?_
        congr 1
        apply Fin.ext
        show k / 32 * 1024 + n.val = (k + 1) / 32 * 1024 + n.val
        omega
    · unfold shareN
      rw [dif_pos (by omega)]

/-- The result: the experts' shares summed. -/
def total : Vec Ideal S16384x1024 .f32 := fun i =>
  ∑ e : Fin 32, share (A0 m c) (A1 m c) (A2 m c) (A3 m c) (A4 m c) (A5 m c) (i 0) (i 1) e

/-- A written block's element read back off the whole array. -/
theorem blk7_read (X : Vec Ideal S16384x1024 .f32) (n d : Fin 1024) :
    ((((cfgM m (ok m)).win 7).blk t).view.read (Elt Ideal) X : Vec Ideal S1024x1024 .f32) (ix2 n d)
      = X (ix2 ⟨t.val / 32 * 1024 + n.val, by have := t_lt m t; omega⟩ d) := by
  refine (View.read_apply _ _).trans ?_
  show X _ = X _
  congr 1
  funext a
  apply Fin.ext
  match a with
  | ⟨0, _⟩ => show cc0_transform_7 (grid0.coords t) 0 * 1024 + 1 * n.val = t.val / 32 * 1024 + n.val; rw [(maps t).2.2.2.2.2.2.2.1]; omega
  | ⟨1, _⟩ => show cc0_transform_7 (grid0.coords t) 1 * 1024 + 1 * d.val = d.val; rw [(maps t).2.2.2.2.2.2.2.2]; omega

/-- A row block's last point leaves the block's rows of the sum. -/
theorem outAt_last (hg : ∀ (N : Fin 16384) (e : Fin 32), 0 ≤ A1 m c (ix2 N e)) (h31 : t.val % 32 = 31) (n d : Fin 1024) :
    outAt m (ok m) c t.val t.isLt (ix2 n d) = total m c (ix2 ⟨t.val / 32 * 1024 + n.val, by have := t_lt m t; omega⟩ d) := by
  refine (outAt_apply m c hg n d t.val t.isLt).trans ?_
  rw [h31, Finset.sum_range]
  unfold total
  refine Finset.sum_congr rfl fun e _ => ?_
  unfold shareN
  exact dif_pos e.isLt

theorem flushed_eq (hg : ∀ (N : Fin 16384) (e : Fin 32), 0 ≤ A1 m c (ix2 N e)) (hf : ((cfgM m (ok m)).win 7).flush t = true) :
    (dats m (ok m) (hyps m) 0 c).flushed 7 t = (((cfgM m (ok m)).win 7).blk t).view.read (Elt Ideal) (total m c) := by
  have h31 : t.val % 32 = 31 := (flush0_7 (adm m (ok m)) t).mp hf
  have key : (outAt m (ok m) c t.val t.isLt : Vec Ideal S1024x1024 .f32)
      = ((((cfgM m (ok m)).win 7).blk t).view.read (Elt Ideal) (total m c) : Vec Ideal S1024x1024 .f32) := by
    funext y
    rw [eq_ix2 (n0 := 1024) (n1 := 1024) y]
    exact (outAt_last m c t hg h31 _ _).trans (blk7_read m t (total m c) _ _).symm
  show ((cfgM m (ok m)).win 7).cut (grid0.coords t) ((dats m (ok m) (hyps m) 0 c).after 7 t) = _
  rw [after0_7]
  exact key

theorem final_o (hg : ∀ (N : Fin 16384) (e : Fin 32), 0 ≤ A1 m c (ix2 N e)) :
    (dats m (ok m) (hyps m) 0 c).arrAt 7 (cfgM m (ok m)).N = total m c :=
  (dats m (ok m) (hyps m) 0 c).arrAt_eq_of_cover 7 (total m c) (fun t => flushed_eq m c t hg) fun (i : S16384x1024.Idx) => by
    have h0 : ((i 0 : Fin 16384) : ℕ) < 16384 := (i 0 : Fin 16384).isLt
    have h1 : ((i 1 : Fin 1024) : ℕ) < 1024 := (i 1 : Fin 1024).isLt
    have hlt : 32 * ((i 0 : Fin 16384).val / 1024) + 31 < (cfgM m (ok m)).N := by
      have hN' : (cfgM m (ok m)).N = 512 := N_0
      omega
    refine ⟨⟨32 * ((i 0 : Fin 16384).val / 1024) + 31, hlt⟩, (flush0_7 (adm m (ok m)) _).mpr (by dsimp only; omega), ?_⟩
    refine (congrArg (i ∈ ·) (View.set_slice_whole main_v17 _)).mpr ?_
    refine Rect.mem_set_unit.mpr ?_
    intro a
    match a with
    | ⟨0, _⟩ =>
      show cc0_transform_7 (grid0.coords ⟨32 * ((i 0 : Fin 16384).val / 1024) + 31, hlt⟩) 0 * 1024 ≤ (i 0 : Fin 16384).val ∧ (i 0 : Fin 16384).val < cc0_transform_7 (grid0.coords ⟨32 * ((i 0 : Fin 16384).val / 1024) + 31, hlt⟩) 0 * 1024 + 1024
      rw [(maps _).2.2.2.2.2.2.2.1]
      dsimp only
      omega
    | ⟨1, _⟩ =>
      show cc0_transform_7 (grid0.coords ⟨32 * ((i 0 : Fin 16384).val / 1024) + 31, hlt⟩) 1 * 1024 ≤ (i 1 : Fin 1024).val ∧ (i 1 : Fin 1024).val < cc0_transform_7 (grid0.coords ⟨32 * ((i 0 : Fin 16384).val / 1024) + 31, hlt⟩) 1 * 1024 + 1024
      rw [(maps _).2.2.2.2.2.2.2.2]
      omega

end Cert.KernelIdeal.Moe

end
-- ==== Proof.Reference.lean ====
/-
  The reference's result at an element: the sum over the experts of gate times answer; and what the precondition says.
-/
module

public import proofs.«01_k».proof.Proof.Result
public import proofs.«01_k».proof.Proof.Gen.ReferenceIdeal
public import proofs.«01_k».proof.Proof.Gen.ReferenceIdeal.Run
public import proofs.«01_k».proof.Proof.Gen.Pre_gates_nonneg
public import Idealize.ShloMosaic.Lib.Pointwise
public import Idealize.ShloMosaic.Lib.ReduceAll

@[expose] public section

set_option maxRecDepth 16384

noncomputable section

namespace Cert.ReferenceIdeal.Moe

open Cert.ReferenceIdeal Cert.ReferenceIdeal.Gen Idealize.ShloMosaic Idealize.ShloMosaic.TcCoe Idealize.SL.Sem

/-- The reference's arithmetic over its arguments. -/
def value (a0 : FVec Ideal S16384x1024 .f32) (a1 : FVec Ideal S16384x32 .f32) (a2 : FVec Ideal S32x1024x2048 .f32) (a3 : FVec Ideal S32x2048 .f32)
    (a4 : FVec Ideal S32x1024x1024 .f32) (a5 : FVec Ideal S32x1024 .f32) : FVec Ideal S16384x1024 .f32 :=
  Host.reduceAdd (mulf (broadcastInDim S32x16384x1024 ![0, 1, 2] bcast_S32x16384x1_S32x16384x1024_0_1_2 (broadcastInDim S32x16384x1 ![0, 1] bcast_S32x16384_S32x16384x1_0_1 (transpose S32x16384 [1, 0] a1 transposes_S16384x32_S32x16384_1_0))) (addf (Host.dotGeneral dot_S32x16384x1024_S32x1024x1024_S32x16384x1024_2_1_1_2_0_0 none (mulf (mulf (minimumf (extractStridedSlice S32x16384x1024 ![0, 0, 0] (addf (transpose S32x16384x2048 [0, 2, 1] (Host.dotGeneral dot_S32x1024x2048_S16384x1024_S32x2048x16384_1_1_02_0_n_n none a2 a0) transposes_S32x2048x16384_S32x16384x2048_0_2_1) (broadcastInDim S32x16384x2048 ![0, 1, 2] bcast_S32x1x2048_S32x16384x2048_0_1_2 (broadcastInDim S32x1x2048 ![0, 2] bcast_S32x2048_S32x1x2048_0_2 a3))) slices_S32x16384x2048_S32x16384x1024_0_0_0) (broadcastInDim S32x16384x1024 ![] bcast_S_S32x16384x1024 (constant S_ .f32 0x40E00000#32))) (Host.divf (broadcastInDim S32x16384x1024 ![] bcast_S_S32x16384x1024 (constant S_ .f32 0x3F800000#32)) (addf (broadcastInDim S32x16384x1024 ![] bcast_S_S32x16384x1024 (constant S_ .f32 0x3F800000#32)) (Host.exp (Host.negf (mulf (broadcastInDim S32x16384x1024 ![] bcast_S_S32x16384x1024 (constant S_ .f32 0x3FD9DB23#32)) (minimumf (extractStridedSlice S32x16384x1024 ![0, 0, 0] (addf (transpose S32x16384x2048 [0, 2, 1] (Host.dotGeneral dot_S32x1024x2048_S16384x1024_S32x2048x16384_1_1_02_0_n_n none a2 a0) transposes_S32x2048x16384_S32x16384x2048_0_2_1) (broadcastInDim S32x16384x2048 ![0, 1, 2] bcast_S32x1x2048_S32x16384x2048_0_1_2 (broadcastInDim S32x1x2048 ![0, 2] bcast_S32x2048_S32x1x2048_0_2 a3))) slices_S32x16384x2048_S32x16384x1024_0_0_0) (broadcastInDim S32x16384x1024 ![] bcast_S_S32x16384x1024 (constant S_ .f32 0x40E00000#32))))))))) (addf (minimumf (broadcastInDim S32x16384x1024 ![] bcast_S_S32x16384x1024 (id (constant S_ .f32 0x40E00000#32))) (maximumf (broadcastInDim S32x16384x1024 ![] bcast_S_S32x16384x1024 (id (constant S_ .f32 0xC0E00000#32))) (extractStridedSlice S32x16384x1024 ![0, 0, 1024] (addf (transpose S32x16384x2048 [0, 2, 1] (Host.dotGeneral dot_S32x1024x2048_S16384x1024_S32x2048x16384_1_1_02_0_n_n none a2 a0) transposes_S32x2048x16384_S32x16384x2048_0_2_1) (broadcastInDim S32x16384x2048 ![0, 1, 2] bcast_S32x1x2048_S32x16384x2048_0_1_2 (broadcastInDim S32x1x2048 ![0, 2] bcast_S32x2048_S32x1x2048_0_2 a3))) slices_S32x16384x2048_S32x16384x1024_0_0_1024))) (broadcastInDim S32x16384x1024 ![] bcast_S_S32x16384x1024 (constant S_ .f32 0x3F800000#32)))) a4) (broadcastInDim S32x16384x1024 ![0, 1, 2] bcast_S32x1x1024_S32x16384x1024_0_1_2 (broadcastInDim S32x1x1024 ![0, 2] bcast_S32x1024_S32x1x1024_0_2 a5)))) (constant S_ .f32 0x00000000#32) reducesTo_S32x16384x1024_S16384x1024_d0 h_S_

theorem value_eq (a0 : Vec Ideal S16384x1024 .f32) (a1 : Vec Ideal S16384x32 .f32) (a2 : Vec Ideal S32x1024x2048 .f32) (a3 : Vec Ideal S32x2048 .f32)
    (a4 : Vec Ideal S32x1024x1024 .f32) (a5 : Vec Ideal S32x1024 .f32) (n : Fin 16384) (d : Fin 1024) :
    value a0 a1 a2 a3 a4 a5 (ix2 n d) = ∑ e : Fin 32, Cert.KernelIdeal.Moe.share a0 a1 a2 a3 a4 a5 n d e := by
  pointwise [value]
  unfold Cert.KernelIdeal.Moe.share Cert.KernelIdeal.Moe.expert Cert.KernelIdeal.Moe.glu
  refine Finset.sum_congr rfl fun e _ => ?_
  have sw : ∀ p : Fin 2048, ∑ k : Fin 1024, a2 (ix3 e k p) * a0 (ix2 n k) = ∑ k : Fin 1024, a0 (ix2 n k) * a2 (ix3 e k p) :=
    fun p => Finset.sum_congr rfl fun k _ => mul_comm _ _
  simp only [sw]
  rfl

/-- The precondition says that no gate is negative. -/
theorem nonneg (a0 : Vec Ideal S16384x1024 .f32) (a1 : Vec Ideal S16384x32 .f32) (a2 : Vec Ideal S32x1024x2048 .f32) (a3 : Vec Ideal S32x2048 .f32)
    (a4 : Vec Ideal S32x1024x1024 .f32) (a5 : Vec Ideal S32x1024 .f32) (j)
    (h : Cert.Pre_gates_nonneg.fn (F := Ideal) a0 a1 a2 a3 a4 a5 j = 1#1) (n : Fin 16384) (e : Fin 32) : 0 ≤ a1 (ix2 n e) := by
  have h1 := Host.reduce_andi_all _ _ _ _ j h (ix2 n e)
  have h2 : BitVec.ofBool (decide (Ideal.ofBits .f32 0x00000000#32 ≤ a1 (ix2 n e))) = 1#1 := h1
  rw [Ideal.ofBits_zero_f32] at h2
  by_contra h3
  rw [decide_eq_false h3] at h2
  exact absurd h2 (by decide)

end Cert.ReferenceIdeal.Moe

end
-- ==== Proof.Norm.lean ====
/-
  The root-mean-square norm of a row over the extended reals, as both the kernels and the references compute it.
-/
module

public import Idealize.ShloMosaic.Lib.Pointwise

@[expose] public section

noncomputable section

namespace Cert.Norm

open Idealize.ShloMosaic

/-- A row divided by the root of its mean square, plus the small constant, times the weight. -/
def norm (v w : Fin 1024 → EReal) (d : Fin 1024) : EReal :=
  v d * Ideal.rsqrt (Ideal.div (∑ k, v k * v k) (Ideal.ofBits .f32 0x44800000#32) + Ideal.ofBits .f32 0x3727C5AC#32) * w d

end Cert.Norm

end
-- ==== Proof.FinalValue.lean ====
/-
  The closing norm's call: its result array over the extended reals, and the reference's the same.
-/
module

public import proofs.«01_k».proof.Proof.Gen.FinalIdeal.Value
public import proofs.«01_k».proof.Proof.Gen.FinalReferenceIdeal.Run
public import proofs.«01_k».proof.Proof.Norm
public import Idealize.ShloMosaic.Lib.StableHlo.Run

@[expose] public section

set_option maxRecDepth 16384

noncomputable section

namespace Cert.FinalIdeal.Result

open Cert.FinalIdeal Cert.FinalIdeal.Gen Idealize.ShloMosaic Idealize.ShloMosaic.TcCoe Idealize.SL.Sem Idealize.ShloMosaic.StableHlo
open Cert.Norm

/-- The stream with the gated feed-forward result added, normed. -/
def total (x ff : Vec Ideal S2x8192x1024 .f32) (g : Vec Ideal S2x1x1024 .f32) (w : Vec Ideal S1024 .f32) : FVec Ideal S2x8192x1024 .f32 := fun i =>
  norm (fun k => x (ix3 (i 0) (i 1) k) + g (ix3 (i 0) 0 k) * ff (ix3 (i 0) (i 1) k)) (fun k => w (ix1 k)) (i 2)

theorem pay_apply (x ff : Vec Ideal S1x1024x1024 .f32) (g : Vec Ideal S1x1x1024 .f32) (w : Vec Ideal S1x1024 .f32) (n d : Fin 1024) :
    k0_pay1 x g ff w (ix3 0 n d) = norm (fun k => x (ix3 0 n k) + g (ix3 0 0 k) * ff (ix3 0 n k)) (fun k => w (ix2 0 k)) d := by
  pointwise [k0_pay1]
  rfl

theorem out_eq (x ff : Vec Ideal S1x1024x1024 .f32) (g : Vec Ideal S1x1x1024 .f32) (w : Vec Ideal S1x1024 .f32) :
    out0_4 x ff g w = k0_pay1 x g ff w := by
  unfold out0_4
  have h3 : (![0, 0, 0] : Fin 3 → ℕ) = fun _ => 0 := by funext a; fin_cases a <;> rfl
  have h2 : (![0, 0] : Fin 2 → ℕ) = fun _ => 0 := by funext a; fin_cases a <;> rfl
  rw [View.canon_unit_zero h3]
  unfold r0_0 r0_1 r0_2
  rw [View.ld_unit_zero h3, View.ld_unit_zero h3, View.ld_unit_zero h3, View.ld_unit_zero h2]

/-- The index maps in closed form. -/
theorem maps : ∀ t : Fin grid0.N,
    (cc0_transform_0 (grid0.coords t) 0 = t.val / 8 ∧ cc0_transform_0 (grid0.coords t) 1 = t.val % 8 ∧ cc0_transform_0 (grid0.coords t) 2 = 0)
    ∧ (cc0_transform_1 (grid0.coords t) 0 = t.val / 8 ∧ cc0_transform_1 (grid0.coords t) 1 = t.val % 8 ∧ cc0_transform_1 (grid0.coords t) 2 = 0)
    ∧ (cc0_transform_2 (grid0.coords t) 0 = t.val / 8 ∧ cc0_transform_2 (grid0.coords t) 1 = 0 ∧ cc0_transform_2 (grid0.coords t) 2 = 0)
    ∧ (cc0_transform_3 (grid0.coords t) 0 = 0 ∧ cc0_transform_3 (grid0.coords t) 1 = 0)
    ∧ (cc0_transform_4 (grid0.coords t) 0 = t.val / 8 ∧ cc0_transform_4 (grid0.coords t) 1 = t.val % 8 ∧ cc0_transform_4 (grid0.coords t) 2 = 0) := by decide +kernel

variable (m : (ℓ : Loc nD τ sig) → Buf (Elt Ideal) ℓ) (c : Dev nD) (t : Fin cfg0.N)

theorem t_lt : t.val < 16 := lt_of_lt_of_eq t.isLt (show cfg0.N = 16 from N_0)

/-- The arguments as launched. -/
abbrev A0 : Vec Ideal S2x8192x1024 .f32 := m ((c : Thread nD τ).loc main_arg0)
abbrev A1 : Vec Ideal S2x8192x1024 .f32 := m ((c : Thread nD τ).loc main_arg1)
abbrev A2 : Vec Ideal S2x1x1024 .f32 := m ((c : Thread nD τ).loc main_arg2)
abbrev A3 : Vec Ideal S1024 .f32 := m ((c : Thread nD τ).loc main_arg3)

theorem V_v0 : V m c main_v0 = shapeCast S1x1024 (A3 m c) shapeCasts_S1024_S1x1024 := by
  unfold V
  after_results_simp
  rfl

theorem val0 (n d : Fin 1024) : (iblk m c 0 t : Vec Ideal S1x1024x1024 .f32) (ix3 0 n d)
    = A0 m c (ix3 ⟨t.val / 8, by have := t_lt t; omega⟩ ⟨t.val % 8 * 1024 + n.val, by omega⟩ d) := by
  refine Eq.trans ?_ (congrFun (V_main_arg0 m c) _)
  unfold iblk
  refine (View.read_apply _ _).trans ?_
  show V m c main_arg0 _ = V m c main_arg0 _
  congr 1
  funext a
  apply Fin.ext
  match a with
  | ⟨0, _⟩ => show cc0_transform_0 (grid0.coords t) 0 * 1 + 1 * 0 = t.val / 8; rw [(maps t).1.1]; omega
  | ⟨1, _⟩ => show cc0_transform_0 (grid0.coords t) 1 * 1024 + 1 * n.val = t.val % 8 * 1024 + n.val; rw [(maps t).1.2.1]; omega
  | ⟨2, _⟩ => show cc0_transform_0 (grid0.coords t) 2 * 1024 + 1 * d.val = d.val; rw [(maps t).1.2.2]; omega

theorem val1 (n d : Fin 1024) : (iblk m c 1 t : Vec Ideal S1x1024x1024 .f32) (ix3 0 n d)
    = A1 m c (ix3 ⟨t.val / 8, by have := t_lt t; omega⟩ ⟨t.val % 8 * 1024 + n.val, by omega⟩ d) := by
  refine Eq.trans ?_ (congrFun (V_main_arg1 m c) _)
  unfold iblk
  refine (View.read_apply _ _).trans ?_
  show V m c main_arg1 _ = V m c main_arg1 _
  congr 1
  funext a
  apply Fin.ext
  match a with
  | ⟨0, _⟩ => show cc0_transform_1 (grid0.coords t) 0 * 1 + 1 * 0 = t.val / 8; rw [(maps t).2.1.1]; omega
  | ⟨1, _⟩ => show cc0_transform_1 (grid0.coords t) 1 * 1024 + 1 * n.val = t.val % 8 * 1024 + n.val; rw [(maps t).2.1.2.1]; omega
  | ⟨2, _⟩ => show cc0_transform_1 (grid0.coords t) 2 * 1024 + 1 * d.val = d.val; rw [(maps t).2.1.2.2]; omega

theorem val2 (d : Fin 1024) : (iblk m c 2 t : Vec Ideal S1x1x1024 .f32) (ix3 0 0 d)
    = A2 m c (ix3 ⟨t.val / 8, by have := t_lt t; omega⟩ 0 d) := by
  refine Eq.trans ?_ (congrFun (V_main_arg2 m c) _)
  unfold iblk
  refine (View.read_apply _ _).trans ?_
  show V m c main_arg2 _ = V m c main_arg2 _
  congr 1
  funext a
  apply Fin.ext
  match a with
  | ⟨0, _⟩ => show cc0_transform_2 (grid0.coords t) 0 * 1 + 1 * 0 = t.val / 8; rw [(maps t).2.2.1.1]; omega
  | ⟨1, _⟩ => show cc0_transform_2 (grid0.coords t) 1 * 1 + 1 * 0 = 0; rw [(maps t).2.2.1.2.1]
  | ⟨2, _⟩ => show cc0_transform_2 (grid0.coords t) 2 * 1024 + 1 * d.val = d.val; rw [(maps t).2.2.1.2.2]; omega

theorem val3 (d : Fin 1024) : (iblk m c 3 t : Vec Ideal S1x1024 .f32) (ix2 0 d) = A3 m c (ix1 d) := by
  have e : (V m c main_v0 : Vec Ideal S1x1024 .f32) (ix2 0 d) = A3 m c (ix1 d) := by
    rw [V_v0]
    pointwise
  refine Eq.trans ?_ e
  unfold iblk
  refine (View.read_apply _ _).trans ?_
  show V m c main_v0 _ = V m c main_v0 _
  congr 1
  funext a
  apply Fin.ext
  match a with
  | ⟨0, _⟩ => show cc0_transform_3 (grid0.coords t) 0 * 1 + 1 * 0 = 0; rw [(maps t).2.2.2.1.1]
  | ⟨1, _⟩ => show cc0_transform_3 (grid0.coords t) 1 * 1024 + 1 * d.val = d.val; rw [(maps t).2.2.2.1.2]; omega

/-- A written block's element read back off the whole array. -/
theorem blk4_read (X : Vec Ideal S2x8192x1024 .f32) (n d : Fin 1024) :
    (((cfg0.win 4).blk t).view.read (Elt Ideal) X : Vec Ideal S1x1024x1024 .f32) (ix3 0 n d)
      = X (ix3 ⟨t.val / 8, by have := t_lt t; omega⟩ ⟨t.val % 8 * 1024 + n.val, by omega⟩ d) := by
  refine (View.read_apply _ _).trans ?_
  show X _ = X _
  congr 1
  funext a
  apply Fin.ext
  match a with
  | ⟨0, _⟩ => show cc0_transform_4 (grid0.coords t) 0 * 1 + 1 * 0 = t.val / 8; rw [(maps t).2.2.2.2.1]; omega
  | ⟨1, _⟩ => show cc0_transform_4 (grid0.coords t) 1 * 1024 + 1 * n.val = t.val % 8 * 1024 + n.val; rw [(maps t).2.2.2.2.2.1]; omega
  | ⟨2, _⟩ => show cc0_transform_4 (grid0.coords t) 2 * 1024 + 1 * d.val = d.val; rw [(maps t).2.2.2.2.2.2]; omega

/-- What a point leaves in its block. -/
theorem out_apply (n d : Fin 1024) : out0_4 (iblk m c 0 t) (iblk m c 1 t) (iblk m c 2 t) (iblk m c 3 t) (ix3 0 n d)
    = total (A0 m c) (A1 m c) (A2 m c) (A3 m c) (ix3 ⟨t.val / 8, by have := t_lt t; omega⟩ ⟨t.val % 8 * 1024 + n.val, by omega⟩ d) := by
  rw [out_eq]
  refine (pay_apply _ _ _ _ _ _).trans ?_
  simp only [val0, val1, val2, val3]
  rfl

theorem flushed_eq : (dats m 0 c).flushed 4 t = ((cfg0.win 4).blk t).view.read (Elt Ideal) (total (A0 m c) (A1 m c) (A2 m c) (A3 m c)) := by
  have key : (out0_4 (iblk m c 0 t) (iblk m c 1 t) (iblk m c 2 t) (iblk m c 3 t) : Vec Ideal S1x1024x1024 .f32)
      = (((cfg0.win 4).blk t).view.read (Elt Ideal) (total (A0 m c) (A1 m c) (A2 m c) (A3 m c)) : Vec Ideal S1x1024x1024 .f32) := by
    funext y
    rw [eq_ix3 (n0 := 1) (n1 := 1024) (n2 := 1024) y, show y 0 = (0 : Fin 1) from Subsingleton.elim (α := Fin 1) _ _]
    exact (out_apply m c t _ _).trans (blk4_read t (total (A0 m c) (A1 m c) (A2 m c) (A3 m c)) _ _).symm
  rw [Value.flushed4]
  exact key

/-- The call's array at the end: every element is some point's. -/
theorem final_o : (dats m 0 c).arrAt 4 cfg0.N = total (A0 m c) (A1 m c) (A2 m c) (A3 m c) :=
  (dats m 0 c).arrAt_eq_of_cover 4 (total (A0 m c) (A1 m c) (A2 m c) (A3 m c)) (fun t _ => flushed_eq m c t) fun (i : S2x8192x1024.Idx) => by
    have h0 : ((i 0 : Fin 2) : ℕ) < 2 := (i 0 : Fin 2).isLt
    have h1 : ((i 1 : Fin 8192) : ℕ) < 8192 := (i 1 : Fin 8192).isLt
    have h2 : ((i 2 : Fin 1024) : ℕ) < 1024 := (i 2 : Fin 1024).isLt
    have hlt : 8 * (i 0 : Fin 2).val + (i 1 : Fin 8192).val / 1024 < cfg0.N := by
      have hN : cfg0.N = 16 := N_0
      omega
    refine ⟨⟨8 * (i 0 : Fin 2).val + (i 1 : Fin 8192).val / 1024, hlt⟩, flush0_4 _, ?_⟩
    refine (congrArg (i ∈ ·) (View.set_slice_whole main_v1 _)).mpr ?_
    refine Rect.mem_set_unit.mpr ?_
    intro a
    match a with
    | ⟨0, _⟩ =>
      show cc0_transform_4 (grid0.coords ⟨8 * (i 0 : Fin 2).val + (i 1 : Fin 8192).val / 1024, hlt⟩) 0 * 1 ≤ (i 0 : Fin 2).val ∧ (i 0 : Fin 2).val < cc0_transform_4 (grid0.coords ⟨8 * (i 0 : Fin 2).val + (i 1 : Fin 8192).val / 1024, hlt⟩) 0 * 1 + 1
      rw [(maps _).2.2.2.2.1]
      dsimp only
      omega
    | ⟨1, _⟩ =>
      show cc0_transform_4 (grid0.coords ⟨8 * (i 0 : Fin 2).val + (i 1 : Fin 8192).val / 1024, hlt⟩) 1 * 1024 ≤ (i 1 : Fin 8192).val ∧ (i 1 : Fin 8192).val < cc0_transform_4 (grid0.coords ⟨8 * (i 0 : Fin 2).val + (i 1 : Fin 8192).val / 1024, hlt⟩) 1 * 1024 + 1024
      rw [(maps _).2.2.2.2.2.1]
      dsimp only
      omega
    | ⟨2, _⟩ =>
      show cc0_transform_4 (grid0.coords ⟨8 * (i 0 : Fin 2).val + (i 1 : Fin 8192).val / 1024, hlt⟩) 2 * 1024 ≤ (i 2 : Fin 1024).val ∧ (i 2 : Fin 1024).val < cc0_transform_4 (grid0.coords ⟨8 * (i 0 : Fin 2).val + (i 1 : Fin 8192).val / 1024, hlt⟩) 2 * 1024 + 1024
      rw [(maps _).2.2.2.2.2.2]
      omega

end Cert.FinalIdeal.Result

namespace Cert.FinalReferenceIdeal.Result

open Cert.FinalReferenceIdeal Cert.FinalReferenceIdeal.Gen Idealize.ShloMosaic Idealize.ShloMosaic.TcCoe Idealize.SL.Sem Idealize.ShloMosaic.StableHlo

/-- The reference's arithmetic over its arguments. -/
def value (x ff : FVec Ideal S2x8192x1024 .f32) (g : FVec Ideal S2x1x1024 .f32) (w : FVec Ideal S1024 .f32) : FVec Ideal S2x8192x1024 .f32 :=
  mulf (mulf (addf x (mulf (broadcastInDim S2x8192x1024 ![0, 1, 2] bcast_S2x1x1024_S2x8192x1024_0_1_2 g) ff)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (addf x (mulf (broadcastInDim S2x8192x1024 ![0, 1, 2] bcast_S2x1x1024_S2x8192x1024_0_1_2 g) ff)) (addf x (mulf (broadcastInDim S2x8192x1024 ![0, 1, 2] bcast_S2x1x1024_S2x8192x1024_0_1_2 g) ff))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 w))

theorem value_eq (x ff : Vec Ideal S2x8192x1024 .f32) (g : Vec Ideal S2x1x1024 .f32) (w : Vec Ideal S1024 .f32) (b : Fin 2) (n : Fin 8192) (d : Fin 1024) :
    value x ff g w (ix3 b n d) = Cert.FinalIdeal.Result.total x ff g w (ix3 b n d) := by
  pointwise [value]
  rfl

end Cert.FinalReferenceIdeal.Result

end
-- ==== Proof.InProjBody.lean ====
/-
  The body of the input projection at its three kinds of grid points: a column's first point, a point that stores only
  its projected columns, and a point whose columns are also kept as keys or values.
-/
module

public import proofs.«01_k».proof.Proof.Gen.InProjIdeal.Frame
public import proofs.«01_k».proof.Proof.Gen.InProjIdeal.Skeleton
public import Idealize.ShloMosaic.Lib.VecWindow
public import Idealize.ShloMosaic.Lib.Tactic

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The normed and modulated activations a column's first point leaves in the scratch. -/
def hVal (x0 x1 : Vec F S1x1024x1024 .f32) (x2 x3 x4 : Vec F S1x1x1024 .f32) (x5 : Vec F S1x1024 .f32) :
    Vec F S1024x1024 .bf16 :=
  k0_pay2 (k0_pay9 x0 x2 x1 x5 x4) (k0_pay10 x3)

/-- The gate block a column's first point stores. -/
def ifVal (x0 x1 : Vec F S1x1024x1024 .f32) (x2 x3 x4 : Vec F S1x1x1024 .f32) (x5 : Vec F S1x1024 .f32)
    (x7 : Vec F S1024x128 .bf16) (x8 : Vec F S1x128 .f32) : Vec F S1x1024x128 .f32 :=
  k0_pay3 (k0_pay9 x0 x2 x1 x5 x4) (k0_pay10 x3) x7 x8

set_option maxHeartbeats 1000000 in
/-- The body at a column's first point: the normed activations go to the scratch, the gate and residual blocks are stored, and the key-value block is left. -/
theorem body_A (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1024x128 .bf16) (harg10 : arg10.IsWhole) (arg11 : Memref sig .tc .vmem S1x128 .f32) (harg11 : arg11.IsWhole) (arg12 : Memref sig .tc .vmem S1x1024x512 .bf16) (harg12 : arg12.IsWhole) (arg13 : Memref sig .tc .vmem S1x1024x512 .f32) (harg13 : arg13.IsWhole) (arg14 : Memref sig .tc .vmem S1x1024x128 .f32) (harg14 : arg14.IsWhole) (arg15 : Memref sig .tc .vmem S1x1024x1024 .f32) (harg15 : arg15.IsWhole) (arg16 : Memref sig .tc .vmem S1024x1024 .bf16) (harg16 : arg16.IsWhole) (hc1 : k0_cond1 i = 1#1) (hc2 : ¬k0_cond2 i = 1#1)
    (x0 : Vec F S1x1024x1024 .f32) (x1 : Vec F S1x1024x1024 .f32) (x2 : Vec F S1x1x1024 .f32) (x3 : Vec F S1x1x1024 .f32) (x4 : Vec F S1x1x1024 .f32) (x5 : Vec F S1x1024 .f32) (x6 : Vec F S1024x512 .bf16) (x7 : Vec F S1024x128 .bf16) (x8 : Vec F S1x128 .f32) (y10 : Vec F S1x1024x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare (y10) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay5 (hVal x0 x1 x2 x3 x4 x5) x6) ∗ owns (c : Thread nD τ) arg13 fullShare (y10) ∗ owns (c : Thread nD τ) arg14 fullShare (ifVal x0 x1 x2 x3 x4 x5 x7 x8) ∗ owns (c : Thread nD τ) arg15 fullShare (k0_pay8 x0 x2 x1) ∗ owns (c : Thread nD τ) arg16 fullShare (hVal x0 x1 x2 x3 x4 x5)) -∗ K ⟨⟩))
      ⊢ wp frame (wpE (defs₀ (F := F)) Variants.none c none) E (cc0__in_proj_kernel i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__in_proj_kernel_eq_skeleton]; unfold cc0__in_proj_kernel_skel
  simp only [k0_part1_eq_skeleton]; unfold k0_part1_skel
  unfold owns
  have e3 : View.readAt (Elt F) arg3.view (Rect.unit ![0, 0, 0] ![1, 1024, 1024] inb_S1x1024x1024_S1x1024x1024_0_0_0).toLoadRect (harg3.unread x0) = x0 := (View.readAt_full arg3.view _ inb_S1x1024x1024_S1x1024x1024_0_0_0).trans (harg3.read_unread _)
  have e4 : View.readAt (Elt F) arg4.view (Rect.unit ![0, 0, 0] ![1, 1024, 1024] inb_S1x1024x1024_S1x1024x1024_0_0_0).toLoadRect (harg4.unread x1) = x1 := (View.readAt_full arg4.view _ inb_S1x1024x1024_S1x1024x1024_0_0_0).trans (harg4.read_unread _)
  have e5 : View.readAt (Elt F) arg5.view (Rect.unit ![0, 0, 0] ![1, 1, 1024] inb_S1x1x1024_S1x1x1024_0_0_0).toLoadRect (harg5.unread x2) = x2 := (View.readAt_full arg5.view _ inb_S1x1x1024_S1x1x1024_0_0_0).trans (harg5.read_unread _)
  have e6 : View.readAt (Elt F) arg6.view (Rect.unit ![0, 0, 0] ![1, 1, 1024] inb_S1x1x1024_S1x1x1024_0_0_0).toLoadRect (harg6.unread x3) = x3 := (View.readAt_full arg6.view _ inb_S1x1x1024_S1x1x1024_0_0_0).trans (harg6.read_unread _)
  have e7 : View.readAt (Elt F) arg7.view (Rect.unit ![0, 0, 0] ![1, 1, 1024] inb_S1x1x1024_S1x1x1024_0_0_0).toLoadRect (harg7.unread x4) = x4 := (View.readAt_full arg7.view _ inb_S1x1x1024_S1x1x1024_0_0_0).trans (harg7.read_unread _)
  have e8 : View.readAt (Elt F) arg8.view (Rect.unit ![0, 0] ![1, 1024] inb_S1x1024_S1x1024_0_0).toLoadRect (harg8.unread x5) = x5 := (View.readAt_full arg8.view _ inb_S1x1024_S1x1024_0_0).trans (harg8.read_unread _)
  have e9 : View.readAt (Elt F) arg9.view (Rect.unit ![0, 0] ![1024, 512] inb_S1024x512_S1024x512_0_0).toLoadRect (harg9.unread x6) = x6 := (View.readAt_full arg9.view _ inb_S1024x512_S1024x512_0_0).trans (harg9.read_unread _)
  have e10 : View.readAt (Elt F) arg10.view (Rect.unit ![0, 0] ![1024, 128] inb_S1024x128_S1024x128_0_0).toLoadRect (harg10.unread x7) = x7 := (View.readAt_full arg10.view _ inb_S1024x128_S1024x128_0_0).trans (harg10.read_unread _)
  have e11 : View.readAt (Elt F) arg11.view (Rect.unit ![0, 0] ![1, 128] inb_S1x128_S1x128_0_0).toLoadRect (harg11.unread x8) = x8 := (View.readAt_full arg11.view _ inb_S1x128_S1x128_0_0).trans (harg11.read_unread _)
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%d15, %f15, -, H15⟩, ⟨%d16, %f16, -, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13
  sl_exec (disch := first | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    sl_unfold_words
    refine (View.read_writes_full ..).trans ?_
    refine congrArg (fun h => k0_pay5 h x6) ?_
    unfold View.readCov
    refine (View.readAt_full arg16.view _ inb_S1024x1024_S1024x1024_0_0).trans ((View.read_writes_full ..).trans ?_)
    simp only [e3, e4, e5, e6, e7, e8, e10, e11]
    try rfl
  isplitl [H13]
  · iexists _; isplitr; · ipureintro; exact harg13.read_unread _
    iexact H13
  isplitl [H14]
  · iexists _; isplitr
    swap; · iexact H14
    ipureintro
    sl_unfold_words
    refine (View.read_writes_full ..).trans ?_
    simp only [e3, e4, e5, e6, e7, e8, e10, e11]
    try rfl
  isplitl [H15]
  · iexists _; isplitr
    swap; · iexact H15
    ipureintro
    sl_unfold_words
    refine (View.read_writes_full ..).trans ?_
    simp only [e3, e4, e5, e6, e7, e8, e10, e11]
    try rfl
  iexists _; isplitr
  swap; · iexact H16
  ipureintro
  sl_unfold_words
  refine (View.read_writes_full ..).trans ?_
  simp only [e3, e4, e5, e6, e7, e8, e10, e11]
  try rfl

set_option maxHeartbeats 1000000 in
/-- The body at a point that stores only its projected columns, from the activations the scratch holds. -/
theorem body_B (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1024x128 .bf16) (harg10 : arg10.IsWhole) (arg11 : Memref sig .tc .vmem S1x128 .f32) (harg11 : arg11.IsWhole) (arg12 : Memref sig .tc .vmem S1x1024x512 .bf16) (harg12 : arg12.IsWhole) (arg13 : Memref sig .tc .vmem S1x1024x512 .f32) (harg13 : arg13.IsWhole) (arg14 : Memref sig .tc .vmem S1x1024x128 .f32) (harg14 : arg14.IsWhole) (arg15 : Memref sig .tc .vmem S1x1024x1024 .f32) (harg15 : arg15.IsWhole) (arg16 : Memref sig .tc .vmem S1024x1024 .bf16) (harg16 : arg16.IsWhole) (hc1 : ¬k0_cond1 i = 1#1) (hc2 : ¬k0_cond2 i = 1#1)
    (x0 : Vec F S1x1024x1024 .f32) (x1 : Vec F S1x1024x1024 .f32) (x2 : Vec F S1x1x1024 .f32) (x3 : Vec F S1x1x1024 .f32) (x4 : Vec F S1x1x1024 .f32) (x5 : Vec F S1x1024 .f32) (x6 : Vec F S1024x512 .bf16) (x7 : Vec F S1024x128 .bf16) (x8 : Vec F S1x128 .f32) (y10 : Vec F S1x1024x512 .f32) (y11 : Vec F S1x1024x128 .f32) (y12 : Vec F S1x1024x1024 .f32) (xs : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ owns (c : Thread nD τ) arg13 fullShare (y10) ∗ owns (c : Thread nD τ) arg14 fullShare (y11) ∗ owns (c : Thread nD τ) arg15 fullShare (y12) ∗ owns (c : Thread nD τ) arg16 fullShare (xs)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay5 xs x6) ∗ owns (c : Thread nD τ) arg13 fullShare (y10) ∗ owns (c : Thread nD τ) arg14 fullShare (y11) ∗ owns (c : Thread nD τ) arg15 fullShare (y12) ∗ owns (c : Thread nD τ) arg16 fullShare (xs)) -∗ K ⟨⟩))
      ⊢ wp frame (wpE (defs₀ (F := F)) Variants.none c none) E (cc0__in_proj_kernel i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__in_proj_kernel_eq_skeleton]; unfold cc0__in_proj_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16
  sl_exec (disch := first | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    sl_unfold_words
    refine (View.read_writes_full ..).trans ?_
    exact congrArg₂ k0_pay5 ((View.readAt_full arg16.view _ inb_S1024x1024_S1024x1024_0_0).trans (harg16.read_unread _)) ((View.readAt_full arg9.view _ inb_S1024x512_S1024x512_0_0).trans (harg9.read_unread _))
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  iexists _; isplitr; · ipureintro; exact harg16.read_unread _
  iexact H16

set_option maxHeartbeats 1000000 in
/-- The body at a point whose columns are keys or values: they are stored once more, uncast. -/
theorem body_C (c : Dev nD) (i : grid0.Coords) (arg3 : Memref sig .tc .vmem S1x1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x512 .bf16) (harg9 : arg9.IsWhole) (arg10 : Memref sig .tc .vmem S1024x128 .bf16) (harg10 : arg10.IsWhole) (arg11 : Memref sig .tc .vmem S1x128 .f32) (harg11 : arg11.IsWhole) (arg12 : Memref sig .tc .vmem S1x1024x512 .bf16) (harg12 : arg12.IsWhole) (arg13 : Memref sig .tc .vmem S1x1024x512 .f32) (harg13 : arg13.IsWhole) (arg14 : Memref sig .tc .vmem S1x1024x128 .f32) (harg14 : arg14.IsWhole) (arg15 : Memref sig .tc .vmem S1x1024x1024 .f32) (harg15 : arg15.IsWhole) (arg16 : Memref sig .tc .vmem S1024x1024 .bf16) (harg16 : arg16.IsWhole) (hc1 : ¬k0_cond1 i = 1#1) (hc2 : k0_cond2 i = 1#1)
    (x0 : Vec F S1x1024x1024 .f32) (x1 : Vec F S1x1024x1024 .f32) (x2 : Vec F S1x1x1024 .f32) (x3 : Vec F S1x1x1024 .f32) (x4 : Vec F S1x1x1024 .f32) (x5 : Vec F S1x1024 .f32) (x6 : Vec F S1024x512 .bf16) (x7 : Vec F S1024x128 .bf16) (x8 : Vec F S1x128 .f32) (y11 : Vec F S1x1024x128 .f32) (y12 : Vec F S1x1024x1024 .f32) (xs : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ owns (c : Thread nD τ) arg14 fullShare (y11) ∗ owns (c : Thread nD τ) arg15 fullShare (y12) ∗ owns (c : Thread nD τ) arg16 fullShare (xs)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare (k0_pay5 xs x6) ∗ owns (c : Thread nD τ) arg13 fullShare (k0_pay6 xs x6) ∗ owns (c : Thread nD τ) arg14 fullShare (y11) ∗ owns (c : Thread nD τ) arg15 fullShare (y12) ∗ owns (c : Thread nD τ) arg16 fullShare (xs)) -∗ K ⟨⟩))
      ⊢ wp frame (wpE (defs₀ (F := F)) Variants.none c none) E (cc0__in_proj_kernel i arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__in_proj_kernel_eq_skeleton]; unfold cc0__in_proj_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16
  sl_exec (disch := first | sl_exact hc1 | sl_exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    sl_unfold_words
    refine (View.read_writes_full ..).trans ?_
    exact congrArg₂ k0_pay5 ((View.readAt_full arg16.view _ inb_S1024x1024_S1024x1024_0_0).trans (harg16.read_unread _)) ((View.readAt_full arg9.view _ inb_S1024x512_S1024x512_0_0).trans (harg9.read_unread _))
  isplitl [H13]
  · iexists _; isplitr
    swap; · iexact H13
    ipureintro
    sl_unfold_words
    refine (View.read_writes_full ..).trans ?_
    exact congrArg₂ k0_pay6 ((View.readAt_full arg16.view _ inb_S1024x1024_S1024x1024_0_0).trans (harg16.read_unread _)) ((View.readAt_full arg9.view _ inb_S1024x512_S1024x512_0_0).trans (harg9.read_unread _))
  isplitl [H14]
  · iexists _; isplitr; · ipureintro; exact harg14.read_unread _
    iexact H14
  isplitl [H15]
  · iexists _; isplitr; · ipureintro; exact harg15.read_unread _
    iexact H15
  iexists _; isplitr; · ipureintro; exact harg16.read_unread _
  iexact H16

end Cert.InProjIdeal.Body

end
-- ==== Proof.InProjLaunch.lean ====
/-
  The input projection's whole run: the activations kept in the scratch along a column, the proof data of the pipeline,
  and the frame.
-/
module

public import proofs.«01_k».proof.Proof.InProjBody
public import Idealize.ShloMosaic.Lib.Pipeline.TableIdle
public import Idealize.ShloMosaic.Lib.Claim

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, read off the point -/

theorem first_iff : ∀ t : Fin grid0.N, k0_cond1 (grid0.coords t) = 1#1 ↔ t.val % 15 = 0 :=
  (fun t => by
    have ht : t.val < 240 := Nat.lt_of_lt_of_eq t.isLt N_0
    have e2 : (grid0.coords t 2).val = t.val / 1 % 15 := Pipeline.Grid.coords_val t 2 (by decide) rfl
    simp only [k0_cond1, e2]
    word_cmp
   : ∀ t : Fin grid0.N, k0_cond1 (grid0.coords t) = 1#1 ↔ t.val % 15 = 0)

theorem key_iff : ∀ t : Fin grid0.N, k0_cond2 (grid0.coords t) = 1#1 ↔ 13 ≤ t.val % 15 :=
  (fun t => by
    have ht : t.val < 240 := Nat.lt_of_lt_of_eq t.isLt N_0
    have e2 : (grid0.coords t 2).val = t.val / 1 % 15 := Pipeline.Grid.coords_val t 2 (by decide) rfl
    simp only [k0_cond2, e2]
    word_cmp
   : ∀ t : Fin grid0.N, k0_cond2 (grid0.coords t) = 1#1 ↔ 13 ≤ t.val % 15)

/-- The key-value block is never written back before the key columns. -/
theorem flush10 : ∀ t : Fin grid0.N, t.val % 15 < 13 → win0_10.flush t = false := by decide +kernel

theorem idle10 (t : Fin cfg0.N) (h : t.val % 15 < 13) : cfg0.idle 10 (cfg0.grid.coords t) = true := by
  show (!(k0_cond2 (grid0.coords t) == 1#1)) = true
  rw [Bool.not_eq_true', beq_eq_false_iff_ne]
  exact fun h' => by have := (key_iff t).mp h'; omega

theorem live10 (t : Fin cfg0.N) (h : ¬t.val % 15 < 13) : cfg0.idle 10 (cfg0.grid.coords t) = false := by
  show (!(k0_cond2 (grid0.coords t) == 1#1)) = false
  rw [Bool.not_eq_false', beq_iff_eq]
  exact (key_iff t).mpr (by omega)

theorem idle11 (t : Fin cfg0.N) (h : ¬t.val % 15 = 0) : cfg0.idle 11 (cfg0.grid.coords t) = true := by
  show (!(k0_cond1 (grid0.coords t) == 1#1)) = true
  rw [Bool.not_eq_true', beq_eq_false_iff_ne]
  exact fun h' => h ((first_iff t).mp h')

theorem live11 (t : Fin cfg0.N) (h : t.val % 15 = 0) : cfg0.idle 11 (cfg0.grid.coords t) = false := by
  show (!(k0_cond1 (grid0.coords t) == 1#1)) = false
  rw [Bool.not_eq_false', beq_iff_eq]
  exact (first_iff t).mpr h

/-! ## What the scratch and the outputs hold -/

/-- The first point of the column that point `n` lies in. -/
def start (n : ℕ) : Fin cfg0.N :=
  if h : 15 * (n / 15) < cfg0.N then ⟨15 * (n / 15), h⟩ else ⟨0, by rw [show cfg0.N = 240 from N_0]; omega⟩

theorem start_val (t : Fin cfg0.N) : (start t.val).val = 15 * (t.val / 15) := by
  have ht : t.val < cfg0.N := t.isLt
  have : 15 * (t.val / 15) < cfg0.N := by omega
  unfold start; rw [dif_pos this]

theorem start_first (t : Fin cfg0.N) (h : t.val % 15 = 0) : start t.val = t :=
  Fin.ext ((start_val t).trans (by omega))

theorem start_succ (n : ℕ) (h : ¬(n + 1) % 15 = 0) : start (n + 1) = start n := by
  have e : (n + 1) / 15 = n / 15 := by omega
  unfold start
  simp only [e]

/-- The activations the scratch holds after point `n`. -/
def hAt (c : Dev nD) (n : ℕ) : Vec F S1024x1024 .bf16 :=
  hVal (iblk m c 0 (start n)) (iblk m c 1 (start n)) (iblk m c 2 (start n)) (iblk m c 3 (start n)) (iblk m c 4 (start n))
    (iblk m c 5 (start n))

/-- The gate block of point `n`'s column. -/
def ifAt (c : Dev nD) (n : ℕ) : Vec F S1x1024x128 .f32 :=
  ifVal (iblk m c 0 (start n)) (iblk m c 1 (start n)) (iblk m c 2 (start n)) (iblk m c 3 (start n)) (iblk m c 4 (start n))
    (iblk m c 5 (start n)) (iblk m c 7 (start n)) (iblk m c 8 (start n))

/-- The residual block of point `n`'s column. -/
def xoAt (c : Dev nD) (n : ℕ) : Vec F S1x1024x1024 .f32 :=
  k0_pay8 (iblk m c 0 (start n)) (iblk m c 2 (start n)) (iblk m c 1 (start n))

/-- The scratch memref. -/
abbrev scr : Memref sig .tc .vmem S1024x1024 .bf16 := Memref.whole cc0_scratch0

/-- The scratch before point `n`: at anything when `n` opens a column, at the column's activations otherwise. -/
def scrAt (c : Dev nD) (n : ℕ) : sProp 𝕄 :=
  if n % 15 = 0 then iprop(∃ d, owns (c : Thread nD τ) scr fullShare d)
    else iprop(owns (c : Thread nD τ) scr fullShare (hAt m c n))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay5 (hAt m c t.val) (iblk m c 6 t)
    | ⟨10, _⟩ => k0_pay6 (hAt m c t.val) (iblk m c 6 t)
    | ⟨11, _⟩ => ifAt m c t.val
    | ⟨12, _⟩ => xoAt m c t.val
  Φ t := iprop(scrAt m c t.val ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = iblk m c 6 t := by dsimp only [dats]; try rfl
theorem after_7 (c : Dev nD) (t : Fin cfg0.N) : (dats m 0 c).after 7 t = iblk m c 7 t := by dsimp only [dats]; try rfl
theorem after_8 (c : Dev nD) (t : Fin cfg0.N) : (dats m 0 c).after 8 t = iblk m c 8 t := by dsimp only [dats]; try rfl
theorem after_9 (c : Dev nD) (t : Fin cfg0.N) : (dats m 0 c).after 9 t = k0_pay5 (hAt m c t.val) (iblk m c 6 t) := by dsimp only [dats]; try rfl
theorem after_10 (c : Dev nD) (t : Fin cfg0.N) : (dats m 0 c).after 10 t = k0_pay6 (hAt m c t.val) (iblk m c 6 t) := by dsimp only [dats]; try rfl
theorem after_11 (c : Dev nD) (t : Fin cfg0.N) : (dats m 0 c).after 11 t = ifAt m c t.val := by dsimp only [dats]; try rfl
theorem after_12 (c : Dev nD) (t : Fin cfg0.N) : (dats m 0 c).after 12 t = xoAt m c t.val := by dsimp only [dats]; try rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

theorem fresh_11 : ∀ n, n ≤ cfg0.N → cfg0.fresh 11 n = decide (n % 15 = 0) :=
  cfg0.fresh_tab 11 (fun n => decide (n % 15 = 0)) rfl fun t => by
    have hf := flush0_11 t
    by_cases h : t.val % 15 = 0
    · have hi : cfg0.idle 11 (cfg0.grid.coords t) = false := live11 t h
      have hf' : (cfg0.win 11).flush t = false := Bool.eq_false_iff.mpr fun h' => by have := hf.mp h'; omega
      rw [hi, hf']
      simp only [Bool.false_and, Bool.or_false, decide_eq_false_iff_not]
      omega
    · have hi : cfg0.idle 11 (cfg0.grid.coords t) = true := idle11 t h
      rw [hi]
      simp only [Bool.true_and, decide_eq_false h, Bool.or_false]
      by_cases h14 : t.val % 15 = 14
      · rw [hf.mpr h14]; simp only [decide_eq_true_eq]; omega
      · rw [show (cfg0.win 11).flush t = false from Bool.eq_false_iff.mpr fun h' => h14 (hf.mp h')]
        simp only [decide_eq_false_iff_not]; omega

/-- At a later point of a column the block found is the one the column's first point stored. -/
theorem before_11 (c : Dev nD) (t : Fin cfg0.N) (h : ¬t.val % 15 = 0) (d) : (dats m 0 c).before 11 t d = ifAt m c t.val := by
  have hs : ∀ (t : Fin cfg0.N) (_ : ¬t.val % 15 = 0), start t.val = start (t.val - 1) := fun t h => by
    have h1 : t.val = (t.val - 1) + 1 := by omega
    rw [h1]; exact start_succ _ (by rw [← h1]; exact h)
  have hc : ∀ (t : Fin cfg0.N) (_ : ¬t.val % 15 = 0), ifAt m c t.val = ifAt m c (t.val - 1) := fun t h => by
    unfold ifAt; rw [hs t h]
  refine ((dats m 0 c).before_out_traj 11 rfl (fun _ _ => rfl) ?_ t.val t rfl d).trans ?_
  · intro t ht hi hfr
    rw [after_11, after_11]
    refine hc t fun h0 => ?_
    rw [live11 t h0] at hi
    exact Bool.false_ne_true hi
  · rw [fresh_11 t.val t.isLt.le, decide_eq_false h, if_neg Bool.false_ne_true, after_11]
    exact (hc t h).symm

theorem fresh_12 : ∀ n, n ≤ cfg0.N → cfg0.fresh 12 n = decide (n % 15 = 0) :=
  cfg0.fresh_tab 12 (fun n => decide (n % 15 = 0)) rfl fun t => by
    have hf := flush0_12 t
    by_cases h : t.val % 15 = 0
    · have hi : cfg0.idle 12 (cfg0.grid.coords t) = false := live11 t h
      have hf' : (cfg0.win 12).flush t = false := Bool.eq_false_iff.mpr fun h' => by have := hf.mp h'; omega
      rw [hi, hf']
      simp only [Bool.false_and, Bool.or_false, decide_eq_false_iff_not]
      omega
    · have hi : cfg0.idle 12 (cfg0.grid.coords t) = true := idle11 t h
      rw [hi]
      simp only [Bool.true_and, decide_eq_false h, Bool.or_false]
      by_cases h14 : t.val % 15 = 14
      · rw [hf.mpr h14]; simp only [decide_eq_true_eq]; omega
      · rw [show (cfg0.win 12).flush t = false from Bool.eq_false_iff.mpr fun h' => h14 (hf.mp h')]
        simp only [decide_eq_false_iff_not]; omega

/-- At a later point of a column the block found is the one the column's first point stored. -/
theorem before_12 (c : Dev nD) (t : Fin cfg0.N) (h : ¬t.val % 15 = 0) (d) : (dats m 0 c).before 12 t d = xoAt m c t.val := by
  have hs : ∀ (t : Fin cfg0.N) (_ : ¬t.val % 15 = 0), start t.val = start (t.val - 1) := fun t h => by
    have h1 : t.val = (t.val - 1) + 1 := by omega
    rw [h1]; exact start_succ _ (by rw [← h1]; exact h)
  have hc : ∀ (t : Fin cfg0.N) (_ : ¬t.val % 15 = 0), xoAt m c t.val = xoAt m c (t.val - 1) := fun t h => by
    unfold xoAt; rw [hs t h]
  refine ((dats m 0 c).before_out_traj 12 rfl (fun _ _ => rfl) ?_ t.val t rfl d).trans ?_
  · intro t ht hi hfr
    rw [after_12, after_12]
    refine hc t fun h0 => ?_
    rw [live11 t h0] at hi
    exact Bool.false_ne_true hi
  · rw [fresh_12 t.val t.isLt.le, decide_eq_false h, if_neg Bool.false_ne_true, after_12]
    exact (hc t h).symm

/-- Window 0's staging buffer at a point. -/
abbrev stg0 (t : Fin cfg0.N) : Memref sig .tc .vmem S1x1024x1024 .f32 := win0_0.stage (cfg0.slots t 0)
/-- Window 1's staging buffer at a point. -/
abbrev stg1 (t : Fin cfg0.N) : Memref sig .tc .vmem S1x1024x1024 .f32 := win0_1.stage (cfg0.slots t 1)
/-- Window 2's staging buffer at a point. -/
abbrev stg2 (t : Fin cfg0.N) : Memref sig .tc .vmem S1x1x1024 .f32 := win0_2.stage (cfg0.slots t 2)
/-- Window 3's staging buffer at a point. -/
abbrev stg3 (t : Fin cfg0.N) : Memref sig .tc .vmem S1x1x1024 .f32 := win0_3.stage (cfg0.slots t 3)
/-- Window 4's staging buffer at a point. -/
abbrev stg4 (t : Fin cfg0.N) : Memref sig .tc .vmem S1x1x1024 .f32 := win0_4.stage (cfg0.slots t 4)
/-- Window 5's staging buffer at a point. -/
abbrev stg5 (t : Fin cfg0.N) : Memref sig .tc .vmem S1x1024 .f32 := win0_5.stage (cfg0.slots t 5)
/-- Window 6's staging buffer at a point. -/
abbrev stg6 (t : Fin cfg0.N) : Memref sig .tc .vmem S1024x512 .bf16 := win0_6.stage (cfg0.slots t 6)
/-- Window 7's staging buffer at a point. -/
abbrev stg7 (t : Fin cfg0.N) : Memref sig .tc .vmem S1024x128 .bf16 := win0_7.stage (cfg0.slots t 7)
/-- Window 8's staging buffer at a point. -/
abbrev stg8 (t : Fin cfg0.N) : Memref sig .tc .vmem S1x128 .f32 := win0_8.stage (cfg0.slots t 8)
/-- Window 9's staging buffer at a point. -/
abbrev stg9 (t : Fin cfg0.N) : Memref sig .tc .vmem S1x1024x512 .bf16 := win0_9.stage (cfg0.slots t 9)
/-- Window 10's staging buffer at a point. -/
abbrev stg10 (t : Fin cfg0.N) : Memref sig .tc .vmem S1x1024x512 .f32 := win0_10.stage (cfg0.slots t 10)
/-- Window 11's staging buffer at a point. -/
abbrev stg11 (t : Fin cfg0.N) : Memref sig .tc .vmem S1x1024x128 .f32 := win0_11.stage (cfg0.slots t 11)
/-- Window 12's staging buffer at a point. -/
abbrev stg12 (t : Fin cfg0.N) : Memref sig .tc .vmem S1x1024x1024 .f32 := win0_12.stage (cfg0.slots t 12)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ (dats m 0 c).leavesExact 10 t
    ∗ (dats m 0 c).leavesExact 11 t
    ∗ (dats m 0 c).leavesExact 12 t)

theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

theorem Phi_eq (c : Dev nD) (j : Fin (cfg0.N + 1)) :
    (dats m 0 c).Φ j = iprop(scrAt m c j.val ∗ (∃ r, prngReg c r)) := by
  dsimp only [dats]

theorem scr_open (c : Dev nD) (n : ℕ) (h : n % 15 = 0) :
    (scrAt m c n : sProp 𝕄) = iprop(∃ d, owns (c : Thread nD τ) scr fullShare d) := if_pos h

theorem scr_kept (c : Dev nD) (n : ℕ) (h : ¬n % 15 = 0) :
    (scrAt m c n : sProp 𝕄) = iprop(owns (c : Thread nD τ) scr fullShare (hAt m c n)) := if_neg h

theorem scr_next (c : Dev nD) (n : ℕ) :
    owns (c : Thread nD τ) scr fullShare (hAt m c n) ⊢ (scrAt m c (n + 1) : sProp 𝕄) := by
  by_cases h : (n + 1) % 15 = 0
  · rw [scr_open m c _ h]
    iintro H
    iexists _
    iexact H
  · rw [scr_kept m c _ h]
    have e : hAt m c (n + 1) = hAt m c n := by
      unfold hAt; rw [start_succ n h]
    rw [e]

theorem leaves_live (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- A window idle at a point and found at its closed form is left at it, written back there or not. -/
theorem leaves_found (c : Dev nD) (w : Fin cfg0.W) (t : Fin cfg0.N) (hi : cfg0.idle w (cfg0.grid.coords t) = true)
    (hb : ∀ d, (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact; rw [hi]
  cases (cfg0.win w).flush t
  · show _ ⊢ iprop(∃ d, owns (c : Thread nD τ) ((cfg0.win w).stage (cfg0.slots t w)) fullShare ((dats m 0 c).before w t d))
    iintro H
    iexists (dats m 0 c).after w t
    rw [hb]
    iexact H
  · exact .rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8
    ]
  rw [show (dats m 0 c).owesAt () t.succ = (dats m 0 c).owesAt () t.castSucc from rfl,
    after_0, after_1, after_2, after_3, after_4, after_5, after_6, after_7, after_8, after_9]
  rw [Phi_eq, Phi_eq, Fin.val_castSucc, Fin.val_succ]
  have hN : t.val < 240 := lt_of_lt_of_eq t.isLt N_0
  by_cases h0 : t.val % 15 = 0
  · have e0 : hAt m c t.val = hVal (iblk m c 0 t) (iblk m c 1 t) (iblk m c 2 t) (iblk m c 3 t) (iblk m c 4 t) (iblk m c 5 t) := by
      unfold hAt; rw [start_first t h0]
    have e1 : ifAt m c t.val = ifVal (iblk m c 0 t) (iblk m c 1 t) (iblk m c 2 t) (iblk m c 3 t) (iblk m c 4 t) (iblk m c 5 t) (iblk m c 7 t) (iblk m c 8 t) := by
      unfold ifAt; rw [start_first t h0]
    have e2 : xoAt m c t.val = k0_pay8 (iblk m c 0 t) (iblk m c 2 t) (iblk m c 1 t) := by
      unfold xoAt; rw [start_first t h0]
    rw [scr_open m c _ h0, leaves_live m c 11 t (live11 t h0), leaves_live m c 12 t (live11 t h0),
      Dat.leavesExact_idle _ 10 t (idle10 t (by omega)) (flush10 t (by omega)), after_11, after_12, e1, e2]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_A c (grid0.coords t) _ _ _ _ _ _ _ _ _ _ _ _ _ _ _ _ _ _ _ _ _ _ _ _ _ _ _ _ ((first_iff t).mpr h0) (fun h => by have := (key_iff t).mp h; omega) (iblk m c 0 t) (iblk m c 1 t) (iblk m c 2 t) (iblk m c 3 t) (iblk m c 4 t) (iblk m c 5 t) (iblk m c 6 t) (iblk m c 7 t) (iblk m c 8 t) ((dats m 0 c).before 10 t d10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexists _; iexact H11
    isplitl [H12]; · iexists _; iexact H12
    isplitl [HS]; · iexact HS
    iintro ⟨H0, H1, H2, H3, H4, H5, H6, H7, H8, H9, H10, H11, H12, HS⟩
    isplitl [HS Hg]
    · isplitl [HS]
      · iapply (scr_next m c t.val)
        rw [e0]; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · rw [e0]; iexact H9
    isplitl [H10]; · iexists d10; iexact H10
    isplitl [H11]; · iexact H11
    iexact H12
  by_cases h1 : t.val % 15 < 13
  · rw [scr_kept m c _ h0]
    simp only [before_11 m c t h0, before_12 m c t h0]
    rw [Dat.leavesExact_idle _ 10 t (idle10 t h1) (flush10 t h1)]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_B c (grid0.coords t) _ _ _ _ _ _ _ _ _ _ _ _ _ _ _ _ _ _ _ _ _ _ _ _ _ _ _ _ (fun h => h0 ((first_iff t).mp h)) (fun h => by have := (key_iff t).mp h; omega) (iblk m c 0 t) (iblk m c 1 t) (iblk m c 2 t) (iblk m c 3 t) (iblk m c 4 t) (iblk m c 5 t) (iblk m c 6 t) (iblk m c 7 t) (iblk m c 8 t) ((dats m 0 c).before 10 t d10) (ifAt m c t.val) (xoAt m c t.val) (hAt m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iapply (scr_next m c t.val)
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists d10; iexact H10
    isplitl [H11]
    · iapply (leaves_found m c 11 t (idle11 t h0) fun d => (before_11 m c t h0 d).trans (after_11 m c t).symm)
      rw [after_11]; iexact H11
    iapply (leaves_found m c 12 t (idle11 t h0) fun d => (before_12 m c t h0 d).trans (after_12 m c t).symm)
    rw [after_12]; iexact H12
  · rw [scr_kept m c _ h0]
    simp only [before_11 m c t h0, before_12 m c t h0]
    rw [leaves_live m c 10 t (live10 t h1), after_10]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_C c (grid0.coords t) _ _ _ _ _ _ _ _ _ _ _ _ _ _ _ _ _ _ _ _ _ _ _ _ _ _ _ _ (fun h => h0 ((first_iff t).mp h)) ((key_iff t).mpr (by omega)) (iblk m c 0 t) (iblk m c 1 t) (iblk m c 2 t) (iblk m c 3 t) (iblk m c 4 t) (iblk m c 5 t) (iblk m c 6 t) (iblk m c 7 t) (iblk m c 8 t) (ifAt m c t.val) (xoAt m c t.val) (hAt m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [HS]; · iexact HS
    iintro ⟨H0, H1, H2, H3, H4, H5, H6, H7, H8, H9, H10, H11, H12, HS⟩
    isplitl [HS Hg]
    · isplitl [HS]
      · iapply (scr_next m c t.val)
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iapply (leaves_found m c 11 t (idle11 t h0) fun d => (before_11 m c t h0 d).trans (after_11 m c t).symm)
      rw [after_11]; iexact H11
    iapply (leaves_found m c 12 t (idle11 t h0) fun d => (before_12 m c t h0 d).trans (after_12 m c t).symm)
    rw [after_12]; iexact H12

/-- The body table's row at point `t`'s slots. -/
theorem row_at (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (sound_body m c t) rfl .rfl fun _ => .rfl

theorem entry (c : Dev nD) : Pipeline.ΦA spec0 c ⊢ ((dats m 0 c).Φ 0 : sProp 𝕄) := by
  rw [Phi_eq, PhiA_eq, Fin.val_zero, scr_open m c 0 rfl]

theorem exit (c : Dev nD) : ((dats m 0 c).Φ (Fin.last cfg0.N) : sProp 𝕄) ⊢ Pipeline.ΦA spec0 c := by
  rw [Phi_eq, PhiA_eq, Fin.val_last, scr_open m c cfg0.N (by rw [show cfg0.N = 240 from N_0])]

set_option backward.isDefEq.respectTransparency.types false in
/-- The launch: every array of the pipeline ends at what the proof data compute, every counter at zero. -/
theorem run_zero : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => entry m c) (hout := fun c => exit m c)

theorem run_main : θ_run defs (onTc (τ := τ) (main (F := F))) (s₀ m ρ) (Pipeline.FramePost cfgs (dats m) 0 (V m)) :=
  (θ_run defs _ _).mono (fun _ h => h.1) (run_zero m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the arguments unchanged and every counter at zero, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_zero m ρ))

end Cert.InProjIdeal.Body

end
-- ==== Proof.InProjValue.lean ====
/-
  The input projection's results over the extended reals, and the reference's the same.
-/
module

public import proofs.«01_k».proof.Proof.InProjLaunch
public import proofs.«01_k».proof.Proof.Gen.InProjReferenceIdeal.Run
public import proofs.«01_k».proof.Proof.Norm
public import Idealize.ShloMosaic.Lib.StableHlo.Run

@[expose] public section

set_option maxRecDepth 16384

noncomputable section

namespace Cert.InProjIdeal.Result

open Cert.InProjIdeal Cert.InProjIdeal.Gen Cert.InProjIdeal.Body Idealize.ShloMosaic Idealize.ShloMosaic.TcCoe Idealize.SL.Sem Idealize.ShloMosaic.StableHlo
open Cert.Norm

/-- One activation: the row normed, scaled and shifted. -/
def act (v w sc sh : Fin 1024 → EReal) (d : Fin 1024) : EReal := norm v w d * (1 + sc d) + sh d

theorem hVal_apply (x ff : Vec Ideal S1x1024x1024 .f32) (g sh sc : Vec Ideal S1x1x1024 .f32) (w : Vec Ideal S1x1024 .f32) (n d : Fin 1024) :
    hVal x ff g sh sc w (ix2 n d) = act (fun k => x (ix3 0 n k) + g (ix3 0 0 k) * ff (ix3 0 n k)) (fun k => w (ix2 0 k))
      (fun k => sc (ix3 0 0 k)) (fun k => sh (ix3 0 0 k)) d := by
  pointwise [hVal, k0_pay2, k0_pay1, k0_pay9, k0_pay10, k0_pay7]
  rfl

theorem u_apply (h : Vec Ideal S1024x1024 .bf16) (w : Vec Ideal S1024x512 .bf16) (n : Fin 1024) (k : Fin 512) :
    k0_pay5 h w (ix3 0 n k) = ∑ d : Fin 1024, h (ix2 n d) * w (ix2 d k) := by
  pointwise [k0_pay5, k0_pay4]

theorem kv_apply (h : Vec Ideal S1024x1024 .bf16) (w : Vec Ideal S1024x512 .bf16) (n : Fin 1024) (k : Fin 512) :
    k0_pay6 h w (ix3 0 n k) = ∑ d : Fin 1024, h (ix2 n d) * w (ix2 d k) := by
  pointwise [k0_pay6, k0_pay4]

theorem if_apply (x ff : Vec Ideal S1x1024x1024 .f32) (g sh sc : Vec Ideal S1x1x1024 .f32) (w : Vec Ideal S1x1024 .f32)
    (wif : Vec Ideal S1024x128 .bf16) (wb : Vec Ideal S1x128 .f32) (n : Fin 1024) (k : Fin 128) :
    ifVal x ff g sh sc w wif wb (ix3 0 n k) = (∑ d : Fin 1024, hVal x ff g sh sc w (ix2 n d) * wif (ix2 d k)) + wb (ix2 0 k) := by
  pointwise [ifVal, k0_pay3, hVal, k0_pay2]

theorem xo_apply (x ff : Vec Ideal S1x1024x1024 .f32) (g : Vec Ideal S1x1x1024 .f32) (n d : Fin 1024) :
    k0_pay8 x g ff (ix3 0 n d) = x (ix3 0 n d) + g (ix3 0 0 d) * ff (ix3 0 n d) := by
  pointwise [k0_pay8, k0_pay7]

/-- The column of the weight that column `k` of the reordered weight is. -/
def colOf (k : Fin 7680) : Fin 7688 :=
  if k.val < 2048 then ⟨k.val, by omega⟩ else if k.val < 3072 then ⟨k.val + 8, by omega⟩
  else if h : k.val < 6144 then ⟨k.val + 1544, by omega⟩ else ⟨k.val - 3064, by omega⟩

theorem colOf_val (k : Fin 7680) : (colOf k).val = if k.val < 2048 then k.val else if k.val < 3072 then k.val + 8
    else if k.val < 6144 then k.val + 1544 else k.val - 3064 := by
  unfold colOf
  split_ifs <;> rfl

/-- The column of the weight that column `k` of the keys and values is. -/
def kvCol (k : Fin 1024) : Fin 7688 := ⟨3592 + k.val, by omega⟩

/-- The activation of a token's column. -/
def hid (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (b : Fin 2) (n : Fin 8192) (d : Fin 1024) : EReal :=
  act (fun k => x (ix3 b n k) + g (ix3 b 0 k) * ff (ix3 b n k)) (fun k => nw (ix1 k)) (fun k => sc (ix3 b 0 k)) (fun k => sh (ix3 b 0 k)) d

/-- The projection of a token at a column of the weight. -/
def proj (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) (b : Fin 2) (n : Fin 8192) (k : Fin 7688) : EReal :=
  ∑ d : Fin 1024, hid x ff g sh sc nw b n d * w (ix2 d k)

/-- The projections in the reordered weight's column order. -/
def total9 (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) : FVec Ideal S2x8192x7680 .bf16 := fun i => proj x ff g sh sc nw w (i 0) (i 1) (colOf (i 2))

/-- The key and value projections. -/
def total10 (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) : FVec Ideal S2x8192x1024 .f32 := fun i =>
  proj x ff g sh sc nw w (i 0) (i 1) (kvCol (i 2))

/-- The gates' projections with the bias, padded by zeros. -/
def total11 (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) (gb : Vec Ideal S8 .f32) : FVec Ideal S2x8192x128 .f32 := fun i =>
  if h : (i 2 : Fin 128).val < 8 then proj x ff g sh sc nw w (i 0) (i 1) ⟨2048 + (i 2 : Fin 128).val, by omega⟩ + gb (ix1 ⟨(i 2 : Fin 128).val, h⟩) else 0

/-- The stream with the gated feed-forward result added. -/
def total12 (x : Vec Ideal S2x8192x1024 .f32) (ff : Vec Ideal S2x8192x1024 .f32) (g : Vec Ideal S2x1x1024 .f32) : FVec Ideal S2x8192x1024 .f32 := fun i =>
  x (ix3 (i 0) (i 1) (i 2)) + g (ix3 (i 0) 0 (i 2)) * ff (ix3 (i 0) (i 1) (i 2))

/-- Window 0's index map in closed form. -/
theorem map0 : ∀ t : Fin grid0.N, cc0_transform_0 (grid0.coords t) 0 = t.val / 120 ∧ cc0_transform_0 (grid0.coords t) 1 = t.val / 15 % 8 ∧ cc0_transform_0 (grid0.coords t) 2 = 0 := by decide +kernel

/-- Window 1's index map in closed form. -/
theorem map1 : ∀ t : Fin grid0.N, cc0_transform_1 (grid0.coords t) 0 = t.val / 120 ∧ cc0_transform_1 (grid0.coords t) 1 = t.val / 15 % 8 ∧ cc0_transform_1 (grid0.coords t) 2 = 0 := by decide +kernel

/-- Window 2's index map in closed form. -/
theorem map2 : ∀ t : Fin grid0.N, cc0_transform_2 (grid0.coords t) 0 = t.val / 120 ∧ cc0_transform_2 (grid0.coords t) 1 = 0 ∧ cc0_transform_2 (grid0.coords t) 2 = 0 := by decide +kernel

/-- Window 3's index map in closed form. -/
theorem map3 : ∀ t : Fin grid0.N, cc0_transform_3 (grid0.coords t) 0 = t.val / 120 ∧ cc0_transform_3 (grid0.coords t) 1 = 0 ∧ cc0_transform_3 (grid0.coords t) 2 = 0 := by decide +kernel

/-- Window 4's index map in closed form. -/
theorem map4 : ∀ t : Fin grid0.N, cc0_transform_4 (grid0.coords t) 0 = t.val / 120 ∧ cc0_transform_4 (grid0.coords t) 1 = 0 ∧ cc0_transform_4 (grid0.coords t) 2 = 0 := by decide +kernel

/-- Window 5's index map in closed form. -/
theorem map5 : ∀ t : Fin grid0.N, cc0_transform_5 (grid0.coords t) 0 = 0 ∧ cc0_transform_5 (grid0.coords t) 1 = 0 := by decide +kernel

/-- Window 6's index map in closed form. -/
theorem map6 : ∀ t : Fin grid0.N, cc0_transform_6 (grid0.coords t) 0 = 0 ∧ cc0_transform_6 (grid0.coords t) 1 = t.val % 15 := by decide +kernel

/-- Window 7's index map in closed form. -/
theorem map7 : ∀ t : Fin grid0.N, cc0_transform_7 (grid0.coords t) 0 = 0 ∧ cc0_transform_7 (grid0.coords t) 1 = 0 := by decide +kernel

/-- Window 8's index map in closed form. -/
theorem map8 : ∀ t : Fin grid0.N, cc0_transform_8 (grid0.coords t) 0 = 0 ∧ cc0_transform_8 (grid0.coords t) 1 = 0 := by decide +kernel

/-- Window 9's index map in closed form. -/
theorem map9 : ∀ t : Fin grid0.N, cc0_transform_9 (grid0.coords t) 0 = t.val / 120 ∧ cc0_transform_9 (grid0.coords t) 1 = t.val / 15 % 8 ∧ cc0_transform_9 (grid0.coords t) 2 = t.val % 15 := by decide +kernel

/-- Window 10's index map in closed form. -/
theorem map10 : ∀ t : Fin grid0.N, cc0_transform_10 (grid0.coords t) 0 = t.val / 120 ∧ cc0_transform_10 (grid0.coords t) 1 = t.val / 15 % 8 ∧ cc0_transform_10 (grid0.coords t) 2 = t.val % 15 - 13 := by decide +kernel

/-- Window 11's index map in closed form. -/
theorem map11 : ∀ t : Fin grid0.N, cc0_transform_11 (grid0.coords t) 0 = t.val / 120 ∧ cc0_transform_11 (grid0.coords t) 1 = t.val / 15 % 8 ∧ cc0_transform_11 (grid0.coords t) 2 = 0 := by decide +kernel

/-- Window 12's index map in closed form. -/
theorem map12 : ∀ t : Fin grid0.N, cc0_transform_12 (grid0.coords t) 0 = t.val / 120 ∧ cc0_transform_12 (grid0.coords t) 1 = t.val / 15 % 8 ∧ cc0_transform_12 (grid0.coords t) 2 = 0 := by decide +kernel

/-- The key and value window is written back at the key and value points. -/
theorem flush_kv : ∀ t : Fin grid0.N, 13 ≤ t.val % 15 → win0_10.flush t = true := by decide +kernel

variable (m : (ℓ : Loc nD τ sig) → Buf (Elt Ideal) ℓ) (c : Dev nD) (t : Fin cfg0.N)

theorem t_lt : t.val < 240 := lt_of_lt_of_eq t.isLt (show cfg0.N = 240 from N_0)

/-- The arguments as launched. -/
abbrev A0 : Vec Ideal S2x8192x1024 .f32 := m ((c : Thread nD τ).loc main_arg0)
abbrev A1 : Vec Ideal S2x8192x1024 .f32 := m ((c : Thread nD τ).loc main_arg1)
abbrev A2 : Vec Ideal S2x1x1024 .f32 := m ((c : Thread nD τ).loc main_arg2)
abbrev A3 : Vec Ideal S2x1x1024 .f32 := m ((c : Thread nD τ).loc main_arg3)
abbrev A4 : Vec Ideal S2x1x1024 .f32 := m ((c : Thread nD τ).loc main_arg4)
abbrev A5 : Vec Ideal S1024 .f32 := m ((c : Thread nD τ).loc main_arg5)
abbrev A6 : Vec Ideal S1024x7688 .f32 := m ((c : Thread nD τ).loc main_arg6)
abbrev A7 : Vec Ideal S8 .f32 := m ((c : Thread nD τ).loc main_arg7)

theorem V_w (d : Fin 1024) (k : Fin 7680) : (V m c main_v10 : Vec Ideal S1024x7680 .bf16) (ix2 d k) = A6 m c (ix2 d (colOf k)) := by
  unfold V
  simp only [List.flatten_cons, List.flatten_nil, List.append_nil, List.cons_append, List.nil_append, TRef.binary, TRef.unary, TRef.ternary, TRef.toBuf, TRef.ofBuf, cast_eq]
  after_results_simp
  pointwise
  after_results_simp
  have key : ∀ q : Fin 7688, q.val = (colOf k).val → A6 m c (ix2 d q) = A6 m c (ix2 d (colOf k)) := fun q h => congrArg (fun q => A6 m c (ix2 d q)) (Fin.ext h)
  split_ifs with h1 h2 h3 <;> (pointwise; refine key _ ?_; rw [colOf_val]; dsimp only; split_ifs <;> omega)

theorem V_wif (d : Fin 1024) (k : Fin 128) : (V m c main_v11 : Vec Ideal S1024x128 .bf16) (ix2 d k)
    = if h : k.val < 8 then A6 m c (ix2 d ⟨2048 + k.val, by omega⟩) else 0 := by
  unfold V
  simp only [List.flatten_cons, List.flatten_nil, List.append_nil, List.cons_append, List.nil_append, TRef.binary, TRef.unary, TRef.ternary, TRef.toBuf, TRef.ofBuf, cast_eq]
  after_results_simp
  pointwise
  split_ifs
  · rfl
  · show ((((0#32 : BitVec 32).toInt : ℝ) : EReal)) = 0
    simp

theorem V_bif (k : Fin 128) : (V m c main_v8 : Vec Ideal S1x128 .f32) (ix2 0 k)
    = if h : k.val < 8 then A7 m c (ix1 ⟨k.val, h⟩) else 0 := by
  unfold V
  simp only [List.flatten_cons, List.flatten_nil, List.append_nil, List.cons_append, List.nil_append, TRef.binary, TRef.unary, TRef.ternary, TRef.toBuf, TRef.ofBuf, cast_eq]
  after_results_simp
  show (shapeCast S1x128 (pad S128 ![0] ![120] ![0] (A7 m c) (sitofp .f32 (constantI S_ 32 0#32)) pads_S8_S128_01200 h_S_ : FVec Ideal S128 .f32) shapeCasts_S128_S1x128 : FVec Ideal S1x128 .f32) (ix2 0 k) = _
  pointwise
  split_ifs
  · rfl
  · show ((((0#32 : BitVec 32).toInt : ℝ) : EReal)) = 0
    simp

theorem V_nw (d : Fin 1024) : (V m c main_v9 : Vec Ideal S1x1024 .f32) (ix2 0 d) = A5 m c (ix1 d) := by
  unfold V
  simp only [List.flatten_cons, List.flatten_nil, List.append_nil, List.cons_append, List.nil_append, TRef.binary, TRef.unary, TRef.ternary, TRef.toBuf, TRef.ofBuf, cast_eq]
  after_results_simp
  show (shapeCast S1x1024 (A5 m c) shapeCasts_S1024_S1x1024 : FVec Ideal S1x1024 .f32) (ix2 0 d) = _
  pointwise

theorem val0 (n d : Fin 1024) : (iblk m c 0 t : Vec Ideal S1x1024x1024 .f32) (ix3 0 n d)
    = A0 m c (ix3 ⟨t.val / 120, by have := t_lt t; omega⟩ ⟨t.val / 15 % 8 * 1024 + n.val, by omega⟩ d) := by
  refine Eq.trans ?_ (congrFun (V_main_arg0 m c) _)
  unfold iblk
  refine (View.read_apply _ _).trans ?_
  show V m c main_arg0 _ = V m c main_arg0 _
  congr 1
  funext a
  apply Fin.ext
  match a with
  | ⟨0, _⟩ => show cc0_transform_0 (grid0.coords t) 0 * 1 + 1 * 0 = t.val / 120; rw [(map0 t).1]; omega
  | ⟨1, _⟩ => show cc0_transform_0 (grid0.coords t) 1 * 1024 + 1 * n.val = t.val / 15 % 8 * 1024 + n.val; rw [(map0 t).2.1]; omega
  | ⟨2, _⟩ => show cc0_transform_0 (grid0.coords t) 2 * 1024 + 1 * d.val = d.val; rw [(map0 t).2.2]; omega

theorem val1 (n d : Fin 1024) : (iblk m c 1 t : Vec Ideal S1x1024x1024 .f32) (ix3 0 n d)
    = A1 m c (ix3 ⟨t.val / 120, by have := t_lt t; omega⟩ ⟨t.val / 15 % 8 * 1024 + n.val, by omega⟩ d) := by
  refine Eq.trans ?_ (congrFun (V_main_arg1 m c) _)
  unfold iblk
  refine (View.read_apply _ _).trans ?_
  show V m c main_arg1 _ = V m c main_arg1 _
  congr 1
  funext a
  apply Fin.ext
  match a with
  | ⟨0, _⟩ => show cc0_transform_1 (grid0.coords t) 0 * 1 + 1 * 0 = t.val / 120; rw [(map1 t).1]; omega
  | ⟨1, _⟩ => show cc0_transform_1 (grid0.coords t) 1 * 1024 + 1 * n.val = t.val / 15 % 8 * 1024 + n.val; rw [(map1 t).2.1]; omega
  | ⟨2, _⟩ => show cc0_transform_1 (grid0.coords t) 2 * 1024 + 1 * d.val = d.val; rw [(map1 t).2.2]; omega

theorem val2 (d : Fin 1024) : (iblk m c 2 t : Vec Ideal S1x1x1024 .f32) (ix3 0 0 d)
    = A2 m c (ix3 ⟨t.val / 120, by have := t_lt t; omega⟩ 0 d) := by
  refine Eq.trans ?_ (congrFun (V_main_arg2 m c) _)
  unfold iblk
  refine (View.read_apply _ _).trans ?_
  show V m c main_arg2 _ = V m c main_arg2 _
  congr 1
  funext a
  apply Fin.ext
  match a with
  | ⟨0, _⟩ => show cc0_transform_2 (grid0.coords t) 0 * 1 + 1 * 0 = t.val / 120; rw [(map2 t).1]; omega
  | ⟨1, _⟩ => show cc0_transform_2 (grid0.coords t) 1 * 1 + 1 * 0 = 0; rw [(map2 t).2.1]
  | ⟨2, _⟩ => show cc0_transform_2 (grid0.coords t) 2 * 1024 + 1 * d.val = d.val; rw [(map2 t).2.2]; omega

theorem val3 (d : Fin 1024) : (iblk m c 3 t : Vec Ideal S1x1x1024 .f32) (ix3 0 0 d)
    = A3 m c (ix3 ⟨t.val / 120, by have := t_lt t; omega⟩ 0 d) := by
  refine Eq.trans ?_ (congrFun (V_main_arg3 m c) _)
  unfold iblk
  refine (View.read_apply _ _).trans ?_
  show V m c main_arg3 _ = V m c main_arg3 _
  congr 1
  funext a
  apply Fin.ext
  match a with
  | ⟨0, _⟩ => show cc0_transform_3 (grid0.coords t) 0 * 1 + 1 * 0 = t.val / 120; rw [(map3 t).1]; omega
  | ⟨1, _⟩ => show cc0_transform_3 (grid0.coords t) 1 * 1 + 1 * 0 = 0; rw [(map3 t).2.1]
  | ⟨2, _⟩ => show cc0_transform_3 (grid0.coords t) 2 * 1024 + 1 * d.val = d.val; rw [(map3 t).2.2]; omega

theorem val4 (d : Fin 1024) : (iblk m c 4 t : Vec Ideal S1x1x1024 .f32) (ix3 0 0 d)
    = A4 m c (ix3 ⟨t.val / 120, by have := t_lt t; omega⟩ 0 d) := by
  refine Eq.trans ?_ (congrFun (V_main_arg4 m c) _)
  unfold iblk
  refine (View.read_apply _ _).trans ?_
  show V m c main_arg4 _ = V m c main_arg4 _
  congr 1
  funext a
  apply Fin.ext
  match a with
  | ⟨0, _⟩ => show cc0_transform_4 (grid0.coords t) 0 * 1 + 1 * 0 = t.val / 120; rw [(map4 t).1]; omega
  | ⟨1, _⟩ => show cc0_transform_4 (grid0.coords t) 1 * 1 + 1 * 0 = 0; rw [(map4 t).2.1]
  | ⟨2, _⟩ => show cc0_transform_4 (grid0.coords t) 2 * 1024 + 1 * d.val = d.val; rw [(map4 t).2.2]; omega

theorem val5 (d : Fin 1024) : (iblk m c 5 t : Vec Ideal S1x1024 .f32) (ix2 0 d)
    = A5 m c (ix1 d) := by
  refine Eq.trans ?_ (V_nw m c d)
  unfold iblk
  refine (View.read_apply _ _).trans ?_
  show V m c main_v9 _ = V m c main_v9 _
  congr 1
  funext a
  apply Fin.ext
  match a with
  | ⟨0, _⟩ => show cc0_transform_5 (grid0.coords t) 0 * 1 + 1 * 0 = 0; rw [(map5 t).1]
  | ⟨1, _⟩ => show cc0_transform_5 (grid0.coords t) 1 * 1024 + 1 * d.val = d.val; rw [(map5 t).2]; omega

theorem val6 (d : Fin 1024) (k : Fin 512) : (iblk m c 6 t : Vec Ideal S1024x512 .bf16) (ix2 d k)
    = A6 m c (ix2 d (colOf ⟨t.val % 15 * 512 + k.val, by omega⟩)) := by
  refine Eq.trans ?_ (V_w m c d ⟨t.val % 15 * 512 + k.val, by omega⟩)
  unfold iblk
  refine (View.read_apply _ _).trans ?_
  show V m c main_v10 _ = V m c main_v10 _
  congr 1
  funext a
  apply Fin.ext
  match a with
  | ⟨0, _⟩ => show cc0_transform_6 (grid0.coords t) 0 * 1024 + 1 * d.val = d.val; rw [(map6 t).1]; omega
  | ⟨1, _⟩ => show cc0_transform_6 (grid0.coords t) 1 * 512 + 1 * k.val = t.val % 15 * 512 + k.val; rw [(map6 t).2]; omega

theorem val7 (d : Fin 1024) (k : Fin 128) : (iblk m c 7 t : Vec Ideal S1024x128 .bf16) (ix2 d k)
    = if h : k.val < 8 then A6 m c (ix2 d ⟨2048 + k.val, by omega⟩) else 0 := by
  refine Eq.trans ?_ (V_wif m c d k)
  unfold iblk
  refine (View.read_apply _ _).trans ?_
  show V m c main_v11 _ = V m c main_v11 _
  congr 1
  funext a
  apply Fin.ext
  match a with
  | ⟨0, _⟩ => show cc0_transform_7 (grid0.coords t) 0 * 1024 + 1 * d.val = d.val; rw [(map7 t).1]; omega
  | ⟨1, _⟩ => show cc0_transform_7 (grid0.coords t) 1 * 128 + 1 * k.val = k.val; rw [(map7 t).2]; omega

theorem val8 (k : Fin 128) : (iblk m c 8 t : Vec Ideal S1x128 .f32) (ix2 0 k)
    = if h : k.val < 8 then A7 m c (ix1 ⟨k.val, h⟩) else 0 := by
  refine Eq.trans ?_ (V_bif m c k)
  unfold iblk
  refine (View.read_apply _ _).trans ?_
  show V m c main_v8 _ = V m c main_v8 _
  congr 1
  funext a
  apply Fin.ext
  match a with
  | ⟨0, _⟩ => show cc0_transform_8 (grid0.coords t) 0 * 1 + 1 * 0 = 0; rw [(map8 t).1]
  | ⟨1, _⟩ => show cc0_transform_8 (grid0.coords t) 1 * 128 + 1 * k.val = k.val; rw [(map8 t).2]; omega

theorem start_lt : (start t.val).val / 120 = t.val / 120 ∧ (start t.val).val / 15 % 8 = t.val / 15 % 8 := by
  have := start_val t
  have := t_lt t
  constructor <;> omega

theorem start_b : (⟨(start t.val).val / 120, by have := t_lt (start t.val); omega⟩ : Fin 2) = ⟨t.val / 120, by have := t_lt t; omega⟩ := Fin.ext (start_lt t).1

theorem start_n (n : Fin 1024) : (⟨(start t.val).val / 15 % 8 * 1024 + n.val, by omega⟩ : Fin 8192) = ⟨t.val / 15 % 8 * 1024 + n.val, by omega⟩ :=
  Fin.ext (congrArg (fun q => q * 1024 + n.val) (start_lt t).2)

/-- The column's activations are the argument's. -/
theorem hAt_apply (n d : Fin 1024) : hAt m c t.val (ix2 n d) = hid (A0 m c) (A1 m c) (A2 m c) (A3 m c) (A4 m c) (A5 m c) ⟨t.val / 120, by have := t_lt t; omega⟩ ⟨t.val / 15 % 8 * 1024 + n.val, by omega⟩ d := by
  unfold hAt
  refine (hVal_apply _ _ _ _ _ _ _ _).trans ?_
  simp only [val0, val1, val2, val3, val4, val5, start_b, start_n]
  rfl

/-- A written block's element read back off the whole array. -/
theorem blk9_read (X : Vec Ideal S2x8192x7680 .bf16) (n : Fin 1024) (k : Fin 512) :
    (((cfg0.win 9).blk t).view.read (Elt Ideal) X : Vec Ideal S1x1024x512 .bf16) (ix3 0 n k)
      = X (ix3 ⟨t.val / 120, by have := t_lt t; omega⟩ ⟨t.val / 15 % 8 * 1024 + n.val, by omega⟩ ⟨t.val % 15 * 512 + k.val, by omega⟩) := by
  refine (View.read_apply _ _).trans ?_
  show X _ = X _
  congr 1
  funext a
  apply Fin.ext
  match a with
  | ⟨0, _⟩ => show cc0_transform_9 (grid0.coords t) 0 * 1 + 1 * 0 = t.val / 120; rw [(map9 t).1]; omega
  | ⟨1, _⟩ => show cc0_transform_9 (grid0.coords t) 1 * 1024 + 1 * n.val = t.val / 15 % 8 * 1024 + n.val; rw [(map9 t).2.1]; omega
  | ⟨2, _⟩ => show cc0_transform_9 (grid0.coords t) 2 * 512 + 1 * k.val = (t.val % 15) * 512 + k.val; rw [(map9 t).2.2]; omega

/-- What a point leaves in its block. -/
theorem out9_apply (n : Fin 1024) (k : Fin 512) : (k0_pay5 (hAt m c t.val) (iblk m c 6 t) : Vec Ideal S1x1024x512 .bf16) (ix3 0 n k)
    = total9 (A0 m c) (A1 m c) (A2 m c) (A3 m c) (A4 m c) (A5 m c) (A6 m c) (ix3 ⟨t.val / 120, by have := t_lt t; omega⟩ ⟨t.val / 15 % 8 * 1024 + n.val, by omega⟩ ⟨t.val % 15 * 512 + k.val, by omega⟩) := by
  refine (u_apply _ _ _ _).trans ?_
  simp only [hAt_apply, val6]
  rfl

theorem flushed9_eq : (dats m 0 c).flushed 9 t = ((cfg0.win 9).blk t).view.read (Elt Ideal) (total9 (A0 m c) (A1 m c) (A2 m c) (A3 m c) (A4 m c) (A5 m c) (A6 m c)) := by
  have key : (k0_pay5 (hAt m c t.val) (iblk m c 6 t) : Vec Ideal S1x1024x512 .bf16)
      = (((cfg0.win 9).blk t).view.read (Elt Ideal) (total9 (A0 m c) (A1 m c) (A2 m c) (A3 m c) (A4 m c) (A5 m c) (A6 m c)) : Vec Ideal S1x1024x512 .bf16) := by
    funext y
    rw [eq_ix3 (n0 := 1) (n1 := 1024) (n2 := 512) y, show y 0 = (0 : Fin 1) from Subsingleton.elim (α := Fin 1) _ _]
    exact (out9_apply m c t _ _).trans (blk9_read t (total9 (A0 m c) (A1 m c) (A2 m c) (A3 m c) (A4 m c) (A5 m c) (A6 m c)) _ _).symm
  refine Eq.trans ?_ key
  show (cfg0.win 9).cut (grid0.coords t) ((dats m 0 c).after 9 t) = _
  rw [after_9]
  rfl

/-- The array at the end: every element is some point's. -/
theorem final9 : (dats m 0 c).arrAt 9 cfg0.N = total9 (A0 m c) (A1 m c) (A2 m c) (A3 m c) (A4 m c) (A5 m c) (A6 m c) :=
  (dats m 0 c).arrAt_eq_of_cover 9 (total9 (A0 m c) (A1 m c) (A2 m c) (A3 m c) (A4 m c) (A5 m c) (A6 m c)) (fun t _ => flushed9_eq m c t) fun (i : S2x8192x7680.Idx) => by
    have h0 : ((i 0 : Fin 2) : ℕ) < 2 := (i 0 : Fin 2).isLt
    have h1 : ((i 1 : Fin 8192) : ℕ) < 8192 := (i 1 : Fin 8192).isLt
    have h2 : ((i 2 : Fin 7680) : ℕ) < 7680 := (i 2 : Fin 7680).isLt
    have hlt : 120 * (i 0 : Fin 2).val + 15 * ((i 1 : Fin 8192).val / 1024) + (i 2 : Fin 7680).val / 512 < cfg0.N := by
      have hN : cfg0.N = 240 := N_0
      omega
    refine ⟨⟨120 * (i 0 : Fin 2).val + 15 * ((i 1 : Fin 8192).val / 1024) + (i 2 : Fin 7680).val / 512, hlt⟩, flush0_9 _, ?_⟩
    refine (congrArg (i ∈ ·) (View.set_slice_whole main_v12_0 _)).mpr ?_
    refine Rect.mem_set_unit.mpr ?_
    intro a
    match a with
    | ⟨0, _⟩ =>
      show cc0_transform_9 (grid0.coords ⟨120 * (i 0 : Fin 2).val + 15 * ((i 1 : Fin 8192).val / 1024) + (i 2 : Fin 7680).val / 512, hlt⟩) 0 * 1 ≤ (i 0 : Fin 2).val ∧ (i 0 : Fin 2).val < cc0_transform_9 (grid0.coords ⟨120 * (i 0 : Fin 2).val + 15 * ((i 1 : Fin 8192).val / 1024) + (i 2 : Fin 7680).val / 512, hlt⟩) 0 * 1 + 1
      rw [(map9 _).1]
      dsimp only
      omega
    | ⟨1, _⟩ =>
      show cc0_transform_9 (grid0.coords ⟨120 * (i 0 : Fin 2).val + 15 * ((i 1 : Fin 8192).val / 1024) + (i 2 : Fin 7680).val / 512, hlt⟩) 1 * 1024 ≤ (i 1 : Fin 8192).val ∧ (i 1 : Fin 8192).val < cc0_transform_9 (grid0.coords ⟨120 * (i 0 : Fin 2).val + 15 * ((i 1 : Fin 8192).val / 1024) + (i 2 : Fin 7680).val / 512, hlt⟩) 1 * 1024 + 1024
      rw [(map9 _).2.1]
      dsimp only
      omega
    | ⟨2, _⟩ =>
      show cc0_transform_9 (grid0.coords ⟨120 * (i 0 : Fin 2).val + 15 * ((i 1 : Fin 8192).val / 1024) + (i 2 : Fin 7680).val / 512, hlt⟩) 2 * 512 ≤ (i 2 : Fin 7680).val ∧ (i 2 : Fin 7680).val < cc0_transform_9 (grid0.coords ⟨120 * (i 0 : Fin 2).val + 15 * ((i 1 : Fin 8192).val / 1024) + (i 2 : Fin 7680).val / 512, hlt⟩) 2 * 512 + 512
      rw [(map9 _).2.2]
      dsimp only
      omega

/-- A written block's element read back off the whole array. -/
theorem blk10_read (X : Vec Ideal S2x8192x1024 .f32) (n : Fin 1024) (k : Fin 512) :
    (((cfg0.win 10).blk t).view.read (Elt Ideal) X : Vec Ideal S1x1024x512 .f32) (ix3 0 n k)
      = X (ix3 ⟨t.val / 120, by have := t_lt t; omega⟩ ⟨t.val / 15 % 8 * 1024 + n.val, by omega⟩ ⟨(t.val % 15 - 13) * 512 + k.val, by omega⟩) := by
  refine (View.read_apply _ _).trans ?_
  show X _ = X _
  congr 1
  funext a
  apply Fin.ext
  match a with
  | ⟨0, _⟩ => show cc0_transform_10 (grid0.coords t) 0 * 1 + 1 * 0 = t.val / 120; rw [(map10 t).1]; omega
  | ⟨1, _⟩ => show cc0_transform_10 (grid0.coords t) 1 * 1024 + 1 * n.val = t.val / 15 % 8 * 1024 + n.val; rw [(map10 t).2.1]; omega
  | ⟨2, _⟩ => show cc0_transform_10 (grid0.coords t) 2 * 512 + 1 * k.val = (t.val % 15 - 13) * 512 + k.val; rw [(map10 t).2.2]; omega

/-- What a point leaves in its block. -/
theorem out10_apply (h13 : 13 ≤ t.val % 15) (n : Fin 1024) (k : Fin 512) : (k0_pay6 (hAt m c t.val) (iblk m c 6 t) : Vec Ideal S1x1024x512 .f32) (ix3 0 n k)
    = total10 (A0 m c) (A1 m c) (A2 m c) (A3 m c) (A4 m c) (A5 m c) (A6 m c) (ix3 ⟨t.val / 120, by have := t_lt t; omega⟩ ⟨t.val / 15 % 8 * 1024 + n.val, by omega⟩ ⟨(t.val % 15 - 13) * 512 + k.val, by omega⟩) := by
  refine (kv_apply _ _ _ _).trans ?_
  simp only [hAt_apply, val6]
  have e : colOf ⟨t.val % 15 * 512 + k.val, by omega⟩ = kvCol ⟨(t.val % 15 - 13) * 512 + k.val, by omega⟩ := by
    apply Fin.ext
    rw [colOf_val]
    show (if t.val % 15 * 512 + k.val < 2048 then _ else if t.val % 15 * 512 + k.val < 3072 then _ else if t.val % 15 * 512 + k.val < 6144 then _ else t.val % 15 * 512 + k.val - 3064) = 3592 + ((t.val % 15 - 13) * 512 + k.val)
    rw [if_neg (by omega), if_neg (by omega), if_neg (by omega)]
    omega
  rw [e]
  rfl

theorem flushed10_eq (h13 : 13 ≤ t.val % 15) : (dats m 0 c).flushed 10 t = ((cfg0.win 10).blk t).view.read (Elt Ideal) (total10 (A0 m c) (A1 m c) (A2 m c) (A3 m c) (A4 m c) (A5 m c) (A6 m c)) := by
  have key : (k0_pay6 (hAt m c t.val) (iblk m c 6 t) : Vec Ideal S1x1024x512 .f32)
      = (((cfg0.win 10).blk t).view.read (Elt Ideal) (total10 (A0 m c) (A1 m c) (A2 m c) (A3 m c) (A4 m c) (A5 m c) (A6 m c)) : Vec Ideal S1x1024x512 .f32) := by
    funext y
    rw [eq_ix3 (n0 := 1) (n1 := 1024) (n2 := 512) y, show y 0 = (0 : Fin 1) from Subsingleton.elim (α := Fin 1) _ _]
    exact (out10_apply m c t h13 _ _).trans (blk10_read t (total10 (A0 m c) (A1 m c) (A2 m c) (A3 m c) (A4 m c) (A5 m c) (A6 m c)) _ _).symm
  refine Eq.trans ?_ key
  show (cfg0.win 10).cut (grid0.coords t) ((dats m 0 c).after 10 t) = _
  rw [after_10]
  rfl

/-- The array at the end: every element is some point's. -/
theorem final10 : (dats m 0 c).arrAt 10 cfg0.N = total10 (A0 m c) (A1 m c) (A2 m c) (A3 m c) (A4 m c) (A5 m c) (A6 m c) :=
  (dats m 0 c).arrAt_eq_of_cover 10 (total10 (A0 m c) (A1 m c) (A2 m c) (A3 m c) (A4 m c) (A5 m c) (A6 m c)) (fun t hf => flushed10_eq m c t (by
      by_contra h
      have := flush10 t (by omega)
      exact Bool.false_ne_true (this.symm.trans hf))) fun (i : S2x8192x1024.Idx) => by
    have h0 : ((i 0 : Fin 2) : ℕ) < 2 := (i 0 : Fin 2).isLt
    have h1 : ((i 1 : Fin 8192) : ℕ) < 8192 := (i 1 : Fin 8192).isLt
    have h2 : ((i 2 : Fin 1024) : ℕ) < 1024 := (i 2 : Fin 1024).isLt
    have hlt : 120 * (i 0 : Fin 2).val + 15 * ((i 1 : Fin 8192).val / 1024) + (13 + (i 2 : Fin 1024).val / 512) < cfg0.N := by
      have hN : cfg0.N = 240 := N_0
      omega
    refine ⟨⟨120 * (i 0 : Fin 2).val + 15 * ((i 1 : Fin 8192).val / 1024) + (13 + (i 2 : Fin 1024).val / 512), hlt⟩, flush_kv _ (by dsimp only; omega), ?_⟩
    refine (congrArg (i ∈ ·) (View.set_slice_whole main_v12_1 _)).mpr ?_
    refine Rect.mem_set_unit.mpr ?_
    intro a
    match a with
    | ⟨0, _⟩ =>
      show cc0_transform_10 (grid0.coords ⟨120 * (i 0 : Fin 2).val + 15 * ((i 1 : Fin 8192).val / 1024) + (13 + (i 2 : Fin 1024).val / 512), hlt⟩) 0 * 1 ≤ (i 0 : Fin 2).val ∧ (i 0 : Fin 2).val < cc0_transform_10 (grid0.coords ⟨120 * (i 0 : Fin 2).val + 15 * ((i 1 : Fin 8192).val / 1024) + (13 + (i 2 : Fin 1024).val / 512), hlt⟩) 0 * 1 + 1
      rw [(map10 _).1]
      dsimp only
      omega
    | ⟨1, _⟩ =>
      show cc0_transform_10 (grid0.coords ⟨120 * (i 0 : Fin 2).val + 15 * ((i 1 : Fin 8192).val / 1024) + (13 + (i 2 : Fin 1024).val / 512), hlt⟩) 1 * 1024 ≤ (i 1 : Fin 8192).val ∧ (i 1 : Fin 8192).val < cc0_transform_10 (grid0.coords ⟨120 * (i 0 : Fin 2).val + 15 * ((i 1 : Fin 8192).val / 1024) + (13 + (i 2 : Fin 1024).val / 512), hlt⟩) 1 * 1024 + 1024
      rw [(map10 _).2.1]
      dsimp only
      omega
    | ⟨2, _⟩ =>
      show cc0_transform_10 (grid0.coords ⟨120 * (i 0 : Fin 2).val + 15 * ((i 1 : Fin 8192).val / 1024) + (13 + (i 2 : Fin 1024).val / 512), hlt⟩) 2 * 512 ≤ (i 2 : Fin 1024).val ∧ (i 2 : Fin 1024).val < cc0_transform_10 (grid0.coords ⟨120 * (i 0 : Fin 2).val + 15 * ((i 1 : Fin 8192).val / 1024) + (13 + (i 2 : Fin 1024).val / 512), hlt⟩) 2 * 512 + 512
      rw [(map10 _).2.2]
      dsimp only
      omega

/-- A written block's element read back off the whole array. -/
theorem blk11_read (X : Vec Ideal S2x8192x128 .f32) (n : Fin 1024) (k : Fin 128) :
    (((cfg0.win 11).blk t).view.read (Elt Ideal) X : Vec Ideal S1x1024x128 .f32) (ix3 0 n k)
      = X (ix3 ⟨t.val / 120, by have := t_lt t; omega⟩ ⟨t.val / 15 % 8 * 1024 + n.val, by omega⟩ k) := by
  refine (View.read_apply _ _).trans ?_
  show X _ = X _
  congr 1
  funext a
  apply Fin.ext
  match a with
  | ⟨0, _⟩ => show cc0_transform_11 (grid0.coords t) 0 * 1 + 1 * 0 = t.val / 120; rw [(map11 t).1]; omega
  | ⟨1, _⟩ => show cc0_transform_11 (grid0.coords t) 1 * 1024 + 1 * n.val = t.val / 15 % 8 * 1024 + n.val; rw [(map11 t).2.1]; omega
  | ⟨2, _⟩ => show cc0_transform_11 (grid0.coords t) 2 * 128 + 1 * k.val = k.val; rw [(map11 t).2.2]; omega

/-- What a point leaves in its block. -/
theorem out11_apply (n : Fin 1024) (k : Fin 128) : (ifAt m c t.val : Vec Ideal S1x1024x128 .f32) (ix3 0 n k)
    = total11 (A0 m c) (A1 m c) (A2 m c) (A3 m c) (A4 m c) (A5 m c) (A6 m c) (A7 m c) (ix3 ⟨t.val / 120, by have := t_lt t; omega⟩ ⟨t.val / 15 % 8 * 1024 + n.val, by omega⟩ k) := by
  unfold ifAt
  refine (if_apply _ _ _ _ _ _ _ _ _ _).trans ?_
  have e : ∀ d, hVal (iblk m c 0 (start t.val)) (iblk m c 1 (start t.val)) (iblk m c 2 (start t.val)) (iblk m c 3 (start t.val)) (iblk m c 4 (start t.val)) (iblk m c 5 (start t.val)) (ix2 n d)
      = hid (A0 m c) (A1 m c) (A2 m c) (A3 m c) (A4 m c) (A5 m c) ⟨t.val / 120, by have := t_lt t; omega⟩ ⟨t.val / 15 % 8 * 1024 + n.val, by omega⟩ d := fun d => hAt_apply m c t n d
  simp only [e, val7, val8]
  unfold total11
  by_cases h : k.val < 8
  · simp only [dif_pos h]
    rw [dif_pos (show ((ix3 (n0 := 2) (n1 := 8192) (n2 := 128) ⟨t.val / 120, by have := t_lt t; omega⟩ ⟨t.val / 15 % 8 * 1024 + n.val, by omega⟩ k) 2 : Fin 128).val < 8 from h)]
    rfl
  · simp only [dif_neg h, mul_zero, Finset.sum_const_zero, add_zero]
    rw [dif_neg (show ¬((ix3 (n0 := 2) (n1 := 8192) (n2 := 128) ⟨t.val / 120, by have := t_lt t; omega⟩ ⟨t.val / 15 % 8 * 1024 + n.val, by omega⟩ k) 2 : Fin 128).val < 8 from h)]

theorem flushed11_eq : (dats m 0 c).flushed 11 t = ((cfg0.win 11).blk t).view.read (Elt Ideal) (total11 (A0 m c) (A1 m c) (A2 m c) (A3 m c) (A4 m c) (A5 m c) (A6 m c) (A7 m c)) := by
  have key : (ifAt m c t.val : Vec Ideal S1x1024x128 .f32)
      = (((cfg0.win 11).blk t).view.read (Elt Ideal) (total11 (A0 m c) (A1 m c) (A2 m c) (A3 m c) (A4 m c) (A5 m c) (A6 m c) (A7 m c)) : Vec Ideal S1x1024x128 .f32) := by
    funext y
    rw [eq_ix3 (n0 := 1) (n1 := 1024) (n2 := 128) y, show y 0 = (0 : Fin 1) from Subsingleton.elim (α := Fin 1) _ _]
    exact (out11_apply m c t _ _).trans (blk11_read t (total11 (A0 m c) (A1 m c) (A2 m c) (A3 m c) (A4 m c) (A5 m c) (A6 m c) (A7 m c)) _ _).symm
  refine Eq.trans ?_ key
  show (cfg0.win 11).cut (grid0.coords t) ((dats m 0 c).after 11 t) = _
  rw [after_11]
  rfl

/-- The array at the end: every element is some point's. -/
theorem final11 : (dats m 0 c).arrAt 11 cfg0.N = total11 (A0 m c) (A1 m c) (A2 m c) (A3 m c) (A4 m c) (A5 m c) (A6 m c) (A7 m c) :=
  (dats m 0 c).arrAt_eq_of_cover 11 (total11 (A0 m c) (A1 m c) (A2 m c) (A3 m c) (A4 m c) (A5 m c) (A6 m c) (A7 m c)) (fun t _ => flushed11_eq m c t) fun (i : S2x8192x128.Idx) => by
    have h0 : ((i 0 : Fin 2) : ℕ) < 2 := (i 0 : Fin 2).isLt
    have h1 : ((i 1 : Fin 8192) : ℕ) < 8192 := (i 1 : Fin 8192).isLt
    have h2 : ((i 2 : Fin 128) : ℕ) < 128 := (i 2 : Fin 128).isLt
    have hlt : 120 * (i 0 : Fin 2).val + 15 * ((i 1 : Fin 8192).val / 1024) + 14 < cfg0.N := by
      have hN : cfg0.N = 240 := N_0
      omega
    refine ⟨⟨120 * (i 0 : Fin 2).val + 15 * ((i 1 : Fin 8192).val / 1024) + 14, hlt⟩, (flush0_11 _).mpr (by dsimp only; omega), ?_⟩
    refine (congrArg (i ∈ ·) (View.set_slice_whole main_v12_2 _)).mpr ?_
    refine Rect.mem_set_unit.mpr ?_
    intro a
    match a with
    | ⟨0, _⟩ =>
      show cc0_transform_11 (grid0.coords ⟨120 * (i 0 : Fin 2).val + 15 * ((i 1 : Fin 8192).val / 1024) + 14, hlt⟩) 0 * 1 ≤ (i 0 : Fin 2).val ∧ (i 0 : Fin 2).val < cc0_transform_11 (grid0.coords ⟨120 * (i 0 : Fin 2).val + 15 * ((i 1 : Fin 8192).val / 1024) + 14, hlt⟩) 0 * 1 + 1
      rw [(map11 _).1]
      dsimp only
      omega
    | ⟨1, _⟩ =>
      show cc0_transform_11 (grid0.coords ⟨120 * (i 0 : Fin 2).val + 15 * ((i 1 : Fin 8192).val / 1024) + 14, hlt⟩) 1 * 1024 ≤ (i 1 : Fin 8192).val ∧ (i 1 : Fin 8192).val < cc0_transform_11 (grid0.coords ⟨120 * (i 0 : Fin 2).val + 15 * ((i 1 : Fin 8192).val / 1024) + 14, hlt⟩) 1 * 1024 + 1024
      rw [(map11 _).2.1]
      dsimp only
      omega
    | ⟨2, _⟩ =>
      show cc0_transform_11 (grid0.coords ⟨120 * (i 0 : Fin 2).val + 15 * ((i 1 : Fin 8192).val / 1024) + 14, hlt⟩) 2 * 128 ≤ (i 2 : Fin 128).val ∧ (i 2 : Fin 128).val < cc0_transform_11 (grid0.coords ⟨120 * (i 0 : Fin 2).val + 15 * ((i 1 : Fin 8192).val / 1024) + 14, hlt⟩) 2 * 128 + 128
      rw [(map11 _).2.2]
      dsimp only
      omega

/-- A written block's element read back off the whole array. -/
theorem blk12_read (X : Vec Ideal S2x8192x1024 .f32) (n : Fin 1024) (k : Fin 1024) :
    (((cfg0.win 12).blk t).view.read (Elt Ideal) X : Vec Ideal S1x1024x1024 .f32) (ix3 0 n k)
      = X (ix3 ⟨t.val / 120, by have := t_lt t; omega⟩ ⟨t.val / 15 % 8 * 1024 + n.val, by omega⟩ k) := by
  refine (View.read_apply _ _).trans ?_
  show X _ = X _
  congr 1
  funext a
  apply Fin.ext
  match a with
  | ⟨0, _⟩ => show cc0_transform_12 (grid0.coords t) 0 * 1 + 1 * 0 = t.val / 120; rw [(map12 t).1]; omega
  | ⟨1, _⟩ => show cc0_transform_12 (grid0.coords t) 1 * 1024 + 1 * n.val = t.val / 15 % 8 * 1024 + n.val; rw [(map12 t).2.1]; omega
  | ⟨2, _⟩ => show cc0_transform_12 (grid0.coords t) 2 * 1024 + 1 * k.val = k.val; rw [(map12 t).2.2]; omega

/-- What a point leaves in its block. -/
theorem out12_apply (n : Fin 1024) (k : Fin 1024) : (xoAt m c t.val : Vec Ideal S1x1024x1024 .f32) (ix3 0 n k)
    = total12 (A0 m c) (A1 m c) (A2 m c) (ix3 ⟨t.val / 120, by have := t_lt t; omega⟩ ⟨t.val / 15 % 8 * 1024 + n.val, by omega⟩ k) := by
  unfold xoAt
  refine (xo_apply _ _ _ _ _).trans ?_
  simp only [val0, val1, val2, start_b, start_n]
  rfl

theorem flushed12_eq : (dats m 0 c).flushed 12 t = ((cfg0.win 12).blk t).view.read (Elt Ideal) (total12 (A0 m c) (A1 m c) (A2 m c)) := by
  have key : (xoAt m c t.val : Vec Ideal S1x1024x1024 .f32)
      = (((cfg0.win 12).blk t).view.read (Elt Ideal) (total12 (A0 m c) (A1 m c) (A2 m c)) : Vec Ideal S1x1024x1024 .f32) := by
    funext y
    rw [eq_ix3 (n0 := 1) (n1 := 1024) (n2 := 1024) y, show y 0 = (0 : Fin 1) from Subsingleton.elim (α := Fin 1) _ _]
    exact (out12_apply m c t _ _).trans (blk12_read t (total12 (A0 m c) (A1 m c) (A2 m c)) _ _).symm
  refine Eq.trans ?_ key
  show (cfg0.win 12).cut (grid0.coords t) ((dats m 0 c).after 12 t) = _
  rw [after_12]
  rfl

/-- The array at the end: every element is some point's. -/
theorem final12 : (dats m 0 c).arrAt 12 cfg0.N = total12 (A0 m c) (A1 m c) (A2 m c) :=
  (dats m 0 c).arrAt_eq_of_cover 12 (total12 (A0 m c) (A1 m c) (A2 m c)) (fun t _ => flushed12_eq m c t) fun (i : S2x8192x1024.Idx) => by
    have h0 : ((i 0 : Fin 2) : ℕ) < 2 := (i 0 : Fin 2).isLt
    have h1 : ((i 1 : Fin 8192) : ℕ) < 8192 := (i 1 : Fin 8192).isLt
    have h2 : ((i 2 : Fin 1024) : ℕ) < 1024 := (i 2 : Fin 1024).isLt
    have hlt : 120 * (i 0 : Fin 2).val + 15 * ((i 1 : Fin 8192).val / 1024) + 14 < cfg0.N := by
      have hN : cfg0.N = 240 := N_0
      omega
    refine ⟨⟨120 * (i 0 : Fin 2).val + 15 * ((i 1 : Fin 8192).val / 1024) + 14, hlt⟩, (flush0_12 _).mpr (by dsimp only; omega), ?_⟩
    refine (congrArg (i ∈ ·) (View.set_slice_whole main_v12_3 _)).mpr ?_
    refine Rect.mem_set_unit.mpr ?_
    intro a
    match a with
    | ⟨0, _⟩ =>
      show cc0_transform_12 (grid0.coords ⟨120 * (i 0 : Fin 2).val + 15 * ((i 1 : Fin 8192).val / 1024) + 14, hlt⟩) 0 * 1 ≤ (i 0 : Fin 2).val ∧ (i 0 : Fin 2).val < cc0_transform_12 (grid0.coords ⟨120 * (i 0 : Fin 2).val + 15 * ((i 1 : Fin 8192).val / 1024) + 14, hlt⟩) 0 * 1 + 1
      rw [(map12 _).1]
      dsimp only
      omega
    | ⟨1, _⟩ =>
      show cc0_transform_12 (grid0.coords ⟨120 * (i 0 : Fin 2).val + 15 * ((i 1 : Fin 8192).val / 1024) + 14, hlt⟩) 1 * 1024 ≤ (i 1 : Fin 8192).val ∧ (i 1 : Fin 8192).val < cc0_transform_12 (grid0.coords ⟨120 * (i 0 : Fin 2).val + 15 * ((i 1 : Fin 8192).val / 1024) + 14, hlt⟩) 1 * 1024 + 1024
      rw [(map12 _).2.1]
      dsimp only
      omega
    | ⟨2, _⟩ =>
      show cc0_transform_12 (grid0.coords ⟨120 * (i 0 : Fin 2).val + 15 * ((i 1 : Fin 8192).val / 1024) + 14, hlt⟩) 2 * 1024 ≤ (i 2 : Fin 1024).val ∧ (i 2 : Fin 1024).val < cc0_transform_12 (grid0.coords ⟨120 * (i 0 : Fin 2).val + 15 * ((i 1 : Fin 8192).val / 1024) + 14, hlt⟩) 2 * 1024 + 1024
      rw [(map12 _).2.2]
      dsimp only
      omega

end Cert.InProjIdeal.Result

namespace Cert.InProjReferenceIdeal.Result

open Cert.InProjReferenceIdeal Cert.InProjReferenceIdeal.Gen Idealize.ShloMosaic Idealize.ShloMosaic.TcCoe Idealize.SL.Sem Idealize.ShloMosaic.StableHlo
open Cert.InProjIdeal.Result

/-- The reference's projections. -/
def uval (x : FVec Ideal S2x8192x1024 .f32) (ff : FVec Ideal S2x8192x1024 .f32) (g : FVec Ideal S2x1x1024 .f32) (sh : FVec Ideal S2x1x1024 .f32) (sc : FVec Ideal S2x1x1024 .f32) (nw : FVec Ideal S1024 .f32) (w : FVec Ideal S1024x7688 .f32) : FVec Ideal S2x8192x7688 .f32 :=
  Host.dotGeneral dot_S2x8192x1024_S1024x7688_S2x8192x7688_2_0_01_1_n_n none (addf (mulf (mulf (mulf (addf x (mulf (broadcastInDim S2x8192x1024 ![0, 1, 2] bcast_S2x1x1024_S2x8192x1024_0_1_2 g) ff)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (addf x (mulf (broadcastInDim S2x8192x1024 ![0, 1, 2] bcast_S2x1x1024_S2x8192x1024_0_1_2 g) ff)) (addf x (mulf (broadcastInDim S2x8192x1024 ![0, 1, 2] bcast_S2x1x1024_S2x8192x1024_0_1_2 g) ff))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 nw))) (broadcastInDim S2x8192x1024 ![0, 1, 2] bcast_S2x1x1024_S2x8192x1024_0_1_2 (addf (broadcastInDim S2x1x1024 ![] bcast_S_S2x1x1024 (constant S_ .f32 0x3F800000#32)) sc))) (broadcastInDim S2x8192x1024 ![0, 1, 2] bcast_S2x1x1024_S2x8192x1024_0_1_2 sh)) w

theorem uval_apply (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) (b : Fin 2) (n : Fin 8192) (k : Fin 7688) : uval x ff g sh sc nw w (ix3 b n k) = proj x ff g sh sc nw w b n k := by
  pointwise [uval]
  rfl

/-- The reference's term for a result, over its arguments. -/
def value9 (x : FVec Ideal S2x8192x1024 .f32) (ff : FVec Ideal S2x8192x1024 .f32) (g : FVec Ideal S2x1x1024 .f32) (sh : FVec Ideal S2x1x1024 .f32) (sc : FVec Ideal S2x1x1024 .f32) (nw : FVec Ideal S1024 .f32) (w : FVec Ideal S1024x7688 .f32) : FVec Ideal S2x8192x7680 .bf16 :=
  truncf .bf16 ((concatenate S2x8192x7680 2 [⟨S2x8192x2048, ((extractStridedSlice S2x8192x2048 ![0, 0, 0] (uval x ff g sh sc nw w) slices_S2x8192x7688_S2x8192x2048_0_0_0) : (⟨S2x8192x2048, .f32⟩ : BufTy).Contents (Elt Ideal))⟩, ⟨S2x8192x1024, ((extractStridedSlice S2x8192x1024 ![0, 0, 2056] (uval x ff g sh sc nw w) slices_S2x8192x7688_S2x8192x1024_0_0_2056) : (⟨S2x8192x1024, .f32⟩ : BufTy).Contents (Elt Ideal))⟩, ⟨S2x8192x3072, ((extractStridedSlice S2x8192x3072 ![0, 0, 4616] (uval x ff g sh sc nw w) slices_S2x8192x7688_S2x8192x3072_0_0_4616) : (⟨S2x8192x3072, .f32⟩ : BufTy).Contents (Elt Ideal))⟩, ⟨S2x8192x1536, ((extractStridedSlice S2x8192x1536 ![0, 0, 3080] (uval x ff g sh sc nw w) slices_S2x8192x7688_S2x8192x1536_0_0_3080) : (⟨S2x8192x1536, .f32⟩ : BufTy).Contents (Elt Ideal))⟩] concatenates_S2x8192x2048_S2x8192x1024_S2x8192x3072_S2x8192x1536_S2x8192x7680_d2 : (⟨S2x8192x7680, .f32⟩ : BufTy).Contents (Elt Ideal))) bitsLt_bf16_f32

/-- The reference's term for a result, over its arguments. -/
def value10 (x : FVec Ideal S2x8192x1024 .f32) (ff : FVec Ideal S2x8192x1024 .f32) (g : FVec Ideal S2x1x1024 .f32) (sh : FVec Ideal S2x1x1024 .f32) (sc : FVec Ideal S2x1x1024 .f32) (nw : FVec Ideal S1024 .f32) (w : FVec Ideal S1024x7688 .f32) : FVec Ideal S2x8192x1024 .f32 :=
  extractStridedSlice S2x8192x1024 ![0, 0, 3592] (uval x ff g sh sc nw w) slices_S2x8192x7688_S2x8192x1024_0_0_3592

/-- The reference's term for a result, over its arguments. -/
def value11 (x : FVec Ideal S2x8192x1024 .f32) (ff : FVec Ideal S2x8192x1024 .f32) (g : FVec Ideal S2x1x1024 .f32) (sh : FVec Ideal S2x1x1024 .f32) (sc : FVec Ideal S2x1x1024 .f32) (nw : FVec Ideal S1024 .f32) (w : FVec Ideal S1024x7688 .f32) (gb : FVec Ideal S8 .f32) : FVec Ideal S2x8192x128 .f32 :=
  pad S2x8192x128 ![0, 0, 0] ![0, 0, 120] ![0, 0, 0] (addf (extractStridedSlice S2x8192x8 ![0, 0, 2048] (uval x ff g sh sc nw w) slices_S2x8192x7688_S2x8192x8_0_0_2048) (broadcastInDim S2x8192x8 ![0, 1, 2] bcast_S1x1x8_S2x8192x8_0_1_2 (broadcastInDim S1x1x8 ![2] bcast_S8_S1x1x8_2 gb))) (sitofp .f32 (constantI S_ 32 0#32)) pads_S2x8192x8_S2x8192x128_000_000_01200 h_S_

/-- The reference's term for a result, over its arguments. -/
def value12 (x : FVec Ideal S2x8192x1024 .f32) (ff : FVec Ideal S2x8192x1024 .f32) (g : FVec Ideal S2x1x1024 .f32) : FVec Ideal S2x8192x1024 .f32 :=
  addf x (mulf (broadcastInDim S2x8192x1024 ![0, 1, 2] bcast_S2x1x1024_S2x8192x1024_0_1_2 g) ff)

theorem value9_eq (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) (b : Fin 2) (n : Fin 8192) (k : Fin 7680) : value9 x ff g sh sc nw w (ix3 b n k) = total9 x ff g sh sc nw w (ix3 b n k) := by
  pointwise [value9]
  simp only [uval_apply]
  unfold total9
  show _ = proj x ff g sh sc nw w b n (colOf k)
  have key : ∀ q : Fin 7688, q.val = (colOf k).val → proj x ff g sh sc nw w b n q = proj x ff g sh sc nw w b n (colOf k) := fun q h => congrArg _ (Fin.ext h)
  split_ifs with h1 h2 h3 <;> (refine key _ ?_; rw [colOf_val]; dsimp only; split_ifs <;> omega)

theorem value10_eq (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) (b : Fin 2) (n : Fin 8192) (k : Fin 1024) : value10 x ff g sh sc nw w (ix3 b n k) = total10 x ff g sh sc nw w (ix3 b n k) := by
  pointwise [value10]
  simp only [uval_apply]
  rfl

theorem value11_eq (x : Vec Ideal S2x8192x1024 .f32) (ff : Vec Ideal S2x8192x1024 .f32) (g : Vec Ideal S2x1x1024 .f32) (sh : Vec Ideal S2x1x1024 .f32) (sc : Vec Ideal S2x1x1024 .f32) (nw : Vec Ideal S1024 .f32) (w : Vec Ideal S1024x7688 .f32) (gb : Vec Ideal S8 .f32) (b : Fin 2) (n : Fin 8192) (k : Fin 128) : value11 x ff g sh sc nw w gb (ix3 b n k) = total11 x ff g sh sc nw w gb (ix3 b n k) := by
  pointwise [value11]
  simp only [uval_apply]
  unfold total11
  show _ = if h : k.val < 8 then proj x ff g sh sc nw w b n ⟨2048 + k.val, by omega⟩ + gb (ix1 ⟨k.val, h⟩) else 0
  split_ifs
  · rfl
  · show ((((0#32 : BitVec 32).toInt : ℝ) : EReal)) = 0
    simp

theorem value12_eq (x : Vec Ideal S2x8192x1024 .f32) (ff : Vec Ideal S2x8192x1024 .f32) (g : Vec Ideal S2x1x1024 .f32) (b : Fin 2) (n : Fin 8192) (k : Fin 1024) : value12 x ff g (ix3 b n k) = total12 x ff g (ix3 b n k) := by
  pointwise [value12]
  rfl

end Cert.InProjReferenceIdeal.Result

end
-- ==== Proof.AttendTile.lean ====
/-
  One tile of 512 keys of the attention, in the eight groups of 128 rows: the scores, the two logarithms, the sums over later keys and the weights at an element.
-/
module

public import proofs.«01_k».proof.Proof.Gen.AttendIdeal.Value
public import proofs.«01_k».proof.Proof.Norm

@[expose] public section

set_option maxRecDepth 16384

noncomputable section

namespace Cert.AttendIdeal.Sb

open Cert.AttendIdeal Cert.AttendIdeal.Gen
open Idealize.ShloMosaic Idealize.ShloMosaic.TcCoe

/-- The score of query row `r` against key `c` of a tile, with the head's bias. -/
def zval (qs : Vec Ideal S1024x256 .bf16) (kt : Vec Ideal S1x512x256 .bf16) (b : EReal) (r : Fin 1024) (c : Fin 512) : EReal :=
  (∑ x : Fin 256, qs (ix2 r x) * kt (ix3 0 c x)) + b

/-- The log of the sigmoid of a score, as the body writes it. -/
def lbf (z : EReal) : EReal := min z 0 - Ideal.log (1 + Ideal.exp (0 - FloatOps.absf (F := Ideal) (φ := .f32) z))

/-- The log of one minus that sigmoid. -/
def l1f (z : EReal) : EReal := lbf z - z

/-- A weight of the tile: the row's two blocks of 256 keys, the second one first in the running sum `C`. -/
def wgt (lb l1 : Vec Ideal S128x512 .f32) (u0 u1 : Fin 256 → EReal) (C : EReal) (a : Fin 128) (c : Fin 512) : EReal :=
  if h : c.val < 256 then
    Ideal.exp (lb (ix2 a c) + u0 ⟨c.val, h⟩ + (C + ∑ x : Fin 256, l1 (ix2 a ⟨256 + x.val, by omega⟩)))
  else Ideal.exp (lb (ix2 a c) + u1 ⟨c.val - 256, by omega⟩ + C)

/-- A product of a stack of 2048 rows with the triangle, read at an index. -/
theorem lat_mm (S : FVec Ideal S2048x256 .bf16) (tri : Vec Ideal S256x256 .bf16) (p : Fin 2048) (c : Fin 256) :
    matmul dot_S2048x256_S256x256_S2048x256_1_0_0_1_n_n none S (shapeCast S256x256 tri shapeCasts_S256x256_S256x256 : FVec Ideal S256x256 .bf16)
      (constant S2048x256 .f32 0x00000000#32 : FVec Ideal S2048x256 .f32) (ix2 p c) = ∑ x : Fin 256, S (ix2 p x) * tri (ix2 x c) := by
  pointwise

/-- A product of a stack of 1024 rows of weights with the values, added to what was there. -/
theorem acc_mm (S : FVec Ideal S1024x512 .bf16) (V : FVec Ideal S512x256 .bf16) (acc : Vec Ideal S1024x256 .f32) (p : Fin 1024) (l : Fin 256) :
    shapeCast S1024x256 (addf acc (matmul dot_S1024x512_S512x256_S1024x256_1_0_0_1_n_n none S V
      (constant S1024x256 .f32 0x00000000#32 : FVec Ideal S1024x256 .f32) : FVec Ideal S1024x256 .f32)) shapeCasts_S1024x256_S1024x256 (ix2 p l)
      = acc (ix2 p l) + ∑ x : Fin 512, S (ix2 p x) * V (ix2 x l) := by
  pointwise

/-- A stack of pieces of 128 rows, read in piece `k`. -/
theorem rows_piece {α : Type} {n m : Nat} (xs : List ((s : Shape) × (s.Idx → α)))
    (h : Shape.Concatenates (xs.map (·.1)) (⟨2, ![n, m]⟩ : Shape) 0)
    (k : Nat) (hk : k < xs.length) (x₁ : (⟨2, ![128, m]⟩ : Shape).Idx → α) (hxk : xs[k] = ⟨⟨2, ![128, m]⟩, x₁⟩)
    (pre : Nat)
    (hpre : (((xs.take k).map (·.1)).map fun s => if h : s.rank = (⟨2, ![n, m]⟩ : Shape).rank then s.size ((0 : Fin (⟨2, ![n, m]⟩ : Shape).rank).cast h.symm) else 0).sum = pre)
    (a : Fin 128) (c : Fin m) (p : Fin n) (hp : p.val = pre + a.val) :
    concatenate (⟨2, ![n, m]⟩ : Shape) 0 xs h (ix2 p c) = x₁ (ix2 a c) := by
  refine concatenate_apply_piece 0 xs h _ k hk _ x₁ hxk rfl pre hpre (ix2 a c) (fun b hb => ?_) hp.symm
  fin_cases b
  · exact absurd rfl hb
  · rfl

theorem t_lb0 (qs : Vec Ideal S1024x256 .bf16) (v266 : EReal) (kt : Vec Ideal S1x512x256 .bf16) (a : Fin 128) (c : Fin 512) :
    (k0_pay5 qs v266 kt) (ix2 a c) = lbf (zval qs kt v266 ⟨a.val, by omega⟩ c) := by
  pointwise [k0_pay3, k0_pay4, k0_pay5]
  rfl

theorem t_l10 (qs : Vec Ideal S1024x256 .bf16) (v266 : EReal) (kt : Vec Ideal S1x512x256 .bf16) (a : Fin 128) (c : Fin 512) :
    (k0_pay6 qs v266 kt) (ix2 a c) = l1f (zval qs kt v266 ⟨a.val, by omega⟩ c) := by
  pointwise [k0_pay3, k0_pay4, k0_pay5, k0_pay6]
  rfl

theorem t_lb1 (qs : Vec Ideal S1024x256 .bf16) (v270 : EReal) (kt : Vec Ideal S1x512x256 .bf16) (a : Fin 128) (c : Fin 512) :
    (k0_pay8 qs v270 kt) (ix2 a c) = lbf (zval qs kt v270 ⟨128 + a.val, by omega⟩ c) := by
  pointwise [k0_pay3, k0_pay7, k0_pay8]
  rfl

theorem t_l11 (qs : Vec Ideal S1024x256 .bf16) (v270 : EReal) (kt : Vec Ideal S1x512x256 .bf16) (a : Fin 128) (c : Fin 512) :
    (k0_pay9 qs v270 kt) (ix2 a c) = l1f (zval qs kt v270 ⟨128 + a.val, by omega⟩ c) := by
  pointwise [k0_pay3, k0_pay7, k0_pay8, k0_pay9]
  rfl

theorem t_lb2 (qs : Vec Ideal S1024x256 .bf16) (v274 : EReal) (kt : Vec Ideal S1x512x256 .bf16) (a : Fin 128) (c : Fin 512) :
    (k0_pay12 (k0_pay10 qs v274 kt) (k0_pay11 qs v274 kt)) (ix2 a c) = lbf (zval qs kt v274 ⟨256 + a.val, by omega⟩ c) := by
  pointwise [k0_pay3, k0_pay10, k0_pay11, k0_pay12]
  rfl

theorem t_l12 (qs : Vec Ideal S1024x256 .bf16) (v274 : EReal) (kt : Vec Ideal S1x512x256 .bf16) (a : Fin 128) (c : Fin 512) :
    (k0_pay13 (k0_pay10 qs v274 kt) (k0_pay11 qs v274 kt)) (ix2 a c) = l1f (zval qs kt v274 ⟨256 + a.val, by omega⟩ c) := by
  pointwise [k0_pay3, k0_pay10, k0_pay11, k0_pay12, k0_pay13]
  rfl

theorem t_lb3 (v278 : EReal) (qs : Vec Ideal S1024x256 .bf16) (kt : Vec Ideal S1x512x256 .bf16) (a : Fin 128) (c : Fin 512) :
    (k0_pay15 v278 (k0_pay3 qs kt)) (ix2 a c) = lbf (zval qs kt v278 ⟨384 + a.val, by omega⟩ c) := by
  pointwise [k0_pay3, k0_pay14, k0_pay15]
  rfl

theorem t_l13 (v278 : EReal) (qs : Vec Ideal S1024x256 .bf16) (kt : Vec Ideal S1x512x256 .bf16) (a : Fin 128) (c : Fin 512) :
    (k0_pay16 v278 (k0_pay3 qs kt)) (ix2 a c) = l1f (zval qs kt v278 ⟨384 + a.val, by omega⟩ c) := by
  pointwise [k0_pay3, k0_pay14, k0_pay15, k0_pay16]
  rfl

theorem t_lb4 (v266 : EReal) (qs : Vec Ideal S1024x256 .bf16) (kt : Vec Ideal S1x512x256 .bf16) (a : Fin 128) (c : Fin 512) :
    (k0_pay18 v266 (k0_pay3 qs kt)) (ix2 a c) = lbf (zval qs kt v266 ⟨512 + a.val, by omega⟩ c) := by
  pointwise [k0_pay3, k0_pay17, k0_pay18]
  rfl

theorem t_l14 (v266 : EReal) (qs : Vec Ideal S1024x256 .bf16) (kt : Vec Ideal S1x512x256 .bf16) (a : Fin 128) (c : Fin 512) :
    (k0_pay19 v266 (k0_pay3 qs kt)) (ix2 a c) = l1f (zval qs kt v266 ⟨512 + a.val, by omega⟩ c) := by
  pointwise [k0_pay3, k0_pay17, k0_pay18, k0_pay19]
  rfl

theorem t_lb5 (v270 : EReal) (qs : Vec Ideal S1024x256 .bf16) (kt : Vec Ideal S1x512x256 .bf16) (a : Fin 128) (c : Fin 512) :
    (k0_pay21 v270 (k0_pay3 qs kt)) (ix2 a c) = lbf (zval qs kt v270 ⟨640 + a.val, by omega⟩ c) := by
  pointwise [k0_pay3, k0_pay20, k0_pay21]
  rfl

theorem t_l15 (v270 : EReal) (qs : Vec Ideal S1024x256 .bf16) (kt : Vec Ideal S1x512x256 .bf16) (a : Fin 128) (c : Fin 512) :
    (k0_pay22 (k0_pay20 v270 (k0_pay3 qs kt)) (k0_pay21 v270 (k0_pay3 qs kt))) (ix2 a c) = l1f (zval qs kt v270 ⟨640 + a.val, by omega⟩ c) := by
  pointwise [k0_pay3, k0_pay20, k0_pay21, k0_pay22]
  rfl

theorem t_lb6 (v274 : EReal) (qs : Vec Ideal S1024x256 .bf16) (kt : Vec Ideal S1x512x256 .bf16) (a : Fin 128) (c : Fin 512) :
    (k0_pay24 v274 (k0_pay3 qs kt)) (ix2 a c) = lbf (zval qs kt v274 ⟨768 + a.val, by omega⟩ c) := by
  pointwise [k0_pay3, k0_pay23, k0_pay24]
  rfl

theorem t_l16 (v274 : EReal) (qs : Vec Ideal S1024x256 .bf16) (kt : Vec Ideal S1x512x256 .bf16) (a : Fin 128) (c : Fin 512) :
    (k0_pay25 v274 (k0_pay3 qs kt)) (ix2 a c) = l1f (zval qs kt v274 ⟨768 + a.val, by omega⟩ c) := by
  pointwise [k0_pay3, k0_pay23, k0_pay24, k0_pay25]
  rfl

theorem t_lb7 (v278 : EReal) (qs : Vec Ideal S1024x256 .bf16) (kt : Vec Ideal S1x512x256 .bf16) (a : Fin 128) (c : Fin 512) :
    (k0_pay27 v278 (k0_pay3 qs kt)) (ix2 a c) = lbf (zval qs kt v278 ⟨896 + a.val, by omega⟩ c) := by
  pointwise [k0_pay3, k0_pay26, k0_pay27]
  rfl

theorem t_l17 (v278 : EReal) (qs : Vec Ideal S1024x256 .bf16) (kt : Vec Ideal S1x512x256 .bf16) (a : Fin 128) (c : Fin 512) :
    (k0_pay28 v278 (k0_pay3 qs kt)) (ix2 a c) = l1f (zval qs kt v278 ⟨896 + a.val, by omega⟩ c) := by
  pointwise [k0_pay3, k0_pay26, k0_pay27, k0_pay28]
  rfl

section
variable (v270 : EReal) (qs : Vec Ideal S1024x256 .bf16) (kt : Vec Ideal S1x512x256 .bf16) (v274 : EReal) (v278 : EReal) (l1_0 : Vec Ideal S128x512 .f32) (l1_1 : Vec Ideal S128x512 .f32) (l1_2 : Vec Ideal S128x512 .f32) (l1_3 : Vec Ideal S128x512 .f32) (l1_4 : Vec Ideal S128x512 .f32) (tri : Vec Ideal S256x256 .bf16) (a : Fin 128) (c : Fin 256)
include v270 qs kt v274 v278 l1_0 l1_1 l1_2 l1_3 l1_4 tri a c

theorem t_lat0_0 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨a.val, by omega⟩ c) = ∑ x : Fin 256, l1_0 (ix2 a ⟨x.val, by omega⟩) * tri (ix2 x c) := by
  unfold k0_pay42
  refine (lat_mm _ tri _ c).trans (Finset.sum_congr rfl fun x _ => congrArg (· * tri (ix2 x c)) ?_)
  refine (rows_piece _ _ 0 (Nat.le_of_ble_eq_true rfl) _ rfl 0 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat0_1 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨128 + a.val, by omega⟩ c) = ∑ x : Fin 256, l1_1 (ix2 a ⟨x.val, by omega⟩) * tri (ix2 x c) := by
  unfold k0_pay42
  refine (lat_mm _ tri _ c).trans (Finset.sum_congr rfl fun x _ => congrArg (· * tri (ix2 x c)) ?_)
  refine (rows_piece _ _ 1 (Nat.le_of_ble_eq_true rfl) _ rfl 128 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat0_2 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨256 + a.val, by omega⟩ c) = ∑ x : Fin 256, l1_2 (ix2 a ⟨x.val, by omega⟩) * tri (ix2 x c) := by
  unfold k0_pay42
  refine (lat_mm _ tri _ c).trans (Finset.sum_congr rfl fun x _ => congrArg (· * tri (ix2 x c)) ?_)
  refine (rows_piece _ _ 2 (Nat.le_of_ble_eq_true rfl) _ rfl 256 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat0_3 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨384 + a.val, by omega⟩ c) = ∑ x : Fin 256, l1_3 (ix2 a ⟨x.val, by omega⟩) * tri (ix2 x c) := by
  unfold k0_pay42
  refine (lat_mm _ tri _ c).trans (Finset.sum_congr rfl fun x _ => congrArg (· * tri (ix2 x c)) ?_)
  refine (rows_piece _ _ 3 (Nat.le_of_ble_eq_true rfl) _ rfl 384 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat0_4 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨512 + a.val, by omega⟩ c) = ∑ x : Fin 256, l1_4 (ix2 a ⟨x.val, by omega⟩) * tri (ix2 x c) := by
  unfold k0_pay42
  refine (lat_mm _ tri _ c).trans (Finset.sum_congr rfl fun x _ => congrArg (· * tri (ix2 x c)) ?_)
  refine (rows_piece _ _ 4 (Nat.le_of_ble_eq_true rfl) _ rfl 512 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat0_5 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨640 + a.val, by omega⟩ c) = ∑ x : Fin 256, (k0_pay22 (k0_pay20 v270 (k0_pay3 qs kt)) (k0_pay21 v270 (k0_pay3 qs kt))) (ix2 a ⟨x.val, by omega⟩) * tri (ix2 x c) := by
  unfold k0_pay42
  refine (lat_mm _ tri _ c).trans (Finset.sum_congr rfl fun x _ => congrArg (· * tri (ix2 x c)) ?_)
  refine (rows_piece _ _ 5 (Nat.le_of_ble_eq_true rfl) _ rfl 640 (by simp [S128x256, Shape.size, Shape.rank]) a x _ (by first | rfl | (dsimp only; omega))).trans ?_
  pointwise [k0_pay3, k0_pay20, k0_pay21, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat0_6 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨768 + a.val, by omega⟩ c) = ∑ x : Fin 256, (k0_pay25 v274 (k0_pay3 qs kt)) (ix2 a ⟨x.val, by omega⟩) * tri (ix2 x c) := by
  unfold k0_pay42
  refine (lat_mm _ tri _ c).trans (Finset.sum_congr rfl fun x _ => congrArg (· * tri (ix2 x c)) ?_)
  refine (rows_piece _ _ 6 (Nat.le_of_ble_eq_true rfl) _ rfl 768 (by simp [S128x256, Shape.size, Shape.rank]) a x _ (by first | rfl | (dsimp only; omega))).trans ?_
  pointwise [k0_pay3, k0_pay20, k0_pay21, k0_pay22, k0_pay26, k0_pay27, k0_pay28, k0_pay29, k0_pay30, k0_pay31, k0_pay32, k0_pay33, k0_pay34, k0_pay35, k0_pay36, k0_pay37, k0_pay38, k0_pay39, k0_pay40, k0_pay41]

theorem t_lat0_7 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨896 + a.val, by omega⟩ c) = ∑ x : Fin 256, (k0_pay28 v278 (k0_pay3 qs kt)) (ix2 a ⟨x.val, by omega⟩) * tri (ix2 x c) := by
  unfold k0_pay42
  refine (lat_mm _ tri _ c).trans (Finset.sum_congr rfl fun x _ => congrArg (· * tri (ix2 x c)) ?_)
  refine (rows_piece _ _ 7 (Nat.le_of_ble_eq_true rfl) _ rfl 896 (by simp [S128x256, Shape.size, Shape.rank]) a x _ (by first | rfl | (dsimp only; omega))).trans ?_
  pointwise [k0_pay3, k0_pay20, k0_pay21, k0_pay22, k0_pay23, k0_pay24, k0_pay25, k0_pay29, k0_pay30, k0_pay31, k0_pay32, k0_pay33, k0_pay34, k0_pay35, k0_pay36, k0_pay37, k0_pay38, k0_pay39, k0_pay40, k0_pay41]

theorem t_lat1_0 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1024 + a.val, by omega⟩ c) = ∑ x : Fin 256, l1_0 (ix2 a ⟨256 + x.val, by omega⟩) * tri (ix2 x c) := by
  unfold k0_pay42
  refine (lat_mm _ tri _ c).trans (Finset.sum_congr rfl fun x _ => congrArg (· * tri (ix2 x c)) ?_)
  refine (rows_piece _ _ 8 (Nat.le_of_ble_eq_true rfl) _ rfl 1024 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat1_1 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1152 + a.val, by omega⟩ c) = ∑ x : Fin 256, l1_1 (ix2 a ⟨256 + x.val, by omega⟩) * tri (ix2 x c) := by
  unfold k0_pay42
  refine (lat_mm _ tri _ c).trans (Finset.sum_congr rfl fun x _ => congrArg (· * tri (ix2 x c)) ?_)
  refine (rows_piece _ _ 9 (Nat.le_of_ble_eq_true rfl) _ rfl 1152 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat1_2 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1280 + a.val, by omega⟩ c) = ∑ x : Fin 256, l1_2 (ix2 a ⟨256 + x.val, by omega⟩) * tri (ix2 x c) := by
  unfold k0_pay42
  refine (lat_mm _ tri _ c).trans (Finset.sum_congr rfl fun x _ => congrArg (· * tri (ix2 x c)) ?_)
  refine (rows_piece _ _ 10 (Nat.le_of_ble_eq_true rfl) _ rfl 1280 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat1_3 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1408 + a.val, by omega⟩ c) = ∑ x : Fin 256, l1_3 (ix2 a ⟨256 + x.val, by omega⟩) * tri (ix2 x c) := by
  unfold k0_pay42
  refine (lat_mm _ tri _ c).trans (Finset.sum_congr rfl fun x _ => congrArg (· * tri (ix2 x c)) ?_)
  refine (rows_piece _ _ 11 (Nat.le_of_ble_eq_true rfl) _ rfl 1408 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat1_4 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1536 + a.val, by omega⟩ c) = ∑ x : Fin 256, l1_4 (ix2 a ⟨256 + x.val, by omega⟩) * tri (ix2 x c) := by
  unfold k0_pay42
  refine (lat_mm _ tri _ c).trans (Finset.sum_congr rfl fun x _ => congrArg (· * tri (ix2 x c)) ?_)
  refine (rows_piece _ _ 12 (Nat.le_of_ble_eq_true rfl) _ rfl 1536 (by simp [S128x256, Shape.size, Shape.rank]) a x _ (by first | rfl | (dsimp only; omega))).trans ?_
  pointwise [k0_pay3, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat1_5 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1664 + a.val, by omega⟩ c) = ∑ x : Fin 256, (k0_pay22 (k0_pay20 v270 (k0_pay3 qs kt)) (k0_pay21 v270 (k0_pay3 qs kt))) (ix2 a ⟨256 + x.val, by omega⟩) * tri (ix2 x c) := by
  unfold k0_pay42
  refine (lat_mm _ tri _ c).trans (Finset.sum_congr rfl fun x _ => congrArg (· * tri (ix2 x c)) ?_)
  refine (rows_piece _ _ 13 (Nat.le_of_ble_eq_true rfl) _ rfl 1664 (by simp [S128x256, Shape.size, Shape.rank]) a x _ (by first | rfl | (dsimp only; omega))).trans ?_
  pointwise [k0_pay3, k0_pay20, k0_pay21, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41]

theorem t_lat1_6 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1792 + a.val, by omega⟩ c) = ∑ x : Fin 256, (k0_pay25 v274 (k0_pay3 qs kt)) (ix2 a ⟨256 + x.val, by omega⟩) * tri (ix2 x c) := by
  unfold k0_pay42
  refine (lat_mm _ tri _ c).trans (Finset.sum_congr rfl fun x _ => congrArg (· * tri (ix2 x c)) ?_)
  refine (rows_piece _ _ 14 (Nat.le_of_ble_eq_true rfl) _ rfl 1792 (by simp [S128x256, Shape.size, Shape.rank]) a x _ (by first | rfl | (dsimp only; omega))).trans ?_
  pointwise [k0_pay3, k0_pay20, k0_pay21, k0_pay22, k0_pay26, k0_pay27, k0_pay28, k0_pay29, k0_pay30, k0_pay31, k0_pay32, k0_pay33, k0_pay34, k0_pay35, k0_pay36, k0_pay37, k0_pay38, k0_pay39, k0_pay40, k0_pay41]

theorem t_lat1_7 :
    (k0_pay42 (k0_pay22 (k0_pay20 v270 (k0_pay3 qs kt)) (k0_pay21 v270 (k0_pay3 qs kt))) (k0_pay25 v274 (k0_pay3 qs kt)) (k0_pay28 v278 (k0_pay3 qs kt)) (k0_pay29 l1_0) (k0_pay30 l1_1) (k0_pay31 l1_2) (k0_pay32 l1_3) (k0_pay33 l1_4) (k0_pay34 (k0_pay20 v270 (k0_pay3 qs kt)) (k0_pay21 v270 (k0_pay3 qs kt))) (k0_pay35 v274 (k0_pay3 qs kt)) (k0_pay36 v278 (k0_pay3 qs kt)) (k0_pay37 l1_0) (k0_pay38 l1_1) (k0_pay39 l1_2) (k0_pay40 l1_3) (k0_pay41 l1_4) tri) (ix2 ⟨1920 + a.val, by omega⟩ c) = ∑ x : Fin 256, (k0_pay28 v278 (k0_pay3 qs kt)) (ix2 a ⟨256 + x.val, by omega⟩) * tri (ix2 x c) := by
  unfold k0_pay42
  refine (lat_mm _ tri _ c).trans (Finset.sum_congr rfl fun x _ => congrArg (· * tri (ix2 x c)) ?_)
  refine (rows_piece _ _ 15 (Nat.le_of_ble_eq_true rfl) _ rfl 1920 (by simp [S128x256, Shape.size, Shape.rank]) a x _ (by first | rfl | (dsimp only; omega))).trans ?_
  pointwise [k0_pay3, k0_pay20, k0_pay21, k0_pay22, k0_pay23, k0_pay24, k0_pay25, k0_pay29, k0_pay30, k0_pay31, k0_pay32, k0_pay33, k0_pay34, k0_pay35, k0_pay36, k0_pay37, k0_pay38, k0_pay39, k0_pay40, k0_pay41]

end

theorem t_car0 (l1 : Vec Ideal S128x512 .f32) (car : Vec Ideal S1x128x128 .f32) (a l : Fin 128) :
    (k0_pay45 l1 car) (ix3 0 a l) = (car (ix3 0 a l) + ∑ x : Fin 256, l1 (ix2 a ⟨256 + x.val, by omega⟩)) + ∑ x : Fin 256, l1 (ix2 a ⟨x.val, by omega⟩) := by
  pointwise [k0_pay43, k0_pay44, k0_pay45]

theorem t_car1 (l1 : Vec Ideal S128x512 .f32) (car : Vec Ideal S1x128x128 .f32) (a l : Fin 128) :
    (k0_pay50 l1 (k0_pay47 car)) (ix3 0 a l) = (car (ix3 0 a l) + ∑ x : Fin 256, l1 (ix2 a ⟨256 + x.val, by omega⟩)) + ∑ x : Fin 256, l1 (ix2 a ⟨x.val, by omega⟩) := by
  pointwise [k0_pay47, k0_pay49, k0_pay50]

theorem t_car2 (l1 : Vec Ideal S128x512 .f32) (car : Vec Ideal S1x128x128 .f32) (a l : Fin 128) :
    (k0_pay57 (k0_pay56 l1 car)) (ix3 0 a l) = (car (ix3 0 a l) + ∑ x : Fin 256, l1 (ix2 a ⟨256 + x.val, by omega⟩)) + ∑ x : Fin 256, l1 (ix2 a ⟨x.val, by omega⟩) := by
  pointwise [k0_pay52, k0_pay54, k0_pay56, k0_pay57]

theorem t_car3 (l1 : Vec Ideal S128x512 .f32) (car : Vec Ideal S1x128x128 .f32) (a l : Fin 128) :
    (k0_pay61 l1 car) (ix3 0 a l) = (car (ix3 0 a l) + ∑ x : Fin 256, l1 (ix2 a ⟨256 + x.val, by omega⟩)) + ∑ x : Fin 256, l1 (ix2 a ⟨x.val, by omega⟩) := by
  pointwise [k0_pay59, k0_pay60, k0_pay61]

theorem t_car4 (l1 : Vec Ideal S128x512 .f32) (car : Vec Ideal S1x128x128 .f32) (a l : Fin 128) :
    (k0_pay67 l1 (k0_pay63 car) (k0_pay65 l1)) (ix3 0 a l) = (car (ix3 0 a l) + ∑ x : Fin 256, l1 (ix2 a ⟨256 + x.val, by omega⟩)) + ∑ x : Fin 256, l1 (ix2 a ⟨x.val, by omega⟩) := by
  pointwise [k0_pay63, k0_pay65, k0_pay66, k0_pay67]

theorem t_car5 (l1 : Vec Ideal S128x512 .f32) (car : Vec Ideal S1x128x128 .f32) (a l : Fin 128) :
    (k0_pay73 l1 car) (ix3 0 a l) = (car (ix3 0 a l) + ∑ x : Fin 256, l1 (ix2 a ⟨256 + x.val, by omega⟩)) + ∑ x : Fin 256, l1 (ix2 a ⟨x.val, by omega⟩) := by
  pointwise [k0_pay69, k0_pay71, k0_pay73]

theorem t_car6 (l1 : Vec Ideal S128x512 .f32) (car : Vec Ideal S1x128x128 .f32) (a l : Fin 128) :
    (k0_pay77 l1 car) (ix3 0 a l) = (car (ix3 0 a l) + ∑ x : Fin 256, l1 (ix2 a ⟨256 + x.val, by omega⟩)) + ∑ x : Fin 256, l1 (ix2 a ⟨x.val, by omega⟩) := by
  pointwise [k0_pay75, k0_pay76, k0_pay77]

theorem t_car7 (l1 : Vec Ideal S128x512 .f32) (car : Vec Ideal S1x128x128 .f32) (a l : Fin 128) :
    (k0_pay264 l1 (k0_pay81 l1 car)) (ix3 0 a l) = (car (ix3 0 a l) + ∑ x : Fin 256, l1 (ix2 a ⟨256 + x.val, by omega⟩)) + ∑ x : Fin 256, l1 (ix2 a ⟨x.val, by omega⟩) := by
  pointwise [k0_pay79, k0_pay81, k0_pay264]

theorem t_A0 (lb : Vec Ideal S128x512 .f32) (l1 : Vec Ideal S128x512 .f32) (l1_5 : Vec Ideal S128x512 .f32) (l1_6 : Vec Ideal S128x512 .f32) (l1_7 : Vec Ideal S128x512 .f32) (s21 : Vec Ideal S128x256 .bf16) (s22 : Vec Ideal S128x256 .bf16) (s23 : Vec Ideal S128x256 .bf16) (s24 : Vec Ideal S128x256 .bf16) (s25 : Vec Ideal S128x256 .bf16) (s26 : Vec Ideal S128x256 .bf16) (s27 : Vec Ideal S128x256 .bf16) (s28 : Vec Ideal S128x256 .bf16) (s29 : Vec Ideal S128x256 .bf16) (s30 : Vec Ideal S128x256 .bf16) (s31 : Vec Ideal S128x256 .bf16) (s32 : Vec Ideal S128x256 .bf16) (s33 : Vec Ideal S128x256 .f32) (tri : Vec Ideal S256x256 .bf16) (car : Vec Ideal S1x128x128 .f32) (a : Fin 128) (C : EReal) (hcar : ∀ l, car (ix3 0 a l) = C) (c : Fin 512) :
    (k0_pay46 lb l1 l1_5 l1_6 l1_7 s21 s22 s23 s24 s25 s26 s27 s28 s29 s30 s31 s32 s33 tri car) (ix2 a c) = wgt lb l1 (fun x => (k0_pay42 l1_5 l1_6 l1_7 s21 s22 s23 s24 s25 s26 s27 s28 s29 s30 s31 s32 s33 tri) (ix2 ⟨a.val, by omega⟩ x)) (fun x => (k0_pay42 l1_5 l1_6 l1_7 s21 s22 s23 s24 s25 s26 s27 s28 s29 s30 s31 s32 s33 tri) (ix2 ⟨1024 + a.val, by omega⟩ x)) C a c := by
  pointwise [k0_pay43, k0_pay44, k0_pay46]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem t_A1 (lb : Vec Ideal S128x512 .f32) (l1 : Vec Ideal S128x512 .f32) (lat : Vec Ideal S2048x256 .f32) (car : Vec Ideal S1x128x128 .f32) (l1_5 : Vec Ideal S128x512 .f32) (l1_6 : Vec Ideal S128x512 .f32) (l1_7 : Vec Ideal S128x512 .f32) (s21 : Vec Ideal S128x256 .bf16) (s22 : Vec Ideal S128x256 .bf16) (s23 : Vec Ideal S128x256 .bf16) (s24 : Vec Ideal S128x256 .bf16) (s25 : Vec Ideal S128x256 .bf16) (s26 : Vec Ideal S128x256 .bf16) (s27 : Vec Ideal S128x256 .bf16) (s28 : Vec Ideal S128x256 .bf16) (s29 : Vec Ideal S128x256 .bf16) (s30 : Vec Ideal S128x256 .bf16) (s31 : Vec Ideal S128x256 .bf16) (s32 : Vec Ideal S128x256 .bf16) (s33 : Vec Ideal S128x256 .f32) (tri : Vec Ideal S256x256 .bf16) (a : Fin 128) (C : EReal) (hcar : ∀ l, car (ix3 0 a l) = C) (c : Fin 512) :
    (k0_pay51 lb l1 lat (k0_pay47 car) (k0_pay48 lb l1_5 l1_6 l1_7 s21 s22 s23 s24 s25 s26 s27 s28 s29 s30 s31 s32 s33 tri)) (ix2 a c) = wgt lb l1 (fun x => lat (ix2 ⟨128 + a.val, by omega⟩ x)) (fun x => (k0_pay42 l1_5 l1_6 l1_7 s21 s22 s23 s24 s25 s26 s27 s28 s29 s30 s31 s32 s33 tri) (ix2 ⟨1152 + a.val, by omega⟩ x)) C a c := by
  pointwise [k0_pay47, k0_pay48, k0_pay49, k0_pay51]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem t_A2 (lb : Vec Ideal S128x512 .f32) (lat : Vec Ideal S2048x256 .f32) (car : Vec Ideal S1x128x128 .f32) (l1 : Vec Ideal S128x512 .f32) (a : Fin 128) (C : EReal) (hcar : ∀ l, car (ix3 0 a l) = C) (c : Fin 512) :
    (k0_pay58 (k0_pay53 lb lat car) (k0_pay55 lb l1 lat car)) (ix2 a c) = wgt lb l1 (fun x => lat (ix2 ⟨256 + a.val, by omega⟩ x)) (fun x => lat (ix2 ⟨1280 + a.val, by omega⟩ x)) C a c := by
  pointwise [k0_pay52, k0_pay53, k0_pay54, k0_pay55, k0_pay58]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem t_A3 (lb : Vec Ideal S128x512 .f32) (l1 : Vec Ideal S128x512 .f32) (lat : Vec Ideal S2048x256 .f32) (car : Vec Ideal S1x128x128 .f32) (a : Fin 128) (C : EReal) (hcar : ∀ l, car (ix3 0 a l) = C) (c : Fin 512) :
    (k0_pay62 lb l1 lat car) (ix2 a c) = wgt lb l1 (fun x => lat (ix2 ⟨384 + a.val, by omega⟩ x)) (fun x => lat (ix2 ⟨1408 + a.val, by omega⟩ x)) C a c := by
  pointwise [k0_pay59, k0_pay60, k0_pay62]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem t_A4 (lb : Vec Ideal S128x512 .f32) (lat : Vec Ideal S2048x256 .f32) (car : Vec Ideal S1x128x128 .f32) (l1 : Vec Ideal S128x512 .f32) (a : Fin 128) (C : EReal) (hcar : ∀ l, car (ix3 0 a l) = C) (c : Fin 512) :
    (k0_pay68 lb lat (k0_pay63 car) (k0_pay64 lb lat car) (k0_pay65 l1)) (ix2 a c) = wgt lb l1 (fun x => lat (ix2 ⟨512 + a.val, by omega⟩ x)) (fun x => lat (ix2 ⟨1536 + a.val, by omega⟩ x)) C a c := by
  pointwise [k0_pay63, k0_pay64, k0_pay65, k0_pay66, k0_pay68]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem t_A5 (lb : Vec Ideal S128x512 .f32) (lat : Vec Ideal S2048x256 .f32) (car : Vec Ideal S1x128x128 .f32) (l1 : Vec Ideal S128x512 .f32) (a : Fin 128) (C : EReal) (hcar : ∀ l, car (ix3 0 a l) = C) (c : Fin 512) :
    (k0_pay74 (k0_pay70 lb lat car) (k0_pay72 lb l1 lat car)) (ix2 a c) = wgt lb l1 (fun x => lat (ix2 ⟨640 + a.val, by omega⟩ x)) (fun x => lat (ix2 ⟨1664 + a.val, by omega⟩ x)) C a c := by
  pointwise [k0_pay69, k0_pay70, k0_pay71, k0_pay72, k0_pay74]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem t_A6 (lb : Vec Ideal S128x512 .f32) (l1 : Vec Ideal S128x512 .f32) (lat : Vec Ideal S2048x256 .f32) (car : Vec Ideal S1x128x128 .f32) (a : Fin 128) (C : EReal) (hcar : ∀ l, car (ix3 0 a l) = C) (c : Fin 512) :
    (k0_pay78 lb l1 lat car) (ix2 a c) = wgt lb l1 (fun x => lat (ix2 ⟨768 + a.val, by omega⟩ x)) (fun x => lat (ix2 ⟨1792 + a.val, by omega⟩ x)) C a c := by
  pointwise [k0_pay75, k0_pay76, k0_pay78]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem t_acc0 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay265 (k0_pay2 vt) A0 A1 A2 A3 A4 A5 A6 (k0_pay80 lb lat car) (k0_pay81 l1 car) (k0_pay82 lb lat) acc) (ix2 ⟨a.val, by omega⟩ l) = acc (ix2 ⟨a.val, by omega⟩ l) + ∑ c : Fin 512, A0 (ix2 a c) * vt (ix3 0 c l) := by
  unfold k0_pay265
  refine (acc_mm _ _ _ _ l).trans (congrArg _ (Finset.sum_congr rfl fun c _ => ?_))
  refine congrArg₂ (· * ·) ((rows_piece _ _ 0 (Nat.le_of_ble_eq_true rfl) _ rfl 0 (by simp [S128x512, Shape.size, Shape.rank]) a c _ (by first | rfl | (dsimp only; omega))).trans ?_) ?_
  · rfl
  · pointwise [k0_pay2, k0_pay79, k0_pay80, k0_pay81, k0_pay82]

theorem t_acc1 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay265 (k0_pay2 vt) A0 A1 A2 A3 A4 A5 A6 (k0_pay80 lb lat car) (k0_pay81 l1 car) (k0_pay82 lb lat) acc) (ix2 ⟨128 + a.val, by omega⟩ l) = acc (ix2 ⟨128 + a.val, by omega⟩ l) + ∑ c : Fin 512, A1 (ix2 a c) * vt (ix3 0 c l) := by
  unfold k0_pay265
  refine (acc_mm _ _ _ _ l).trans (congrArg _ (Finset.sum_congr rfl fun c _ => ?_))
  refine congrArg₂ (· * ·) ((rows_piece _ _ 1 (Nat.le_of_ble_eq_true rfl) _ rfl 128 (by simp [S128x512, Shape.size, Shape.rank]) a c _ (by first | rfl | (dsimp only; omega))).trans ?_) ?_
  · rfl
  · pointwise [k0_pay2, k0_pay79, k0_pay80, k0_pay81, k0_pay82]

theorem t_acc2 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay265 (k0_pay2 vt) A0 A1 A2 A3 A4 A5 A6 (k0_pay80 lb lat car) (k0_pay81 l1 car) (k0_pay82 lb lat) acc) (ix2 ⟨256 + a.val, by omega⟩ l) = acc (ix2 ⟨256 + a.val, by omega⟩ l) + ∑ c : Fin 512, A2 (ix2 a c) * vt (ix3 0 c l) := by
  unfold k0_pay265
  refine (acc_mm _ _ _ _ l).trans (congrArg _ (Finset.sum_congr rfl fun c _ => ?_))
  refine congrArg₂ (· * ·) ((rows_piece _ _ 2 (Nat.le_of_ble_eq_true rfl) _ rfl 256 (by simp [S128x512, Shape.size, Shape.rank]) a c _ (by first | rfl | (dsimp only; omega))).trans ?_) ?_
  · rfl
  · pointwise [k0_pay2, k0_pay79, k0_pay80, k0_pay81, k0_pay82]

theorem t_acc3 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay265 (k0_pay2 vt) A0 A1 A2 A3 A4 A5 A6 (k0_pay80 lb lat car) (k0_pay81 l1 car) (k0_pay82 lb lat) acc) (ix2 ⟨384 + a.val, by omega⟩ l) = acc (ix2 ⟨384 + a.val, by omega⟩ l) + ∑ c : Fin 512, A3 (ix2 a c) * vt (ix3 0 c l) := by
  unfold k0_pay265
  refine (acc_mm _ _ _ _ l).trans (congrArg _ (Finset.sum_congr rfl fun c _ => ?_))
  refine congrArg₂ (· * ·) ((rows_piece _ _ 3 (Nat.le_of_ble_eq_true rfl) _ rfl 384 (by simp [S128x512, Shape.size, Shape.rank]) a c _ (by first | rfl | (dsimp only; omega))).trans ?_) ?_
  · rfl
  · pointwise [k0_pay2, k0_pay79, k0_pay80, k0_pay81, k0_pay82]

theorem t_acc4 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay265 (k0_pay2 vt) A0 A1 A2 A3 A4 A5 A6 (k0_pay80 lb lat car) (k0_pay81 l1 car) (k0_pay82 lb lat) acc) (ix2 ⟨512 + a.val, by omega⟩ l) = acc (ix2 ⟨512 + a.val, by omega⟩ l) + ∑ c : Fin 512, A4 (ix2 a c) * vt (ix3 0 c l) := by
  unfold k0_pay265
  refine (acc_mm _ _ _ _ l).trans (congrArg _ (Finset.sum_congr rfl fun c _ => ?_))
  refine congrArg₂ (· * ·) ((rows_piece _ _ 4 (Nat.le_of_ble_eq_true rfl) _ rfl 512 (by simp [S128x512, Shape.size, Shape.rank]) a c _ (by first | rfl | (dsimp only; omega))).trans ?_) ?_
  · rfl
  · pointwise [k0_pay2, k0_pay79, k0_pay80, k0_pay81, k0_pay82]

theorem t_acc5 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay265 (k0_pay2 vt) A0 A1 A2 A3 A4 A5 A6 (k0_pay80 lb lat car) (k0_pay81 l1 car) (k0_pay82 lb lat) acc) (ix2 ⟨640 + a.val, by omega⟩ l) = acc (ix2 ⟨640 + a.val, by omega⟩ l) + ∑ c : Fin 512, A5 (ix2 a c) * vt (ix3 0 c l) := by
  unfold k0_pay265
  refine (acc_mm _ _ _ _ l).trans (congrArg _ (Finset.sum_congr rfl fun c _ => ?_))
  refine congrArg₂ (· * ·) ((rows_piece _ _ 5 (Nat.le_of_ble_eq_true rfl) _ rfl 640 (by simp [S128x512, Shape.size, Shape.rank]) a c _ (by first | rfl | (dsimp only; omega))).trans ?_) ?_
  · rfl
  · pointwise [k0_pay2, k0_pay79, k0_pay80, k0_pay81, k0_pay82]

theorem t_acc6 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay265 (k0_pay2 vt) A0 A1 A2 A3 A4 A5 A6 (k0_pay80 lb lat car) (k0_pay81 l1 car) (k0_pay82 lb lat) acc) (ix2 ⟨768 + a.val, by omega⟩ l) = acc (ix2 ⟨768 + a.val, by omega⟩ l) + ∑ c : Fin 512, A6 (ix2 a c) * vt (ix3 0 c l) := by
  unfold k0_pay265
  refine (acc_mm _ _ _ _ l).trans (congrArg _ (Finset.sum_congr rfl fun c _ => ?_))
  refine congrArg₂ (· * ·) ((rows_piece _ _ 6 (Nat.le_of_ble_eq_true rfl) _ rfl 768 (by simp [S128x512, Shape.size, Shape.rank]) a c _ (by first | rfl | (dsimp only; omega))).trans ?_) ?_
  · rfl
  · pointwise [k0_pay2, k0_pay79, k0_pay80, k0_pay81, k0_pay82]

theorem t_acc7 (vt : Vec Ideal S1x512x256 .bf16) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (C : EReal) (hcar : ∀ l, car (ix3 0 a l) = C) (l : Fin 256) :
    (k0_pay265 (k0_pay2 vt) A0 A1 A2 A3 A4 A5 A6 (k0_pay80 lb lat car) (k0_pay81 l1 car) (k0_pay82 lb lat) acc) (ix2 ⟨896 + a.val, by omega⟩ l) = acc (ix2 ⟨896 + a.val, by omega⟩ l) + ∑ c : Fin 512, (wgt lb l1 (fun x => lat (ix2 ⟨896 + a.val, by omega⟩ x)) (fun x => lat (ix2 ⟨1920 + a.val, by omega⟩ x)) C a c) * vt (ix3 0 c l) := by
  unfold k0_pay265
  refine (acc_mm _ _ _ _ l).trans (congrArg _ (Finset.sum_congr rfl fun c _ => ?_))
  refine congrArg₂ (· * ·) ((rows_piece _ _ 7 (Nat.le_of_ble_eq_true rfl) _ rfl 896 (by simp [S128x512, Shape.size, Shape.rank]) a c _ (by first | rfl | (dsimp only; omega))).trans ?_) ?_
  · pointwise [k0_pay2, k0_pay79, k0_pay80, k0_pay81, k0_pay82]
    simp only [hcar, dite_eq_ite, ite_self, wgt]
    by_cases h : c.val < 256
    · simp only [h, dif_pos, if_true, ite_true]
    · have e : (⟨256 + (c.val - 256), by omega⟩ : Fin 512) = c := Fin.ext (by dsimp; omega)
      simp only [h, dif_neg, not_false_eq_true, e, if_false, ite_false]
  · pointwise [k0_pay2, k0_pay79, k0_pay80, k0_pay81, k0_pay82]

theorem m_lb0 (qs : Vec Ideal S1024x256 .bf16) (b : EReal) (kt : Vec Ideal S1x512x256 .bf16) (a : Fin 128) (c : Fin 512) :
    (k0_pay191 qs b (k0_pay185 kt)) (ix2 a c) = lbf (zval qs kt b ⟨a.val, by omega⟩ c) := by
  pointwise [k0_pay185, k0_pay189, k0_pay190, k0_pay191]
  rfl

theorem m_l10 (arg2 : BitVec 32) (qs : Vec Ideal S1024x256 .bf16) (b : EReal) (i_v287 : IVec S128x512 32) (i_v288 : IVec S128x512 32) (w_v306 : BitVec 32) (kt : Vec Ideal S1x512x256 .bf16) (a : Fin 128) (c : Fin 512) :
    (k0_pay192 arg2 qs b i_v287 i_v288 w_v306 (k0_pay185 kt)) (ix2 a c) = Scalar.select ((k0_pay187 arg2 i_v287 i_v288 w_v306) (ix2 a c)) (l1f (zval qs kt b ⟨a.val, by omega⟩ c)) 0 := by
  pointwise [k0_pay185, k0_pay189, k0_pay190, k0_pay191, k0_pay192]
  rfl

theorem m_lb1 (qs : Vec Ideal S1024x256 .bf16) (b : EReal) (kt : Vec Ideal S1x512x256 .bf16) (a : Fin 128) (c : Fin 512) :
    (k0_pay195 (k0_pay193 qs b (k0_pay185 kt)) (k0_pay194 qs b (k0_pay185 kt))) (ix2 a c) = lbf (zval qs kt b ⟨128 + a.val, by omega⟩ c) := by
  pointwise [k0_pay185, k0_pay189, k0_pay193, k0_pay194, k0_pay195]
  rfl

theorem m_l11 (vis : IVec S128x512 1) (qs : Vec Ideal S1024x256 .bf16) (b : EReal) (kt : Vec Ideal S1x512x256 .bf16) (a : Fin 128) (c : Fin 512) :
    (k0_pay196 vis (k0_pay193 qs b (k0_pay185 kt)) (k0_pay194 qs b (k0_pay185 kt))) (ix2 a c) = Scalar.select (vis (ix2 a c)) (l1f (zval qs kt b ⟨128 + a.val, by omega⟩ c)) 0 := by
  pointwise [k0_pay185, k0_pay189, k0_pay193, k0_pay194, k0_pay195, k0_pay196]
  rfl

theorem m_lb2 (b : EReal) (qs : Vec Ideal S1024x256 .bf16) (kt : Vec Ideal S1x512x256 .bf16) (a : Fin 128) (c : Fin 512) :
    (k0_pay198 b (k0_pay189 qs (k0_pay185 kt))) (ix2 a c) = lbf (zval qs kt b ⟨256 + a.val, by omega⟩ c) := by
  pointwise [k0_pay185, k0_pay189, k0_pay197, k0_pay198]
  rfl

theorem m_l12 (b : EReal) (vis : IVec S128x512 1) (qs : Vec Ideal S1024x256 .bf16) (kt : Vec Ideal S1x512x256 .bf16) (a : Fin 128) (c : Fin 512) :
    (k0_pay199 b vis (k0_pay189 qs (k0_pay185 kt))) (ix2 a c) = Scalar.select (vis (ix2 a c)) (l1f (zval qs kt b ⟨256 + a.val, by omega⟩ c)) 0 := by
  pointwise [k0_pay185, k0_pay189, k0_pay197, k0_pay198, k0_pay199]
  rfl

theorem m_lb3 (b : EReal) (qs : Vec Ideal S1024x256 .bf16) (kt : Vec Ideal S1x512x256 .bf16) (a : Fin 128) (c : Fin 512) :
    (k0_pay201 b (k0_pay189 qs (k0_pay185 kt))) (ix2 a c) = lbf (zval qs kt b ⟨384 + a.val, by omega⟩ c) := by
  pointwise [k0_pay185, k0_pay189, k0_pay200, k0_pay201]
  rfl

theorem m_l13 (b : EReal) (vis : IVec S128x512 1) (qs : Vec Ideal S1024x256 .bf16) (kt : Vec Ideal S1x512x256 .bf16) (a : Fin 128) (c : Fin 512) :
    (k0_pay202 b vis (k0_pay189 qs (k0_pay185 kt))) (ix2 a c) = Scalar.select (vis (ix2 a c)) (l1f (zval qs kt b ⟨384 + a.val, by omega⟩ c)) 0 := by
  pointwise [k0_pay185, k0_pay189, k0_pay200, k0_pay201, k0_pay202]
  rfl

theorem m_lb4 (b : EReal) (qs : Vec Ideal S1024x256 .bf16) (kt : Vec Ideal S1x512x256 .bf16) (a : Fin 128) (c : Fin 512) :
    (k0_pay205 (k0_pay203 b (k0_pay189 qs (k0_pay185 kt))) (k0_pay204 b (k0_pay189 qs (k0_pay185 kt)))) (ix2 a c) = lbf (zval qs kt b ⟨512 + a.val, by omega⟩ c) := by
  pointwise [k0_pay185, k0_pay189, k0_pay203, k0_pay204, k0_pay205]
  rfl

theorem m_l14 (vis : IVec S128x512 1) (b : EReal) (qs : Vec Ideal S1024x256 .bf16) (kt : Vec Ideal S1x512x256 .bf16) (a : Fin 128) (c : Fin 512) :
    (k0_pay206 vis (k0_pay203 b (k0_pay189 qs (k0_pay185 kt))) (k0_pay204 b (k0_pay189 qs (k0_pay185 kt)))) (ix2 a c) = Scalar.select (vis (ix2 a c)) (l1f (zval qs kt b ⟨512 + a.val, by omega⟩ c)) 0 := by
  pointwise [k0_pay185, k0_pay189, k0_pay203, k0_pay204, k0_pay205, k0_pay206]
  rfl

theorem m_lb5 (b : EReal) (qs : Vec Ideal S1024x256 .bf16) (kt : Vec Ideal S1x512x256 .bf16) (a : Fin 128) (c : Fin 512) :
    (k0_pay208 b (k0_pay189 qs (k0_pay185 kt))) (ix2 a c) = lbf (zval qs kt b ⟨640 + a.val, by omega⟩ c) := by
  pointwise [k0_pay185, k0_pay189, k0_pay207, k0_pay208]
  rfl

theorem m_l15 (b : EReal) (vis : IVec S128x512 1) (qs : Vec Ideal S1024x256 .bf16) (kt : Vec Ideal S1x512x256 .bf16) (a : Fin 128) (c : Fin 512) :
    (k0_pay209 b vis (k0_pay189 qs (k0_pay185 kt))) (ix2 a c) = Scalar.select (vis (ix2 a c)) (l1f (zval qs kt b ⟨640 + a.val, by omega⟩ c)) 0 := by
  pointwise [k0_pay185, k0_pay189, k0_pay207, k0_pay208, k0_pay209]
  rfl

theorem m_lb6 (b : EReal) (qs : Vec Ideal S1024x256 .bf16) (kt : Vec Ideal S1x512x256 .bf16) (a : Fin 128) (c : Fin 512) :
    (k0_pay211 b (k0_pay189 qs (k0_pay185 kt))) (ix2 a c) = lbf (zval qs kt b ⟨768 + a.val, by omega⟩ c) := by
  pointwise [k0_pay185, k0_pay189, k0_pay210, k0_pay211]
  rfl

theorem m_l16 (b : EReal) (vis : IVec S128x512 1) (qs : Vec Ideal S1024x256 .bf16) (kt : Vec Ideal S1x512x256 .bf16) (a : Fin 128) (c : Fin 512) :
    (k0_pay212 b vis (k0_pay189 qs (k0_pay185 kt))) (ix2 a c) = Scalar.select (vis (ix2 a c)) (l1f (zval qs kt b ⟨768 + a.val, by omega⟩ c)) 0 := by
  pointwise [k0_pay185, k0_pay189, k0_pay210, k0_pay211, k0_pay212]
  rfl

theorem m_lb7 (b : EReal) (qs : Vec Ideal S1024x256 .bf16) (kt : Vec Ideal S1x512x256 .bf16) (a : Fin 128) (c : Fin 512) :
    (k0_pay215 (k0_pay213 b (k0_pay189 qs (k0_pay185 kt))) (k0_pay214 b (k0_pay189 qs (k0_pay185 kt)))) (ix2 a c) = lbf (zval qs kt b ⟨896 + a.val, by omega⟩ c) := by
  pointwise [k0_pay185, k0_pay189, k0_pay213, k0_pay214, k0_pay215]
  rfl

theorem m_l17 (vis : IVec S128x512 1) (b : EReal) (qs : Vec Ideal S1024x256 .bf16) (kt : Vec Ideal S1x512x256 .bf16) (a : Fin 128) (c : Fin 512) :
    (k0_pay216 vis (k0_pay213 b (k0_pay189 qs (k0_pay185 kt))) (k0_pay214 b (k0_pay189 qs (k0_pay185 kt)))) (ix2 a c) = Scalar.select (vis (ix2 a c)) (l1f (zval qs kt b ⟨896 + a.val, by omega⟩ c)) 0 := by
  pointwise [k0_pay185, k0_pay189, k0_pay213, k0_pay214, k0_pay215, k0_pay216]
  rfl

section
variable (vis : IVec S128x512 1) (l1_0 : Vec Ideal S128x512 .f32) (l1_1 : Vec Ideal S128x512 .f32) (l1_2 : Vec Ideal S128x512 .f32) (l1_3 : Vec Ideal S128x512 .f32) (l1_4 : Vec Ideal S128x512 .f32) (l1_5 : Vec Ideal S128x512 .f32) (l1_6 : Vec Ideal S128x512 .f32) (b : EReal) (qs : Vec Ideal S1024x256 .bf16) (kt : Vec Ideal S1x512x256 .bf16) (tri : Vec Ideal S256x256 .bf16) (a : Fin 128) (c : Fin 256)
include vis l1_0 l1_1 l1_2 l1_3 l1_4 l1_5 l1_6 b qs kt tri a c

theorem m_lat0_0 :
    (k0_pay217 vis l1_0 l1_1 l1_2 l1_3 l1_4 l1_5 l1_6 (k0_pay213 b (k0_pay189 qs (k0_pay185 kt))) (k0_pay214 b (k0_pay189 qs (k0_pay185 kt))) tri) (ix2 ⟨a.val, by omega⟩ c) = ∑ x : Fin 256, l1_0 (ix2 a ⟨x.val, by omega⟩) * tri (ix2 x c) := by
  unfold k0_pay217
  refine (lat_mm _ tri _ c).trans (Finset.sum_congr rfl fun x _ => congrArg (· * tri (ix2 x c)) ?_)
  refine (rows_piece _ _ 0 (Nat.le_of_ble_eq_true rfl) _ rfl 0 (by simp [S128x256, Shape.size, Shape.rank]) a x _ (by first | rfl | (dsimp only; omega))).trans ?_
  pointwise [k0_pay185, k0_pay189, k0_pay213, k0_pay214, k0_pay215, k0_pay216]

theorem m_lat0_1 :
    (k0_pay217 vis l1_0 l1_1 l1_2 l1_3 l1_4 l1_5 l1_6 (k0_pay213 b (k0_pay189 qs (k0_pay185 kt))) (k0_pay214 b (k0_pay189 qs (k0_pay185 kt))) tri) (ix2 ⟨128 + a.val, by omega⟩ c) = ∑ x : Fin 256, l1_1 (ix2 a ⟨x.val, by omega⟩) * tri (ix2 x c) := by
  unfold k0_pay217
  refine (lat_mm _ tri _ c).trans (Finset.sum_congr rfl fun x _ => congrArg (· * tri (ix2 x c)) ?_)
  refine (rows_piece _ _ 1 (Nat.le_of_ble_eq_true rfl) _ rfl 128 (by simp [S128x256, Shape.size, Shape.rank]) a x _ (by first | rfl | (dsimp only; omega))).trans ?_
  pointwise [k0_pay185, k0_pay189, k0_pay213, k0_pay214, k0_pay215, k0_pay216]

theorem m_lat0_2 :
    (k0_pay217 vis l1_0 l1_1 l1_2 l1_3 l1_4 l1_5 l1_6 (k0_pay213 b (k0_pay189 qs (k0_pay185 kt))) (k0_pay214 b (k0_pay189 qs (k0_pay185 kt))) tri) (ix2 ⟨256 + a.val, by omega⟩ c) = ∑ x : Fin 256, l1_2 (ix2 a ⟨x.val, by omega⟩) * tri (ix2 x c) := by
  unfold k0_pay217
  refine (lat_mm _ tri _ c).trans (Finset.sum_congr rfl fun x _ => congrArg (· * tri (ix2 x c)) ?_)
  refine (rows_piece _ _ 2 (Nat.le_of_ble_eq_true rfl) _ rfl 256 (by simp [S128x256, Shape.size, Shape.rank]) a x _ (by first | rfl | (dsimp only; omega))).trans ?_
  pointwise [k0_pay185, k0_pay189, k0_pay213, k0_pay214, k0_pay215, k0_pay216]

theorem m_lat0_3 :
    (k0_pay217 vis l1_0 l1_1 l1_2 l1_3 l1_4 l1_5 l1_6 (k0_pay213 b (k0_pay189 qs (k0_pay185 kt))) (k0_pay214 b (k0_pay189 qs (k0_pay185 kt))) tri) (ix2 ⟨384 + a.val, by omega⟩ c) = ∑ x : Fin 256, l1_3 (ix2 a ⟨x.val, by omega⟩) * tri (ix2 x c) := by
  unfold k0_pay217
  refine (lat_mm _ tri _ c).trans (Finset.sum_congr rfl fun x _ => congrArg (· * tri (ix2 x c)) ?_)
  refine (rows_piece _ _ 3 (Nat.le_of_ble_eq_true rfl) _ rfl 384 (by simp [S128x256, Shape.size, Shape.rank]) a x _ (by first | rfl | (dsimp only; omega))).trans ?_
  pointwise [k0_pay185, k0_pay189, k0_pay213, k0_pay214, k0_pay215, k0_pay216]

theorem m_lat0_4 :
    (k0_pay217 vis l1_0 l1_1 l1_2 l1_3 l1_4 l1_5 l1_6 (k0_pay213 b (k0_pay189 qs (k0_pay185 kt))) (k0_pay214 b (k0_pay189 qs (k0_pay185 kt))) tri) (ix2 ⟨512 + a.val, by omega⟩ c) = ∑ x : Fin 256, l1_4 (ix2 a ⟨x.val, by omega⟩) * tri (ix2 x c) := by
  unfold k0_pay217
  refine (lat_mm _ tri _ c).trans (Finset.sum_congr rfl fun x _ => congrArg (· * tri (ix2 x c)) ?_)
  refine (rows_piece _ _ 4 (Nat.le_of_ble_eq_true rfl) _ rfl 512 (by simp [S128x256, Shape.size, Shape.rank]) a x _ (by first | rfl | (dsimp only; omega))).trans ?_
  pointwise [k0_pay185, k0_pay189, k0_pay213, k0_pay214, k0_pay215, k0_pay216]

theorem m_lat0_5 :
    (k0_pay217 vis l1_0 l1_1 l1_2 l1_3 l1_4 l1_5 l1_6 (k0_pay213 b (k0_pay189 qs (k0_pay185 kt))) (k0_pay214 b (k0_pay189 qs (k0_pay185 kt))) tri) (ix2 ⟨640 + a.val, by omega⟩ c) = ∑ x : Fin 256, l1_5 (ix2 a ⟨x.val, by omega⟩) * tri (ix2 x c) := by
  unfold k0_pay217
  refine (lat_mm _ tri _ c).trans (Finset.sum_congr rfl fun x _ => congrArg (· * tri (ix2 x c)) ?_)
  refine (rows_piece _ _ 5 (Nat.le_of_ble_eq_true rfl) _ rfl 640 (by simp [S128x256, Shape.size, Shape.rank]) a x _ (by first | rfl | (dsimp only; omega))).trans ?_
  pointwise [k0_pay185, k0_pay189, k0_pay213, k0_pay214, k0_pay215, k0_pay216]

theorem m_lat0_6 :
    (k0_pay217 vis l1_0 l1_1 l1_2 l1_3 l1_4 l1_5 l1_6 (k0_pay213 b (k0_pay189 qs (k0_pay185 kt))) (k0_pay214 b (k0_pay189 qs (k0_pay185 kt))) tri) (ix2 ⟨768 + a.val, by omega⟩ c) = ∑ x : Fin 256, l1_6 (ix2 a ⟨x.val, by omega⟩) * tri (ix2 x c) := by
  unfold k0_pay217
  refine (lat_mm _ tri _ c).trans (Finset.sum_congr rfl fun x _ => congrArg (· * tri (ix2 x c)) ?_)
  refine (rows_piece _ _ 6 (Nat.le_of_ble_eq_true rfl) _ rfl 768 (by simp [S128x256, Shape.size, Shape.rank]) a x _ (by first | rfl | (dsimp only; omega))).trans ?_
  pointwise [k0_pay185, k0_pay189, k0_pay213, k0_pay214, k0_pay215, k0_pay216]

theorem m_lat0_7 :
    (k0_pay217 vis l1_0 l1_1 l1_2 l1_3 l1_4 l1_5 l1_6 (k0_pay213 b (k0_pay189 qs (k0_pay185 kt))) (k0_pay214 b (k0_pay189 qs (k0_pay185 kt))) tri) (ix2 ⟨896 + a.val, by omega⟩ c) = ∑ x : Fin 256, (k0_pay216 vis (k0_pay213 b (k0_pay189 qs (k0_pay185 kt))) (k0_pay214 b (k0_pay189 qs (k0_pay185 kt)))) (ix2 a ⟨x.val, by omega⟩) * tri (ix2 x c) := by
  unfold k0_pay217
  refine (lat_mm _ tri _ c).trans (Finset.sum_congr rfl fun x _ => congrArg (· * tri (ix2 x c)) ?_)
  refine (rows_piece _ _ 7 (Nat.le_of_ble_eq_true rfl) _ rfl 896 (by simp [S128x256, Shape.size, Shape.rank]) a x _ (by first | rfl | (dsimp only; omega))).trans ?_
  pointwise [k0_pay185, k0_pay189, k0_pay213, k0_pay214]

theorem m_lat1_0 :
    (k0_pay217 vis l1_0 l1_1 l1_2 l1_3 l1_4 l1_5 l1_6 (k0_pay213 b (k0_pay189 qs (k0_pay185 kt))) (k0_pay214 b (k0_pay189 qs (k0_pay185 kt))) tri) (ix2 ⟨1024 + a.val, by omega⟩ c) = ∑ x : Fin 256, l1_0 (ix2 a ⟨256 + x.val, by omega⟩) * tri (ix2 x c) := by
  unfold k0_pay217
  refine (lat_mm _ tri _ c).trans (Finset.sum_congr rfl fun x _ => congrArg (· * tri (ix2 x c)) ?_)
  refine (rows_piece _ _ 8 (Nat.le_of_ble_eq_true rfl) _ rfl 1024 (by simp [S128x256, Shape.size, Shape.rank]) a x _ (by first | rfl | (dsimp only; omega))).trans ?_
  pointwise [k0_pay185, k0_pay189, k0_pay213, k0_pay214, k0_pay215, k0_pay216]

theorem m_lat1_1 :
    (k0_pay217 vis l1_0 l1_1 l1_2 l1_3 l1_4 l1_5 l1_6 (k0_pay213 b (k0_pay189 qs (k0_pay185 kt))) (k0_pay214 b (k0_pay189 qs (k0_pay185 kt))) tri) (ix2 ⟨1152 + a.val, by omega⟩ c) = ∑ x : Fin 256, l1_1 (ix2 a ⟨256 + x.val, by omega⟩) * tri (ix2 x c) := by
  unfold k0_pay217
  refine (lat_mm _ tri _ c).trans (Finset.sum_congr rfl fun x _ => congrArg (· * tri (ix2 x c)) ?_)
  refine (rows_piece _ _ 9 (Nat.le_of_ble_eq_true rfl) _ rfl 1152 (by simp [S128x256, Shape.size, Shape.rank]) a x _ (by first | rfl | (dsimp only; omega))).trans ?_
  pointwise [k0_pay185, k0_pay189, k0_pay213, k0_pay214, k0_pay215, k0_pay216]

theorem m_lat1_2 :
    (k0_pay217 vis l1_0 l1_1 l1_2 l1_3 l1_4 l1_5 l1_6 (k0_pay213 b (k0_pay189 qs (k0_pay185 kt))) (k0_pay214 b (k0_pay189 qs (k0_pay185 kt))) tri) (ix2 ⟨1280 + a.val, by omega⟩ c) = ∑ x : Fin 256, l1_2 (ix2 a ⟨256 + x.val, by omega⟩) * tri (ix2 x c) := by
  unfold k0_pay217
  refine (lat_mm _ tri _ c).trans (Finset.sum_congr rfl fun x _ => congrArg (· * tri (ix2 x c)) ?_)
  refine (rows_piece _ _ 10 (Nat.le_of_ble_eq_true rfl) _ rfl 1280 (by simp [S128x256, Shape.size, Shape.rank]) a x _ (by first | rfl | (dsimp only; omega))).trans ?_
  pointwise [k0_pay185, k0_pay189, k0_pay213, k0_pay214, k0_pay215, k0_pay216]

theorem m_lat1_3 :
    (k0_pay217 vis l1_0 l1_1 l1_2 l1_3 l1_4 l1_5 l1_6 (k0_pay213 b (k0_pay189 qs (k0_pay185 kt))) (k0_pay214 b (k0_pay189 qs (k0_pay185 kt))) tri) (ix2 ⟨1408 + a.val, by omega⟩ c) = ∑ x : Fin 256, l1_3 (ix2 a ⟨256 + x.val, by omega⟩) * tri (ix2 x c) := by
  unfold k0_pay217
  refine (lat_mm _ tri _ c).trans (Finset.sum_congr rfl fun x _ => congrArg (· * tri (ix2 x c)) ?_)
  refine (rows_piece _ _ 11 (Nat.le_of_ble_eq_true rfl) _ rfl 1408 (by simp [S128x256, Shape.size, Shape.rank]) a x _ (by first | rfl | (dsimp only; omega))).trans ?_
  pointwise [k0_pay185, k0_pay189, k0_pay213, k0_pay214, k0_pay215, k0_pay216]

theorem m_lat1_4 :
    (k0_pay217 vis l1_0 l1_1 l1_2 l1_3 l1_4 l1_5 l1_6 (k0_pay213 b (k0_pay189 qs (k0_pay185 kt))) (k0_pay214 b (k0_pay189 qs (k0_pay185 kt))) tri) (ix2 ⟨1536 + a.val, by omega⟩ c) = ∑ x : Fin 256, l1_4 (ix2 a ⟨256 + x.val, by omega⟩) * tri (ix2 x c) := by
  unfold k0_pay217
  refine (lat_mm _ tri _ c).trans (Finset.sum_congr rfl fun x _ => congrArg (· * tri (ix2 x c)) ?_)
  refine (rows_piece _ _ 12 (Nat.le_of_ble_eq_true rfl) _ rfl 1536 (by simp [S128x256, Shape.size, Shape.rank]) a x _ (by first | rfl | (dsimp only; omega))).trans ?_
  pointwise [k0_pay185, k0_pay189, k0_pay213, k0_pay214, k0_pay215, k0_pay216]

theorem m_lat1_5 :
    (k0_pay217 vis l1_0 l1_1 l1_2 l1_3 l1_4 l1_5 l1_6 (k0_pay213 b (k0_pay189 qs (k0_pay185 kt))) (k0_pay214 b (k0_pay189 qs (k0_pay185 kt))) tri) (ix2 ⟨1664 + a.val, by omega⟩ c) = ∑ x : Fin 256, l1_5 (ix2 a ⟨256 + x.val, by omega⟩) * tri (ix2 x c) := by
  unfold k0_pay217
  refine (lat_mm _ tri _ c).trans (Finset.sum_congr rfl fun x _ => congrArg (· * tri (ix2 x c)) ?_)
  refine (rows_piece _ _ 13 (Nat.le_of_ble_eq_true rfl) _ rfl 1664 (by simp [S128x256, Shape.size, Shape.rank]) a x _ (by first | rfl | (dsimp only; omega))).trans ?_
  pointwise [k0_pay185, k0_pay189, k0_pay213, k0_pay214, k0_pay215, k0_pay216]

theorem m_lat1_6 :
    (k0_pay217 vis l1_0 l1_1 l1_2 l1_3 l1_4 l1_5 l1_6 (k0_pay213 b (k0_pay189 qs (k0_pay185 kt))) (k0_pay214 b (k0_pay189 qs (k0_pay185 kt))) tri) (ix2 ⟨1792 + a.val, by omega⟩ c) = ∑ x : Fin 256, l1_6 (ix2 a ⟨256 + x.val, by omega⟩) * tri (ix2 x c) := by
  unfold k0_pay217
  refine (lat_mm _ tri _ c).trans (Finset.sum_congr rfl fun x _ => congrArg (· * tri (ix2 x c)) ?_)
  refine (rows_piece _ _ 14 (Nat.le_of_ble_eq_true rfl) _ rfl 1792 (by simp [S128x256, Shape.size, Shape.rank]) a x _ (by first | rfl | (dsimp only; omega))).trans ?_
  pointwise [k0_pay185, k0_pay189, k0_pay213, k0_pay214, k0_pay215, k0_pay216]

theorem m_lat1_7 :
    (k0_pay217 vis l1_0 l1_1 l1_2 l1_3 l1_4 l1_5 l1_6 (k0_pay213 b (k0_pay189 qs (k0_pay185 kt))) (k0_pay214 b (k0_pay189 qs (k0_pay185 kt))) tri) (ix2 ⟨1920 + a.val, by omega⟩ c) = ∑ x : Fin 256, (k0_pay216 vis (k0_pay213 b (k0_pay189 qs (k0_pay185 kt))) (k0_pay214 b (k0_pay189 qs (k0_pay185 kt)))) (ix2 a ⟨256 + x.val, by omega⟩) * tri (ix2 x c) := by
  unfold k0_pay217
  refine (lat_mm _ tri _ c).trans (Finset.sum_congr rfl fun x _ => congrArg (· * tri (ix2 x c)) ?_)
  refine (rows_piece _ _ 15 (Nat.le_of_ble_eq_true rfl) _ rfl 1920 (by simp [S128x256, Shape.size, Shape.rank]) a x _ (by first | rfl | (dsimp only; omega))).trans ?_
  pointwise [k0_pay185, k0_pay189, k0_pay213, k0_pay214]

end

theorem m_car0 (l1 : Vec Ideal S128x512 .f32) (car : Vec Ideal S1x128x128 .f32) (a l : Fin 128) :
    (k0_pay222 l1 (k0_pay218 car) (k0_pay220 l1)) (ix3 0 a l) = (car (ix3 0 a l) + ∑ x : Fin 256, l1 (ix2 a ⟨256 + x.val, by omega⟩)) + ∑ x : Fin 256, l1 (ix2 a ⟨x.val, by omega⟩) := by
  pointwise [k0_pay218, k0_pay220, k0_pay221, k0_pay222]

theorem m_car1 (l1 : Vec Ideal S128x512 .f32) (car : Vec Ideal S1x128x128 .f32) (a l : Fin 128) :
    (k0_pay229 (k0_pay228 l1 car)) (ix3 0 a l) = (car (ix3 0 a l) + ∑ x : Fin 256, l1 (ix2 a ⟨256 + x.val, by omega⟩)) + ∑ x : Fin 256, l1 (ix2 a ⟨x.val, by omega⟩) := by
  pointwise [k0_pay224, k0_pay226, k0_pay228, k0_pay229]

theorem m_car2 (l1 : Vec Ideal S128x512 .f32) (car : Vec Ideal S1x128x128 .f32) (a l : Fin 128) :
    (k0_pay233 l1 car) (ix3 0 a l) = (car (ix3 0 a l) + ∑ x : Fin 256, l1 (ix2 a ⟨256 + x.val, by omega⟩)) + ∑ x : Fin 256, l1 (ix2 a ⟨x.val, by omega⟩) := by
  pointwise [k0_pay231, k0_pay232, k0_pay233]

theorem m_car3 (l1 : Vec Ideal S128x512 .f32) (car : Vec Ideal S1x128x128 .f32) (a l : Fin 128) :
    (k0_pay238 l1 (k0_pay235 car)) (ix3 0 a l) = (car (ix3 0 a l) + ∑ x : Fin 256, l1 (ix2 a ⟨256 + x.val, by omega⟩)) + ∑ x : Fin 256, l1 (ix2 a ⟨x.val, by omega⟩) := by
  pointwise [k0_pay235, k0_pay237, k0_pay238]

theorem m_car4 (l1 : Vec Ideal S128x512 .f32) (car : Vec Ideal S1x128x128 .f32) (a l : Fin 128) :
    (k0_pay245 (k0_pay244 l1 car)) (ix3 0 a l) = (car (ix3 0 a l) + ∑ x : Fin 256, l1 (ix2 a ⟨256 + x.val, by omega⟩)) + ∑ x : Fin 256, l1 (ix2 a ⟨x.val, by omega⟩) := by
  pointwise [k0_pay240, k0_pay242, k0_pay244, k0_pay245]

theorem m_car5 (l1 : Vec Ideal S128x512 .f32) (car : Vec Ideal S1x128x128 .f32) (a l : Fin 128) :
    (k0_pay249 l1 car) (ix3 0 a l) = (car (ix3 0 a l) + ∑ x : Fin 256, l1 (ix2 a ⟨256 + x.val, by omega⟩)) + ∑ x : Fin 256, l1 (ix2 a ⟨x.val, by omega⟩) := by
  pointwise [k0_pay247, k0_pay248, k0_pay249]

theorem m_car6 (l1 : Vec Ideal S128x512 .f32) (car : Vec Ideal S1x128x128 .f32) (a l : Fin 128) :
    (k0_pay255 l1 (k0_pay251 car)) (ix3 0 a l) = (car (ix3 0 a l) + ∑ x : Fin 256, l1 (ix2 a ⟨256 + x.val, by omega⟩)) + ∑ x : Fin 256, l1 (ix2 a ⟨x.val, by omega⟩) := by
  pointwise [k0_pay251, k0_pay254, k0_pay255]

theorem m_car7 (l1 : Vec Ideal S128x512 .f32) (car : Vec Ideal S1x128x128 .f32) (a l : Fin 128) :
    (k0_pay262 (k0_pay259 l1 car) (k0_pay261 l1)) (ix3 0 a l) = (car (ix3 0 a l) + ∑ x : Fin 256, l1 (ix2 a ⟨256 + x.val, by omega⟩)) + ∑ x : Fin 256, l1 (ix2 a ⟨x.val, by omega⟩) := by
  pointwise [k0_pay257, k0_pay259, k0_pay261, k0_pay262]

theorem m_A0 (vis : IVec S128x512 1) (lb : Vec Ideal S128x512 .f32) (lat : Vec Ideal S2048x256 .f32) (car : Vec Ideal S1x128x128 .f32) (vis1 : IVec S128x512 1) (l1 : Vec Ideal S128x512 .f32) (l1_1 : Vec Ideal S128x512 .f32) (l1_2 : Vec Ideal S128x512 .f32) (l1_3 : Vec Ideal S128x512 .f32) (l1_4 : Vec Ideal S128x512 .f32) (l1_5 : Vec Ideal S128x512 .f32) (l1_6 : Vec Ideal S128x512 .f32) (s36 : Vec Ideal S128x512 .f32) (s37 : Vec Ideal S128x512 .f32) (tri : Vec Ideal S256x256 .bf16) (a : Fin 128) (C : EReal) (hcar : ∀ l, car (ix3 0 a l) = C) (c : Fin 512) :
    (k0_pay223 vis lb lat (k0_pay218 car) (k0_pay219 vis1 lb l1 l1_1 l1_2 l1_3 l1_4 l1_5 l1_6 s36 s37 tri car) (k0_pay220 l1)) (ix2 a c) = Scalar.select (vis (ix2 a c)) (wgt lb l1 (fun x => lat (ix2 ⟨a.val, by omega⟩ x)) (fun x => (k0_pay217 vis1 l1 l1_1 l1_2 l1_3 l1_4 l1_5 l1_6 s36 s37 tri) (ix2 ⟨1024 + a.val, by omega⟩ x)) C a c) 0 := by
  pointwise [k0_pay218, k0_pay219, k0_pay220, k0_pay221, k0_pay223]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem m_A1 (vis : IVec S128x512 1) (lb : Vec Ideal S128x512 .f32) (lat : Vec Ideal S2048x256 .f32) (car : Vec Ideal S1x128x128 .f32) (l1 : Vec Ideal S128x512 .f32) (a : Fin 128) (C : EReal) (hcar : ∀ l, car (ix3 0 a l) = C) (c : Fin 512) :
    (k0_pay230 vis (k0_pay225 lb lat car) (k0_pay227 lb l1 lat car)) (ix2 a c) = Scalar.select (vis (ix2 a c)) (wgt lb l1 (fun x => lat (ix2 ⟨128 + a.val, by omega⟩ x)) (fun x => lat (ix2 ⟨1152 + a.val, by omega⟩ x)) C a c) 0 := by
  pointwise [k0_pay224, k0_pay225, k0_pay226, k0_pay227, k0_pay230]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem m_A2 (vis : IVec S128x512 1) (lb : Vec Ideal S128x512 .f32) (l1 : Vec Ideal S128x512 .f32) (lat : Vec Ideal S2048x256 .f32) (car : Vec Ideal S1x128x128 .f32) (a : Fin 128) (C : EReal) (hcar : ∀ l, car (ix3 0 a l) = C) (c : Fin 512) :
    (k0_pay234 vis lb l1 lat car) (ix2 a c) = Scalar.select (vis (ix2 a c)) (wgt lb l1 (fun x => lat (ix2 ⟨256 + a.val, by omega⟩ x)) (fun x => lat (ix2 ⟨1280 + a.val, by omega⟩ x)) C a c) 0 := by
  pointwise [k0_pay231, k0_pay232, k0_pay234]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem m_A3 (vis : IVec S128x512 1) (lb : Vec Ideal S128x512 .f32) (l1 : Vec Ideal S128x512 .f32) (lat : Vec Ideal S2048x256 .f32) (car : Vec Ideal S1x128x128 .f32) (a : Fin 128) (C : EReal) (hcar : ∀ l, car (ix3 0 a l) = C) (c : Fin 512) :
    (k0_pay239 vis lb l1 lat (k0_pay235 car) (k0_pay236 lb lat car)) (ix2 a c) = Scalar.select (vis (ix2 a c)) (wgt lb l1 (fun x => lat (ix2 ⟨384 + a.val, by omega⟩ x)) (fun x => lat (ix2 ⟨1408 + a.val, by omega⟩ x)) C a c) 0 := by
  pointwise [k0_pay235, k0_pay236, k0_pay237, k0_pay239]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem m_A4 (vis : IVec S128x512 1) (lb : Vec Ideal S128x512 .f32) (lat : Vec Ideal S2048x256 .f32) (car : Vec Ideal S1x128x128 .f32) (l1 : Vec Ideal S128x512 .f32) (a : Fin 128) (C : EReal) (hcar : ∀ l, car (ix3 0 a l) = C) (c : Fin 512) :
    (k0_pay246 vis (k0_pay241 lb lat car) (k0_pay243 lb l1 lat car)) (ix2 a c) = Scalar.select (vis (ix2 a c)) (wgt lb l1 (fun x => lat (ix2 ⟨512 + a.val, by omega⟩ x)) (fun x => lat (ix2 ⟨1536 + a.val, by omega⟩ x)) C a c) 0 := by
  pointwise [k0_pay240, k0_pay241, k0_pay242, k0_pay243, k0_pay246]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem m_A5 (vis : IVec S128x512 1) (lb : Vec Ideal S128x512 .f32) (l1 : Vec Ideal S128x512 .f32) (lat : Vec Ideal S2048x256 .f32) (car : Vec Ideal S1x128x128 .f32) (a : Fin 128) (C : EReal) (hcar : ∀ l, car (ix3 0 a l) = C) (c : Fin 512) :
    (k0_pay250 vis lb l1 lat car) (ix2 a c) = Scalar.select (vis (ix2 a c)) (wgt lb l1 (fun x => lat (ix2 ⟨640 + a.val, by omega⟩ x)) (fun x => lat (ix2 ⟨1664 + a.val, by omega⟩ x)) C a c) 0 := by
  pointwise [k0_pay247, k0_pay248, k0_pay250]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem m_A6 (vis : IVec S128x512 1) (lb : Vec Ideal S128x512 .f32) (l1 : Vec Ideal S128x512 .f32) (lat : Vec Ideal S2048x256 .f32) (car : Vec Ideal S1x128x128 .f32) (a : Fin 128) (C : EReal) (hcar : ∀ l, car (ix3 0 a l) = C) (c : Fin 512) :
    (k0_pay256 vis lb l1 lat (k0_pay251 car) (k0_pay252 lat) (k0_pay253 lb)) (ix2 a c) = Scalar.select (vis (ix2 a c)) (wgt lb l1 (fun x => lat (ix2 ⟨768 + a.val, by omega⟩ x)) (fun x => lat (ix2 ⟨1792 + a.val, by omega⟩ x)) C a c) 0 := by
  pointwise [k0_pay251, k0_pay252, k0_pay253, k0_pay254, k0_pay256]
  simp only [hcar, dite_eq_ite, ite_self, wgt]
  by_cases h : c.val < 256
  · simp only [h, dif_pos, if_true, ite_true]
  · have e : (⟨256 + (c.val - 256), by omega⟩ : Fin 512) = c := Fin.ext (by dsimp; omega)
    simp only [h, dif_neg, not_false_eq_true, e, if_false, ite_false]

theorem m_acc0 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay263 (k0_pay186 vt) vis A0 A1 A2 A3 A4 A5 A6 (k0_pay258 lb lat car) (k0_pay260 lb l1 lat car) acc) (ix2 ⟨a.val, by omega⟩ l) = acc (ix2 ⟨a.val, by omega⟩ l) + ∑ c : Fin 512, A0 (ix2 a c) * vt (ix3 0 c l) := by
  unfold k0_pay263
  refine (acc_mm _ _ _ _ l).trans (congrArg _ (Finset.sum_congr rfl fun c _ => ?_))
  refine congrArg₂ (· * ·) ((rows_piece _ _ 0 (Nat.le_of_ble_eq_true rfl) _ rfl 0 (by simp [S128x512, Shape.size, Shape.rank]) a c _ (by first | rfl | (dsimp only; omega))).trans ?_) ?_
  · rfl
  · pointwise [k0_pay186, k0_pay257, k0_pay258, k0_pay259, k0_pay260]

theorem m_acc1 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay263 (k0_pay186 vt) vis A0 A1 A2 A3 A4 A5 A6 (k0_pay258 lb lat car) (k0_pay260 lb l1 lat car) acc) (ix2 ⟨128 + a.val, by omega⟩ l) = acc (ix2 ⟨128 + a.val, by omega⟩ l) + ∑ c : Fin 512, A1 (ix2 a c) * vt (ix3 0 c l) := by
  unfold k0_pay263
  refine (acc_mm _ _ _ _ l).trans (congrArg _ (Finset.sum_congr rfl fun c _ => ?_))
  refine congrArg₂ (· * ·) ((rows_piece _ _ 1 (Nat.le_of_ble_eq_true rfl) _ rfl 128 (by simp [S128x512, Shape.size, Shape.rank]) a c _ (by first | rfl | (dsimp only; omega))).trans ?_) ?_
  · rfl
  · pointwise [k0_pay186, k0_pay257, k0_pay258, k0_pay259, k0_pay260]

theorem m_acc2 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay263 (k0_pay186 vt) vis A0 A1 A2 A3 A4 A5 A6 (k0_pay258 lb lat car) (k0_pay260 lb l1 lat car) acc) (ix2 ⟨256 + a.val, by omega⟩ l) = acc (ix2 ⟨256 + a.val, by omega⟩ l) + ∑ c : Fin 512, A2 (ix2 a c) * vt (ix3 0 c l) := by
  unfold k0_pay263
  refine (acc_mm _ _ _ _ l).trans (congrArg _ (Finset.sum_congr rfl fun c _ => ?_))
  refine congrArg₂ (· * ·) ((rows_piece _ _ 2 (Nat.le_of_ble_eq_true rfl) _ rfl 256 (by simp [S128x512, Shape.size, Shape.rank]) a c _ (by first | rfl | (dsimp only; omega))).trans ?_) ?_
  · rfl
  · pointwise [k0_pay186, k0_pay257, k0_pay258, k0_pay259, k0_pay260]

theorem m_acc3 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay263 (k0_pay186 vt) vis A0 A1 A2 A3 A4 A5 A6 (k0_pay258 lb lat car) (k0_pay260 lb l1 lat car) acc) (ix2 ⟨384 + a.val, by omega⟩ l) = acc (ix2 ⟨384 + a.val, by omega⟩ l) + ∑ c : Fin 512, A3 (ix2 a c) * vt (ix3 0 c l) := by
  unfold k0_pay263
  refine (acc_mm _ _ _ _ l).trans (congrArg _ (Finset.sum_congr rfl fun c _ => ?_))
  refine congrArg₂ (· * ·) ((rows_piece _ _ 3 (Nat.le_of_ble_eq_true rfl) _ rfl 384 (by simp [S128x512, Shape.size, Shape.rank]) a c _ (by first | rfl | (dsimp only; omega))).trans ?_) ?_
  · rfl
  · pointwise [k0_pay186, k0_pay257, k0_pay258, k0_pay259, k0_pay260]

theorem m_acc4 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay263 (k0_pay186 vt) vis A0 A1 A2 A3 A4 A5 A6 (k0_pay258 lb lat car) (k0_pay260 lb l1 lat car) acc) (ix2 ⟨512 + a.val, by omega⟩ l) = acc (ix2 ⟨512 + a.val, by omega⟩ l) + ∑ c : Fin 512, A4 (ix2 a c) * vt (ix3 0 c l) := by
  unfold k0_pay263
  refine (acc_mm _ _ _ _ l).trans (congrArg _ (Finset.sum_congr rfl fun c _ => ?_))
  refine congrArg₂ (· * ·) ((rows_piece _ _ 4 (Nat.le_of_ble_eq_true rfl) _ rfl 512 (by simp [S128x512, Shape.size, Shape.rank]) a c _ (by first | rfl | (dsimp only; omega))).trans ?_) ?_
  · rfl
  · pointwise [k0_pay186, k0_pay257, k0_pay258, k0_pay259, k0_pay260]

theorem m_acc5 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay263 (k0_pay186 vt) vis A0 A1 A2 A3 A4 A5 A6 (k0_pay258 lb lat car) (k0_pay260 lb l1 lat car) acc) (ix2 ⟨640 + a.val, by omega⟩ l) = acc (ix2 ⟨640 + a.val, by omega⟩ l) + ∑ c : Fin 512, A5 (ix2 a c) * vt (ix3 0 c l) := by
  unfold k0_pay263
  refine (acc_mm _ _ _ _ l).trans (congrArg _ (Finset.sum_congr rfl fun c _ => ?_))
  refine congrArg₂ (· * ·) ((rows_piece _ _ 5 (Nat.le_of_ble_eq_true rfl) _ rfl 640 (by simp [S128x512, Shape.size, Shape.rank]) a c _ (by first | rfl | (dsimp only; omega))).trans ?_) ?_
  · rfl
  · pointwise [k0_pay186, k0_pay257, k0_pay258, k0_pay259, k0_pay260]

theorem m_acc6 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (l : Fin 256) :
    (k0_pay263 (k0_pay186 vt) vis A0 A1 A2 A3 A4 A5 A6 (k0_pay258 lb lat car) (k0_pay260 lb l1 lat car) acc) (ix2 ⟨768 + a.val, by omega⟩ l) = acc (ix2 ⟨768 + a.val, by omega⟩ l) + ∑ c : Fin 512, A6 (ix2 a c) * vt (ix3 0 c l) := by
  unfold k0_pay263
  refine (acc_mm _ _ _ _ l).trans (congrArg _ (Finset.sum_congr rfl fun c _ => ?_))
  refine congrArg₂ (· * ·) ((rows_piece _ _ 6 (Nat.le_of_ble_eq_true rfl) _ rfl 768 (by simp [S128x512, Shape.size, Shape.rank]) a c _ (by first | rfl | (dsimp only; omega))).trans ?_) ?_
  · rfl
  · pointwise [k0_pay186, k0_pay257, k0_pay258, k0_pay259, k0_pay260]

theorem m_acc7 (vt : Vec Ideal S1x512x256 .bf16) (vis : IVec S128x512 1) (A0 : Vec Ideal S128x512 .bf16) (A1 : Vec Ideal S128x512 .bf16) (A2 : Vec Ideal S128x512 .bf16) (A3 : Vec Ideal S128x512 .bf16) (A4 : Vec Ideal S128x512 .bf16) (A5 : Vec Ideal S128x512 .bf16) (A6 : Vec Ideal S128x512 .bf16) (lb : Vec Ideal S128x512 .f32) (lat : Vec Ideal S2048x256 .f32) (car : Vec Ideal S1x128x128 .f32) (l1 : Vec Ideal S128x512 .f32) (acc : Vec Ideal S1024x256 .f32) (a : Fin 128) (C : EReal) (hcar : ∀ l, car (ix3 0 a l) = C) (l : Fin 256) :
    (k0_pay263 (k0_pay186 vt) vis A0 A1 A2 A3 A4 A5 A6 (k0_pay258 lb lat car) (k0_pay260 lb l1 lat car) acc) (ix2 ⟨896 + a.val, by omega⟩ l) = acc (ix2 ⟨896 + a.val, by omega⟩ l) + ∑ c : Fin 512, (Scalar.select (vis (ix2 a c)) (wgt lb l1 (fun x => lat (ix2 ⟨896 + a.val, by omega⟩ x)) (fun x => lat (ix2 ⟨1920 + a.val, by omega⟩ x)) C a c) 0) * vt (ix3 0 c l) := by
  unfold k0_pay263
  refine (acc_mm _ _ _ _ l).trans (congrArg _ (Finset.sum_congr rfl fun c _ => ?_))
  refine congrArg₂ (· * ·) ((rows_piece _ _ 7 (Nat.le_of_ble_eq_true rfl) _ rfl 896 (by simp [S128x512, Shape.size, Shape.rank]) a c _ (by first | rfl | (dsimp only; omega))).trans ?_) ?_
  · pointwise [k0_pay186, k0_pay257, k0_pay258, k0_pay259, k0_pay260]
    simp only [hcar, dite_eq_ite, ite_self, wgt]
    by_cases h : c.val < 256
    · simp only [h, dif_pos, if_true, ite_true]
    · have e : (⟨256 + (c.val - 256), by omega⟩ : Fin 512) = c := Fin.ext (by dsimp; omega)
      simp only [h, dif_neg, not_false_eq_true, e, if_false, ite_false]
  · pointwise [k0_pay186, k0_pay257, k0_pay258, k0_pay259, k0_pay260]

end Cert.AttendIdeal.Sb

end
-- ==== Proof.AttendStep.lean ====
/-
  One tile of the attention's loop, and the tile before the loop, as their effect on the running accumulator and the
  running sums.
-/
module

public import proofs.«01_k».proof.Proof.AttendTile
public import Idealize.ShloMosaic.Lib.VecWindow
public import Idealize.ShloMosaic.Lib.LoopRemainder
public import Idealize.ShloMosaic.Lib.Tactic

@[expose] public section

set_option maxRecDepth 16384

noncomputable section

namespace Cert.AttendIdeal.Sb

open Cert.AttendIdeal Cert.AttendIdeal.Gen
open Idealize.ShloMosaic Idealize.ShloMosaic.TcCoe Idealize.ShloMosaic.Tactic

/-- A weight of one row: the logs `L` of the weights' own factors, the logs `M` of what the keys leave, the triangle that
    sums the later keys of a block of 256, and the sum `C` over the later tiles. -/
def wg (L M : Fin 512 → EReal) (tri : Vec Ideal S256x256 .bf16) (C : EReal) (c : Fin 512) : EReal :=
  if h : c.val < 256 then
    Ideal.exp (L c + (∑ x : Fin 256, M ⟨x.val, by omega⟩ * tri (ix2 x ⟨c.val, h⟩)) + (C + ∑ x : Fin 256, M ⟨256 + x.val, by omega⟩))
  else Ideal.exp (L c + (∑ x : Fin 256, M ⟨256 + x.val, by omega⟩ * tri (ix2 x ⟨c.val - 256, by omega⟩)) + C)

theorem wgt_eq {lb l1 : Vec Ideal S128x512 .f32} {u0 u1 : Fin 256 → EReal} {C : EReal} {a : Fin 128} {c : Fin 512}
    {L M : Fin 512 → EReal} {tri : Vec Ideal S256x256 .bf16}
    (hL : ∀ c, lb (ix2 a c) = L c) (hM : ∀ c, l1 (ix2 a c) = M c)
    (h0 : ∀ y, u0 y = ∑ x : Fin 256, M ⟨x.val, by omega⟩ * tri (ix2 x y))
    (h1 : ∀ y, u1 y = ∑ x : Fin 256, M ⟨256 + x.val, by omega⟩ * tri (ix2 x y)) :
    wgt lb l1 u0 u1 C a c = wg L M tri C c := by
  simp only [wgt, wg, hL, hM, h0, h1]

theorem slab_idx (g : Fin 8) (h : ∀ a, (![g.val, 0, 0] : Fin 3 → ℕ) a + S1x128x128.size a ≤ S8x128x128.size a) (a l : Fin 128) :
    (Rect.unit (s := S8x128x128) ![g.val, 0, 0] S1x128x128.size h).toLoadRect.idx (ix3 0 a l) = ix3 g a l := by
  funext b
  refine Fin.ext ?_
  fin_cases b <;> simp [Rect.toLoadRect, Rect.unit, LoadRect.idx]

/-- What a list of writes leaves depends only on what the contents under them read as. -/
theorem read_writes_congr {κ} {sp} {s : Shape} {e : EltTy} (v : View sig κ sp s e)
    (f f' : v.ty.Contents (Elt Ideal)) (h : v.read (Elt Ideal) f = v.read (Elt Ideal) f') (L : List (View.Piece (Elt Ideal) s e)) :
    v.read (Elt Ideal) (v.writes (Elt Ideal) f L) = v.read (Elt Ideal) (v.writes (Elt Ideal) f' L) := by
  funext y
  by_cases hy : ∃ p ∈ L, y ∈ p.1.set
  · exact View.read_writes_apply_eq v f v f' y L hy
  · have hn : ∀ p ∈ L, y ∉ p.1.set := fun p hp hm => hy ⟨p, hp, hm⟩
    rw [View.read_writes_apply_of_forall_not_mem v f y L hn, View.read_writes_apply_of_forall_not_mem v f' y L hn, h]

theorem slab_hit (v : View sig .tc .vmem S8x128x128 .f32) (f : v.ty.Contents (Elt Ideal)) (g : Fin 8)
    (h : ∀ a, (![g.val, 0, 0] : Fin 3 → ℕ) a + S1x128x128.size a ≤ S8x128x128.size a) (w : Vec Ideal S1x128x128 .f32)
    (L : List (View.Piece (Elt Ideal) S8x128x128 .f32)) (a l : Fin 128) :
    v.read (Elt Ideal) (v.writes (Elt Ideal) f (⟨Rect.unit (s := S8x128x128) ![g.val, 0, 0] S1x128x128.size h, w⟩ :: L)) (ix3 g a l)
      = w (ix3 0 a l) :=
  View.read_writes_cons_unit_of_mem v f h w L (ix3 g a l) (ix3 0 a l) rfl fun b => by fin_cases b <;> simp

theorem slab_miss (v : View sig .tc .vmem S8x128x128 .f32) (f : v.ty.Contents (Elt Ideal)) (g' g : Fin 8) (hg : g ≠ g')
    (h : ∀ a, (![g'.val, 0, 0] : Fin 3 → ℕ) a + S1x128x128.size a ≤ S8x128x128.size a) (w : Vec Ideal S1x128x128 .f32)
    (L : List (View.Piece (Elt Ideal) S8x128x128 .f32)) (a l : Fin 128) :
    v.read (Elt Ideal) (v.writes (Elt Ideal) f (⟨Rect.unit (s := S8x128x128) ![g'.val, 0, 0] S1x128x128.size h, w⟩ :: L)) (ix3 g a l)
      = v.read (Elt Ideal) (v.writes (Elt Ideal) f L) (ix3 g a l) :=
  View.read_writes_cons_unit_of_not_mem v f h w L (ix3 g a l) rfl 0 (by
    have : g.val ≠ g'.val := fun e => hg (Fin.ext e)
    show g.val < g'.val ∨ g'.val + 1 ≤ g.val
    omega)

set_option maxHeartbeats 1000000 in
section
variable (𝒱 : Variants) (c : Dev nD) (bd : Option 𝒱.V) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (v262 : FVec Ideal S1024x256 .bf16) (v266 : Elt Ideal .f32) (v270 : Elt Ideal .f32) (v274 : Elt Ideal .f32) (v278 : Elt Ideal .f32) (v306 : BitVec 32) (v314 : FVec Ideal S512x256 .bf16) (v330 : IVec S128x512 1) (v526 : FVec Ideal S128x512 .bf16) (v557 : FVec Ideal S128x512 .bf16) (v588 : FVec Ideal S128x512 .bf16) (v619 : FVec Ideal S128x512 .bf16) (v650 : FVec Ideal S128x512 .bf16) (v681 : FVec Ideal S128x512 .bf16) (v712 : FVec Ideal S128x512 .bf16) (v720 : FVec Ideal S128x256 .f32) (v725 : FVec Ideal S128x128 .f32) (v731 : FVec Ideal S128x256 .f32) (v733 : FVec Ideal S128 .f32) (X_arg4 : BufTy.Contents (Elt Ideal) arg4.view.ty) (X_arg6 : BufTy.Contents (Elt Ideal) arg6.view.ty) (X_arg7 : BufTy.Contents (Elt Ideal) arg7.view.ty) (k : Fin (k0_t1_loop i).trips) (f9 : BufTy.Contents (Elt Ideal) arg9.view.ty) (f10 : BufTy.Contents (Elt Ideal) arg10.view.ty)

theorem trip_acc0 (a : Fin 128) (C : EReal) (hC : ∀ l, arg10.view.read (Elt Ideal) f10 (ix3 0 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨a.val, by omega⟩ l)
      = arg9.view.read (Elt Ideal) f9 (ix2 ⟨a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v266 ⟨a.val, by omega⟩ c)) (fun c => l1f (zval v262 (arg6.view.readAt (Elt Ideal) (Rect.unit (s := S1x8192x256) (k0_off3 i k) S1x512x256.size (k0_off3_inb i k)).toLoadRect X_arg6) v266 ⟨a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![0, 0, 0] S1x128x128.size inb_S8x128x128_S1x128x128_0_0_0).toLoadRect f10) (ix3 0 a l) = C :=
    fun l => (congrArg _ (slab_idx 0 inb_S8x128x128_S1x128x128_0_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc0 _ _ _ _ _ _ _ _ _ _ _ _ _ a l).trans ?_
  refine congrArg _ (Finset.sum_congr rfl fun c _ => congrArg (· * _) ?_)
  · refine (t_A0 _ _ _ _ _ _ _ _ _ _ _ _ _ _ _ _ _ _ _ _ a C hcar c).trans ?_
    exact wgt_eq (fun c => (t_lb0 _ _ _ _ _)) (fun c => (t_l10 _ _ _ _ _))
      (fun y => ((t_lat0_0 _ _ _ _ _ _ _ _ _ _ _ _ _)).trans (Finset.sum_congr rfl fun x _ => congrArg (· * _) (t_l10 _ _ _ _ _)))
      (fun y => ((t_lat1_0 _ _ _ _ _ _ _ _ _ _ _ _ _)).trans (Finset.sum_congr rfl fun x _ => congrArg (· * _) (t_l10 _ _ _ _ _)))

set_option maxHeartbeats 1000000 in
theorem trip_acc1 (a : Fin 128) (C : EReal) (hC : ∀ l, arg10.view.read (Elt Ideal) f10 (ix3 1 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨128 + a.val, by omega⟩ l)
      = arg9.view.read (Elt Ideal) f9 (ix2 ⟨128 + a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v270 ⟨128 + a.val, by omega⟩ c)) (fun c => l1f (zval v262 (arg6.view.readAt (Elt Ideal) (Rect.unit (s := S1x8192x256) (k0_off3 i k) S1x512x256.size (k0_off3_inb i k)).toLoadRect X_arg6) v270 ⟨128 + a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![1, 0, 0] S1x128x128.size inb_S8x128x128_S1x128x128_1_0_0).toLoadRect f10) (ix3 0 a l) = C :=
    fun l => (congrArg _ (slab_idx 1 inb_S8x128x128_S1x128x128_1_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc1 _ _ _ _ _ _ _ _ _ _ _ _ _ a l).trans ?_
  refine congrArg _ (Finset.sum_congr rfl fun c _ => congrArg (· * _) ?_)
  · refine (t_A1 _ _ _ _ _ _ _ _ _ _ _ _ _ _ _ _ _ _ _ _ _ a C hcar c).trans ?_
    exact wgt_eq (fun c => (t_lb1 _ _ _ _ _)) (fun c => (t_l11 _ _ _ _ _))
      (fun y => ((t_lat0_1 _ _ _ _ _ _ _ _ _ _ _ _ _)).trans (Finset.sum_congr rfl fun x _ => congrArg (· * _) (t_l11 _ _ _ _ _)))
      (fun y => ((t_lat1_1 _ _ _ _ _ _ _ _ _ _ _ _ _)).trans (Finset.sum_congr rfl fun x _ => congrArg (· * _) (t_l11 _ _ _ _ _)))

set_option maxHeartbeats 1000000 in
theorem trip_acc2 (a : Fin 128) (C : EReal) (hC : ∀ l, arg10.view.read (Elt Ideal) f10 (ix3 2 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨256 + a.val, by omega⟩ l)
      = arg9.view.read (Elt Ideal) f9 (ix2 ⟨256 + a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v274 ⟨256 + a.val, by omega⟩ c)) (fun c => l1f (zval v262 (arg6.view.readAt (Elt Ideal) (Rect.unit (s := S1x8192x256) (k0_off3 i k) S1x512x256.size (k0_off3_inb i k)).toLoadRect X_arg6) v274 ⟨256 + a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![2, 0, 0] S1x128x128.size inb_S8x128x128_S1x128x128_2_0_0).toLoadRect f10) (ix3 0 a l) = C :=
    fun l => (congrArg _ (slab_idx 2 inb_S8x128x128_S1x128x128_2_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc2 _ _ _ _ _ _ _ _ _ _ _ _ _ a l).trans ?_
  refine congrArg _ (Finset.sum_congr rfl fun c _ => congrArg (· * _) ?_)
  · refine (t_A2 _ _ _ _ a C hcar c).trans ?_
    exact wgt_eq (fun c => (t_lb2 _ _ _ _ _)) (fun c => (t_l12 _ _ _ _ _))
      (fun y => ((t_lat0_2 _ _ _ _ _ _ _ _ _ _ _ _ _)).trans (Finset.sum_congr rfl fun x _ => congrArg (· * _) (t_l12 _ _ _ _ _)))
      (fun y => ((t_lat1_2 _ _ _ _ _ _ _ _ _ _ _ _ _)).trans (Finset.sum_congr rfl fun x _ => congrArg (· * _) (t_l12 _ _ _ _ _)))

set_option maxHeartbeats 1000000 in
theorem trip_acc3 (a : Fin 128) (C : EReal) (hC : ∀ l, arg10.view.read (Elt Ideal) f10 (ix3 3 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨384 + a.val, by omega⟩ l)
      = arg9.view.read (Elt Ideal) f9 (ix2 ⟨384 + a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v278 ⟨384 + a.val, by omega⟩ c)) (fun c => l1f (zval v262 (arg6.view.readAt (Elt Ideal) (Rect.unit (s := S1x8192x256) (k0_off3 i k) S1x512x256.size (k0_off3_inb i k)).toLoadRect X_arg6) v278 ⟨384 + a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![3, 0, 0] S1x128x128.size inb_S8x128x128_S1x128x128_3_0_0).toLoadRect f10) (ix3 0 a l) = C :=
    fun l => (congrArg _ (slab_idx 3 inb_S8x128x128_S1x128x128_3_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc3 _ _ _ _ _ _ _ _ _ _ _ _ _ a l).trans ?_
  refine congrArg _ (Finset.sum_congr rfl fun c _ => congrArg (· * _) ?_)
  · refine (t_A3 _ _ _ _ a C hcar c).trans ?_
    exact wgt_eq (fun c => (t_lb3 _ _ _ _ _)) (fun c => (t_l13 _ _ _ _ _))
      (fun y => ((t_lat0_3 _ _ _ _ _ _ _ _ _ _ _ _ _)).trans (Finset.sum_congr rfl fun x _ => congrArg (· * _) (t_l13 _ _ _ _ _)))
      (fun y => ((t_lat1_3 _ _ _ _ _ _ _ _ _ _ _ _ _)).trans (Finset.sum_congr rfl fun x _ => congrArg (· * _) (t_l13 _ _ _ _ _)))

set_option maxHeartbeats 1000000 in
theorem trip_acc4 (a : Fin 128) (C : EReal) (hC : ∀ l, arg10.view.read (Elt Ideal) f10 (ix3 4 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨512 + a.val, by omega⟩ l)
      = arg9.view.read (Elt Ideal) f9 (ix2 ⟨512 + a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v266 ⟨512 + a.val, by omega⟩ c)) (fun c => l1f (zval v262 (arg6.view.readAt (Elt Ideal) (Rect.unit (s := S1x8192x256) (k0_off3 i k) S1x512x256.size (k0_off3_inb i k)).toLoadRect X_arg6) v266 ⟨512 + a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![4, 0, 0] S1x128x128.size inb_S8x128x128_S1x128x128_4_0_0).toLoadRect f10) (ix3 0 a l) = C :=
    fun l => (congrArg _ (slab_idx 4 inb_S8x128x128_S1x128x128_4_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc4 _ _ _ _ _ _ _ _ _ _ _ _ _ a l).trans ?_
  refine congrArg _ (Finset.sum_congr rfl fun c _ => congrArg (· * _) ?_)
  · refine (t_A4 _ _ _ _ a C hcar c).trans ?_
    exact wgt_eq (fun c => (t_lb4 _ _ _ _ _)) (fun c => (t_l14 _ _ _ _ _))
      (fun y => ((t_lat0_4 _ _ _ _ _ _ _ _ _ _ _ _ _)).trans (Finset.sum_congr rfl fun x _ => congrArg (· * _) (t_l14 _ _ _ _ _)))
      (fun y => ((t_lat1_4 _ _ _ _ _ _ _ _ _ _ _ _ _)).trans (Finset.sum_congr rfl fun x _ => congrArg (· * _) (t_l14 _ _ _ _ _)))

set_option maxHeartbeats 1000000 in
theorem trip_acc5 (a : Fin 128) (C : EReal) (hC : ∀ l, arg10.view.read (Elt Ideal) f10 (ix3 5 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨640 + a.val, by omega⟩ l)
      = arg9.view.read (Elt Ideal) f9 (ix2 ⟨640 + a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v270 ⟨640 + a.val, by omega⟩ c)) (fun c => l1f (zval v262 (arg6.view.readAt (Elt Ideal) (Rect.unit (s := S1x8192x256) (k0_off3 i k) S1x512x256.size (k0_off3_inb i k)).toLoadRect X_arg6) v270 ⟨640 + a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![5, 0, 0] S1x128x128.size inb_S8x128x128_S1x128x128_5_0_0).toLoadRect f10) (ix3 0 a l) = C :=
    fun l => (congrArg _ (slab_idx 5 inb_S8x128x128_S1x128x128_5_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc5 _ _ _ _ _ _ _ _ _ _ _ _ _ a l).trans ?_
  refine congrArg _ (Finset.sum_congr rfl fun c _ => congrArg (· * _) ?_)
  · refine (t_A5 _ _ _ _ a C hcar c).trans ?_
    exact wgt_eq (fun c => (t_lb5 _ _ _ _ _)) (fun c => (t_l15 _ _ _ _ _))
      (fun y => ((t_lat0_5 _ _ _ _ _ _ _ _ _ _ _ _ _)).trans (Finset.sum_congr rfl fun x _ => congrArg (· * _) (t_l15 _ _ _ _ _)))
      (fun y => ((t_lat1_5 _ _ _ _ _ _ _ _ _ _ _ _ _)).trans (Finset.sum_congr rfl fun x _ => congrArg (· * _) (t_l15 _ _ _ _ _)))

set_option maxHeartbeats 1000000 in
theorem trip_acc6 (a : Fin 128) (C : EReal) (hC : ∀ l, arg10.view.read (Elt Ideal) f10 (ix3 6 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨768 + a.val, by omega⟩ l)
      = arg9.view.read (Elt Ideal) f9 (ix2 ⟨768 + a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v274 ⟨768 + a.val, by omega⟩ c)) (fun c => l1f (zval v262 (arg6.view.readAt (Elt Ideal) (Rect.unit (s := S1x8192x256) (k0_off3 i k) S1x512x256.size (k0_off3_inb i k)).toLoadRect X_arg6) v274 ⟨768 + a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![6, 0, 0] S1x128x128.size inb_S8x128x128_S1x128x128_6_0_0).toLoadRect f10) (ix3 0 a l) = C :=
    fun l => (congrArg _ (slab_idx 6 inb_S8x128x128_S1x128x128_6_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc6 _ _ _ _ _ _ _ _ _ _ _ _ _ a l).trans ?_
  refine congrArg _ (Finset.sum_congr rfl fun c _ => congrArg (· * _) ?_)
  · refine (t_A6 _ _ _ _ a C hcar c).trans ?_
    exact wgt_eq (fun c => (t_lb6 _ _ _ _ _)) (fun c => (t_l16 _ _ _ _ _))
      (fun y => ((t_lat0_6 _ _ _ _ _ _ _ _ _ _ _ _ _)).trans (Finset.sum_congr rfl fun x _ => congrArg (· * _) (t_l16 _ _ _ _ _)))
      (fun y => ((t_lat1_6 _ _ _ _ _ _ _ _ _ _ _ _ _)).trans (Finset.sum_congr rfl fun x _ => congrArg (· * _) (t_l16 _ _ _ _ _)))

set_option maxHeartbeats 1000000 in
theorem trip_acc7 (a : Fin 128) (C : EReal) (hC : ∀ l, arg10.view.read (Elt Ideal) f10 (ix3 7 a l) = C) (l : Fin 256) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 ⟨896 + a.val, by omega⟩ l)
      = arg9.view.read (Elt Ideal) f9 (ix2 ⟨896 + a.val, by omega⟩ l)
        + ∑ c : Fin 512, wg (fun c => lbf (zval v262 (arg6.view.readAt (Elt Ideal) (Rect.unit (s := S1x8192x256) (k0_off3 i k) S1x512x256.size (k0_off3_inb i k)).toLoadRect X_arg6) v278 ⟨896 + a.val, by omega⟩ c)) (fun c => l1f (zval v262 (arg6.view.readAt (Elt Ideal) (Rect.unit (s := S1x8192x256) (k0_off3 i k) S1x512x256.size (k0_off3_inb i k)).toLoadRect X_arg6) v278 ⟨896 + a.val, by omega⟩ c)) (arg4.view.read (Elt Ideal) X_arg4) C c * (arg7.view.readAt (Elt Ideal) (Rect.unit (s := S1x8192x256) (k0_off3 i k) S1x512x256.size (k0_off3_inb i k)).toLoadRect X_arg7) (ix3 0 c l) := by
  have hcar : ∀ l, (arg10.view.readAt (Elt Ideal) (Rect.unit (s := S8x128x128) ![7, 0, 0] S1x128x128.size inb_S8x128x128_S1x128x128_7_0_0).toLoadRect f10) (ix3 0 a l) = C :=
    fun l => (congrArg _ (slab_idx 7 inb_S8x128x128_S1x128x128_7_0_0 a l)).trans (hC l)
  rw [← View.readAt_full arg4.view X_arg4 inb_S256x256_S256x256_0_0, ← View.readAt_full arg9.view f9 inb_S1024x256_S1024x256_0_0]
  unfold tripL_k0_t1 trip_k0_t1
  dsimp only
  refine (congrFun (View.read_writes_full ..) _).trans ?_
  refine (t_acc7 _ _ _ _ _ _ _ _ _ _ _ _ _ a C hcar l).trans ?_
  refine congrArg _ (Finset.sum_congr rfl fun c _ => congrArg (· * _) ?_)
  · exact wgt_eq (fun c => (t_lb7 _ _ _ _ _)) (fun c => (t_l17 _ _ _ _ _))
      (fun y => ((t_lat0_7 _ _ _ _ _ _ _ _ _ _ _ _ _)).trans (Finset.sum_congr rfl fun x _ => congrArg (· * _) (t_l17 _ _ _ _ _)))
      (fun y => ((t_lat1_7 _ _ _ _ _ _ _ _ _ _ _ _ _)).trans (Finset.sum_congr rfl fun x _ => congrArg (· * _) (t_l17 _ _ _ _ _)))

set_option maxHeartbeats 1000000 in
theorem trip_car0 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 0 a l)
      = arg10.view.read (Elt Ideal) f10 (ix3 0 a l)
        + (∑ x : Fin 256, l1f (zval v262 (arg6.view.readAt (Elt Ideal) (Rect.unit (s := S1x8192x256) (k0_off3 i k) S1x512x256.size (k0_off3_inb i k)).toLoadRect X_arg6) v266 ⟨a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v266 ⟨a.val, by omega⟩ ⟨x.val, by omega⟩) := by
  unfold tripL_k0_t1 trip_k0_t1
  dsimp only
  refine (slab_miss _ _ 7 0 (by decide) inb_S8x128x128_S1x128x128_7_0_0 _ _ a l).trans ?_
  refine (slab_miss _ _ 6 0 (by decide) inb_S8x128x128_S1x128x128_6_0_0 _ _ a l).trans ?_
  refine (slab_miss _ _ 5 0 (by decide) inb_S8x128x128_S1x128x128_5_0_0 _ _ a l).trans ?_
  refine (slab_miss _ _ 4 0 (by decide) inb_S8x128x128_S1x128x128_4_0_0 _ _ a l).trans ?_
  refine (slab_miss _ _ 3 0 (by decide) inb_S8x128x128_S1x128x128_3_0_0 _ _ a l).trans ?_
  refine (slab_miss _ _ 2 0 (by decide) inb_S8x128x128_S1x128x128_2_0_0 _ _ a l).trans ?_
  refine (slab_miss _ _ 1 0 (by decide) inb_S8x128x128_S1x128x128_1_0_0 _ _ a l).trans ?_
  refine (slab_hit _ _ 0 inb_S8x128x128_S1x128x128_0_0_0 _ _ a l).trans ?_
  refine (t_car0 _ _ _ _).trans ?_
  refine congrArg₂ (· + ·) (congrArg₂ (· + ·) (congrArg _ (slab_idx 0 inb_S8x128x128_S1x128x128_0_0_0 a l)) ?_) ?_
  · exact Finset.sum_congr rfl fun x _ => (t_l10 _ _ _ _ _)
  · exact Finset.sum_congr rfl fun x _ => (t_l10 _ _ _ _ _)

set_option maxHeartbeats 1000000 in
theorem trip_car1 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 1 a l)
      = arg10.view.read (Elt Ideal) f10 (ix3 1 a l)
        + (∑ x : Fin 256, l1f (zval v262 (arg6.view.readAt (Elt Ideal) (Rect.unit (s := S1x8192x256) (k0_off3 i k) S1x512x256.size (k0_off3_inb i k)).toLoadRect X_arg6) v270 ⟨128 + a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v270 ⟨128 + a.val, by omega⟩ ⟨x.val, by omega⟩) := by
  unfold tripL_k0_t1 trip_k0_t1
  dsimp only
  refine (slab_miss _ _ 7 1 (by decide) inb_S8x128x128_S1x128x128_7_0_0 _ _ a l).trans ?_
  refine (slab_miss _ _ 6 1 (by decide) inb_S8x128x128_S1x128x128_6_0_0 _ _ a l).trans ?_
  refine (slab_miss _ _ 5 1 (by decide) inb_S8x128x128_S1x128x128_5_0_0 _ _ a l).trans ?_
  refine (slab_miss _ _ 4 1 (by decide) inb_S8x128x128_S1x128x128_4_0_0 _ _ a l).trans ?_
  refine (slab_miss _ _ 3 1 (by decide) inb_S8x128x128_S1x128x128_3_0_0 _ _ a l).trans ?_
  refine (slab_miss _ _ 2 1 (by decide) inb_S8x128x128_S1x128x128_2_0_0 _ _ a l).trans ?_
  refine (slab_hit _ _ 1 inb_S8x128x128_S1x128x128_1_0_0 _ _ a l).trans ?_
  refine (t_car1 _ _ _ _).trans ?_
  refine congrArg₂ (· + ·) (congrArg₂ (· + ·) (congrArg _ (slab_idx 1 inb_S8x128x128_S1x128x128_1_0_0 a l)) ?_) ?_
  · exact Finset.sum_congr rfl fun x _ => (t_l11 _ _ _ _ _)
  · exact Finset.sum_congr rfl fun x _ => (t_l11 _ _ _ _ _)

set_option maxHeartbeats 1000000 in
theorem trip_car2 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 2 a l)
      = arg10.view.read (Elt Ideal) f10 (ix3 2 a l)
        + (∑ x : Fin 256, l1f (zval v262 (arg6.view.readAt (Elt Ideal) (Rect.unit (s := S1x8192x256) (k0_off3 i k) S1x512x256.size (k0_off3_inb i k)).toLoadRect X_arg6) v274 ⟨256 + a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v274 ⟨256 + a.val, by omega⟩ ⟨x.val, by omega⟩) := by
  unfold tripL_k0_t1 trip_k0_t1
  dsimp only
  refine (slab_miss _ _ 7 2 (by decide) inb_S8x128x128_S1x128x128_7_0_0 _ _ a l).trans ?_
  refine (slab_miss _ _ 6 2 (by decide) inb_S8x128x128_S1x128x128_6_0_0 _ _ a l).trans ?_
  refine (slab_miss _ _ 5 2 (by decide) inb_S8x128x128_S1x128x128_5_0_0 _ _ a l).trans ?_
  refine (slab_miss _ _ 4 2 (by decide) inb_S8x128x128_S1x128x128_4_0_0 _ _ a l).trans ?_
  refine (slab_miss _ _ 3 2 (by decide) inb_S8x128x128_S1x128x128_3_0_0 _ _ a l).trans ?_
  refine (slab_hit _ _ 2 inb_S8x128x128_S1x128x128_2_0_0 _ _ a l).trans ?_
  refine (t_car2 _ _ _ _).trans ?_
  refine congrArg₂ (· + ·) (congrArg₂ (· + ·) (congrArg _ (slab_idx 2 inb_S8x128x128_S1x128x128_2_0_0 a l)) ?_) ?_
  · exact Finset.sum_congr rfl fun x _ => (t_l12 _ _ _ _ _)
  · exact Finset.sum_congr rfl fun x _ => (t_l12 _ _ _ _ _)

set_option maxHeartbeats 1000000 in
theorem trip_car3 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 3 a l)
      = arg10.view.read (Elt Ideal) f10 (ix3 3 a l)
        + (∑ x : Fin 256, l1f (zval v262 (arg6.view.readAt (Elt Ideal) (Rect.unit (s := S1x8192x256) (k0_off3 i k) S1x512x256.size (k0_off3_inb i k)).toLoadRect X_arg6) v278 ⟨384 + a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v278 ⟨384 + a.val, by omega⟩ ⟨x.val, by omega⟩) := by
  unfold tripL_k0_t1 trip_k0_t1
  dsimp only
  refine (slab_miss _ _ 7 3 (by decide) inb_S8x128x128_S1x128x128_7_0_0 _ _ a l).trans ?_
  refine (slab_miss _ _ 6 3 (by decide) inb_S8x128x128_S1x128x128_6_0_0 _ _ a l).trans ?_
  refine (slab_miss _ _ 5 3 (by decide) inb_S8x128x128_S1x128x128_5_0_0 _ _ a l).trans ?_
  refine (slab_miss _ _ 4 3 (by decide) inb_S8x128x128_S1x128x128_4_0_0 _ _ a l).trans ?_
  refine (slab_hit _ _ 3 inb_S8x128x128_S1x128x128_3_0_0 _ _ a l).trans ?_
  refine (t_car3 _ _ _ _).trans ?_
  refine congrArg₂ (· + ·) (congrArg₂ (· + ·) (congrArg _ (slab_idx 3 inb_S8x128x128_S1x128x128_3_0_0 a l)) ?_) ?_
  · exact Finset.sum_congr rfl fun x _ => (t_l13 _ _ _ _ _)
  · exact Finset.sum_congr rfl fun x _ => (t_l13 _ _ _ _ _)

set_option maxHeartbeats 1000000 in
theorem trip_car4 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 4 a l)
      = arg10.view.read (Elt Ideal) f10 (ix3 4 a l)
        + (∑ x : Fin 256, l1f (zval v262 (arg6.view.readAt (Elt Ideal) (Rect.unit (s := S1x8192x256) (k0_off3 i k) S1x512x256.size (k0_off3_inb i k)).toLoadRect X_arg6) v266 ⟨512 + a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v266 ⟨512 + a.val, by omega⟩ ⟨x.val, by omega⟩) := by
  unfold tripL_k0_t1 trip_k0_t1
  dsimp only
  refine (slab_miss _ _ 7 4 (by decide) inb_S8x128x128_S1x128x128_7_0_0 _ _ a l).trans ?_
  refine (slab_miss _ _ 6 4 (by decide) inb_S8x128x128_S1x128x128_6_0_0 _ _ a l).trans ?_
  refine (slab_miss _ _ 5 4 (by decide) inb_S8x128x128_S1x128x128_5_0_0 _ _ a l).trans ?_
  refine (slab_hit _ _ 4 inb_S8x128x128_S1x128x128_4_0_0 _ _ a l).trans ?_
  refine (t_car4 _ _ _ _).trans ?_
  refine congrArg₂ (· + ·) (congrArg₂ (· + ·) (congrArg _ (slab_idx 4 inb_S8x128x128_S1x128x128_4_0_0 a l)) ?_) ?_
  · exact Finset.sum_congr rfl fun x _ => (t_l14 _ _ _ _ _)
  · exact Finset.sum_congr rfl fun x _ => (t_l14 _ _ _ _ _)

set_option maxHeartbeats 1000000 in
theorem trip_car5 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 5 a l)
      = arg10.view.read (Elt Ideal) f10 (ix3 5 a l)
        + (∑ x : Fin 256, l1f (zval v262 (arg6.view.readAt (Elt Ideal) (Rect.unit (s := S1x8192x256) (k0_off3 i k) S1x512x256.size (k0_off3_inb i k)).toLoadRect X_arg6) v270 ⟨640 + a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v270 ⟨640 + a.val, by omega⟩ ⟨x.val, by omega⟩) := by
  unfold tripL_k0_t1 trip_k0_t1
  dsimp only
  refine (slab_miss _ _ 7 5 (by decide) inb_S8x128x128_S1x128x128_7_0_0 _ _ a l).trans ?_
  refine (slab_miss _ _ 6 5 (by decide) inb_S8x128x128_S1x128x128_6_0_0 _ _ a l).trans ?_
  refine (slab_hit _ _ 5 inb_S8x128x128_S1x128x128_5_0_0 _ _ a l).trans ?_
  refine (t_car5 _ _ _ _).trans ?_
  refine congrArg₂ (· + ·) (congrArg₂ (· + ·) (congrArg _ (slab_idx 5 inb_S8x128x128_S1x128x128_5_0_0 a l)) ?_) ?_
  · exact Finset.sum_congr rfl fun x _ => (t_l15 _ _ _ _ _)
  · exact Finset.sum_congr rfl fun x _ => (t_l15 _ _ _ _ _)

set_option maxHeartbeats 1000000 in
theorem trip_car6 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 6 a l)
      = arg10.view.read (Elt Ideal) f10 (ix3 6 a l)
        + (∑ x : Fin 256, l1f (zval v262 (arg6.view.readAt (Elt Ideal) (Rect.unit (s := S1x8192x256) (k0_off3 i k) S1x512x256.size (k0_off3_inb i k)).toLoadRect X_arg6) v274 ⟨768 + a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v274 ⟨768 + a.val, by omega⟩ ⟨x.val, by omega⟩) := by
  unfold tripL_k0_t1 trip_k0_t1
  dsimp only
  refine (slab_miss _ _ 7 6 (by decide) inb_S8x128x128_S1x128x128_7_0_0 _ _ a l).trans ?_
  refine (slab_hit _ _ 6 inb_S8x128x128_S1x128x128_6_0_0 _ _ a l).trans ?_
  refine (t_car6 _ _ _ _).trans ?_
  refine congrArg₂ (· + ·) (congrArg₂ (· + ·) (congrArg _ (slab_idx 6 inb_S8x128x128_S1x128x128_6_0_0 a l)) ?_) ?_
  · exact Finset.sum_congr rfl fun x _ => (t_l16 _ _ _ _ _)
  · exact Finset.sum_congr rfl fun x _ => (t_l16 _ _ _ _ _)

set_option maxHeartbeats 1000000 in
theorem trip_car7 (a l : Fin 128) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 7 a l)
      = arg10.view.read (Elt Ideal) f10 (ix3 7 a l)
        + (∑ x : Fin 256, l1f (zval v262 (arg6.view.readAt (Elt Ideal) (Rect.unit (s := S1x8192x256) (k0_off3 i k) S1x512x256.size (k0_off3_inb i k)).toLoadRect X_arg6) v278 ⟨896 + a.val, by omega⟩ ⟨256 + x.val, by omega⟩)) + ∑ x : Fin 256, l1f (zval v262 (arg6.view.readAt (Elt Ideal) (Rect.unit (s := S1x8192x256) (k0_off3 i k) S1x512x256.size (k0_off3_inb i k)).toLoadRect X_arg6) v278 ⟨896 + a.val, by omega⟩ ⟨x.val, by omega⟩) := by
  unfold tripL_k0_t1 trip_k0_t1
  dsimp only
  refine (slab_hit _ _ 7 inb_S8x128x128_S1x128x128_7_0_0 _ _ a l).trans ?_
  refine (t_car7 _ _ _ _).trans ?_
  refine congrArg₂ (· + ·) (congrArg₂ (· + ·) (congrArg _ (slab_idx 7 inb_S8x128x128_S1x128x128_7_0_0 a l)) ?_) ?_
  · exact Finset.sum_congr rfl fun x _ => (t_l17 _ _ _ _ _)
  · exact Finset.sum_congr rfl fun x _ => (t_l17 _ _ _ _ _)

end

section
variable (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16)
include c i arg3 harg3 arg4 harg4 arg5 harg5 arg6 harg6 arg7 harg7 arg8 harg8 arg9 harg9 arg10 harg10 x0 x1 x2 x3 x4

theorem zero_slab1 (f : BufTy.Contents (Elt Ideal) arg10.view.ty) (g : Fin 8) (hg : 0 ≤ g.val) (a l : Fin 128) :
    arg10.view.read (Elt Ideal) (arg10.view.writes (Elt Ideal) f (kernelRun0_A.sl.HS1_1 (F := Ideal))) (ix3 g a l) = 0 := by
  unfold kernelRun0_A.sl.HS1_1
  refine (congrFun (View.read_writes_full ..) _).trans ?_
  pointwise [k0_pay184]

theorem zero_slab2 (f : BufTy.Contents (Elt Ideal) arg10.view.ty) (g : Fin 8) (hg : 1 ≤ g.val) (a l : Fin 128) :
    arg10.view.read (Elt Ideal) (arg10.view.writes (Elt Ideal) f (kernelRun0_A.sl.HS1_2 (F := Ideal) c i arg3 harg3 arg5 harg5 arg6 harg6 arg10 x0 x2 x3)) (ix3 g a l) = 0 := by
  unfold kernelRun0_A.sl.HS1_2
  refine (slab_miss _ _ 0 g (fun e => absurd hg (by rw [e]; decide)) inb_S8x128x128_S1x128x128_0_0_0 _ _ a l).trans ?_
  exact zero_slab1 c i arg3 harg3 arg4 harg4 arg5 harg5 arg6 harg6 arg7 harg7 arg8 harg8 arg9 harg9 arg10 harg10 x0 x1 x2 x3 x4 f g (le_trans (by decide) hg) a l

theorem zero_slab3 (f : BufTy.Contents (Elt Ideal) arg10.view.ty) (g : Fin 8) (hg : 2 ≤ g.val) (a l : Fin 128) :
    arg10.view.read (Elt Ideal) (arg10.view.writes (Elt Ideal) f (kernelRun0_A.sl.HS1_3 (F := Ideal) c i arg3 harg3 arg5 harg5 arg6 harg6 arg10 x0 x2 x3)) (ix3 g a l) = 0 := by
  unfold kernelRun0_A.sl.HS1_3
  refine (slab_miss _ _ 1 g (fun e => absurd hg (by rw [e]; decide)) inb_S8x128x128_S1x128x128_1_0_0 _ _ a l).trans ?_
  exact zero_slab2 c i arg3 harg3 arg4 harg4 arg5 harg5 arg6 harg6 arg7 harg7 arg8 harg8 arg9 harg9 arg10 harg10 x0 x1 x2 x3 x4 f g (le_trans (by decide) hg) a l

theorem zero_slab4 (f : BufTy.Contents (Elt Ideal) arg10.view.ty) (g : Fin 8) (hg : 3 ≤ g.val) (a l : Fin 128) :
    arg10.view.read (Elt Ideal) (arg10.view.writes (Elt Ideal) f (kernelRun0_A.sl.HS1_4 (F := Ideal) c i arg3 harg3 arg5 harg5 arg6 harg6 arg10 x0 x2 x3)) (ix3 g a l) = 0 := by
  unfold kernelRun0_A.sl.HS1_4
  refine (slab_miss _ _ 2 g (fun e => absurd hg (by rw [e]; decide)) inb_S8x128x128_S1x128x128_2_0_0 _ _ a l).trans ?_
  exact zero_slab3 c i arg3 harg3 arg4 harg4 arg5 harg5 arg6 harg6 arg7 harg7 arg8 harg8 arg9 harg9 arg10 harg10 x0 x1 x2 x3 x4 f g (le_trans (by decide) hg) a l

theorem zero_slab5 (f : BufTy.Contents (Elt Ideal) arg10.view.ty) (g : Fin 8) (hg : 4 ≤ g.val) (a l : Fin 128) :
    arg10.view.read (Elt Ideal) (arg10.view.writes (Elt Ideal) f (kernelRun0_A.sl.HS1_5 (F := Ideal) c i arg3 harg3 arg5 harg5 arg6 harg6 arg10 x0 x2 x3)) (ix3 g a l) = 0 := by
  unfold kernelRun0_A.sl.HS1_5
  refine (slab_miss _ _ 3 g (fun e => absurd hg (by rw [e]; decide)) inb_S8x128x128_S1x128x128_3_0_0 _ _ a l).trans ?_
  exact zero_slab4 c i arg3 harg3 arg4 harg4 arg5 harg5 arg6 harg6 arg7 harg7 arg8 harg8 arg9 harg9 arg10 harg10 x0 x1 x2 x3 x4 f g (le_trans (by decide) hg) a l

theorem zero_slab6 (f : BufTy.Contents (Elt Ideal) arg10.view.ty) (g : Fin 8) (hg : 5 ≤ g.val) (a l : Fin 128) :
    arg10.view.read (Elt Ideal) (arg10.view.writes (Elt Ideal) f (kernelRun0_A.sl.HS1_6 (F := Ideal) c i arg3 harg3 arg5 harg5 arg6 harg6 arg10 x0 x2 x3)) (ix3 g a l) = 0 := by
  unfold kernelRun0_A.sl.HS1_6
  refine (slab_miss _ _ 4 g (fun e => absurd hg (by rw [e]; decide)) inb_S8x128x128_S1x128x128_4_0_0 _ _ a l).trans ?_
  exact zero_slab5 c i arg3 harg3 arg4 harg4 arg5 harg5 arg6 harg6 arg7 harg7 arg8 harg8 arg9 harg9 arg10 harg10 x0 x1 x2 x3 x4 f g (le_trans (by decide) hg) a l

theorem zero_slab7 (f : BufTy.Contents (Elt Ideal) arg10.view.ty) (g : Fin 8) (hg : 6 ≤ g.val) (a l : Fin 128) :
    arg10.view.read (Elt Ideal) (arg10.view.writes (Elt Ideal) f (kernelRun0_A.sl.HS1_7 (F := Ideal) c i arg3 harg3 arg5 harg5 arg6 harg6 arg10 x0 x2 x3)) (ix3 g a l) = 0 := by
  unfold kernelRun0_A.sl.HS1_7
  refine (slab_miss _ _ 5 g (fun e => absurd hg (by rw [e]; decide)) inb_S8x128x128_S1x128x128_5_0_0 _ _ a l).trans ?_
  exact zero_slab6 c i arg3 harg3 arg4 harg4 arg5 harg5 arg6 harg6 arg7 harg7 arg8 harg8 arg9 harg9 arg10 harg10 x0 x1 x2 x3 x4 f g (le_trans (by decide) hg) a l

theorem zero_slab8 (f : BufTy.Contents (Elt Ideal) arg10.view.ty) (g : Fin 8) (hg : 7 ≤ g.val) (a l : Fin 128) :
    arg10.view.read (Elt Ideal) (arg10.view.writes (Elt Ideal) f (kernelRun0_A.sl.HS1_8 (F := Ideal) c i arg3 harg3 arg5 harg5 arg6 harg6 arg10 x0 x2 x3)) (ix3 g a l) = 0 := by
  unfold kernelRun0_A.sl.HS1_8
  refine (slab_miss _ _ 6 g (fun e => absurd hg (by rw [e]; decide)) inb_S8x128x128_S1x128x128_6_0_0 _ _ a l).trans ?_
  exact zero_slab7 c i arg3 harg3 arg4 harg4 arg5 harg5 arg6 harg6 arg7 harg7 arg8 harg8 arg9 harg9 arg10 harg10 x0 x1 x2 x3 x4 f g (le_trans (by decide) hg) a l

set_option maxHeartbeats 1000000 in
theorem head_car0 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 0 a l)
      = 0 + (∑ x : Fin 256, (Scalar.select ((kernelRun0_A.sl.r_15 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨a.val, by omega⟩ (⟨256 + x.val, by omega⟩ : Fin 512))) 0)) + ∑ x : Fin 256, (Scalar.select ((kernelRun0_A.sl.r_15 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨a.val, by omega⟩ (⟨x.val, by omega⟩ : Fin 512))) 0) := by
  unfold kernelRun0_A.sl.HS1_9
  refine (slab_miss _ _ 7 0 (by decide) inb_S8x128x128_S1x128x128_7_0_0 _ _ a l).trans ?_
  unfold kernelRun0_A.sl.HS1_8
  refine (slab_miss _ _ 6 0 (by decide) inb_S8x128x128_S1x128x128_6_0_0 _ _ a l).trans ?_
  unfold kernelRun0_A.sl.HS1_7
  refine (slab_miss _ _ 5 0 (by decide) inb_S8x128x128_S1x128x128_5_0_0 _ _ a l).trans ?_
  unfold kernelRun0_A.sl.HS1_6
  refine (slab_miss _ _ 4 0 (by decide) inb_S8x128x128_S1x128x128_4_0_0 _ _ a l).trans ?_
  unfold kernelRun0_A.sl.HS1_5
  refine (slab_miss _ _ 3 0 (by decide) inb_S8x128x128_S1x128x128_3_0_0 _ _ a l).trans ?_
  unfold kernelRun0_A.sl.HS1_4
  refine (slab_miss _ _ 2 0 (by decide) inb_S8x128x128_S1x128x128_2_0_0 _ _ a l).trans ?_
  unfold kernelRun0_A.sl.HS1_3
  refine (slab_miss _ _ 1 0 (by decide) inb_S8x128x128_S1x128x128_1_0_0 _ _ a l).trans ?_
  unfold kernelRun0_A.sl.HS1_2
  refine (slab_hit _ _ 0 inb_S8x128x128_S1x128x128_0_0_0 _ _ a l).trans ?_
  refine (m_car0 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_1 (F := Ideal)))) (slab_idx 0 inb_S8x128x128_S1x128x128_0_0_0 a l)).trans (zero_slab1 c i arg3 harg3 arg4 harg4 arg5 harg5 arg6 harg6 arg7 harg7 arg8 harg8 arg9 harg9 arg10 harg10 x0 x1 x2 x3 x4 _ 0 (by decide) a l)
  · exact Finset.sum_congr rfl fun x _ => (m_l10 _ _ _ _ _ _ _ _ _)
  · exact Finset.sum_congr rfl fun x _ => (m_l10 _ _ _ _ _ _ _ _ _)

set_option maxHeartbeats 1000000 in
theorem head_acc0 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨a.val, by omega⟩ l)
      = 0 + ∑ j : Fin 512, Scalar.select ((kernelRun0_A.sl.r_15 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨a.val, by omega⟩ j)) (fun j => (Scalar.select ((kernelRun0_A.sl.r_15 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_1 (F := Ideal)) (Rect.unit (s := S8x128x128) ![0, 0, 0] S1x128x128.size inb_S8x128x128_S1x128x128_0_0_0).toLoadRect) (ix3 0 a l) = (0 : EReal) := fun l => (congrArg (arg10.view.read (Elt Ideal) (arg10.view.writes (Elt Ideal) arg10.view.junk (kernelRun0_A.sl.HS1_1 (F := Ideal)))) (slab_idx 0 inb_S8x128x128_S1x128x128_0_0_0 a l)).trans (zero_slab1 c i arg3 harg3 arg4 harg4 arg5 harg5 arg6 harg6 arg7 harg7 arg8 harg8 arg9 harg9 arg10 harg10 x0 x1 x2 x3 x4 _ 0 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc0 _ _ _ _ _ _ _ _ _ _ _ _ _ _ a l).trans ?_
  refine congrArg₂ (· + ·) ?_ (Finset.sum_congr rfl fun j _ => congrArg (· * _) ?_)
  · refine (congrFun (View.readCov_full ..) _).trans ?_
    pointwise [k0_pay183]
  · refine (m_A0 _ _ _ _ _ _ _ _ _ _ _ _ _ _ _ a 0 hcar j).trans ?_
    refine congrArg (fun t => Scalar.select ((kernelRun0_A.sl.r_15 i) (ix2 a j)) t 0) ?_
    refine Eq.trans (wgt_eq (fun c => (m_lb0 _ _ _ _ _)) (fun c => (m_l10 _ _ _ _ _ _ _ _ _))
      (fun y => ((m_lat0_0 _ _ _ _ _ _ _ _ _ _ _ _ _ _)).trans (Finset.sum_congr rfl fun x _ => congrArg (· * _) (m_l10 _ _ _ _ _ _ _ _ _)))
      (fun y => ((m_lat1_0 _ _ _ _ _ _ _ _ _ _ _ _ _ _)).trans (Finset.sum_congr rfl fun x _ => congrArg (· * _) (m_l10 _ _ _ _ _ _ _ _ _)))) (congrArg (fun t => wg _ _ t 0 j) hx)

set_option maxHeartbeats 1000000 in
theorem head_car1 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 1 a l)
      = 0 + (∑ x : Fin 256, (Scalar.select ((kernelRun0_A.sl.r_15 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨128 + a.val, by omega⟩ (⟨256 + x.val, by omega⟩ : Fin 512))) 0)) + ∑ x : Fin 256, (Scalar.select ((kernelRun0_A.sl.r_15 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨128 + a.val, by omega⟩ (⟨x.val, by omega⟩ : Fin 512))) 0) := by
  unfold kernelRun0_A.sl.HS1_9
  refine (slab_miss _ _ 7 1 (by decide) inb_S8x128x128_S1x128x128_7_0_0 _ _ a l).trans ?_
  unfold kernelRun0_A.sl.HS1_8
  refine (slab_miss _ _ 6 1 (by decide) inb_S8x128x128_S1x128x128_6_0_0 _ _ a l).trans ?_
  unfold kernelRun0_A.sl.HS1_7
  refine (slab_miss _ _ 5 1 (by decide) inb_S8x128x128_S1x128x128_5_0_0 _ _ a l).trans ?_
  unfold kernelRun0_A.sl.HS1_6
  refine (slab_miss _ _ 4 1 (by decide) inb_S8x128x128_S1x128x128_4_0_0 _ _ a l).trans ?_
  unfold kernelRun0_A.sl.HS1_5
  refine (slab_miss _ _ 3 1 (by decide) inb_S8x128x128_S1x128x128_3_0_0 _ _ a l).trans ?_
  unfold kernelRun0_A.sl.HS1_4
  refine (slab_miss _ _ 2 1 (by decide) inb_S8x128x128_S1x128x128_2_0_0 _ _ a l).trans ?_
  unfold kernelRun0_A.sl.HS1_3
  refine (slab_hit _ _ 1 inb_S8x128x128_S1x128x128_1_0_0 _ _ a l).trans ?_
  refine (m_car1 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_2 (F := Ideal) c i arg3 harg3 arg5 harg5 arg6 harg6 arg10 x0 x2 x3))) (slab_idx 1 inb_S8x128x128_S1x128x128_1_0_0 a l)).trans (zero_slab2 c i arg3 harg3 arg4 harg4 arg5 harg5 arg6 harg6 arg7 harg7 arg8 harg8 arg9 harg9 arg10 harg10 x0 x1 x2 x3 x4 _ 1 (by decide) a l)
  · exact Finset.sum_congr rfl fun x _ => (m_l11 _ _ _ _ _ _)
  · exact Finset.sum_congr rfl fun x _ => (m_l11 _ _ _ _ _ _)

set_option maxHeartbeats 1000000 in
theorem head_acc1 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨128 + a.val, by omega⟩ l)
      = 0 + ∑ j : Fin 512, Scalar.select ((kernelRun0_A.sl.r_15 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨128 + a.val, by omega⟩ j)) (fun j => (Scalar.select ((kernelRun0_A.sl.r_15 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨128 + a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_2 (F := Ideal) c i arg3 harg3 arg5 harg5 arg6 harg6 arg10 x0 x2 x3) (Rect.unit (s := S8x128x128) ![1, 0, 0] S1x128x128.size inb_S8x128x128_S1x128x128_1_0_0).toLoadRect) (ix3 0 a l) = (0 : EReal) := fun l => (congrArg (arg10.view.read (Elt Ideal) (arg10.view.writes (Elt Ideal) arg10.view.junk (kernelRun0_A.sl.HS1_2 (F := Ideal) c i arg3 harg3 arg5 harg5 arg6 harg6 arg10 x0 x2 x3))) (slab_idx 1 inb_S8x128x128_S1x128x128_1_0_0 a l)).trans (zero_slab2 c i arg3 harg3 arg4 harg4 arg5 harg5 arg6 harg6 arg7 harg7 arg8 harg8 arg9 harg9 arg10 harg10 x0 x1 x2 x3 x4 _ 1 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc1 _ _ _ _ _ _ _ _ _ _ _ _ _ _ a l).trans ?_
  refine congrArg₂ (· + ·) ?_ (Finset.sum_congr rfl fun j _ => congrArg (· * _) ?_)
  · refine (congrFun (View.readCov_full ..) _).trans ?_
    pointwise [k0_pay183]
  · refine (m_A1 _ _ _ _ _ a 0 hcar j).trans ?_
    refine congrArg (fun t => Scalar.select ((kernelRun0_A.sl.r_15 i) (ix2 a j)) t 0) ?_
    refine Eq.trans (wgt_eq (fun c => (m_lb1 _ _ _ _ _)) (fun c => (m_l11 _ _ _ _ _ _))
      (fun y => ((m_lat0_1 _ _ _ _ _ _ _ _ _ _ _ _ _ _)).trans (Finset.sum_congr rfl fun x _ => congrArg (· * _) (m_l11 _ _ _ _ _ _)))
      (fun y => ((m_lat1_1 _ _ _ _ _ _ _ _ _ _ _ _ _ _)).trans (Finset.sum_congr rfl fun x _ => congrArg (· * _) (m_l11 _ _ _ _ _ _)))) (congrArg (fun t => wg _ _ t 0 j) hx)

set_option maxHeartbeats 1000000 in
theorem head_car2 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 2 a l)
      = 0 + (∑ x : Fin 256, (Scalar.select ((kernelRun0_A.sl.r_15 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨256 + a.val, by omega⟩ (⟨256 + x.val, by omega⟩ : Fin 512))) 0)) + ∑ x : Fin 256, (Scalar.select ((kernelRun0_A.sl.r_15 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨256 + a.val, by omega⟩ (⟨x.val, by omega⟩ : Fin 512))) 0) := by
  unfold kernelRun0_A.sl.HS1_9
  refine (slab_miss _ _ 7 2 (by decide) inb_S8x128x128_S1x128x128_7_0_0 _ _ a l).trans ?_
  unfold kernelRun0_A.sl.HS1_8
  refine (slab_miss _ _ 6 2 (by decide) inb_S8x128x128_S1x128x128_6_0_0 _ _ a l).trans ?_
  unfold kernelRun0_A.sl.HS1_7
  refine (slab_miss _ _ 5 2 (by decide) inb_S8x128x128_S1x128x128_5_0_0 _ _ a l).trans ?_
  unfold kernelRun0_A.sl.HS1_6
  refine (slab_miss _ _ 4 2 (by decide) inb_S8x128x128_S1x128x128_4_0_0 _ _ a l).trans ?_
  unfold kernelRun0_A.sl.HS1_5
  refine (slab_miss _ _ 3 2 (by decide) inb_S8x128x128_S1x128x128_3_0_0 _ _ a l).trans ?_
  unfold kernelRun0_A.sl.HS1_4
  refine (slab_hit _ _ 2 inb_S8x128x128_S1x128x128_2_0_0 _ _ a l).trans ?_
  refine (m_car2 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_3 (F := Ideal) c i arg3 harg3 arg5 harg5 arg6 harg6 arg10 x0 x2 x3))) (slab_idx 2 inb_S8x128x128_S1x128x128_2_0_0 a l)).trans (zero_slab3 c i arg3 harg3 arg4 harg4 arg5 harg5 arg6 harg6 arg7 harg7 arg8 harg8 arg9 harg9 arg10 harg10 x0 x1 x2 x3 x4 _ 2 (by decide) a l)
  · exact Finset.sum_congr rfl fun x _ => (m_l12 _ _ _ _ _ _)
  · exact Finset.sum_congr rfl fun x _ => (m_l12 _ _ _ _ _ _)

set_option maxHeartbeats 1000000 in
theorem head_acc2 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨256 + a.val, by omega⟩ l)
      = 0 + ∑ j : Fin 512, Scalar.select ((kernelRun0_A.sl.r_15 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨256 + a.val, by omega⟩ j)) (fun j => (Scalar.select ((kernelRun0_A.sl.r_15 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨256 + a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_3 (F := Ideal) c i arg3 harg3 arg5 harg5 arg6 harg6 arg10 x0 x2 x3) (Rect.unit (s := S8x128x128) ![2, 0, 0] S1x128x128.size inb_S8x128x128_S1x128x128_2_0_0).toLoadRect) (ix3 0 a l) = (0 : EReal) := fun l => (congrArg (arg10.view.read (Elt Ideal) (arg10.view.writes (Elt Ideal) arg10.view.junk (kernelRun0_A.sl.HS1_3 (F := Ideal) c i arg3 harg3 arg5 harg5 arg6 harg6 arg10 x0 x2 x3))) (slab_idx 2 inb_S8x128x128_S1x128x128_2_0_0 a l)).trans (zero_slab3 c i arg3 harg3 arg4 harg4 arg5 harg5 arg6 harg6 arg7 harg7 arg8 harg8 arg9 harg9 arg10 harg10 x0 x1 x2 x3 x4 _ 2 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc2 _ _ _ _ _ _ _ _ _ _ _ _ _ _ a l).trans ?_
  refine congrArg₂ (· + ·) ?_ (Finset.sum_congr rfl fun j _ => congrArg (· * _) ?_)
  · refine (congrFun (View.readCov_full ..) _).trans ?_
    pointwise [k0_pay183]
  · refine (m_A2 _ _ _ _ _ a 0 hcar j).trans ?_
    refine congrArg (fun t => Scalar.select ((kernelRun0_A.sl.r_15 i) (ix2 a j)) t 0) ?_
    refine Eq.trans (wgt_eq (fun c => (m_lb2 _ _ _ _ _)) (fun c => (m_l12 _ _ _ _ _ _))
      (fun y => ((m_lat0_2 _ _ _ _ _ _ _ _ _ _ _ _ _ _)).trans (Finset.sum_congr rfl fun x _ => congrArg (· * _) (m_l12 _ _ _ _ _ _)))
      (fun y => ((m_lat1_2 _ _ _ _ _ _ _ _ _ _ _ _ _ _)).trans (Finset.sum_congr rfl fun x _ => congrArg (· * _) (m_l12 _ _ _ _ _ _)))) (congrArg (fun t => wg _ _ t 0 j) hx)

set_option maxHeartbeats 1000000 in
theorem head_car3 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 3 a l)
      = 0 + (∑ x : Fin 256, (Scalar.select ((kernelRun0_A.sl.r_15 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨384 + a.val, by omega⟩ (⟨256 + x.val, by omega⟩ : Fin 512))) 0)) + ∑ x : Fin 256, (Scalar.select ((kernelRun0_A.sl.r_15 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨384 + a.val, by omega⟩ (⟨x.val, by omega⟩ : Fin 512))) 0) := by
  unfold kernelRun0_A.sl.HS1_9
  refine (slab_miss _ _ 7 3 (by decide) inb_S8x128x128_S1x128x128_7_0_0 _ _ a l).trans ?_
  unfold kernelRun0_A.sl.HS1_8
  refine (slab_miss _ _ 6 3 (by decide) inb_S8x128x128_S1x128x128_6_0_0 _ _ a l).trans ?_
  unfold kernelRun0_A.sl.HS1_7
  refine (slab_miss _ _ 5 3 (by decide) inb_S8x128x128_S1x128x128_5_0_0 _ _ a l).trans ?_
  unfold kernelRun0_A.sl.HS1_6
  refine (slab_miss _ _ 4 3 (by decide) inb_S8x128x128_S1x128x128_4_0_0 _ _ a l).trans ?_
  unfold kernelRun0_A.sl.HS1_5
  refine (slab_hit _ _ 3 inb_S8x128x128_S1x128x128_3_0_0 _ _ a l).trans ?_
  refine (m_car3 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_4 (F := Ideal) c i arg3 harg3 arg5 harg5 arg6 harg6 arg10 x0 x2 x3))) (slab_idx 3 inb_S8x128x128_S1x128x128_3_0_0 a l)).trans (zero_slab4 c i arg3 harg3 arg4 harg4 arg5 harg5 arg6 harg6 arg7 harg7 arg8 harg8 arg9 harg9 arg10 harg10 x0 x1 x2 x3 x4 _ 3 (by decide) a l)
  · exact Finset.sum_congr rfl fun x _ => (m_l13 _ _ _ _ _ _)
  · exact Finset.sum_congr rfl fun x _ => (m_l13 _ _ _ _ _ _)

set_option maxHeartbeats 1000000 in
theorem head_acc3 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨384 + a.val, by omega⟩ l)
      = 0 + ∑ j : Fin 512, Scalar.select ((kernelRun0_A.sl.r_15 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨384 + a.val, by omega⟩ j)) (fun j => (Scalar.select ((kernelRun0_A.sl.r_15 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨384 + a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_4 (F := Ideal) c i arg3 harg3 arg5 harg5 arg6 harg6 arg10 x0 x2 x3) (Rect.unit (s := S8x128x128) ![3, 0, 0] S1x128x128.size inb_S8x128x128_S1x128x128_3_0_0).toLoadRect) (ix3 0 a l) = (0 : EReal) := fun l => (congrArg (arg10.view.read (Elt Ideal) (arg10.view.writes (Elt Ideal) arg10.view.junk (kernelRun0_A.sl.HS1_4 (F := Ideal) c i arg3 harg3 arg5 harg5 arg6 harg6 arg10 x0 x2 x3))) (slab_idx 3 inb_S8x128x128_S1x128x128_3_0_0 a l)).trans (zero_slab4 c i arg3 harg3 arg4 harg4 arg5 harg5 arg6 harg6 arg7 harg7 arg8 harg8 arg9 harg9 arg10 harg10 x0 x1 x2 x3 x4 _ 3 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc3 _ _ _ _ _ _ _ _ _ _ _ _ _ _ a l).trans ?_
  refine congrArg₂ (· + ·) ?_ (Finset.sum_congr rfl fun j _ => congrArg (· * _) ?_)
  · refine (congrFun (View.readCov_full ..) _).trans ?_
    pointwise [k0_pay183]
  · refine (m_A3 _ _ _ _ _ a 0 hcar j).trans ?_
    refine congrArg (fun t => Scalar.select ((kernelRun0_A.sl.r_15 i) (ix2 a j)) t 0) ?_
    refine Eq.trans (wgt_eq (fun c => (m_lb3 _ _ _ _ _)) (fun c => (m_l13 _ _ _ _ _ _))
      (fun y => ((m_lat0_3 _ _ _ _ _ _ _ _ _ _ _ _ _ _)).trans (Finset.sum_congr rfl fun x _ => congrArg (· * _) (m_l13 _ _ _ _ _ _)))
      (fun y => ((m_lat1_3 _ _ _ _ _ _ _ _ _ _ _ _ _ _)).trans (Finset.sum_congr rfl fun x _ => congrArg (· * _) (m_l13 _ _ _ _ _ _)))) (congrArg (fun t => wg _ _ t 0 j) hx)

set_option maxHeartbeats 1000000 in
theorem head_car4 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 4 a l)
      = 0 + (∑ x : Fin 256, (Scalar.select ((kernelRun0_A.sl.r_16 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨512 + a.val, by omega⟩ (⟨256 + x.val, by omega⟩ : Fin 512))) 0)) + ∑ x : Fin 256, (Scalar.select ((kernelRun0_A.sl.r_16 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨512 + a.val, by omega⟩ (⟨x.val, by omega⟩ : Fin 512))) 0) := by
  unfold kernelRun0_A.sl.HS1_9
  refine (slab_miss _ _ 7 4 (by decide) inb_S8x128x128_S1x128x128_7_0_0 _ _ a l).trans ?_
  unfold kernelRun0_A.sl.HS1_8
  refine (slab_miss _ _ 6 4 (by decide) inb_S8x128x128_S1x128x128_6_0_0 _ _ a l).trans ?_
  unfold kernelRun0_A.sl.HS1_7
  refine (slab_miss _ _ 5 4 (by decide) inb_S8x128x128_S1x128x128_5_0_0 _ _ a l).trans ?_
  unfold kernelRun0_A.sl.HS1_6
  refine (slab_hit _ _ 4 inb_S8x128x128_S1x128x128_4_0_0 _ _ a l).trans ?_
  refine (m_car4 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_5 (F := Ideal) c i arg3 harg3 arg5 harg5 arg6 harg6 arg10 x0 x2 x3))) (slab_idx 4 inb_S8x128x128_S1x128x128_4_0_0 a l)).trans (zero_slab5 c i arg3 harg3 arg4 harg4 arg5 harg5 arg6 harg6 arg7 harg7 arg8 harg8 arg9 harg9 arg10 harg10 x0 x1 x2 x3 x4 _ 4 (by decide) a l)
  · exact Finset.sum_congr rfl fun x _ => (m_l14 _ _ _ _ _ _)
  · exact Finset.sum_congr rfl fun x _ => (m_l14 _ _ _ _ _ _)

set_option maxHeartbeats 1000000 in
theorem head_acc4 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨512 + a.val, by omega⟩ l)
      = 0 + ∑ j : Fin 512, Scalar.select ((kernelRun0_A.sl.r_16 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨512 + a.val, by omega⟩ j)) (fun j => (Scalar.select ((kernelRun0_A.sl.r_16 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_8 (F := Ideal) c i arg3 harg3 x0) ⟨512 + a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_5 (F := Ideal) c i arg3 harg3 arg5 harg5 arg6 harg6 arg10 x0 x2 x3) (Rect.unit (s := S8x128x128) ![4, 0, 0] S1x128x128.size inb_S8x128x128_S1x128x128_4_0_0).toLoadRect) (ix3 0 a l) = (0 : EReal) := fun l => (congrArg (arg10.view.read (Elt Ideal) (arg10.view.writes (Elt Ideal) arg10.view.junk (kernelRun0_A.sl.HS1_5 (F := Ideal) c i arg3 harg3 arg5 harg5 arg6 harg6 arg10 x0 x2 x3))) (slab_idx 4 inb_S8x128x128_S1x128x128_4_0_0 a l)).trans (zero_slab5 c i arg3 harg3 arg4 harg4 arg5 harg5 arg6 harg6 arg7 harg7 arg8 harg8 arg9 harg9 arg10 harg10 x0 x1 x2 x3 x4 _ 4 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc4 _ _ _ _ _ _ _ _ _ _ _ _ _ _ a l).trans ?_
  refine congrArg₂ (· + ·) ?_ (Finset.sum_congr rfl fun j _ => congrArg (· * _) ?_)
  · refine (congrFun (View.readCov_full ..) _).trans ?_
    pointwise [k0_pay183]
  · refine (m_A4 _ _ _ _ _ a 0 hcar j).trans ?_
    refine congrArg (fun t => Scalar.select ((kernelRun0_A.sl.r_16 i) (ix2 a j)) t 0) ?_
    refine Eq.trans (wgt_eq (fun c => (m_lb4 _ _ _ _ _)) (fun c => (m_l14 _ _ _ _ _ _))
      (fun y => ((m_lat0_4 _ _ _ _ _ _ _ _ _ _ _ _ _ _)).trans (Finset.sum_congr rfl fun x _ => congrArg (· * _) (m_l14 _ _ _ _ _ _)))
      (fun y => ((m_lat1_4 _ _ _ _ _ _ _ _ _ _ _ _ _ _)).trans (Finset.sum_congr rfl fun x _ => congrArg (· * _) (m_l14 _ _ _ _ _ _)))) (congrArg (fun t => wg _ _ t 0 j) hx)

set_option maxHeartbeats 1000000 in
theorem head_car5 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 5 a l)
      = 0 + (∑ x : Fin 256, (Scalar.select ((kernelRun0_A.sl.r_16 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨640 + a.val, by omega⟩ (⟨256 + x.val, by omega⟩ : Fin 512))) 0)) + ∑ x : Fin 256, (Scalar.select ((kernelRun0_A.sl.r_16 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨640 + a.val, by omega⟩ (⟨x.val, by omega⟩ : Fin 512))) 0) := by
  unfold kernelRun0_A.sl.HS1_9
  refine (slab_miss _ _ 7 5 (by decide) inb_S8x128x128_S1x128x128_7_0_0 _ _ a l).trans ?_
  unfold kernelRun0_A.sl.HS1_8
  refine (slab_miss _ _ 6 5 (by decide) inb_S8x128x128_S1x128x128_6_0_0 _ _ a l).trans ?_
  unfold kernelRun0_A.sl.HS1_7
  refine (slab_hit _ _ 5 inb_S8x128x128_S1x128x128_5_0_0 _ _ a l).trans ?_
  refine (m_car5 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_6 (F := Ideal) c i arg3 harg3 arg5 harg5 arg6 harg6 arg10 x0 x2 x3))) (slab_idx 5 inb_S8x128x128_S1x128x128_5_0_0 a l)).trans (zero_slab6 c i arg3 harg3 arg4 harg4 arg5 harg5 arg6 harg6 arg7 harg7 arg8 harg8 arg9 harg9 arg10 harg10 x0 x1 x2 x3 x4 _ 5 (by decide) a l)
  · exact Finset.sum_congr rfl fun x _ => (m_l15 _ _ _ _ _ _)
  · exact Finset.sum_congr rfl fun x _ => (m_l15 _ _ _ _ _ _)

set_option maxHeartbeats 1000000 in
theorem head_acc5 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨640 + a.val, by omega⟩ l)
      = 0 + ∑ j : Fin 512, Scalar.select ((kernelRun0_A.sl.r_16 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨640 + a.val, by omega⟩ j)) (fun j => (Scalar.select ((kernelRun0_A.sl.r_16 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_9 (F := Ideal) c i arg3 harg3 x0) ⟨640 + a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_6 (F := Ideal) c i arg3 harg3 arg5 harg5 arg6 harg6 arg10 x0 x2 x3) (Rect.unit (s := S8x128x128) ![5, 0, 0] S1x128x128.size inb_S8x128x128_S1x128x128_5_0_0).toLoadRect) (ix3 0 a l) = (0 : EReal) := fun l => (congrArg (arg10.view.read (Elt Ideal) (arg10.view.writes (Elt Ideal) arg10.view.junk (kernelRun0_A.sl.HS1_6 (F := Ideal) c i arg3 harg3 arg5 harg5 arg6 harg6 arg10 x0 x2 x3))) (slab_idx 5 inb_S8x128x128_S1x128x128_5_0_0 a l)).trans (zero_slab6 c i arg3 harg3 arg4 harg4 arg5 harg5 arg6 harg6 arg7 harg7 arg8 harg8 arg9 harg9 arg10 harg10 x0 x1 x2 x3 x4 _ 5 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc5 _ _ _ _ _ _ _ _ _ _ _ _ _ _ a l).trans ?_
  refine congrArg₂ (· + ·) ?_ (Finset.sum_congr rfl fun j _ => congrArg (· * _) ?_)
  · refine (congrFun (View.readCov_full ..) _).trans ?_
    pointwise [k0_pay183]
  · refine (m_A5 _ _ _ _ _ a 0 hcar j).trans ?_
    refine congrArg (fun t => Scalar.select ((kernelRun0_A.sl.r_16 i) (ix2 a j)) t 0) ?_
    refine Eq.trans (wgt_eq (fun c => (m_lb5 _ _ _ _ _)) (fun c => (m_l15 _ _ _ _ _ _))
      (fun y => ((m_lat0_5 _ _ _ _ _ _ _ _ _ _ _ _ _ _)).trans (Finset.sum_congr rfl fun x _ => congrArg (· * _) (m_l15 _ _ _ _ _ _)))
      (fun y => ((m_lat1_5 _ _ _ _ _ _ _ _ _ _ _ _ _ _)).trans (Finset.sum_congr rfl fun x _ => congrArg (· * _) (m_l15 _ _ _ _ _ _)))) (congrArg (fun t => wg _ _ t 0 j) hx)

set_option maxHeartbeats 1000000 in
theorem head_car6 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 6 a l)
      = 0 + (∑ x : Fin 256, (Scalar.select ((kernelRun0_A.sl.r_16 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨768 + a.val, by omega⟩ (⟨256 + x.val, by omega⟩ : Fin 512))) 0)) + ∑ x : Fin 256, (Scalar.select ((kernelRun0_A.sl.r_16 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨768 + a.val, by omega⟩ (⟨x.val, by omega⟩ : Fin 512))) 0) := by
  unfold kernelRun0_A.sl.HS1_9
  refine (slab_miss _ _ 7 6 (by decide) inb_S8x128x128_S1x128x128_7_0_0 _ _ a l).trans ?_
  unfold kernelRun0_A.sl.HS1_8
  refine (slab_hit _ _ 6 inb_S8x128x128_S1x128x128_6_0_0 _ _ a l).trans ?_
  refine (m_car6 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_7 (F := Ideal) c i arg3 harg3 arg5 harg5 arg6 harg6 arg10 x0 x2 x3))) (slab_idx 6 inb_S8x128x128_S1x128x128_6_0_0 a l)).trans (zero_slab7 c i arg3 harg3 arg4 harg4 arg5 harg5 arg6 harg6 arg7 harg7 arg8 harg8 arg9 harg9 arg10 harg10 x0 x1 x2 x3 x4 _ 6 (by decide) a l)
  · exact Finset.sum_congr rfl fun x _ => (m_l16 _ _ _ _ _ _)
  · exact Finset.sum_congr rfl fun x _ => (m_l16 _ _ _ _ _ _)

set_option maxHeartbeats 1000000 in
theorem head_acc6 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨768 + a.val, by omega⟩ l)
      = 0 + ∑ j : Fin 512, Scalar.select ((kernelRun0_A.sl.r_16 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨768 + a.val, by omega⟩ j)) (fun j => (Scalar.select ((kernelRun0_A.sl.r_16 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_10 (F := Ideal) c i arg3 harg3 x0) ⟨768 + a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_7 (F := Ideal) c i arg3 harg3 arg5 harg5 arg6 harg6 arg10 x0 x2 x3) (Rect.unit (s := S8x128x128) ![6, 0, 0] S1x128x128.size inb_S8x128x128_S1x128x128_6_0_0).toLoadRect) (ix3 0 a l) = (0 : EReal) := fun l => (congrArg (arg10.view.read (Elt Ideal) (arg10.view.writes (Elt Ideal) arg10.view.junk (kernelRun0_A.sl.HS1_7 (F := Ideal) c i arg3 harg3 arg5 harg5 arg6 harg6 arg10 x0 x2 x3))) (slab_idx 6 inb_S8x128x128_S1x128x128_6_0_0 a l)).trans (zero_slab7 c i arg3 harg3 arg4 harg4 arg5 harg5 arg6 harg6 arg7 harg7 arg8 harg8 arg9 harg9 arg10 harg10 x0 x1 x2 x3 x4 _ 6 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc6 _ _ _ _ _ _ _ _ _ _ _ _ _ _ a l).trans ?_
  refine congrArg₂ (· + ·) ?_ (Finset.sum_congr rfl fun j _ => congrArg (· * _) ?_)
  · refine (congrFun (View.readCov_full ..) _).trans ?_
    pointwise [k0_pay183]
  · refine (m_A6 _ _ _ _ _ a 0 hcar j).trans ?_
    refine congrArg (fun t => Scalar.select ((kernelRun0_A.sl.r_16 i) (ix2 a j)) t 0) ?_
    refine Eq.trans (wgt_eq (fun c => (m_lb6 _ _ _ _ _)) (fun c => (m_l16 _ _ _ _ _ _))
      (fun y => ((m_lat0_6 _ _ _ _ _ _ _ _ _ _ _ _ _ _)).trans (Finset.sum_congr rfl fun x _ => congrArg (· * _) (m_l16 _ _ _ _ _ _)))
      (fun y => ((m_lat1_6 _ _ _ _ _ _ _ _ _ _ _ _ _ _)).trans (Finset.sum_congr rfl fun x _ => congrArg (· * _) (m_l16 _ _ _ _ _ _)))) (congrArg (fun t => wg _ _ t 0 j) hx)

set_option maxHeartbeats 1000000 in
theorem head_car7 (f : BufTy.Contents (Elt Ideal) arg10.view.ty) (a l : Fin 128) :
    arg10.view.read (Elt Ideal) (arg10.view.writes (Elt Ideal) f (kernelRun0_A.sl.HS1_9 (F := Ideal) c i arg3 harg3 arg5 harg5 arg6 harg6 arg10 x0 x2 x3)) (ix3 7 a l)
      = 0 + (∑ x : Fin 256, (Scalar.select ((kernelRun0_A.sl.r_16 i) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨896 + a.val, by omega⟩ (⟨256 + x.val, by omega⟩ : Fin 512))) 0)) + ∑ x : Fin 256, (Scalar.select ((kernelRun0_A.sl.r_16 i) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨896 + a.val, by omega⟩ (⟨x.val, by omega⟩ : Fin 512))) 0) := by
  unfold kernelRun0_A.sl.HS1_9
  refine (slab_hit _ _ 7 inb_S8x128x128_S1x128x128_7_0_0 _ _ a l).trans ?_
  refine (m_car7 _ _ _ _).trans ?_
  refine congrArg₂ (· + ·) (congrArg₂ (· + ·) ?_ ?_) ?_
  · exact (congrArg (arg10.view.read (Elt Ideal) (arg10.view.writes (Elt Ideal) arg10.view.junk (kernelRun0_A.sl.HS1_8 (F := Ideal) c i arg3 harg3 arg5 harg5 arg6 harg6 arg10 x0 x2 x3))) (slab_idx 7 inb_S8x128x128_S1x128x128_7_0_0 a l)).trans (zero_slab8 c i arg3 harg3 arg4 harg4 arg5 harg5 arg6 harg6 arg7 harg7 arg8 harg8 arg9 harg9 arg10 harg10 x0 x1 x2 x3 x4 _ 7 (by decide) a l)
  · exact Finset.sum_congr rfl fun x _ => (m_l17 _ _ _ _ _ _)
  · exact Finset.sum_congr rfl fun x _ => (m_l17 _ _ _ _ _ _)

set_option maxHeartbeats 1000000 in
theorem head_acc7 (f : BufTy.Contents (Elt Ideal) arg9.view.ty) (a : Fin 128) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 ⟨896 + a.val, by omega⟩ l)
      = 0 + ∑ j : Fin 512, Scalar.select ((kernelRun0_A.sl.r_16 i) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨896 + a.val, by omega⟩ j)) (fun j => (Scalar.select ((kernelRun0_A.sl.r_16 i) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (kernelRun0_A.sl.r_12 (F := Ideal) c i arg3 harg3 x0) ⟨896 + a.val, by omega⟩ j)) 0)) x1 0 j) 0 * (arg7.view.readAt (Elt Ideal) (Rect.unit (s := S1x8192x256) (k0_off2 i) S1x512x256.size (k0_off2_inb i)).toLoadRect (harg7.unread x4)) (ix3 0 j l) := by
  have hcar : ∀ l, (arg10.view.readCov (kernelRun0_A.sl.HS1_8 (F := Ideal) c i arg3 harg3 arg5 harg5 arg6 harg6 arg10 x0 x2 x3) (Rect.unit (s := S8x128x128) ![7, 0, 0] S1x128x128.size inb_S8x128x128_S1x128x128_7_0_0).toLoadRect) (ix3 0 a l) = (0 : EReal) := fun l => (congrArg (arg10.view.read (Elt Ideal) (arg10.view.writes (Elt Ideal) arg10.view.junk (kernelRun0_A.sl.HS1_8 (F := Ideal) c i arg3 harg3 arg5 harg5 arg6 harg6 arg10 x0 x2 x3))) (slab_idx 7 inb_S8x128x128_S1x128x128_7_0_0 a l)).trans (zero_slab8 c i arg3 harg3 arg4 harg4 arg5 harg5 arg6 harg6 arg7 harg7 arg8 harg8 arg9 harg9 arg10 harg10 x0 x1 x2 x3 x4 _ 7 (by decide) a l)
  have hx : arg4.view.readAt (Elt Ideal) (Rect.unit (s := S256x256) ![0, 0] S256x256.size inb_S256x256_S256x256_0_0).toLoadRect (harg4.unread x1) = x1 := by
    rw [View.readAt_full]; exact harg4.read_unread x1
  unfold kernelRun0_A.sl.HS0_2
  refine (congrFun (View.read_writes_full ..) _).trans ?_
  refine (m_acc7 _ _ _ _ _ _ _ _ _ _ _ _ _ _ a 0 hcar l).trans ?_
  refine congrArg₂ (· + ·) ?_ (Finset.sum_congr rfl fun j _ => congrArg (· * _) ?_)
  · refine (congrFun (View.readCov_full ..) _).trans ?_
    pointwise [k0_pay183]
  · refine congrArg (fun t => Scalar.select ((kernelRun0_A.sl.r_16 i) (ix2 a j)) t 0) ?_
    refine Eq.trans (wgt_eq (fun c => (m_lb7 _ _ _ _ _)) (fun c => (m_l17 _ _ _ _ _ _))
      (fun y => ((m_lat0_7 _ _ _ _ _ _ _ _ _ _ _ _ _ _)).trans (Finset.sum_congr rfl fun x _ => congrArg (· * _) (m_l17 _ _ _ _ _ _)))
      (fun y => ((m_lat1_7 _ _ _ _ _ _ _ _ _ _ _ _ _ _)).trans (Finset.sum_congr rfl fun x _ => congrArg (· * _) (m_l17 _ _ _ _ _ _)))) (congrArg (fun t => wg _ _ t 0 j) hx)

end

end Cert.AttendIdeal.Sb

end
-- ==== Proof.AttendSums.lean ====
/-
  The attention's sums over the keys of one row: a block's sum against the triangle, a tile's weights and a tile's step,
  as sums over a stretch of keys.
-/
module

public import proofs.«01_k».proof.Proof.AttendStep

@[expose] public section

noncomputable section

namespace Cert.AttendIdeal.Sb

open Cert.AttendIdeal Cert.AttendIdeal.Gen
open Idealize.ShloMosaic Idealize.ShloMosaic.TcCoe
open Finset (Ico)

theorem sum_tile (f : ℕ → EReal) (o n : ℕ) : ∑ x : Fin n, f (o + x.val) = ∑ j ∈ Ico o (o + n), f j := by
  rw [Fin.sum_univ_eq_sum_range (fun x => f (o + x)), Finset.sum_Ico_eq_sum_range]
  simp

/-- The triangle of ones strictly below the diagonal. -/
abbrev IsTri (tri : Vec Ideal S256x256 .bf16) : Prop := ∀ x y : Fin 256, tri (ix2 x y) = if y.val < x.val then (1 : EReal) else 0

/-- A block of 256 keys against the triangle: the sum over the later keys of the block. -/
theorem sum_tri (f : ℕ → EReal) (o : ℕ) {tri : Vec Ideal S256x256 .bf16} (ht : IsTri tri) (y : Fin 256) :
    ∑ x : Fin 256, f (o + x.val) * tri (ix2 x y) = ∑ j ∈ Ico (o + y.val + 1) (o + 256), f j := by
  have e : ∀ x : Fin 256, f (o + x.val) * tri (ix2 x y) = (fun j => if o + y.val < j then f j else 0) (o + x.val) := by
    intro x
    rw [ht]
    by_cases h : y.val < x.val
    · rw [if_pos h, mul_one]; dsimp only; rw [if_pos (by omega)]
    · rw [if_neg h, mul_zero]; dsimp only; rw [if_neg (by omega)]
  rw [Finset.sum_congr rfl fun x _ => e x]
  refine (sum_tile (fun j => if o + y.val < j then f j else 0) o 256).trans ?_
  rw [← Finset.sum_filter]
  refine Finset.sum_congr ?_ fun _ _ => rfl
  ext j
  simp only [Finset.mem_filter, Finset.mem_Ico]
  omega

/-- A weight of the tile at `o`, with the later keys up to `T`. -/
theorem wg_closed (L K : ℕ → EReal) (o T : ℕ) (h : o + 512 ≤ T) {tri : Vec Ideal S256x256 .bf16} (ht : IsTri tri) (c : Fin 512) :
    wg (fun c => L (o + c.val)) (fun c => K (o + c.val)) tri (∑ j ∈ Ico (o + 512) T, K j) c
      = Ideal.exp (L (o + c.val) + ∑ j ∈ Ico (o + c.val + 1) T, K j) := by
  unfold wg
  dsimp only
  have e1 : ∀ x : Fin 256, K (o + (256 + x.val)) = K (o + 256 + x.val) := fun x => by rw [Nat.add_assoc]
  simp only [e1]
  split
  · rename_i hc
    rw [sum_tri K o ht ⟨c.val, hc⟩, sum_tile]
    rw [add_comm (∑ j ∈ Ico (o + 512) T, K j), Nat.add_assoc o 256 256, Finset.sum_Ico_consecutive _ (by omega) h,
      add_assoc, Finset.sum_Ico_consecutive _ (by dsimp only; omega) (by omega)]
  · rename_i hc
    rw [sum_tri K (o + 256) ht ⟨c.val - 256, by omega⟩]
    rw [add_assoc, Nat.add_assoc o 256 256, Finset.sum_Ico_consecutive _ (by dsimp only; omega) h]
    have e : o + 256 + (⟨c.val - 256, by omega⟩ : Fin 256).val + 1 = o + c.val + 1 := by dsimp only; omega
    rw [e]

theorem car_closed (K : ℕ → EReal) (o T : ℕ) (h : o + 512 ≤ T) :
    (∑ j ∈ Ico (o + 512) T, K j) + (∑ x : Fin 256, K (o + (256 + x.val))) + ∑ x : Fin 256, K (o + x.val) = ∑ j ∈ Ico o T, K j := by
  have e1 : ∀ x : Fin 256, K (o + (256 + x.val)) = K (o + 256 + x.val) := fun x => by rw [Nat.add_assoc]
  simp only [e1]
  rw [sum_tile, sum_tile, add_comm (∑ j ∈ Ico (o + 512) T, K j), Nat.add_assoc o 256 256, Finset.sum_Ico_consecutive _ (by omega) h,
    add_comm, Finset.sum_Ico_consecutive _ (by omega) (by omega)]

theorem acc_closed (f : ℕ → EReal) (o T : ℕ) (h : o + 512 ≤ T) :
    (∑ j ∈ Ico (o + 512) T, f j) + ∑ c : Fin 512, f (o + c.val) = ∑ j ∈ Ico o T, f j := by
  rw [sum_tile, add_comm, Finset.sum_Ico_consecutive _ (by omega) h]

/-- The log of what the key `j` leaves, for a row that sees the keys before `q`. -/
def keep (z : ℕ → EReal) (q j : ℕ) : EReal := if j < q then l1f (z j) else 0

/-- The weight of the key `j`: its own factor, and what the later keys before `T` leave. -/
def weight (z : ℕ → EReal) (q T j : ℕ) : EReal :=
  if j < q then Ideal.exp (lbf (z j) + ∑ i ∈ Ico (j + 1) T, keep z q i) else 0

end Cert.AttendIdeal.Sb
-- ==== Proof.AttendWords.lean ====
/-
  The attention's index words: the tile of a grid point, the loop's trips and offsets, what a row sees, and the stack of
  masked queries.
-/
module

public import proofs.«01_k».proof.Proof.AttendTile
public import Idealize.ShloMosaic.Lib.VecWindow
public import Idealize.ShloMosaic.Lib.LoopRemainder
public import Idealize.ShloMosaic.Lib.Tactic

@[expose] public section

set_option maxRecDepth 16384

noncomputable section

namespace Cert.AttendIdeal.Sb

open Cert.AttendIdeal Cert.AttendIdeal.Gen
open Idealize.ShloMosaic Idealize.ShloMosaic.TcCoe Idealize.ShloMosaic.Tactic

/-- The grid point `(0, p, q)`: the words below read the last two coordinates only. -/
def pt (p : Fin 2) (q : Fin 32) : grid0.Coords
  | 0 => (0 : Fin 2)
  | 1 => p
  | 2 => q

theorem v306_eq (i : grid0.Coords) : kernelRun0_A.sl.v306 i = BitVec.ofNat 32 ((i 2).val / 2) := by
  have h : ∀ q : Fin 32, kernelRun0_A.sl.v306 (pt 0 q) = BitVec.ofNat 32 (q.val / 2) := by decide +kernel
  exact h (i 2)

theorem trips_t1 (i : grid0.Coords) : (k0_t1_loop i).trips = (i 2).val / 2 := by
  have h : ∀ q : Fin 32, (k0_t1_loop (pt 0 q)).trips = q.val / 2 := by decide +kernel
  exact h (i 2)

theorem trips_t2 (i : grid0.Coords) : (k0_t2_loop i).trips = 0 := by
  exact Scf.rem_trips 0#32 _

theorem off2_eq (i : grid0.Coords) : k0_off2 i 1 = 512 * ((i 2).val / 2) := by
  have h : ∀ q : Fin 32, k0_off2 (pt 0 q) 1 = 512 * (q.val / 2) := by decide +kernel
  exact h (i 2)

theorem off3_eq (i : grid0.Coords) (k : Fin (k0_t1_loop i).trips) : k0_off3 i k 1 = 512 * ((i 2).val / 2 - 1 - k.val) := by
  have h : ∀ q : Fin 32, ∀ k : Fin (k0_t1_loop (pt 0 q)).trips, k0_off3 (pt 0 q) k 1 = 512 * (q.val / 2 - 1 - k.val) := by
    decide +kernel
  exact h (i 2) k

theorem off1_eq (i : grid0.Coords) (h : Fin 4) : k0_off1 i (BitVec.ofNat 32 h.val) 0 = 4 * (i 1).val + h.val := by
  have e : ∀ p : Fin 2, ∀ h : Fin 4, k0_off1 (pt p 0) (BitVec.ofNat 32 h.val) 0 = 4 * p.val + h.val := by decide +kernel
  exact e (i 1) h

theorem slt_small (m n : ℕ) (hm : m < 2 ^ 31) (hn : n < 2 ^ 31) :
    IntOp.cmpi (w := 32) .slt (BitVec.ofNat 32 m) (BitVec.ofNat 32 n) = if m < n then 1#1 else 0#1 := by
  have e : ∀ k : ℕ, k < 2 ^ 31 → (BitVec.ofNat 32 k).toInt = k := fun k hk => by
    rw [BitVec.toInt_eq_toNat_of_lt] <;> simp <;> omega
  simp only [IntOp.cmpi, BitVec.slt, e m hm, e n hn, Nat.cast_lt]
  by_cases h : m < n <;> simp [h]

theorem vis0 (i : grid0.Coords) (a : Fin 128) (c : Fin 512) :
    kernelRun0_A.sl.r_15 i (ix2 a c) = if 512 * ((i 2).val / 2) + c.val < 256 * (i 2).val + a.val then 1#1 else 0#1 := by
  unfold kernelRun0_A.sl.r_15
  rw [v306_eq]
  pointwise [k0_pay187, kernelRun0_A.sl.v287, kernelRun0_A.sl.v288]
  have e1 : IntOp.addi (BitVec.ofNat 32 c.val) (Scalar.muli (BitVec.ofNat 32 ((i 2).val / 2)) 512#32) = BitVec.ofNat 32 (512 * ((i 2).val / 2) + c.val) := by
    show BitVec.ofNat 32 c.val + BitVec.ofNat 32 ((i 2).val / 2) * BitVec.ofNat 32 512 = _
    rw [← BitVec.ofNat_mul, ← BitVec.ofNat_add]; congr 1; omega
  have e2 : IntOp.addi (BitVec.ofNat 32 a.val) (Scalar.addi (Scalar.muli (BitVec.ofNat 32 (i 2).val) 256#32) 0#32) = BitVec.ofNat 32 (256 * (i 2).val + a.val) := by
    show BitVec.ofNat 32 a.val + (BitVec.ofNat 32 (i 2).val * BitVec.ofNat 32 256 + BitVec.ofNat 32 0) = _
    rw [← BitVec.ofNat_mul, ← BitVec.ofNat_add, ← BitVec.ofNat_add]; congr 1; omega
  have := (i 2).isLt
  have hq : (i 2).val < 32 := (i 2).isLt
  rw [e1, e2, slt_small _ _ (by omega) (by omega)]

theorem vis1 (i : grid0.Coords) (a : Fin 128) (c : Fin 512) :
    kernelRun0_A.sl.r_16 i (ix2 a c) = if 512 * ((i 2).val / 2) + c.val < 256 * (i 2).val + 128 + a.val then 1#1 else 0#1 := by
  unfold kernelRun0_A.sl.r_16
  rw [v306_eq]
  pointwise [k0_pay188, kernelRun0_A.sl.v287, kernelRun0_A.sl.v288]
  have e1 : IntOp.addi (BitVec.ofNat 32 c.val) (Scalar.muli (BitVec.ofNat 32 ((i 2).val / 2)) 512#32) = BitVec.ofNat 32 (512 * ((i 2).val / 2) + c.val) := by
    show BitVec.ofNat 32 c.val + BitVec.ofNat 32 ((i 2).val / 2) * BitVec.ofNat 32 512 = _
    rw [← BitVec.ofNat_mul, ← BitVec.ofNat_add]; congr 1; omega
  have e2 : IntOp.addi (BitVec.ofNat 32 a.val) (Scalar.addi (Scalar.muli (BitVec.ofNat 32 (i 2).val) 256#32) 128#32) = BitVec.ofNat 32 (256 * (i 2).val + 128 + a.val) := by
    show BitVec.ofNat 32 a.val + (BitVec.ofNat 32 (i 2).val * BitVec.ofNat 32 256 + BitVec.ofNat 32 128) = _
    rw [← BitVec.ofNat_mul, ← BitVec.ofNat_add, ← BitVec.ofNat_add]; congr 1; omega
  have hq : (i 2).val < 32 := (i 2).isLt
  rw [e1, e2, slt_small _ _ (by omega) (by omega)]

/-- Whether lane `x` belongs to head `h`, as the kernel computes it: the quotient by 64 rounded down, compared. -/
def laneHead (x h : BitVec 32) : BitVec 1 :=
  IntOp.cmpi .eq
    (Scalar.select
      (IntOp.andi
        (IntOp.cmpi .ne
          (IntOp.subi (BitVec.setWidth 32 (IntOp.cmpi .sgt x 0#32)) (BitVec.setWidth 32 (IntOp.cmpi .slt x 0#32)))
          (Scalar.subi (Scalar.extui (Scalar.cmpi .sgt 64#32 0#32)) (Scalar.extui (Scalar.cmpi .slt 64#32 0#32))))
        (IntOp.cmpi .ne (IntOp.remsi .vector x 64#32) 0#32))
      (IntOp.subi (IntOp.divsi .vector x 64#32) 1#32)
      (IntOp.divsi .vector x 64#32))
    h

theorem laneHead_eq : ∀ (x : Fin 256) (h : Fin 4), laneHead (BitVec.ofNat 32 x.val) (BitVec.ofNat 32 h.val) = if x.val / 64 = h.val then 1#1 else 0#1 := by
  decide +kernel

theorem sel_head (x : Fin 256) (h : Fin 4) (u v : EReal) :
    Scalar.select (laneHead (BitVec.ofNat 32 x.val) (BitVec.ofNat 32 h.val)) u v = if x.val / 64 = h.val then u else v := by
  rw [laneHead_eq]; split <;> rfl

/-- The stack of the queries: row `g * 128 + a` holds query `128 * (g / 4) + a` of the block on the lanes of head `g % 4`, scaled. -/
abbrev qsVal (x2 : Vec Ideal S1x256x256 .bf16) (g : Fin 8) (a : Fin 128) (x : Fin 256) : EReal :=
  if x.val / 64 = g.val % 4 then x2 (ix3 0 ⟨128 * (g.val / 4) + a.val, by omega⟩ x) * Ideal.ofBits .f32 0x3E000000#32 else 0

theorem qs0 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨a.val, by omega⟩ x) = qsVal x2 0 a x := by
  unfold kernelRun0_A.sl.r_11 k0_pay182
  refine (rows_piece _ _ 0 (Nat.le_of_ble_eq_true rfl) _ rfl 0 (by simp [S128x256, Shape.size, Shape.rank]) a x _ (by first | rfl | (dsimp only; omega))).trans ?_
  unfold kernelRun0_A.sl.r_1
  rw [View.readAt_full, harg5.read_unread]
  pointwise [k0_pay165, k0_pay164]
  refine (sel_head x 0 _ _).trans ?_
  unfold qsVal
  refine if_congr Iff.rfl (congrArg (· * _) (congrArg x2 ?_)) rfl
  congr 1
  exact Fin.ext (by simp)

theorem qs1 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨128 + a.val, by omega⟩ x) = qsVal x2 1 a x := by
  unfold kernelRun0_A.sl.r_11 k0_pay182
  refine (rows_piece _ _ 1 (Nat.le_of_ble_eq_true rfl) _ rfl 128 (by simp [S128x256, Shape.size, Shape.rank]) a x _ (by first | rfl | (dsimp only; omega))).trans ?_
  unfold kernelRun0_A.sl.r_2 kernelRun0_A.sl.r
  rw [View.readAt_full, harg5.read_unread]
  pointwise [k0_pay164, kernelRun0_A.sl.v0, k0_pay168, k0_pay166, k0_pay167]
  refine (sel_head x 1 _ _).trans ?_
  unfold qsVal
  refine if_congr Iff.rfl (congrArg (· * _) (congrArg x2 ?_)) rfl
  congr 1
  exact Fin.ext (by simp)

theorem qs2 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨256 + a.val, by omega⟩ x) = qsVal x2 2 a x := by
  unfold kernelRun0_A.sl.r_11 k0_pay182
  refine (rows_piece _ _ 2 (Nat.le_of_ble_eq_true rfl) _ rfl 256 (by simp [S128x256, Shape.size, Shape.rank]) a x _ (by first | rfl | (dsimp only; omega))).trans ?_
  unfold kernelRun0_A.sl.r_3 kernelRun0_A.sl.r
  rw [View.readAt_full, harg5.read_unread]
  pointwise [k0_pay164, kernelRun0_A.sl.v0, k0_pay169, k0_pay170, k0_pay171, k0_pay172, k0_pay173]
  refine (sel_head x 2 _ _).trans ?_
  unfold qsVal
  refine if_congr Iff.rfl (congrArg (· * _) (congrArg x2 ?_)) rfl
  congr 1
  exact Fin.ext (by simp)

theorem qs3 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨384 + a.val, by omega⟩ x) = qsVal x2 3 a x := by
  unfold kernelRun0_A.sl.r_11 k0_pay182
  refine (rows_piece _ _ 3 (Nat.le_of_ble_eq_true rfl) _ rfl 384 (by simp [S128x256, Shape.size, Shape.rank]) a x _ (by first | rfl | (dsimp only; omega))).trans ?_
  unfold kernelRun0_A.sl.r_4 kernelRun0_A.sl.r
  rw [View.readAt_full, harg5.read_unread]
  pointwise [k0_pay164, kernelRun0_A.sl.v0, k0_pay174]
  refine (sel_head x 3 _ _).trans ?_
  unfold qsVal
  refine if_congr Iff.rfl (congrArg (· * _) (congrArg x2 ?_)) rfl
  congr 1
  exact Fin.ext (by simp)

theorem qs4 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨512 + a.val, by omega⟩ x) = qsVal x2 4 a x := by
  unfold kernelRun0_A.sl.r_11 k0_pay182
  refine (rows_piece _ _ 4 (Nat.le_of_ble_eq_true rfl) _ rfl 512 (by simp [S128x256, Shape.size, Shape.rank]) a x _ (by first | rfl | (dsimp only; omega))).trans ?_
  unfold kernelRun0_A.sl.r_5 kernelRun0_A.sl.r
  rw [View.readAt_full, harg5.read_unread]
  pointwise [k0_pay164, kernelRun0_A.sl.v0, k0_pay175, k0_pay176]
  refine (sel_head x 0 _ _).trans ?_
  unfold qsVal
  refine if_congr Iff.rfl (congrArg (· * _) (congrArg x2 ?_)) rfl
  congr 1

theorem qs5 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨640 + a.val, by omega⟩ x) = qsVal x2 5 a x := by
  unfold kernelRun0_A.sl.r_11 k0_pay182
  refine (rows_piece _ _ 5 (Nat.le_of_ble_eq_true rfl) _ rfl 640 (by simp [S128x256, Shape.size, Shape.rank]) a x _ (by first | rfl | (dsimp only; omega))).trans ?_
  unfold kernelRun0_A.sl.r_6 kernelRun0_A.sl.r
  rw [View.readAt_full, harg5.read_unread]
  pointwise [k0_pay164, kernelRun0_A.sl.v0, k0_pay177, k0_pay178, k0_pay179, k0_pay180]
  refine (sel_head x 1 _ _).trans ?_
  unfold qsVal
  refine if_congr Iff.rfl (congrArg (· * _) (congrArg x2 ?_)) rfl
  congr 1

theorem qs6 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨768 + a.val, by omega⟩ x) = qsVal x2 6 a x := by
  unfold kernelRun0_A.sl.r_11 k0_pay182
  refine (rows_piece _ _ 6 (Nat.le_of_ble_eq_true rfl) _ rfl 768 (by simp [S128x256, Shape.size, Shape.rank]) a x _ (by first | rfl | (dsimp only; omega))).trans ?_
  unfold kernelRun0_A.sl.r_7 kernelRun0_A.sl.r
  rw [View.readAt_full, harg5.read_unread]
  pointwise [k0_pay164, kernelRun0_A.sl.v0, k0_pay181]
  refine (sel_head x 2 _ _).trans ?_
  unfold qsVal
  refine if_congr Iff.rfl (congrArg (· * _) (congrArg x2 ?_)) rfl
  congr 1

theorem qs7 (c : Dev nD) (arg5 : Memref sig .tc .vmem S1x256x256 .bf16) (harg5 : arg5.IsWhole) (x2 : Vec Ideal S1x256x256 .bf16) (a : Fin 128) (x : Fin 256) :
    kernelRun0_A.sl.r_11 (F := Ideal) c arg5 harg5 x2 (ix2 ⟨896 + a.val, by omega⟩ x) = qsVal x2 7 a x := by
  unfold kernelRun0_A.sl.r_11 k0_pay182
  refine (rows_piece _ _ 7 (Nat.le_of_ble_eq_true rfl) _ rfl 896 (by simp [S128x256, Shape.size, Shape.rank]) a x _ (by first | rfl | (dsimp only; omega))).trans ?_
  unfold kernelRun0_A.sl.r
  rw [View.readAt_full, harg5.read_unread]
  pointwise [k0_pay164, kernelRun0_A.sl.v0]
  refine (sel_head x 3 _ _).trans ?_
  unfold qsVal
  refine if_congr Iff.rfl (congrArg (· * _) (congrArg x2 ?_)) rfl
  congr 1

end Cert.AttendIdeal.Sb
-- ==== Proof.AttendLoop.lean ====
/-
  The attention's loop over the tiles of keys, and the rows it leaves in the accumulator.
-/
module

public import proofs.«01_k».proof.Proof.AttendSums
public import proofs.«01_k».proof.Proof.AttendWords

@[expose] public section

set_option maxRecDepth 16384

noncomputable section

namespace Cert.AttendIdeal.Sb

open Cert.AttendIdeal Cert.AttendIdeal.Gen
open Idealize.ShloMosaic Idealize.ShloMosaic.TcCoe Idealize.ShloMosaic.Tactic
open Finset (Ico)

/-- Row `a` of slab `g` of the accumulator. -/
def rowI (g : Fin 8) (a : Fin 128) : Fin 1024 := ⟨g.val * 128 + a.val, by omega⟩

theorem rowI0 (a : Fin 128) : rowI 0 a = ⟨a.val, by omega⟩ := Fin.ext (by simp [rowI])

/-- The bias of slab `g`, of the four heads' biases. -/
abbrev bsel (b0 b1 b2 b3 : EReal) : Fin 8 → EReal
  | 0 => b0 | 1 => b1 | 2 => b2 | 3 => b3 | 4 => b0 | 5 => b1 | 6 => b2 | 7 => b3

theorem trip_acc (𝒱 : Variants) (c : Dev nD) (bd : Option 𝒱.V) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (v262 : FVec Ideal S1024x256 .bf16) (v266 : Elt Ideal .f32) (v270 : Elt Ideal .f32) (v274 : Elt Ideal .f32) (v278 : Elt Ideal .f32) (v306 : BitVec 32) (v314 : FVec Ideal S512x256 .bf16) (v330 : IVec S128x512 1) (v526 : FVec Ideal S128x512 .bf16) (v557 : FVec Ideal S128x512 .bf16) (v588 : FVec Ideal S128x512 .bf16) (v619 : FVec Ideal S128x512 .bf16) (v650 : FVec Ideal S128x512 .bf16) (v681 : FVec Ideal S128x512 .bf16) (v712 : FVec Ideal S128x512 .bf16) (v720 : FVec Ideal S128x256 .f32) (v725 : FVec Ideal S128x128 .f32) (v731 : FVec Ideal S128x256 .f32) (v733 : FVec Ideal S128 .f32) (X_arg4 : BufTy.Contents (Elt Ideal) arg4.view.ty) (X_arg6 : BufTy.Contents (Elt Ideal) arg6.view.ty) (X_arg7 : BufTy.Contents (Elt Ideal) arg7.view.ty) (k : Fin (k0_t1_loop i).trips) (f9 : BufTy.Contents (Elt Ideal) arg9.view.ty) (f10 : BufTy.Contents (Elt Ideal) arg10.view.ty) (a : Fin 128) : ∀ (g : Fin 8) (C : EReal) (hC : ∀ l, arg10.view.read (Elt Ideal) f10 (ix3 g a l) = C) (l : Fin 256),
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).1) (ix2 (rowI g a) l)
      = arg9.view.read (Elt Ideal) f9 (ix2 (rowI g a) l)
        + ∑ c : Fin 512, wg (fun c => lbf (zval v262 (arg6.view.readAt (Elt Ideal) (Rect.unit (s := S1x8192x256) (k0_off3 i k) S1x512x256.size (k0_off3_inb i k)).toLoadRect X_arg6) (bsel v266 v270 v274 v278 g) (rowI g a) c)) (fun c => l1f (zval v262 (arg6.view.readAt (Elt Ideal) (Rect.unit (s := S1x8192x256) (k0_off3 i k) S1x512x256.size (k0_off3_inb i k)).toLoadRect X_arg6) (bsel v266 v270 v274 v278 g) (rowI g a) c)) (arg4.view.read (Elt Ideal) X_arg4) C c * (arg7.view.readAt (Elt Ideal) (Rect.unit (s := S1x8192x256) (k0_off3 i k) S1x512x256.size (k0_off3_inb i k)).toLoadRect X_arg7) (ix3 0 c l)
  | 0, C, hC, l => by rw [rowI0]; exact trip_acc0 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l
  | 1, C, hC, l => trip_acc1 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l
  | 2, C, hC, l => trip_acc2 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l
  | 3, C, hC, l => trip_acc3 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l
  | 4, C, hC, l => trip_acc4 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l
  | 5, C, hC, l => trip_acc5 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l
  | 6, C, hC, l => trip_acc6 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l
  | 7, C, hC, l => trip_acc7 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a C hC l

theorem trip_car (𝒱 : Variants) (c : Dev nD) (bd : Option 𝒱.V) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (v262 : FVec Ideal S1024x256 .bf16) (v266 : Elt Ideal .f32) (v270 : Elt Ideal .f32) (v274 : Elt Ideal .f32) (v278 : Elt Ideal .f32) (v306 : BitVec 32) (v314 : FVec Ideal S512x256 .bf16) (v330 : IVec S128x512 1) (v526 : FVec Ideal S128x512 .bf16) (v557 : FVec Ideal S128x512 .bf16) (v588 : FVec Ideal S128x512 .bf16) (v619 : FVec Ideal S128x512 .bf16) (v650 : FVec Ideal S128x512 .bf16) (v681 : FVec Ideal S128x512 .bf16) (v712 : FVec Ideal S128x512 .bf16) (v720 : FVec Ideal S128x256 .f32) (v725 : FVec Ideal S128x128 .f32) (v731 : FVec Ideal S128x256 .f32) (v733 : FVec Ideal S128 .f32) (X_arg4 : BufTy.Contents (Elt Ideal) arg4.view.ty) (X_arg6 : BufTy.Contents (Elt Ideal) arg6.view.ty) (X_arg7 : BufTy.Contents (Elt Ideal) arg7.view.ty) (k : Fin (k0_t1_loop i).trips) (f9 : BufTy.Contents (Elt Ideal) arg9.view.ty) (f10 : BufTy.Contents (Elt Ideal) arg10.view.ty) (a l : Fin 128) : ∀ g : Fin 8,
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10).2) (ix3 g a l)
      = arg10.view.read (Elt Ideal) f10 (ix3 g a l) + (∑ x : Fin 256, l1f (zval v262 (arg6.view.readAt (Elt Ideal) (Rect.unit (s := S1x8192x256) (k0_off3 i k) S1x512x256.size (k0_off3_inb i k)).toLoadRect X_arg6) (bsel v266 v270 v274 v278 g) (rowI g a) (⟨256 + x.val, by omega⟩ : Fin 512))) + ∑ x : Fin 256, l1f (zval v262 (arg6.view.readAt (Elt Ideal) (Rect.unit (s := S1x8192x256) (k0_off3 i k) S1x512x256.size (k0_off3_inb i k)).toLoadRect X_arg6) (bsel v266 v270 v274 v278 g) (rowI g a) (⟨x.val, by omega⟩ : Fin 512))
  | 0 => by rw [rowI0]; exact trip_car0 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l
  | 1 => trip_car1 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l
  | 2 => trip_car2 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l
  | 3 => trip_car3 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l
  | 4 => trip_car4 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l
  | 5 => trip_car5 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l
  | 6 => trip_car6 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l
  | 7 => trip_car7 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 k f9 f10 a l

/-- What the rows of slab `g` see of the tile before the loop. -/
abbrev visG (i : grid0.Coords) : Fin 8 → IVec S128x512 1
  | 0 | 1 | 2 | 3 => kernelRun0_A.sl.r_15 i
  | 4 | 5 | 6 | 7 => kernelRun0_A.sl.r_16 i

theorem head_acc (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16) (f : BufTy.Contents (Elt Ideal) arg9.view.ty) (a : Fin 128) (l : Fin 256) : ∀ g : Fin 8,
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 (rowI g a) l)
      = 0 + ∑ j : Fin 512, Scalar.select ((visG i g) (ix2 a j)) (wg (fun j => lbf (zval (kernelRun0_A.sl.r_11 (F := Ideal) c arg5 harg5 x2) (arg6.view.readAt (Elt Ideal) (Rect.unit (s := S1x8192x256) (k0_off2 i) S1x512x256.size (k0_off2_inb i)).toLoadRect (harg6.unread x3)) (bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g) (rowI g a) j)) (fun j => (Scalar.select ((visG i g) (ix2 a j)) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g) (rowI g a) j)) 0)) x1 0 j) 0 * (arg7.view.readAt (Elt Ideal) (Rect.unit (s := S1x8192x256) (k0_off2 i) S1x512x256.size (k0_off2_inb i)).toLoadRect (harg7.unread x4)) (ix3 0 j l)
  | 0 => by rw [rowI0]; exact head_acc0 c i arg3 harg3 arg4 harg4 arg5 harg5 arg6 harg6 arg7 harg7 arg8 harg8 arg9 harg9 arg10 harg10 x0 x1 x2 x3 x4 f a l
  | 1 => head_acc1 c i arg3 harg3 arg4 harg4 arg5 harg5 arg6 harg6 arg7 harg7 arg8 harg8 arg9 harg9 arg10 harg10 x0 x1 x2 x3 x4 f a l
  | 2 => head_acc2 c i arg3 harg3 arg4 harg4 arg5 harg5 arg6 harg6 arg7 harg7 arg8 harg8 arg9 harg9 arg10 harg10 x0 x1 x2 x3 x4 f a l
  | 3 => head_acc3 c i arg3 harg3 arg4 harg4 arg5 harg5 arg6 harg6 arg7 harg7 arg8 harg8 arg9 harg9 arg10 harg10 x0 x1 x2 x3 x4 f a l
  | 4 => head_acc4 c i arg3 harg3 arg4 harg4 arg5 harg5 arg6 harg6 arg7 harg7 arg8 harg8 arg9 harg9 arg10 harg10 x0 x1 x2 x3 x4 f a l
  | 5 => head_acc5 c i arg3 harg3 arg4 harg4 arg5 harg5 arg6 harg6 arg7 harg7 arg8 harg8 arg9 harg9 arg10 harg10 x0 x1 x2 x3 x4 f a l
  | 6 => head_acc6 c i arg3 harg3 arg4 harg4 arg5 harg5 arg6 harg6 arg7 harg7 arg8 harg8 arg9 harg9 arg10 harg10 x0 x1 x2 x3 x4 f a l
  | 7 => head_acc7 c i arg3 harg3 arg4 harg4 arg5 harg5 arg6 harg6 arg7 harg7 arg8 harg8 arg9 harg9 arg10 harg10 x0 x1 x2 x3 x4 f a l

theorem head_car (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16) (f : BufTy.Contents (Elt Ideal) arg10.view.ty) (a l : Fin 128) : ∀ g : Fin 8,
    arg10.view.read (Elt Ideal) (arg10.view.writes (Elt Ideal) f (kernelRun0_A.sl.HS1_9 (F := Ideal) c i arg3 harg3 arg5 harg5 arg6 harg6 arg10 x0 x2 x3)) (ix3 g a l)
      = 0 + (∑ x : Fin 256, (Scalar.select ((visG i g) (ix2 a (⟨256 + x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g) (rowI g a) (⟨256 + x.val, by omega⟩ : Fin 512))) 0)) + ∑ x : Fin 256, (Scalar.select ((visG i g) (ix2 a (⟨x.val, by omega⟩ : Fin 512))) (l1f (zval (kernelRun0_A.sl.r_11 (F := Ideal) c arg5 harg5 x2) (arg6.view.readAt (Elt Ideal) (Rect.unit (s := S1x8192x256) (k0_off2 i) S1x512x256.size (k0_off2_inb i)).toLoadRect (harg6.unread x3)) (bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g) (rowI g a) (⟨x.val, by omega⟩ : Fin 512))) 0)
  | 0 => by rw [rowI0]; exact head_car0 c i arg3 harg3 arg4 harg4 arg5 harg5 arg6 harg6 arg7 harg7 arg8 harg8 arg9 harg9 arg10 harg10 x0 x1 x2 x3 x4 f a l
  | 1 => head_car1 c i arg3 harg3 arg4 harg4 arg5 harg5 arg6 harg6 arg7 harg7 arg8 harg8 arg9 harg9 arg10 harg10 x0 x1 x2 x3 x4 f a l
  | 2 => head_car2 c i arg3 harg3 arg4 harg4 arg5 harg5 arg6 harg6 arg7 harg7 arg8 harg8 arg9 harg9 arg10 harg10 x0 x1 x2 x3 x4 f a l
  | 3 => head_car3 c i arg3 harg3 arg4 harg4 arg5 harg5 arg6 harg6 arg7 harg7 arg8 harg8 arg9 harg9 arg10 harg10 x0 x1 x2 x3 x4 f a l
  | 4 => head_car4 c i arg3 harg3 arg4 harg4 arg5 harg5 arg6 harg6 arg7 harg7 arg8 harg8 arg9 harg9 arg10 harg10 x0 x1 x2 x3 x4 f a l
  | 5 => head_car5 c i arg3 harg3 arg4 harg4 arg5 harg5 arg6 harg6 arg7 harg7 arg8 harg8 arg9 harg9 arg10 harg10 x0 x1 x2 x3 x4 f a l
  | 6 => head_car6 c i arg3 harg3 arg4 harg4 arg5 harg5 arg6 harg6 arg7 harg7 arg8 harg8 arg9 harg9 arg10 harg10 x0 x1 x2 x3 x4 f a l
  | 7 => head_car7 c i arg3 harg3 arg4 harg4 arg5 harg5 arg6 harg6 arg7 harg7 arg8 harg8 arg9 harg9 arg10 harg10 x0 x1 x2 x3 x4 f a l

/-- The loop, one row: after `k` trips the running sum and the row of the accumulator hold the sums over the keys from
    tile `kd - k` on. -/
theorem loop_row (𝒱 : Variants) (c : Dev nD) (bd : Option 𝒱.V) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (v262 : FVec Ideal S1024x256 .bf16) (v266 : Elt Ideal .f32) (v270 : Elt Ideal .f32) (v274 : Elt Ideal .f32) (v278 : Elt Ideal .f32) (v306 : BitVec 32) (v314 : FVec Ideal S512x256 .bf16) (v330 : IVec S128x512 1) (v526 : FVec Ideal S128x512 .bf16) (v557 : FVec Ideal S128x512 .bf16) (v588 : FVec Ideal S128x512 .bf16) (v619 : FVec Ideal S128x512 .bf16) (v650 : FVec Ideal S128x512 .bf16) (v681 : FVec Ideal S128x512 .bf16) (v712 : FVec Ideal S128x512 .bf16) (v720 : FVec Ideal S128x256 .f32) (v725 : FVec Ideal S128x128 .f32) (v731 : FVec Ideal S128x256 .f32) (v733 : FVec Ideal S128 .f32) (X_arg4 : BufTy.Contents (Elt Ideal) arg4.view.ty) (X_arg6 : BufTy.Contents (Elt Ideal) arg6.view.ty) (X_arg7 : BufTy.Contents (Elt Ideal) arg7.view.ty) (G_arg9 : BufTy.Contents (Elt Ideal) arg9.view.ty) (G_arg10 : BufTy.Contents (Elt Ideal) arg10.view.ty) (g : Fin 8) (a : Fin 128) (z : ℕ → EReal) (v : ℕ → Fin 256 → EReal) (q T kd : ℕ) (hT : T = 512 * kd + 512) (hq : 512 * kd ≤ q)
    (htri : IsTri (arg4.view.read (Elt Ideal) X_arg4))
    (hz : ∀ (k : Fin (k0_t1_loop i).trips) (c : Fin 512), (zval v262 (arg6.view.readAt (Elt Ideal) (Rect.unit (s := S1x8192x256) (k0_off3 i k) S1x512x256.size (k0_off3_inb i k)).toLoadRect X_arg6) (bsel v266 v270 v274 v278 g) (rowI g a) c) = z (512 * (kd - 1 - k.val) + c.val))
    (hv : ∀ (k : Fin (k0_t1_loop i).trips) (c : Fin 512) (l : Fin 256), (arg7.view.readAt (Elt Ideal) (Rect.unit (s := S1x8192x256) (k0_off3 i k) S1x512x256.size (k0_off3_inb i k)).toLoadRect X_arg7) (ix3 0 c l) = v (512 * (kd - 1 - k.val) + c.val) l)
    (h10 : ∀ l, arg10.view.read (Elt Ideal) G_arg10 (ix3 g a l) = ∑ j ∈ Ico (512 * kd) T, keep z q j)
    (h9 : ∀ l, arg9.view.read (Elt Ideal) G_arg9 (ix2 (rowI g a) l) = ∑ j ∈ Ico (512 * kd) T, weight z q T j * v j l) :
    ∀ k, k ≤ (k0_t1_loop i).trips → k ≤ kd →
      (∀ l, arg10.view.read (Elt Ideal) (arg10.view.writes (Elt Ideal) G_arg10 (pb_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 G_arg9 G_arg10 k).2) (ix3 g a l) = ∑ j ∈ Ico (512 * (kd - k)) T, keep z q j)
      ∧ ∀ l, arg9.view.read (Elt Ideal) (arg9.view.writes (Elt Ideal) G_arg9 (pb_k0_t1 (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 G_arg9 G_arg10 k).1) (ix2 (rowI g a) l) = ∑ j ∈ Ico (512 * (kd - k)) T, weight z q T j * v j l := by
  intro k
  induction k with
  | zero => exact fun _ _ => ⟨h10, h9⟩
  | succ k ih =>
    intro h hk
    obtain ⟨i10, i9⟩ := ih (by omega) (by omega)
    have e := pb_k0_t1_succ (F := Ideal) 𝒱 c bd i arg3 harg3 arg4 harg4 arg5 harg5 arg6 harg6 arg7 harg7 arg8 harg8 arg9 harg9 arg10 harg10 v262 v266 v270 v274 v278 v306 v314 v330 v526 v557 v588 v619 v650 v681 v712 v720 v725 v731 v733 X_arg4 X_arg6 X_arg7 G_arg9 G_arg10 ⟨k, h⟩
    dsimp only at e
    rw [e]
    dsimp only
    rw [View.writes_append, View.writes_append]
    have eo : 512 * (kd - k) = 512 * (kd - 1 - k) + 512 := by omega
    have en : 512 * (kd - (k + 1)) = 512 * (kd - 1 - k) := by omega
    rw [eo] at i10 i9
    have hK : ∀ j < 512 * (kd - 1 - k) + 512, keep z q j = l1f (z j) := fun j hj => if_pos (by omega)
    constructor
    · intro l
      rw [trip_car, i10 l, en]
      refine Eq.trans ?_ (car_closed (keep z q) (512 * (kd - 1 - k)) T (by omega))
      congr 1
      · congr 1
        refine Finset.sum_congr rfl fun x _ => ?_
        rw [hz ⟨k, h⟩, hK _ (by omega)]
      · refine Finset.sum_congr rfl fun x _ => ?_
        rw [hz ⟨k, h⟩, hK _ (by omega)]
    · intro l
      rw [trip_acc (C := ∑ j ∈ Ico (512 * (kd - 1 - k) + 512) T, keep z q j) (hC := i10), i9 l, en]
      refine Eq.trans ?_ (acc_closed (fun j => weight z q T j * v j l) (512 * (kd - 1 - k)) T (by omega))
      congr 1
      refine Finset.sum_congr rfl fun x _ => ?_
      rw [hv ⟨k, h⟩]
      refine congrArg (· * _) ?_
      have e1 : ∀ c : Fin 512, l1f (z (512 * (kd - 1 - k) + c.val)) = keep z q (512 * (kd - 1 - k) + c.val) := fun c => (hK _ (by omega)).symm
      simp only [hz ⟨k, h⟩, e1]
      refine (wg_closed (fun j => lbf (z j)) (keep z q) (512 * (kd - 1 - k)) T (by omega) htri x).trans ?_
      unfold weight
      rw [if_pos (by omega)]

theorem keep_select (z : ℕ → EReal) (q j : ℕ) : Scalar.select (if j < q then 1#1 else 0#1) (l1f (z j)) 0 = keep z q j := by
  unfold keep; split <;> rfl

theorem weight_select (z : ℕ → EReal) (q T j : ℕ) (w : EReal) (hw : w = Ideal.exp (lbf (z j) + ∑ i ∈ Ico (j + 1) T, keep z q i)) :
    Scalar.select (if j < q then 1#1 else 0#1) w 0 = weight z q T j := by
  subst hw; unfold weight; split <;> rfl

/-- The tile before the loop, one row: the running sum. -/
theorem head_row10 (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16) (g : Fin 8) (a : Fin 128) (z : ℕ → EReal) (q o : ℕ)
    (hvis : ∀ m : Fin 512, visG i g (ix2 a m) = if o + m.val < q then 1#1 else 0#1)
    (hz : ∀ m : Fin 512, (zval (kernelRun0_A.sl.r_11 (F := Ideal) c arg5 harg5 x2) (arg6.view.readAt (Elt Ideal) (Rect.unit (s := S1x8192x256) (k0_off2 i) S1x512x256.size (k0_off2_inb i)).toLoadRect (harg6.unread x3)) (bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g) (rowI g a) m) = z (o + m.val))
    (f : BufTy.Contents (Elt Ideal) arg10.view.ty) (l : Fin 128) :
    arg10.view.read (Elt Ideal) (arg10.view.writes (Elt Ideal) f (kernelRun0_A.sl.HS1_9 (F := Ideal) c i arg3 harg3 arg5 harg5 arg6 harg6 arg10 x0 x2 x3)) (ix3 g a l)
      = ∑ j ∈ Ico o (o + 512), keep z q j := by
  rw [head_car c i arg3 harg3 arg4 harg4 arg5 harg5 arg6 harg6 arg7 harg7 arg8 harg8 arg9 harg9 arg10 harg10 x0 x1 x2 x3 x4]
  refine Eq.trans ?_ (car_closed (keep z q) o (o + 512) le_rfl)
  rw [Finset.Ico_self, Finset.sum_empty]
  congr 1
  · congr 1
    refine Finset.sum_congr rfl fun x _ => ?_
    rw [hz, hvis, keep_select]
  · refine Finset.sum_congr rfl fun x _ => ?_
    rw [hz, hvis, keep_select]

/-- The tile before the loop, one row: the accumulator. -/
theorem head_row9 (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16) (g : Fin 8) (a : Fin 128) (z : ℕ → EReal) (v : ℕ → Fin 256 → EReal) (q o : ℕ) (htri : IsTri x1)
    (hvis : ∀ m : Fin 512, visG i g (ix2 a m) = if o + m.val < q then 1#1 else 0#1)
    (hz : ∀ m : Fin 512, (zval (kernelRun0_A.sl.r_11 (F := Ideal) c arg5 harg5 x2) (arg6.view.readAt (Elt Ideal) (Rect.unit (s := S1x8192x256) (k0_off2 i) S1x512x256.size (k0_off2_inb i)).toLoadRect (harg6.unread x3)) (bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g) (rowI g a) m) = z (o + m.val))
    (hv : ∀ (c : Fin 512) (l : Fin 256), (arg7.view.readAt (Elt Ideal) (Rect.unit (s := S1x8192x256) (k0_off2 i) S1x512x256.size (k0_off2_inb i)).toLoadRect (harg7.unread x4)) (ix3 0 c l) = v (o + c.val) l)
    (f : BufTy.Contents (Elt Ideal) arg9.view.ty) (l : Fin 256) :
    arg9.view.read (Elt Ideal) (arg9.view.writes (Elt Ideal) f (kernelRun0_A.sl.HS0_2 (F := Ideal) c i arg3 harg3 arg4 harg4 arg5 harg5 arg6 harg6 arg7 harg7 arg9 arg10 x0 x1 x2 x3 x4)) (ix2 (rowI g a) l)
      = ∑ j ∈ Ico o (o + 512), weight z q (o + 512) j * v j l := by
  rw [head_acc c i arg3 harg3 arg4 harg4 arg5 harg5 arg6 harg6 arg7 harg7 arg8 harg8 arg9 harg9 arg10 harg10 x0 x1 x2 x3 x4]
  refine Eq.trans ?_ (acc_closed (fun j => weight z q (o + 512) j * v j l) o (o + 512) le_rfl)
  rw [Finset.Ico_self, Finset.sum_empty]
  refine congrArg (0 + ·) (Finset.sum_congr rfl fun x _ => ?_)
  rw [hv]
  refine congrArg (· * _) ?_
  simp only [hz, hvis, keep_select]
  refine weight_select z q (o + 512) (o + x.val) _ ?_
  have e := wg_closed (fun j => lbf (z j)) (keep z q) o (o + 512) le_rfl htri x
  rwa [Finset.Ico_self, Finset.sum_empty] at e

end Cert.AttendIdeal.Sb
-- ==== Proof.AttendBody.lean ====
/-
  What a grid point of the attention writes: every row of its block of the result, as sums over the keys.
-/
module

public import proofs.«01_k».proof.Proof.AttendLoop
public import proofs.«01_k».proof.Proof.Gen.AttendIdeal.Value

@[expose] public section

set_option maxRecDepth 16384

noncomputable section

namespace Cert.AttendIdeal.Sb

open Cert.AttendIdeal Cert.AttendIdeal.Gen
open Idealize.ShloMosaic Idealize.ShloMosaic.TcCoe Idealize.ShloMosaic.Tactic
open Finset (Ico)

/-- The keys' lanes (or the values'), by the key's number. -/
def lanes (x : Vec Ideal S1x8192x256 .bf16) (j : ℕ) (l : Fin 256) : EReal := if h : j < 8192 then x (ix3 0 ⟨j, h⟩ l) else 0

theorem read_tile (arg : Memref sig .tc .vmem S1x8192x256 .bf16) (harg : arg.IsWhole) (x : Vec Ideal S1x8192x256 .bf16)
    (off : Fin 3 → ℕ) (h0 : off 0 = 0) (h2 : off 2 = 0) (hin : ∀ a, off a + S1x512x256.size a ≤ S1x8192x256.size a) (m : Fin 512) (l : Fin 256) :
    arg.view.readAt (Elt Ideal) (Rect.unit (s := S1x8192x256) off S1x512x256.size hin).toLoadRect (harg.unread x) (ix3 0 m l) = lanes x (off 1 + m.val) l := by
  have hb : off 1 + 512 ≤ 8192 := hin 1
  have hj : off 1 + m.val < 8192 := by omega
  refine (congrFun (harg.read_unread x) _).trans ?_
  unfold lanes
  rw [dif_pos hj]
  refine congrArg x ?_
  funext b
  refine Fin.ext ?_
  fin_cases b <;> simp [Rect.toLoadRect, Rect.unit, LoadRect.idx, h0, h2]

theorem read_bias (i : grid0.Coords) (arg : Memref sig .tc .smem S8 .f32) (harg : arg.IsWhole) (x : Vec Ideal S8 .f32) (w : BitVec 32)
    (h : ∀ a, k0_off1 i w a + S1.size a ≤ S8.size a) (hp : 0 < S1.numel) (p : Fin 8) (hpv : k0_off1 i w 0 = p.val) :
    arg.view.readAt (Elt Ideal) (Rect.unit (s := S8) (k0_off1 i w) S1.size h).toLoadRect (harg.unread x) (Shape.Idx.first hp) = x (ix1 p) := by
  refine (congrFun (harg.read_unread x) _).trans ?_
  refine congrArg x ?_
  funext b
  refine Fin.ext ?_
  fin_cases b
  refine (?_ : _ = k0_off1 i w 0 + 0).trans (by rw [hpv]; rfl)
  simp [Rect.toLoadRect, Rect.unit, LoadRect.idx, Shape.Idx.first]

/-- The bias's place for slab `g`. -/
def headOf (i : grid0.Coords) (g : Fin 8) : Fin 8 := ⟨4 * (i 1).val + g.val % 4, by have : (i 1).val < 2 := (i 1).isLt; omega⟩

theorem bias_eq (c : Dev nD) (i : grid0.Coords) (arg3 : Memref sig .tc .smem S8 .f32) (harg3 : arg3.IsWhole) (x0 : Vec Ideal S8 .f32) : ∀ g : Fin 8,
    bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g = x0 (ix1 (headOf i g))
  | 0 => by unfold kernelRun0_A.sl.r_8; exact read_bias i arg3 harg3 x0 _ _ _ _ (off1_eq i 0)
  | 1 => by unfold kernelRun0_A.sl.r_9; exact read_bias i arg3 harg3 x0 _ _ _ _ (off1_eq i 1)
  | 2 => by unfold kernelRun0_A.sl.r_10; exact read_bias i arg3 harg3 x0 _ _ _ _ (off1_eq i 2)
  | 3 => by unfold kernelRun0_A.sl.r_12; exact read_bias i arg3 harg3 x0 _ _ _ _ (off1_eq i 3)
  | 4 => by unfold kernelRun0_A.sl.r_8; exact read_bias i arg3 harg3 x0 _ _ _ _ (off1_eq i 0)
  | 5 => by unfold kernelRun0_A.sl.r_9; exact read_bias i arg3 harg3 x0 _ _ _ _ (off1_eq i 1)
  | 6 => by unfold kernelRun0_A.sl.r_10; exact read_bias i arg3 harg3 x0 _ _ _ _ (off1_eq i 2)
  | 7 => by unfold kernelRun0_A.sl.r_12; exact read_bias i arg3 harg3 x0 _ _ _ _ (off1_eq i 3)

theorem qs_eq (c : Dev nD) (arg5 : Memref sig .tc .vmem S1x256x256 .bf16) (harg5 : arg5.IsWhole) (x2 : Vec Ideal S1x256x256 .bf16) (a : Fin 128) (x : Fin 256) : ∀ g : Fin 8,
    kernelRun0_A.sl.r_11 (F := Ideal) c arg5 harg5 x2 (ix2 (rowI g a) x) = qsVal x2 g a x
  | 0 => by rw [rowI0]; exact qs0 c arg5 harg5 x2 a x
  | 1 => qs1 c arg5 harg5 x2 a x
  | 2 => qs2 c arg5 harg5 x2 a x
  | 3 => qs3 c arg5 harg5 x2 a x
  | 4 => qs4 c arg5 harg5 x2 a x
  | 5 => qs5 c arg5 harg5 x2 a x
  | 6 => qs6 c arg5 harg5 x2 a x
  | 7 => qs7 c arg5 harg5 x2 a x

/-- The score of row `a` of slab `g` against the key `j`. -/
def zRow (i : grid0.Coords) (x0 : Vec Ideal S8 .f32) (x2 : Vec Ideal S1x256x256 .bf16) (x3 : Vec Ideal S1x8192x256 .bf16) (g : Fin 8) (a : Fin 128) (j : ℕ) : EReal :=
  (∑ x : Fin 256, qsVal x2 g a x * lanes x3 j x) + x0 (ix1 (headOf i g))

/-- The position of the query of row `a` of slab `g`. -/
def qRow (i : grid0.Coords) (g : Fin 8) (a : Fin 128) : ℕ := 256 * (i 2).val + 128 * (g.val / 4) + a.val

theorem visG_eq (i : grid0.Coords) (a : Fin 128) (m : Fin 512) : ∀ g : Fin 8,
    visG i g (ix2 a m) = if 512 * ((i 2).val / 2) + m.val < qRow i g a then 1#1 else 0#1
  | 0 => (vis0 i a m).trans (by simp [qRow])
  | 1 => (vis0 i a m).trans (by simp [qRow])
  | 2 => (vis0 i a m).trans (by simp [qRow])
  | 3 => (vis0 i a m).trans (by simp [qRow])
  | 4 => (vis1 i a m).trans (by simp [qRow])
  | 5 => (vis1 i a m).trans (by simp [qRow])
  | 6 => (vis1 i a m).trans (by simp [qRow])
  | 7 => (vis1 i a m).trans (by simp [qRow])

theorem zval_eq (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16) (g : Fin 8) (a : Fin 128) (off : Fin 3 → ℕ) (h0 : off 0 = 0) (h2 : off 2 = 0) (hin : ∀ a, off a + S1x512x256.size a ≤ S1x8192x256.size a) (m : Fin 512) :
    (zval (kernelRun0_A.sl.r_11 (F := Ideal) c arg5 harg5 x2) (arg6.view.readAt (Elt Ideal) (Rect.unit (s := S1x8192x256) off S1x512x256.size hin).toLoadRect (harg6.unread x3)) (bsel (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) g) (rowI g a) m) = zRow i x0 x2 x3 g a (off 1 + m.val) := by
  unfold zval zRow
  rw [bias_eq]
  refine congrArg (· + _) (Finset.sum_congr rfl fun x _ => ?_)
  rw [qs_eq, read_tile _ _ _ off h0 h2]

/-- One row of the accumulator after the loop. -/
theorem acc_tail (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16) (v314 : FVec Ideal S512x256 .bf16) (v330 : IVec S128x512 1) (v526 : FVec Ideal S128x512 .bf16) (v557 : FVec Ideal S128x512 .bf16) (v588 : FVec Ideal S128x512 .bf16) (v619 : FVec Ideal S128x512 .bf16) (v650 : FVec Ideal S128x512 .bf16) (v681 : FVec Ideal S128x512 .bf16) (v712 : FVec Ideal S128x512 .bf16) (v720 : FVec Ideal S128x256 .f32) (v725 : FVec Ideal S128x128 .f32) (v731 : FVec Ideal S128x256 .f32) (v733 : FVec Ideal S128 .f32) (htri : IsTri x1) (g : Fin 8) (a : Fin 128) (l : Fin 256) :
    arg9.view.read (Elt Ideal) (arg9.view.writes (Elt Ideal) arg9.view.junk ((pb_k0_t1 (F := Ideal) Variants.none c none i arg3 harg3 arg4 harg4 arg5 harg5 arg6 harg6 arg7 harg7 arg8 harg8 arg9 harg9 arg10 harg10 (kernelRun0_A.sl.r_11 (F := Ideal) c arg5 harg5 x2) (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) (kernelRun0_A.sl.v306 i) v314 v330 v526 v557 v588 v619 v650 v681 v712 v720 v725 v731 v733 (harg4.unread x1) (harg6.unread x3) (harg7.unread x4) (arg9.view.writes (Elt Ideal) arg9.view.junk (kernelRun0_A.sl.HS0_2 (F := Ideal) c i arg3 harg3 arg4 harg4 arg5 harg5 arg6 harg6 arg7 harg7 arg9 arg10 x0 x1 x2 x3 x4)) (arg10.view.writes (Elt Ideal) arg10.view.junk (kernelRun0_A.sl.HS1_9 (F := Ideal) c i arg3 harg3 arg5 harg5 arg6 harg6 arg10 x0 x2 x3)) (k0_t1_loop i).trips).1 ++ (kernelRun0_A.sl.HS0_2 (F := Ideal) c i arg3 harg3 arg4 harg4 arg5 harg5 arg6 harg6 arg7 harg7 arg9 arg10 x0 x1 x2 x3 x4))) (ix2 (rowI g a) l)
      = ∑ j ∈ Ico 0 (512 * ((i 2).val / 2) + 512), weight (zRow i x0 x2 x3 g a) (qRow i g a) (512 * ((i 2).val / 2) + 512) j * lanes x4 j l := by
  rw [View.writes_append]
  have h := (loop_row Variants.none c none i arg3 harg3 arg4 harg4 arg5 harg5 arg6 harg6 arg7 harg7 arg8 harg8 arg9 harg9 arg10 harg10 (kernelRun0_A.sl.r_11 (F := Ideal) c arg5 harg5 x2) (kernelRun0_A.sl.r_8 (F := Ideal) c i arg3 harg3 x0) (kernelRun0_A.sl.r_9 (F := Ideal) c i arg3 harg3 x0) (kernelRun0_A.sl.r_10 (F := Ideal) c i arg3 harg3 x0) (kernelRun0_A.sl.r_12 (F := Ideal) c i arg3 harg3 x0) (kernelRun0_A.sl.v306 i) v314 v330 v526 v557 v588 v619 v650 v681 v712 v720 v725 v731 v733 (harg4.unread x1) (harg6.unread x3) (harg7.unread x4) (arg9.view.writes (Elt Ideal) arg9.view.junk (kernelRun0_A.sl.HS0_2 (F := Ideal) c i arg3 harg3 arg4 harg4 arg5 harg5 arg6 harg6 arg7 harg7 arg9 arg10 x0 x1 x2 x3 x4)) (arg10.view.writes (Elt Ideal) arg10.view.junk (kernelRun0_A.sl.HS1_9 (F := Ideal) c i arg3 harg3 arg5 harg5 arg6 harg6 arg10 x0 x2 x3)) g a (zRow i x0 x2 x3 g a) (lanes x4) (qRow i g a) (512 * ((i 2).val / 2) + 512) ((i 2).val / 2) rfl (by unfold qRow; omega)
    (by rw [harg4.read_unread]; exact htri)
    (fun k m => by rw [← off3_eq i k]; exact zval_eq c i arg3 harg3 arg4 harg4 arg5 harg5 arg6 harg6 arg7 harg7 arg8 harg8 arg9 harg9 arg10 harg10 x0 x1 x2 x3 x4 g a (k0_off3 i k) rfl rfl (k0_off3_inb i k) m)
    (fun k m l => by rw [← off3_eq i k]; exact read_tile arg7 harg7 x4 (k0_off3 i k) rfl rfl (k0_off3_inb i k) m l)
    (fun l => head_row10 c i arg3 harg3 arg4 harg4 arg5 harg5 arg6 harg6 arg7 harg7 arg8 harg8 arg9 harg9 arg10 harg10 x0 x1 x2 x3 x4 g a _ _ _ (fun m => visG_eq i a m g) (fun m => by rw [← off2_eq i]; exact zval_eq c i arg3 harg3 arg4 harg4 arg5 harg5 arg6 harg6 arg7 harg7 arg8 harg8 arg9 harg9 arg10 harg10 x0 x1 x2 x3 x4 g a (k0_off2 i) rfl rfl (k0_off2_inb i) m) _ l)
    (fun l => head_row9 c i arg3 harg3 arg4 harg4 arg5 harg5 arg6 harg6 arg7 harg7 arg8 harg8 arg9 harg9 arg10 harg10 x0 x1 x2 x3 x4 g a _ _ _ _ htri (fun m => visG_eq i a m g) (fun m => by rw [← off2_eq i]; exact zval_eq c i arg3 harg3 arg4 harg4 arg5 harg5 arg6 harg6 arg7 harg7 arg8 harg8 arg9 harg9 arg10 harg10 x0 x1 x2 x3 x4 g a (k0_off2 i) rfl rfl (k0_off2_inb i) m)
      (fun m l => by rw [← off2_eq i]; exact read_tile arg7 harg7 x4 (k0_off2 i) rfl rfl (k0_off2_inb i) m l) _ l)
    (k0_t1_loop i).trips le_rfl (trips_t1 i).le).2 l
  rw [trips_t1, Nat.sub_self] at h
  rw [trips_t1]
  exact h

/-- A row of the result: slab `g`'s row `a`. -/
abbrev outRow (i : grid0.Coords) (x0 : Vec Ideal S8 .f32) (x2 : Vec Ideal S1x256x256 .bf16) (x3 x4 : Vec Ideal S1x8192x256 .bf16) (g : Fin 8) (a : Fin 128) (l : Fin 256) : EReal :=
  ∑ j ∈ Ico 0 (512 * ((i 2).val / 2) + 512), weight (zRow i x0 x2 x3 g a) (qRow i g a) (512 * ((i 2).val / 2) + 512) j * lanes x4 j l

theorem slab_row (g : Fin 8) (h : ∀ a, (![g.val * 128, 0] : Fin 2 → ℕ) a + S128x256.size a ≤ S1024x256.size a) (a : Fin 128) (l : Fin 256) :
    (Rect.unit (s := S1024x256) ![g.val * 128, 0] S128x256.size h).toLoadRect.idx (ix2 a l) = ix2 (rowI g a) l := by
  funext b
  refine Fin.ext ?_
  fin_cases b <;> simp [Rect.toLoadRect, Rect.unit, LoadRect.idx, rowI]

section
variable (c : Dev nD) (i : grid0.Coords) (arg3 : Memref sig .tc .smem S8 .f32) (harg3 : arg3.IsWhole) (arg4 : Memref sig .tc .vmem S256x256 .bf16) (harg4 : arg4.IsWhole) (arg5 : Memref sig .tc .vmem S1x256x256 .bf16) (harg5 : arg5.IsWhole) (arg6 : Memref sig .tc .vmem S1x8192x256 .bf16) (harg6 : arg6.IsWhole) (arg7 : Memref sig .tc .vmem S1x8192x256 .bf16) (harg7 : arg7.IsWhole) (arg8 : Memref sig .tc .vmem S1x256x256 .bf16) (harg8 : arg8.IsWhole) (arg9 : Memref sig .tc .vmem S1024x256 .f32) (harg9 : arg9.IsWhole) (arg10 : Memref sig .tc .vmem S8x128x128 .f32) (harg10 : arg10.IsWhole) (x0 : Vec Ideal S8 .f32) (x1 : Vec Ideal S256x256 .bf16) (x2 : Vec Ideal S1x256x256 .bf16) (x3 : Vec Ideal S1x8192x256 .bf16) (x4 : Vec Ideal S1x8192x256 .bf16)

theorem v781_eq (htri : IsTri x1) (a : Fin 128) (l : Fin 256) :
    kernelRun0_A.sl.v781 (F := Ideal) c i arg3 harg3 arg4 harg4 arg5 harg5 arg6 harg6 arg7 harg7 arg8 harg8 arg9 harg9 arg10 harg10 x0 x1 x2 x3 x4 (ix2 a l) = outRow i x0 x2 x3 x4 0 a l := by
  unfold kernelRun0_A.sl.v781
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![0, 0] S128x256.size inb_S1024x256_S128x256_0_0).toLoadRect.idx (ix2 a l)) = _
  rw [trips_t2]
  exact (congrArg (arg9.view.read (Elt Ideal) _) (slab_row 0 inb_S1024x256_S128x256_0_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 0 a l)

theorem v784_eq (htri : IsTri x1) (a : Fin 128) (l : Fin 256) :
    kernelRun0_A.sl.v784 (F := Ideal) c i arg3 harg3 arg4 harg4 arg5 harg5 arg6 harg6 arg7 harg7 arg8 harg8 arg9 harg9 arg10 harg10 x0 x1 x2 x3 x4 (ix2 a l) = outRow i x0 x2 x3 x4 1 a l := by
  unfold kernelRun0_A.sl.v784
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![128, 0] S128x256.size inb_S1024x256_S128x256_128_0).toLoadRect.idx (ix2 a l)) = _
  rw [trips_t2]
  exact (congrArg (arg9.view.read (Elt Ideal) _) (slab_row 1 inb_S1024x256_S128x256_128_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 1 a l)

theorem v788_eq (htri : IsTri x1) (a : Fin 128) (l : Fin 256) :
    kernelRun0_A.sl.v788 (F := Ideal) c i arg3 harg3 arg4 harg4 arg5 harg5 arg6 harg6 arg7 harg7 arg8 harg8 arg9 harg9 arg10 harg10 x0 x1 x2 x3 x4 (ix2 a l) = outRow i x0 x2 x3 x4 2 a l := by
  unfold kernelRun0_A.sl.v788
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![256, 0] S128x256.size inb_S1024x256_S128x256_256_0).toLoadRect.idx (ix2 a l)) = _
  rw [trips_t2]
  exact (congrArg (arg9.view.read (Elt Ideal) _) (slab_row 2 inb_S1024x256_S128x256_256_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 2 a l)

theorem v792_eq (htri : IsTri x1) (a : Fin 128) (l : Fin 256) :
    kernelRun0_A.sl.v792 (F := Ideal) c i arg3 harg3 arg4 harg4 arg5 harg5 arg6 harg6 arg7 harg7 arg8 harg8 arg9 harg9 arg10 harg10 x0 x1 x2 x3 x4 (ix2 a l) = outRow i x0 x2 x3 x4 3 a l := by
  unfold kernelRun0_A.sl.v792
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![384, 0] S128x256.size inb_S1024x256_S128x256_384_0).toLoadRect.idx (ix2 a l)) = _
  rw [trips_t2]
  exact (congrArg (arg9.view.read (Elt Ideal) _) (slab_row 3 inb_S1024x256_S128x256_384_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 3 a l)

theorem v798_eq (htri : IsTri x1) (a : Fin 128) (l : Fin 256) :
    kernelRun0_A.sl.v798 (F := Ideal) c i arg3 harg3 arg4 harg4 arg5 harg5 arg6 harg6 arg7 harg7 arg8 harg8 arg9 harg9 arg10 harg10 x0 x1 x2 x3 x4 (ix2 a l) = outRow i x0 x2 x3 x4 4 a l := by
  unfold kernelRun0_A.sl.v798
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![512, 0] S128x256.size inb_S1024x256_S128x256_512_0).toLoadRect.idx (ix2 a l)) = _
  rw [trips_t2]
  exact (congrArg (arg9.view.read (Elt Ideal) _) (slab_row 4 inb_S1024x256_S128x256_512_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 4 a l)

theorem v801_eq (htri : IsTri x1) (a : Fin 128) (l : Fin 256) :
    kernelRun0_A.sl.v801 (F := Ideal) c i arg3 harg3 arg4 harg4 arg5 harg5 arg6 harg6 arg7 harg7 arg8 harg8 arg9 harg9 arg10 harg10 x0 x1 x2 x3 x4 (ix2 a l) = outRow i x0 x2 x3 x4 5 a l := by
  unfold kernelRun0_A.sl.v801
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![640, 0] S128x256.size inb_S1024x256_S128x256_640_0).toLoadRect.idx (ix2 a l)) = _
  rw [trips_t2]
  exact (congrArg (arg9.view.read (Elt Ideal) _) (slab_row 5 inb_S1024x256_S128x256_640_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 5 a l)

theorem v805_eq (htri : IsTri x1) (a : Fin 128) (l : Fin 256) :
    kernelRun0_A.sl.v805 (F := Ideal) c i arg3 harg3 arg4 harg4 arg5 harg5 arg6 harg6 arg7 harg7 arg8 harg8 arg9 harg9 arg10 harg10 x0 x1 x2 x3 x4 (ix2 a l) = outRow i x0 x2 x3 x4 6 a l := by
  unfold kernelRun0_A.sl.v805
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![768, 0] S128x256.size inb_S1024x256_S128x256_768_0).toLoadRect.idx (ix2 a l)) = _
  rw [trips_t2]
  exact (congrArg (arg9.view.read (Elt Ideal) _) (slab_row 6 inb_S1024x256_S128x256_768_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 6 a l)

theorem v809_eq (htri : IsTri x1) (a : Fin 128) (l : Fin 256) :
    kernelRun0_A.sl.v809 (F := Ideal) c i arg3 harg3 arg4 harg4 arg5 harg5 arg6 harg6 arg7 harg7 arg8 harg8 arg9 harg9 arg10 harg10 x0 x1 x2 x3 x4 (ix2 a l) = outRow i x0 x2 x3 x4 7 a l := by
  unfold kernelRun0_A.sl.v809
  change arg9.view.read (Elt Ideal) (arg9.view.writes (Elt Ideal) arg9.view.junk ((pb_k0_t2 (F := Ideal) _ _ _ _ _ _ _ _ _ _ _ _ _ _ _ _ _ _ _ _ _ _ _ _ _ _ _ _ _ _ _ _ _ _ _ _ _ _ _ _ _ _ _ _ _  (k0_t2_loop i).trips).1 ++ _)) ((Rect.unit (s := S1024x256) ![896, 0] S128x256.size inb_S1024x256_S128x256_896_0).toLoadRect.idx (ix2 a l)) = _
  rw [trips_t2]
  exact (congrArg (arg9.view.read (Elt Ideal) _) (slab_row 7 inb_S1024x256_S128x256_896_0 a l)).trans (acc_tail c i arg3 harg3 arg4 harg4 arg5 harg5 arg6 harg6 arg7 harg7 arg8 harg8 arg9 harg9 arg10 harg10 x0 x1 x2 x3 x4 _ _ _ _ _ _ _ _ _ _ _ _ _  htri 7 a l)

theorem sel4 (x : Fin 256) (u0 u1 u2 u3 : EReal) :
    Scalar.select (laneHead (BitVec.ofNat 32 x.val) 3#32) u3 (Scalar.select (laneHead (BitVec.ofNat 32 x.val) 2#32) u2 (Scalar.select (laneHead (BitVec.ofNat 32 x.val) 1#32) u1 u0))
      = if x.val / 64 = 3 then u3 else if x.val / 64 = 2 then u2 else if x.val / 64 = 1 then u1 else u0 := by
  have h3 := sel_head x 3 u3
  have h2 := sel_head x 2 u2
  have h1 := sel_head x 1 u1
  exact (h3 _).trans (if_congr Iff.rfl rfl ((h2 _).trans (if_congr Iff.rfl rfl (h1 _))))

theorem sel4_pick (w : Fin 8 → EReal) (l : Fin 256) (r : Fin 2) (g0 g1 g2 g3 : Fin 8) (e0 : g0.val = 4 * r.val) (e1 : g1.val = 4 * r.val + 1) (e2 : g2.val = 4 * r.val + 2) (e3 : g3.val = 4 * r.val + 3) :
    (if l.val / 64 = 3 then w g3 else if l.val / 64 = 2 then w g2 else if l.val / 64 = 1 then w g1 else w g0) = w ⟨4 * r.val + l.val / 64, by omega⟩ := by
  split_ifs with a b c <;> (refine congrArg w (Fin.ext ?_); dsimp only; omega)

set_option maxHeartbeats 1000000 in
theorem out_row1 (htri : IsTri x1) (f : BufTy.Contents (Elt Ideal) VO0_5.ty) (a : Fin 128) (l : Fin 256) :
    VO0_5.read (Elt Ideal) (VO0_5.writes (Elt Ideal) f (kernelRun0_A (F := Ideal) c i arg3 harg3 arg4 harg4 arg5 harg5 arg6 harg6 arg7 harg7 arg8 harg8 arg9 harg9 arg10 harg10 x0 x1 x2 x3 x4).1) (ix3 0 ⟨128 + a.val, by omega⟩ l)
      = outRow i x0 x2 x3 x4 ⟨4 + l.val / 64, by omega⟩ a l := by
  unfold kernelRun0_A
  dsimp only
  refine (View.read_writes_cons_unit_of_mem VO0_5 f inb_S1x256x256_S1x128x256_0_128_0 _ _ (ix3 0 ⟨128 + a.val, by omega⟩ l) (ix3 0 a l) rfl fun b => by fin_cases b <;> simp).trans ?_
  unfold kernelRun0_A.sl.r_66 kernelRun0_A.sl.r_67 kernelRun0_A.sl.r_68
  pointwise [k0_pay1, k0_pay268, k0_pay269, k0_pay270, k0_pay272, k0_pay273, kernelRun0_A.sl.v756]
  refine (sel4 l _ _ _ _).trans ?_
  rw [v798_eq c i arg3 harg3 arg4 harg4 arg5 harg5 arg6 harg6 arg7 harg7 arg8 harg8 arg9 harg9 arg10 harg10 x0 x1 x2 x3 x4 htri, v801_eq c i arg3 harg3 arg4 harg4 arg5 harg5 arg6 harg6 arg7 harg7 arg8 harg8 arg9 harg9 arg10 harg10 x0 x1 x2 x3 x4 htri, v805_eq c i arg3 harg3 arg4 harg4 arg5 harg5 arg6 harg6 arg7 harg7 arg8 harg8 arg9 harg9 arg10 harg10 x0 x1 x2 x3 x4 htri, v809_eq c i arg3 harg3 arg4 harg4 arg5 harg5 arg6 harg6 arg7 harg7 arg8 harg8 arg9 harg9 arg10 harg10 x0 x1 x2 x3 x4 htri]
  exact sel4_pick (fun g => outRow i x0 x2 x3 x4 g a l) l 1 4 5 6 7 rfl rfl rfl rfl

set_option maxHeartbeats 1000000 in
theorem out_row0 (htri : IsTri x1) (f : BufTy.Contents (Elt Ideal) VO0_5.ty) (a : Fin 128) (l : Fin 256) :
    VO0_5.read (Elt Ideal) (VO0_5.writes (Elt Ideal) f (kernelRun0_A (F := Ideal) c i arg3 harg3 arg4 harg4 arg5 harg5 arg6 harg6 arg7 harg7 arg8 harg8 arg9 harg9 arg10 harg10 x0 x1 x2 x3 x4).1) (ix3 0 ⟨a.val, by omega⟩ l)
      = outRow i x0 x2 x3 x4 ⟨l.val / 64, by omega⟩ a l := by
  unfold kernelRun0_A
  dsimp only
  refine (View.read_writes_cons_unit_of_not_mem VO0_5 f inb_S1x256x256_S1x128x256_0_128_0 _ _ (ix3 0 ⟨a.val, by omega⟩ l) rfl 1 (Or.inl ?_)).trans ?_
  · show a.val < 128
    exact a.isLt
  refine (View.read_writes_cons_unit_of_mem VO0_5 f inb_S1x256x256_S1x128x256_0_0_0 _ _ (ix3 0 ⟨a.val, by omega⟩ l) (ix3 0 a l) rfl fun b => by fin_cases b <;> simp).trans ?_
  pointwise [k0_pay271, k0_pay268, k0_pay269, k0_pay270, kernelRun0_A.sl.v756]
  refine (sel4 l _ _ _ _).trans ?_
  rw [v781_eq c i arg3 harg3 arg4 harg4 arg5 harg5 arg6 harg6 arg7 harg7 arg8 harg8 arg9 harg9 arg10 harg10 x0 x1 x2 x3 x4 htri, v784_eq c i arg3 harg3 arg4 harg4 arg5 harg5 arg6 harg6 arg7 harg7 arg8 harg8 arg9 harg9 arg10 harg10 x0 x1 x2 x3 x4 htri, v788_eq c i arg3 harg3 arg4 harg4 arg5 harg5 arg6 harg6 arg7 harg7 arg8 harg8 arg9 harg9 arg10 harg10 x0 x1 x2 x3 x4 htri, v792_eq c i arg3 harg3 arg4 harg4 arg5 harg5 arg6 harg6 arg7 harg7 arg8 harg8 arg9 harg9 arg10 harg10 x0 x1 x2 x3 x4 htri]
  exact (sel4_pick (fun g => outRow i x0 x2 x3 x4 g a l) l 0 0 1 2 3 rfl rfl rfl rfl).trans (congrArg (fun g => outRow i x0 x2 x3 x4 g a l) (Fin.ext (by simp)))

end

end Cert.AttendIdeal.Sb
-- ==== Proof.AttendValue.lean ====
/-
  The attention's result over the extended reals: every element as a sum over the keys up to the end of its query's tile.
-/
module

public import proofs.«01_k».proof.Proof.AttendBody
public import proofs.«01_k».proof.Proof.Gen.AttendIdeal.Value
public import Idealize.ShloMosaic.Lib.StableHlo.Run

@[expose] public section

set_option maxRecDepth 16384

noncomputable section

namespace Cert.AttendIdeal.Result

open Cert.AttendIdeal Cert.AttendIdeal.Gen Cert.AttendIdeal.Sb Idealize.ShloMosaic Idealize.ShloMosaic.TcCoe Idealize.SL.Sem Idealize.ShloMosaic.StableHlo
open Finset (Ico)

/-- One lane of a key (or of a value) by the key's number. -/
def key (k : Vec Ideal S2x8192x8x64 .f32) (b : Fin 2) (h : Fin 8) (j : ℕ) (x : Fin 64) : EReal :=
  if hj : j < 8192 then k (ix4 b ⟨j, hj⟩ h x) else 0

/-- The score of a query against the key `j`. -/
def score (q k : Vec Ideal S2x8192x8x64 .f32) (s : Vec Ideal S8 .f32) (b : Fin 2) (h : Fin 8) (n : Fin 8192) (j : ℕ) : EReal :=
  (∑ x : Fin 64, q (ix4 b n h x) * Ideal.ofBits .f32 0x3E000000#32 * key k b h j x) + s (ix1 h)

/-- The end of the tile of keys that holds position `n`. -/
def last (n : ℕ) : ℕ := 512 * (n / 512) + 512

/-- One element of the attention's result. -/
def attn (q k v : Vec Ideal S2x8192x8x64 .f32) (s : Vec Ideal S8 .f32) (b : Fin 2) (n : Fin 8192) (h : Fin 8) (d : Fin 64) : EReal :=
  ∑ j ∈ Ico 0 (last n.val), weight (score q k s b h n) n.val (last n.val) j * key v b h j d

/-- The attention's result. -/
def total (q k v : Vec Ideal S2x8192x8x64 .f32) (s : Vec Ideal S8 .f32) : FVec Ideal S2x8192x512 .bf16 := fun i =>
  attn q k v s (i 0) (i 1) ⟨(i 2 : Fin 512).val / 64, Nat.div_lt_of_lt_mul (i 2 : Fin 512).isLt⟩ ⟨(i 2 : Fin 512).val % 64, Nat.mod_lt _ (by decide)⟩

/-- A sum over 256 lanes that keeps one head's lanes. -/
theorem sum_head (h : ℕ) (hh : h < 4) (f : Fin 256 → EReal) :
    ∑ x : Fin 256, (if x.val / 64 = h then f x else 0) = ∑ y : Fin 64, f ⟨64 * h + y.val, by omega⟩ := by
  symm
  refine Finset.sum_of_injOn (fun y : Fin 64 => (⟨64 * h + y.val, by omega⟩ : Fin 256)) ?_ (fun _ _ => Finset.mem_coe.mpr (Finset.mem_univ _)) ?_ ?_
  · intro x _ y _ e
    have := congrArg Fin.val e
    dsimp only at this
    exact Fin.ext (by omega)
  · intro x _ hx
    rw [if_neg]
    intro e
    exact hx ⟨⟨x.val - 64 * h, by omega⟩, Finset.mem_coe.mpr (Finset.mem_univ _), Fin.ext (by dsimp only; omega)⟩
  · intro y _
    rw [if_pos]
    dsimp only
    omega

/-- The grid's coordinates and the index maps in closed form. -/
theorem coords : ∀ t : Fin grid0.N, (grid0.coords t 0).val = t.val / 64 ∧ (grid0.coords t 1).val = t.val / 32 % 2 ∧ (grid0.coords t 2).val = t.val % 32 := by decide +kernel
theorem map0 : ∀ t : Fin grid0.N, cc0_transform_0 (grid0.coords t) 0 = 0 := by decide +kernel
theorem map1 : ∀ t : Fin grid0.N, cc0_transform_1 (grid0.coords t) 0 = 0 ∧ cc0_transform_1 (grid0.coords t) 1 = 0 := by decide +kernel
theorem map2 : ∀ t : Fin grid0.N, cc0_transform_2 (grid0.coords t) 0 = t.val / 64 ∧ cc0_transform_2 (grid0.coords t) 1 = t.val % 32 ∧ cc0_transform_2 (grid0.coords t) 2 = 24 + t.val / 32 % 2 := by decide +kernel
theorem map3 : ∀ t : Fin grid0.N, cc0_transform_3 (grid0.coords t) 0 = t.val / 64 ∧ cc0_transform_3 (grid0.coords t) 1 = 0 ∧ cc0_transform_3 (grid0.coords t) 2 = 26 + t.val / 32 % 2 := by decide +kernel
theorem map4 : ∀ t : Fin grid0.N, cc0_transform_4 (grid0.coords t) 0 = t.val / 64 ∧ cc0_transform_4 (grid0.coords t) 1 = 0 ∧ cc0_transform_4 (grid0.coords t) 2 = 28 + t.val / 32 % 2 := by decide +kernel
theorem map5 : ∀ t : Fin grid0.N, cc0_transform_5 (grid0.coords t) 0 = t.val / 64 ∧ cc0_transform_5 (grid0.coords t) 1 = t.val % 32 ∧ cc0_transform_5 (grid0.coords t) 2 = t.val / 32 % 2 := by decide +kernel

variable (m : (ℓ : Loc nD τ sig) → Buf (Elt Ideal) ℓ) (c : Dev nD) (t : Fin cfg0.N)

theorem t_lt : t.val < 128 := lt_of_lt_of_eq t.isLt (show cfg0.N = 128 from N_0)

/-- The arguments as launched. -/
abbrev A0 : Vec Ideal S2x8192x8x64 .f32 := m ((c : Thread nD τ).loc main_arg0)
abbrev A1 : Vec Ideal S2x8192x8x64 .f32 := m ((c : Thread nD τ).loc main_arg1)
abbrev A2 : Vec Ideal S2x8192x8x64 .f32 := m ((c : Thread nD τ).loc main_arg2)
abbrev A3 : Vec Ideal S8 .f32 := m ((c : Thread nD τ).loc main_arg3)

/-- The lanes of the eight heads side by side. -/
abbrev flat (q : Vec Ideal S2x8192x8x64 .f32) (b : Fin 2) (n : Fin 8192) (e : Fin 512) : EReal :=
  q (ix4 b n ⟨e.val / 64, by omega⟩ ⟨e.val % 64, by omega⟩)

theorem V_tri : IsTri (V m c main_v10 : Vec Ideal S256x256 .bf16) := by
  intro x y
  unfold V
  simp only [List.flatten_cons, List.flatten_nil, List.append_nil, List.cons_append, List.nil_append, TRef.binary, TRef.unary, TRef.ternary, TRef.toBuf, TRef.ofBuf, cast_eq]
  after_results_simp
  pointwise
  have e : IntOp.cmpi (w := 32) .sgt (BitVec.ofNat 32 x.val) (BitVec.ofNat 32 y.val) = IntOp.cmpi (w := 32) .slt (BitVec.ofNat 32 y.val) (BitVec.ofNat 32 x.val) := rfl
  rw [e, slt_small _ _ (by omega) (by omega)]
  split_ifs <;> rfl

/-- The array the call reads: the queries, the keys and the values side by side, behind zeros. -/
theorem V_u (b : Fin 2) (n : Fin 8192) (k : Fin 7680) : (V m c main_v5 : Vec Ideal S2x8192x7680 .bf16) (ix3 b n k)
    = if k.val < 6144 then 0 else if h : k.val < 6656 then flat (A0 m c) b n ⟨k.val - 6144, by omega⟩ else if h : k.val < 7168 then flat (A1 m c) b n ⟨k.val - 6656, by omega⟩ else flat (A2 m c) b n ⟨k.val - 7168, by omega⟩ := by
  unfold V
  simp only [List.flatten_cons, List.flatten_nil, List.append_nil, List.cons_append, List.nil_append, TRef.binary, TRef.unary, TRef.ternary, TRef.toBuf, TRef.ofBuf, cast_eq]
  after_results_simp
  pointwise
  after_results_simp
  have cast : ∀ (x : Vec Ideal S2x8192x8x64 .f32) (e : Fin 512), (shapeCast S2x8192x512 x shapeCasts_S2x8192x8x64_S2x8192x512 : FVec Ideal S2x8192x512 .f32) (ix3 b n e) = flat x b n e := by
    intro x e
    pointwise
  have zero : (broadcastInDim S2x8192x6144 ![] bcast_S_S2x8192x6144 (constant S_ FTy.f32 0#32) : FVec Ideal S2x8192x6144 .f32) = fun _ => 0 := by
    funext j
    rw [eq_ix3 (n0 := 2) (n1 := 8192) (n2 := 6144) j]
    pointwise
  rw [zero]
  by_cases h1 : k.val < 6144
  · rw [dif_pos h1, if_pos h1]
  rw [dif_neg h1, if_neg h1]
  by_cases h2 : k.val < 6656
  · rw [dif_pos h2, dif_pos (by omega)]
    exact cast _ _
  rw [dif_neg h2, dif_neg (by omega)]
  by_cases h3 : k.val < 7168
  · rw [dif_pos h3, dif_pos (by omega)]
    exact (cast _ _).trans (congrArg (flat (A1 m c) b n) (Fin.ext (by dsimp only; omega)))
  · rw [dif_neg h3, dif_neg (by omega)]
    exact (cast _ _).trans (congrArg (flat (A2 m c) b n) (Fin.ext (by dsimp only; omega)))

theorem val0 (h : Fin 8) : (iblk m c 0 t : Vec Ideal S8 .f32) (ix1 h) = A3 m c (ix1 h) := by
  refine Eq.trans ?_ (congrFun (V_main_arg3 m c) _)
  unfold iblk
  refine (View.read_apply _ _).trans ?_
  show V m c main_arg3 _ = V m c main_arg3 _
  congr 1
  funext a
  apply Fin.ext
  match a with
  | ⟨0, _⟩ => show cc0_transform_0 (grid0.coords t) 0 * 8 + 1 * h.val = h.val; rw [map0 t]; omega

theorem val1 : IsTri (iblk m c 1 t : Vec Ideal S256x256 .bf16) := by
  intro x y
  refine Eq.trans ?_ (V_tri m c x y)
  unfold iblk
  refine (View.read_apply _ _).trans ?_
  show V m c main_v10 _ = V m c main_v10 _
  congr 1
  funext a
  apply Fin.ext
  match a with
  | ⟨0, _⟩ => show cc0_transform_1 (grid0.coords t) 0 * 256 + 1 * x.val = x.val; rw [(map1 t).1]; omega
  | ⟨1, _⟩ => show cc0_transform_1 (grid0.coords t) 1 * 256 + 1 * y.val = y.val; rw [(map1 t).2]; omega

theorem val2 (r l : Fin 256) : (iblk m c 2 t : Vec Ideal S1x256x256 .bf16) (ix3 0 r l)
    = flat (A0 m c) ⟨t.val / 64, by have := t_lt t; omega⟩ ⟨t.val % 32 * 256 + r.val, by omega⟩ ⟨t.val / 32 % 2 * 256 + l.val, by omega⟩ := by
  have e : (iblk m c 2 t : Vec Ideal S1x256x256 .bf16) (ix3 0 r l) = (V m c main_v5 : Vec Ideal S2x8192x7680 .bf16) (ix3 ⟨t.val / 64, by have := t_lt t; omega⟩ ⟨t.val % 32 * 256 + r.val, by omega⟩ ⟨6144 + (t.val / 32 % 2 * 256 + l.val), by omega⟩) := by
    unfold iblk
    refine (View.read_apply _ _).trans ?_
    show V m c main_v5 _ = V m c main_v5 _
    congr 1
    funext a
    apply Fin.ext
    match a with
    | ⟨0, _⟩ => show cc0_transform_2 (grid0.coords t) 0 * 1 + 1 * 0 = t.val / 64; rw [(map2 t).1]; omega
    | ⟨1, _⟩ => show cc0_transform_2 (grid0.coords t) 1 * 256 + 1 * r.val = t.val % 32 * 256 + r.val; rw [(map2 t).2.1]; omega
    | ⟨2, _⟩ => show cc0_transform_2 (grid0.coords t) 2 * 256 + 1 * l.val = 6144 + (t.val / 32 % 2 * 256 + l.val); rw [(map2 t).2.2]; omega
  rw [e, V_u, if_neg (by dsimp only; omega), dif_pos (by dsimp only; omega)]
  exact congrArg (flat _ _ _) (Fin.ext (by dsimp only; omega))

theorem val3 (j : Fin 8192) (l : Fin 256) : (iblk m c 3 t : Vec Ideal S1x8192x256 .bf16) (ix3 0 j l)
    = flat (A1 m c) ⟨t.val / 64, by have := t_lt t; omega⟩ j ⟨t.val / 32 % 2 * 256 + l.val, by omega⟩ := by
  have e : (iblk m c 3 t : Vec Ideal S1x8192x256 .bf16) (ix3 0 j l) = (V m c main_v5 : Vec Ideal S2x8192x7680 .bf16) (ix3 ⟨t.val / 64, by have := t_lt t; omega⟩ j ⟨6656 + (t.val / 32 % 2 * 256 + l.val), by omega⟩) := by
    unfold iblk
    refine (View.read_apply _ _).trans ?_
    show V m c main_v5 _ = V m c main_v5 _
    congr 1
    funext a
    apply Fin.ext
    match a with
    | ⟨0, _⟩ => show cc0_transform_3 (grid0.coords t) 0 * 1 + 1 * 0 = t.val / 64; rw [(map3 t).1]; omega
    | ⟨1, _⟩ => show cc0_transform_3 (grid0.coords t) 1 * 8192 + 1 * j.val = j.val; rw [(map3 t).2.1]; omega
    | ⟨2, _⟩ => show cc0_transform_3 (grid0.coords t) 2 * 256 + 1 * l.val = 6656 + (t.val / 32 % 2 * 256 + l.val); rw [(map3 t).2.2]; omega
  rw [e, V_u, if_neg (by dsimp only; omega), dif_neg (by dsimp only; omega), dif_pos (by dsimp only; omega)]
  exact congrArg (flat _ _ _) (Fin.ext (by dsimp only; omega))

theorem val4 (j : Fin 8192) (l : Fin 256) : (iblk m c 4 t : Vec Ideal S1x8192x256 .bf16) (ix3 0 j l)
    = flat (A2 m c) ⟨t.val / 64, by have := t_lt t; omega⟩ j ⟨t.val / 32 % 2 * 256 + l.val, by omega⟩ := by
  have e : (iblk m c 4 t : Vec Ideal S1x8192x256 .bf16) (ix3 0 j l) = (V m c main_v5 : Vec Ideal S2x8192x7680 .bf16) (ix3 ⟨t.val / 64, by have := t_lt t; omega⟩ j ⟨7168 + (t.val / 32 % 2 * 256 + l.val), by omega⟩) := by
    unfold iblk
    refine (View.read_apply _ _).trans ?_
    show V m c main_v5 _ = V m c main_v5 _
    congr 1
    funext a
    apply Fin.ext
    match a with
    | ⟨0, _⟩ => show cc0_transform_4 (grid0.coords t) 0 * 1 + 1 * 0 = t.val / 64; rw [(map4 t).1]; omega
    | ⟨1, _⟩ => show cc0_transform_4 (grid0.coords t) 1 * 8192 + 1 * j.val = j.val; rw [(map4 t).2.1]; omega
    | ⟨2, _⟩ => show cc0_transform_4 (grid0.coords t) 2 * 256 + 1 * l.val = 7168 + (t.val / 32 % 2 * 256 + l.val); rw [(map4 t).2.2]; omega
  rw [e, V_u, if_neg (by dsimp only; omega), dif_neg (by dsimp only; omega), dif_neg (by dsimp only; omega)]
  exact congrArg (flat _ _ _) (Fin.ext (by dsimp only; omega))

/-- A point's batch, and the head of a lane of its columns. -/
abbrev bAt : Fin 2 := ⟨t.val / 64, by have := t_lt t; omega⟩
abbrev hAt (h : Fin 4) : Fin 8 := ⟨4 * (t.val / 32 % 2) + h.val, by omega⟩

theorem key_of (x : Vec Ideal S2x8192x8x64 .f32) (w : Vec Ideal S1x8192x256 .bf16)
    (hw : ∀ (j : Fin 8192) (l : Fin 256), w (ix3 0 j l) = flat x (bAt t) j ⟨t.val / 32 % 2 * 256 + l.val, by omega⟩)
    (j : ℕ) (h : Fin 4) (d : Fin 64) (l : Fin 256) (hl : l.val = 64 * h.val + d.val) : lanes w j l = key x (bAt t) (hAt t h) j d := by
  unfold lanes key
  split_ifs with hj
  · rw [hw]
    exact congrArg₂ (fun e f => x (ix4 (bAt t) ⟨j, hj⟩ e f)) (Fin.ext (by dsimp only; omega)) (Fin.ext (by dsimp only; omega))
  · rfl

theorem z_eq (g : Fin 8) (a : Fin 128) (h : Fin 4) (hg : g.val % 4 = h.val) (n : Fin 8192) (hn : n.val = t.val % 32 * 256 + 128 * (g.val / 4) + a.val) (j : ℕ) :
    zRow (grid0.coords t) (iblk m c 0 t) (iblk m c 2 t) (iblk m c 3 t) g a j = score (A0 m c) (A1 m c) (A3 m c) (bAt t) (hAt t h) n j := by
  unfold zRow score
  refine congrArg₂ (· + ·) ?_ ?_
  · unfold qsVal
    simp only [ite_mul, zero_mul]
    refine (sum_head (g.val % 4) (by omega) _).trans ?_
    refine Finset.sum_congr rfl fun y _ => ?_
    rw [key_of t (A1 m c) (iblk m c 3 t) (fun j l => val3 m c t j l) j h y ⟨64 * (g.val % 4) + y.val, by omega⟩ (by dsimp only; rw [hg]), val2]
    refine congrArg (fun e => e * Ideal.ofBits .f32 0x3E000000#32 * key (A1 m c) (bAt t) (hAt t h) j y) ?_
    show A0 m c _ = A0 m c _
    congr 1
    funext r
    apply Fin.ext
    match r with
    | ⟨0, _⟩ => rfl
    | ⟨1, _⟩ => show t.val % 32 * 256 + (128 * (g.val / 4) + a.val) = n.val; omega
    | ⟨2, _⟩ => show (t.val / 32 % 2 * 256 + (64 * (g.val % 4) + y.val)) / 64 = 4 * (t.val / 32 % 2) + h.val; omega
    | ⟨3, _⟩ => show (t.val / 32 % 2 * 256 + (64 * (g.val % 4) + y.val)) % 64 = y.val; omega
  · refine (val0 m c t _).trans ?_
    refine congrArg (fun e => A3 m c (ix1 e)) (Fin.ext ?_)
    show 4 * (grid0.coords t 1).val + g.val % 4 = 4 * (t.val / 32 % 2) + h.val
    rw [(coords t).2.1, hg]

theorem row_eq (g : Fin 8) (a : Fin 128) (l : Fin 256) (h : Fin 4) (hg : g.val % 4 = h.val) (d : Fin 64) (hl : l.val = 64 * h.val + d.val)
    (n : Fin 8192) (hn : n.val = t.val % 32 * 256 + 128 * (g.val / 4) + a.val) :
    outRow (grid0.coords t) (iblk m c 0 t) (iblk m c 2 t) (iblk m c 3 t) (iblk m c 4 t) g a l = attn (A0 m c) (A1 m c) (A2 m c) (A3 m c) (bAt t) n (hAt t h) d := by
  have hT : 512 * ((grid0.coords t 2).val / 2) + 512 = last n.val := by
    unfold last
    rw [(coords t).2.2]
    omega
  have hq : qRow (grid0.coords t) g a = n.val := by
    unfold qRow
    rw [(coords t).2.2]
    omega
  have hz : zRow (grid0.coords t) (iblk m c 0 t) (iblk m c 2 t) (iblk m c 3 t) g a = score (A0 m c) (A1 m c) (A3 m c) (bAt t) (hAt t h) n :=
    funext fun j => z_eq m c t g a h hg n hn j
  unfold outRow attn
  rw [hT, hq, hz]
  exact Finset.sum_congr rfl fun j _ => congrArg _ (key_of t (A2 m c) (iblk m c 4 t) (fun j l => val4 m c t j l) j h d l hl)

/-- A written block's element read back off the whole array. -/
theorem blk5_read (X : Vec Ideal S2x8192x512 .bf16) (n l : Fin 256) :
    (((cfg0.win 5).blk t).view.read (Elt Ideal) X : Vec Ideal S1x256x256 .bf16) (ix3 0 n l)
      = X (ix3 (bAt t) ⟨t.val % 32 * 256 + n.val, by omega⟩ ⟨t.val / 32 % 2 * 256 + l.val, by omega⟩) := by
  refine (View.read_apply _ _).trans ?_
  show X _ = X _
  congr 1
  funext a
  apply Fin.ext
  match a with
  | ⟨0, _⟩ => show cc0_transform_5 (grid0.coords t) 0 * 1 + 1 * 0 = t.val / 64; rw [(map5 t).1]; omega
  | ⟨1, _⟩ => show cc0_transform_5 (grid0.coords t) 1 * 256 + 1 * n.val = t.val % 32 * 256 + n.val; rw [(map5 t).2.1]; omega
  | ⟨2, _⟩ => show cc0_transform_5 (grid0.coords t) 2 * 256 + 1 * l.val = t.val / 32 % 2 * 256 + l.val; rw [(map5 t).2.2]; omega

/-- What a point leaves in its block. -/
theorem out_apply (n l : Fin 256) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (ix3 0 n l)
      = total (A0 m c) (A1 m c) (A2 m c) (A3 m c) (ix3 (bAt t) ⟨t.val % 32 * 256 + n.val, by omega⟩ ⟨t.val / 32 % 2 * 256 + l.val, by omega⟩) := by
  have fin : ∀ (g : Fin 8) (a : Fin 128), g.val % 4 = l.val / 64 → n.val = 128 * (g.val / 4) + a.val →
      outRow (grid0.coords t) (iblk m c 0 t) (iblk m c 2 t) (iblk m c 3 t) (iblk m c 4 t) g a l
        = total (A0 m c) (A1 m c) (A2 m c) (A3 m c) (ix3 (bAt t) ⟨t.val % 32 * 256 + n.val, by omega⟩ ⟨t.val / 32 % 2 * 256 + l.val, by omega⟩) := by
    intro g a hg hn
    refine (row_eq m c t g a l ⟨l.val / 64, by omega⟩ hg ⟨l.val % 64, by omega⟩ (by dsimp only; omega) ⟨t.val % 32 * 256 + n.val, by omega⟩ (by dsimp only; omega)).trans ?_
    refine congrArg₂ (fun h d => attn (A0 m c) (A1 m c) (A2 m c) (A3 m c) (bAt t) ⟨t.val % 32 * 256 + n.val, by omega⟩ h d) (Fin.ext ?_) (Fin.ext ?_)
    · show 4 * (t.val / 32 % 2) + l.val / 64 = (t.val / 32 % 2 * 256 + l.val) / 64
      omega
    · show l.val % 64 = (t.val / 32 % 2 * 256 + l.val) % 64
      omega
  unfold out0_A_5
  by_cases hn : n.val < 128
  · exact (out_row0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ _ _ _ (val1 m c t) VO0_5.junk ⟨n.val, hn⟩ l).trans
      (fin ⟨l.val / 64, by omega⟩ ⟨n.val, hn⟩ (by dsimp only; omega) (by dsimp only; omega))
  · obtain ⟨a, rfl⟩ : ∃ a : Fin 128, n = ⟨128 + a.val, Nat.add_lt_add_left a.isLt 128⟩ := ⟨⟨n.val - 128, by omega⟩, Fin.ext (by dsimp only; omega)⟩
    exact (out_row1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ _ _ _ (val1 m c t) VO0_5.junk a l).trans
      (fin ⟨4 + l.val / 64, by omega⟩ a (by dsimp only; omega) (by dsimp only; omega))

theorem flushed_eq : (dats m 0 c).flushed 5 t = ((cfg0.win 5).blk t).view.read (Elt Ideal) (total (A0 m c) (A1 m c) (A2 m c) (A3 m c)) := by
  have key : (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) : Vec Ideal S1x256x256 .bf16)
      = (((cfg0.win 5).blk t).view.read (Elt Ideal) (total (A0 m c) (A1 m c) (A2 m c) (A3 m c)) : Vec Ideal S1x256x256 .bf16) := by
    funext y
    rw [eq_ix3 (n0 := 1) (n1 := 256) (n2 := 256) y, show y 0 = (0 : Fin 1) from Subsingleton.elim (α := Fin 1) _ _]
    exact (out_apply m c t _ _).trans (blk5_read t (total (A0 m c) (A1 m c) (A2 m c) (A3 m c)) _ _).symm
  rw [Value.flushed5_A]
  exact key

/-- The call's array at the end: every element is some point's. -/
theorem final_o : (dats m 0 c).arrAt 5 cfg0.N = total (A0 m c) (A1 m c) (A2 m c) (A3 m c) :=
  (dats m 0 c).arrAt_eq_of_cover 5 (total (A0 m c) (A1 m c) (A2 m c) (A3 m c)) (fun t _ => flushed_eq m c t) fun (i : S2x8192x512.Idx) => by
    have h0 : ((i 0 : Fin 2) : ℕ) < 2 := (i 0 : Fin 2).isLt
    have h1 : ((i 1 : Fin 8192) : ℕ) < 8192 := (i 1 : Fin 8192).isLt
    have h2 : ((i 2 : Fin 512) : ℕ) < 512 := (i 2 : Fin 512).isLt
    obtain ⟨t, ht⟩ : ∃ t : Fin cfg0.N, t.val = 64 * (i 0 : Fin 2).val + 32 * ((i 2 : Fin 512).val / 256) + (i 1 : Fin 8192).val / 256 :=
      ⟨⟨64 * (i 0 : Fin 2).val + 32 * ((i 2 : Fin 512).val / 256) + (i 1 : Fin 8192).val / 256, lt_of_lt_of_eq (by omega) (show cfg0.N = 128 from N_0).symm⟩, rfl⟩
    refine ⟨t, flush0_5 _, ?_⟩
    refine (congrArg (i ∈ ·) (View.set_slice_whole main_v11 _)).mpr ?_
    refine Rect.mem_set_unit.mpr ?_
    intro a
    match a with
    | ⟨0, _⟩ =>
      show cc0_transform_5 (grid0.coords t) 0 * 1 ≤ (i 0 : Fin 2).val ∧ (i 0 : Fin 2).val < cc0_transform_5 (grid0.coords t) 0 * 1 + 1
      rw [(map5 t).1]
      omega
    | ⟨1, _⟩ =>
      show cc0_transform_5 (grid0.coords t) 1 * 256 ≤ (i 1 : Fin 8192).val ∧ (i 1 : Fin 8192).val < cc0_transform_5 (grid0.coords t) 1 * 256 + 256
      rw [(map5 t).2.1]
      omega
    | ⟨2, _⟩ =>
      show cc0_transform_5 (grid0.coords t) 2 * 256 ≤ (i 2 : Fin 512).val ∧ (i 2 : Fin 512).val < cc0_transform_5 (grid0.coords t) 2 * 256 + 256
      rw [(map5 t).2.2]
      omega

end Cert.AttendIdeal.Result

end
-- ==== Proof.AttendReference.lean ====
/-
  The attention's reference at an element, and what the precondition says: for finite scores the reference's difference of running sums is the sum over the later keys.
-/
module

public import proofs.«01_k».proof.Proof.AttendValue
public import proofs.«01_k».proof.Proof.Gen.AttendReferenceIdeal
public import proofs.«01_k».proof.Proof.Gen.AttendReferenceIdeal.Run
public import proofs.«01_k».proof.Proof.Gen.Pre_finite
public import Idealize.ShloMosaic.Lib.Pointwise
public import Idealize.ShloMosaic.Lib.ReduceAll

@[expose] public section

set_option maxRecDepth 16384

noncomputable section

namespace Cert.AttendReferenceIdeal.Result

open Cert.AttendReferenceIdeal Cert.AttendReferenceIdeal.Gen Cert.AttendIdeal.Sb Idealize.ShloMosaic Idealize.ShloMosaic.TcCoe Idealize.SL.Sem Idealize.ShloMosaic.StableHlo
open Cert.AttendIdeal.Result (key score last attn total)
open Finset (Ico)

/-- The array of a query's scores against every key. -/
abbrev Grid := FVec Ideal S2x8x8192x8192 .f32

/-- The zeros. -/
def zeros : Grid := broadcastInDim S2x8x8192x8192 ![] bcast_S_S2x8x8192x8192 (constant S_ .f32 0x00000000#32)

/-- The scores. -/
def scores (q k : FVec Ideal S2x8192x8x64 .f32) (s : FVec Ideal S8 .f32) : Grid :=
  addf (mulf (Host.dotGeneral dot_S2x8192x8x64_S2x8192x8x64_S2x8x8192x8192_3_3_1_1_02_02 none q k) (broadcastInDim S2x8x8192x8192 ![] bcast_S_S2x8x8192x8192 (constant S_ .f32 0x3E000000#32))) (broadcastInDim S2x8x8192x8192 ![0, 1, 2, 3] bcast_S1x8x1x1_S2x8x8192x8192_0_1_2_3 (broadcastInDim S1x8x1x1 ![1] bcast_S8_S1x8x1x1_1 s))

/-- The logarithm of the logistic function. -/
def logSig (z : Grid) : Grid :=
  Host.negf (select (cmpf .une (subf (Host.negf z) zeros) (subf (Host.negf z) zeros)) (addf (Host.negf z) zeros) (addf (maximumf (Host.negf z) zeros) (Host.log1p (Host.exp (Host.negf (Host.absf (subf (Host.negf z) zeros)))))))

/-- What a query may look at, zero elsewhere. -/
def masked (x : Grid) : Grid :=
  select (broadcastInDim S2x8x8192x8192 ![2, 3] bcast_S8192x8192_S2x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) x (broadcastInDim S2x8x8192x8192 ![] bcast_S_S2x8x8192x8192 (id (constant S_ .f32 0x00000000#32)))

/-- The running sums from the last key down. -/
def sums (x : Grid) : Grid :=
  Host.reduceWindowAdd ![1, 1, 1, 8192] ![1, 1, 1, 1] ![0, 0, 0, 0] ![0, 0, 0, 8191] x (broadcastInDim S_ ![] bcast_S_S_ (constant S_ .f32 0x00000000#32)) reduceWindows_S2x8x8192x8192_S2x8x8192x8192_w1s1p0_0_w1s1p0_0_w1s1p0_0_w8192s1p0_8191 h_S_

/-- The weights. -/
def weights (z : Grid) : Grid :=
  masked (Host.exp (addf (logSig z) (subf (sums (masked (logSig (Host.negf z)))) (masked (logSig (Host.negf z))))))

/-- The reference's arithmetic over its arguments. -/
def value (q k v : FVec Ideal S2x8192x8x64 .f32) (s : FVec Ideal S8 .f32) : FVec Ideal S2x8192x512 .bf16 :=
  truncf .bf16 (shapeCast S2x8192x512 (transpose S2x8192x8x64 [0, 3, 1, 2] (Host.dotGeneral dot_S2x8192x8x64_S2x8x8192x8192_S2x8x64x8192_1_3_3_2_02_01 none v (weights (scores q k s))) transposes_S2x8x64x8192_S2x8192x8x64_0_3_1_2) shapeCasts_S2x8192x8x64_S2x8192x512) bitsLt_bf16_f32

theorem res_eq (m : (ℓ : Loc nD τ sig) → Buf (Elt Ideal) ℓ) (c : Dev nD) :
    Cert.AttendReferenceIdeal.Value.res_out0 m c = value (m ((c.tc : Thread nD τ).loc main_arg0)) (m ((c.tc : Thread nD τ).loc main_arg1)) (m ((c.tc : Thread nD τ).loc main_arg2)) (m ((c.tc : Thread nD τ).loc main_arg3)) := rfl

theorem zeros_apply (b : Fin 2) (h : Fin 8) (n j : Fin 8192) : zeros (ix4 b h n j) = 0 := by
  pointwise [zeros]

theorem scores_apply (q k : FVec Ideal S2x8192x8x64 .f32) (s : FVec Ideal S8 .f32) (b : Fin 2) (h : Fin 8) (n j : Fin 8192) :
    scores q k s (ix4 b h n j) = (∑ x : Fin 64, q (ix4 b n h x) * k (ix4 b j h x)) * Ideal.ofBits .f32 0x3E000000#32 + s (ix1 h) := by
  pointwise [scores]

theorem masked_apply (x : Grid) (b : Fin 2) (h : Fin 8) (n j : Fin 8192) :
    masked x (ix4 b h n j) = if j.val < n.val then x (ix4 b h n j) else 0 := by
  pointwise [masked]
  rw [slt_small _ _ (by omega) (by omega)]
  split_ifs
  · rfl
  · exact Ideal.ofBits_zero_f32

theorem value_apply (q k v : FVec Ideal S2x8192x8x64 .f32) (s : FVec Ideal S8 .f32) (b : Fin 2) (n : Fin 8192) (e : Fin 512) :
    value q k v s (ix3 b n e) = ∑ j : Fin 8192, v (ix4 b j ⟨e.val / 64, by omega⟩ ⟨e.val % 64, by omega⟩) * weights (scores q k s) (ix4 b ⟨e.val / 64, by omega⟩ n j) := by
  pointwise [value]

/-- The greater of two real numbers. -/
theorem max_real (x y : ℝ) : max (x : EReal) (y : EReal) = ((max x y : ℝ) : EReal) := (EReal.coe_strictMono.monotone.map_max).symm

/-- The lesser of two real numbers. -/
theorem min_real (x y : ℝ) : min (x : EReal) (y : EReal) = ((min x y : ℝ) : EReal) := (EReal.coe_strictMono.monotone.map_min).symm

/-- The correction both forms of the logarithm share. -/
theorem corr_real (r : ℝ) : Ideal.log (1 + Ideal.exp (-(FloatOps.absf (F := Ideal) (φ := .f32) (r : EReal)))) = ((Real.log (1 + Real.exp (-|r|)) : ℝ) : EReal) := by
  have e : (FloatOps.absf (F := Ideal) (φ := .f32) (r : EReal) : EReal) = ((|r| : ℝ) : EReal) := by
    show max (r : EReal) (-(r : EReal)) = _
    rw [← EReal.coe_neg, max_real]
    rfl
  rw [e, ← EReal.coe_neg, Ideal.exp_coe, ← EReal.coe_one, ← EReal.coe_add, Ideal.log_coe, if_neg (not_le.mpr (by positivity))]

/-- On real numbers the reference's logarithm of the logistic function. -/
theorem logSig_apply (z : Grid) (b : Fin 2) (h : Fin 8) (n j : Fin 8192) (r : ℝ) (hz : z (ix4 b h n j) = r) :
    logSig z (ix4 b h n j) = ((-(max (-r) 0 + Real.log (1 + Real.exp (-|r|))) : ℝ) : EReal) := by
  pointwise [logSig, zeros]
  rw [hz, if_neg (fun h => h rfl), ← EReal.coe_neg r]
  unfold Ideal.log1p
  rw [corr_real, ← EReal.coe_zero, max_real, ← EReal.coe_add, ← EReal.coe_neg, abs_neg]

/-- On real numbers the call's logarithm of the logistic function is the reference's. -/
theorem lbf_real (r : ℝ) : lbf (r : EReal) = ((-(max (-r) 0 + Real.log (1 + Real.exp (-|r|))) : ℝ) : EReal) := by
  unfold lbf
  rw [zero_sub, corr_real, ← EReal.coe_zero, min_real, ← EReal.coe_sub, EReal.coe_eq_coe_iff]
  rcases le_total r 0 with h | h
  · rw [min_eq_left h, max_eq_left (by linarith)]
    ring
  · rw [min_eq_right h, max_eq_right (by linarith)]
    ring

/-- … and the call's logarithm of the complement is the reference's at the opposite score. -/
theorem l1f_real (r : ℝ) : l1f (r : EReal) = ((-(max (-(-r)) 0 + Real.log (1 + Real.exp (-|(-r)|))) : ℝ) : EReal) := by
  unfold l1f
  rw [lbf_real, ← EReal.coe_sub, EReal.coe_eq_coe_iff, abs_neg, neg_neg]
  rcases le_total r 0 with h | h
  · rw [max_eq_right h, max_eq_left (by linarith)]
    ring
  · rw [max_eq_left h, max_eq_right (by linarith)]
    ring

/-- A left fold of additions over all the numbers below a bound is a sum. -/
theorem foldl_fin {N : ℕ} (g : Fin N → EReal) (v : EReal) : (List.finRange N).foldl (fun r n => r + g n) v = v + ∑ n : Fin N, g n := by
  rw [Fin.sum_univ_def]
  generalize List.finRange N = L
  induction L generalizing v with
  | nil => simp
  | cons a L ih => rw [List.foldl_cons, ih, List.map_cons, List.sum_cons, add_assoc]

/-- One key's entry of a row, zero past the end. -/
def row (x : Grid) (b : Fin 2) (h : Fin 8) (n : Fin 8192) (j : ℕ) : EReal := if hj : j < 8192 then x (ix4 b h n ⟨j, hj⟩) else 0

/-- A running sum is the sum over its key and the later ones. -/
theorem sums_apply (x : Grid) (b : Fin 2) (h : Fin 8) (n j : Fin 8192) :
    sums x (ix4 b h n j) = ∑ i ∈ Ico j.val 8192, row x b h n i := by
  have z : (broadcastInDim S_ ![] bcast_S_S_ (constant S_ .f32 0x00000000#32) : FVec Ideal S_ .f32) (Shape.Idx.first h_S_) = 0 := Ideal.ofBits_zero_f32
  have e : sums x (ix4 b h n j) = (List.finRange (⟨4, ![1, 1, 1, 8192]⟩ : Shape).numel).foldl (fun r w => r + (fun w : (⟨4, ![1, 1, 1, 8192]⟩ : Shape).Idx => row x b h n (j.val + (w 3).val)) ((⟨4, ![1, 1, 1, 8192]⟩ : Shape).rowMajor.symm w)) 0 := by
    unfold sums Host.reduceWindowAdd
    rw [Ideal.hostReduceWindowAdd_def, z]
    unfold Ideal.hostReduceWindowAdd Host.reduceWindow
    dsimp only
    congr 1
    funext r w
    congr 1
    have y0 : ((⟨4, ![1, 1, 1, 8192]⟩ : Shape).rowMajor.symm w 0).val = 0 := Nat.lt_one_iff.mp ((⟨4, ![1, 1, 1, 8192]⟩ : Shape).rowMajor.symm w 0).isLt
    have y1 : ((⟨4, ![1, 1, 1, 8192]⟩ : Shape).rowMajor.symm w 1).val = 0 := Nat.lt_one_iff.mp ((⟨4, ![1, 1, 1, 8192]⟩ : Shape).rowMajor.symm w 1).isLt
    have y2 : ((⟨4, ![1, 1, 1, 8192]⟩ : Shape).rowMajor.symm w 2).val = 0 := Nat.lt_one_iff.mp ((⟨4, ![1, 1, 1, 8192]⟩ : Shape).rowMajor.symm w 2).isLt
    unfold row
    by_cases hj : j.val + ((⟨4, ![1, 1, 1, 8192]⟩ : Shape).rowMajor.symm w 3).val < 8192
    · rw [dif_pos hj, dif_pos (fun a => by
        match a with
        | ⟨0, _⟩ => show 0 ≤ b.val * 1 + ((⟨4, ![1, 1, 1, 8192]⟩ : Shape).rowMajor.symm w 0).val ∧ b.val * 1 + ((⟨4, ![1, 1, 1, 8192]⟩ : Shape).rowMajor.symm w 0).val - 0 < 2; omega
        | ⟨1, _⟩ => show 0 ≤ h.val * 1 + ((⟨4, ![1, 1, 1, 8192]⟩ : Shape).rowMajor.symm w 1).val ∧ h.val * 1 + ((⟨4, ![1, 1, 1, 8192]⟩ : Shape).rowMajor.symm w 1).val - 0 < 8; omega
        | ⟨2, _⟩ => show 0 ≤ n.val * 1 + ((⟨4, ![1, 1, 1, 8192]⟩ : Shape).rowMajor.symm w 2).val ∧ n.val * 1 + ((⟨4, ![1, 1, 1, 8192]⟩ : Shape).rowMajor.symm w 2).val - 0 < 8192; omega
        | ⟨3, _⟩ => show 0 ≤ j.val * 1 + ((⟨4, ![1, 1, 1, 8192]⟩ : Shape).rowMajor.symm w 3).val ∧ j.val * 1 + ((⟨4, ![1, 1, 1, 8192]⟩ : Shape).rowMajor.symm w 3).val - 0 < 8192; omega)]
      refine congrArg x (funext fun a => Fin.ext ?_)
      match a with
      | ⟨0, _⟩ => show b.val * 1 + ((⟨4, ![1, 1, 1, 8192]⟩ : Shape).rowMajor.symm w 0).val - 0 = b.val; omega
      | ⟨1, _⟩ => show h.val * 1 + ((⟨4, ![1, 1, 1, 8192]⟩ : Shape).rowMajor.symm w 1).val - 0 = h.val; omega
      | ⟨2, _⟩ => show n.val * 1 + ((⟨4, ![1, 1, 1, 8192]⟩ : Shape).rowMajor.symm w 2).val - 0 = n.val; omega
      | ⟨3, _⟩ => show j.val * 1 + ((⟨4, ![1, 1, 1, 8192]⟩ : Shape).rowMajor.symm w 3).val - 0 = j.val + ((⟨4, ![1, 1, 1, 8192]⟩ : Shape).rowMajor.symm w 3).val; omega
    · rw [dif_neg hj, dif_neg fun hin => hj (by
        have := (hin 3).2
        change j.val * 1 + ((⟨4, ![1, 1, 1, 8192]⟩ : Shape).rowMajor.symm w 3).val - 0 < 8192 at this
        omega)]
  rw [e, foldl_fin, zero_add, Equiv.sum_comp ((⟨4, ![1, 1, 1, 8192]⟩ : Shape).rowMajor.symm) (fun w : (⟨4, ![1, 1, 1, 8192]⟩ : Shape).Idx => row x b h n (j.val + (w 3).val))]
  have f : ∑ w : (⟨4, ![1, 1, 1, 8192]⟩ : Shape).Idx, row x b h n (j.val + (w 3).val) = ∑ y : Fin 8192, row x b h n (j.val + y.val) := by
    symm
    refine Fintype.sum_bijective (fun y : Fin 8192 => (ix4 0 0 0 y : (⟨4, ![1, 1, 1, 8192]⟩ : Shape).Idx)) ⟨fun y y' hy => congrFun hy 3, fun w => ⟨w 3, ?_⟩⟩ _ _ fun y => rfl
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  rw [f, Finset.sum_range (fun y => row x b h n (j.val + y)) |>.symm]
  have g : ∑ y ∈ Finset.range 8192, row x b h n (j.val + y) = ∑ i ∈ Ico j.val (j.val + 8192), row x b h n i := by
    rw [Finset.sum_Ico_eq_sum_range, Nat.add_sub_cancel_left]
  rw [g, ← Finset.sum_Ico_consecutive _ (show j.val ≤ 8192 by omega) (show 8192 ≤ j.val + 8192 by omega)]
  rw [Finset.sum_eq_zero (s := Ico 8192 (j.val + 8192)), add_zero]
  intro i hi
  exact dif_neg (by have := (Finset.mem_Ico.mp hi).1; omega)

/-- A sum of real numbers. -/
theorem sum_real (f : Fin 64 → ℝ) : ((∑ x, f x : ℝ) : EReal) = ∑ x, (f x : EReal) :=
  map_sum (⟨⟨Real.toEReal, EReal.coe_zero⟩, EReal.coe_add⟩ : ℝ →+ EReal) f Finset.univ

/-- The scale the call multiplies the queries by. -/
theorem scale_real : Ideal.ofBits .f32 0x3E000000#32 = (((1 : ℝ) / 8 : ℝ) : EReal) := by
  simp [Ideal.ofBits, Ideal.ieee, -EReal.coe_mul, -EReal.coe_neg]; norm_num

/-- For finite arguments a score is a real number, and the reference's. -/
theorem score_real (q k : FVec Ideal S2x8192x8x64 .f32) (s : FVec Ideal S8 .f32) (hq : ∀ i, ∃ r : ℝ, q i = r) (hk : ∀ i, ∃ r : ℝ, k i = r) (hs : ∀ i, ∃ r : ℝ, s i = r)
    (b : Fin 2) (h : Fin 8) (n j : Fin 8192) : ∃ r : ℝ, score q k s b h n j.val = r ∧ scores q k s (ix4 b h n j) = r := by
  choose Q hQ using hq
  choose K hK using hk
  choose S hS using hs
  refine ⟨(∑ x : Fin 64, Q (ix4 b n h x) * (1 / 8) * K (ix4 b j h x)) + S (ix1 h), ?_, ?_⟩
  · have e : ∀ x : Fin 64, q (ix4 b n h x) * Ideal.ofBits .f32 0x3E000000#32 * key k b h j.val x = ((Q (ix4 b n h x) * (1 / 8) * K (ix4 b j h x) : ℝ) : EReal) := by
      intro x
      unfold key
      rw [dif_pos j.isLt, hQ, scale_real, hK, ← EReal.coe_mul, ← EReal.coe_mul]
    unfold score
    rw [Finset.sum_congr rfl fun x _ => e x, hS, EReal.coe_add, sum_real]
  · have e : ∀ x : Fin 64, q (ix4 b n h x) * k (ix4 b j h x) = ((Q (ix4 b n h x) * K (ix4 b j h x) : ℝ) : EReal) := by
      intro x
      rw [hQ, hK, ← EReal.coe_mul]
    rw [scores_apply, Finset.sum_congr rfl fun x _ => e x, hS, scale_real, EReal.coe_add, ← sum_real, ← EReal.coe_mul]
    refine congrArg (fun r : ℝ => (r : EReal) + ((S (ix1 h) : ℝ) : EReal)) ?_
    rw [Finset.sum_mul]
    exact Finset.sum_congr rfl fun x _ => by ring

/-- For finite arguments the reference's weights are the call's. -/
theorem weights_eq (q k : FVec Ideal S2x8192x8x64 .f32) (s : FVec Ideal S8 .f32) (hq : ∀ i, ∃ r : ℝ, q i = r) (hk : ∀ i, ∃ r : ℝ, k i = r) (hs : ∀ i, ∃ r : ℝ, s i = r)
    (b : Fin 2) (h : Fin 8) (n j : Fin 8192) : weights (scores q k s) (ix4 b h n j) = weight (score q k s b h n) n.val (last n.val) j.val := by
  have neg : ∀ (i : Fin 8192) (r : ℝ), scores q k s (ix4 b h n i) = r → Host.negf (scores q k s) (ix4 b h n i) = ((-r : ℝ) : EReal) := by
    intro i r hr
    rw [EReal.coe_neg, ← hr]
    rfl
  have own : ∀ i : ℕ, row (masked (logSig (Host.negf (scores q k s)))) b h n i = keep (score q k s b h n) n.val i := by
    intro i
    unfold row keep
    by_cases hi : i < n.val
    · have hi' : i < 8192 := by omega
      obtain ⟨r, h1, h2⟩ := score_real q k s hq hk hs b h n ⟨i, hi'⟩
      dsimp only at h1
      rw [dif_pos hi', masked_apply, if_pos hi, if_pos hi, h1, l1f_real, logSig_apply _ _ _ _ _ _ (neg _ r h2)]
    · rw [if_neg hi]
      split_ifs
      · rw [masked_apply, if_neg hi]
      · rfl
  have hT : n.val < last n.val := by unfold last; omega
  have hT' : last n.val ≤ 8192 := by unfold last; omega
  unfold weights weight
  rw [masked_apply]
  split_ifs with hj
  · obtain ⟨r, h1, h2⟩ := score_real q k s hq hk hs b h n j
    have ej : masked (logSig (Host.negf (scores q k s))) (ix4 b h n j) = l1f (score q k s b h n j.val) := by
      rw [masked_apply, if_pos hj, h1, l1f_real, logSig_apply _ _ _ _ _ _ (neg _ r h2)]
    have es : sums (masked (logSig (Host.negf (scores q k s)))) (ix4 b h n j) = l1f (score q k s b h n j.val) + ∑ i ∈ Ico (j.val + 1) (last n.val), keep (score q k s b h n) n.val i := by
      rw [sums_apply, Finset.sum_congr rfl fun i _ => own i, Finset.sum_eq_sum_Ico_succ_bot j.isLt]
      refine congrArg₂ (· + ·) (if_pos hj) ?_
      rw [← Finset.sum_Ico_consecutive _ (show j.val + 1 ≤ last n.val by omega) hT', Finset.sum_eq_zero (s := Ico (last n.val) 8192), add_zero]
      intro i hi
      exact if_neg (by have := (Finset.mem_Ico.mp hi).1; omega)
    have el : logSig (scores q k s) (ix4 b h n j) = lbf (score q k s b h n j.val) := by
      rw [h1, lbf_real, logSig_apply _ _ _ _ _ _ h2]
    show Ideal.exp (logSig (scores q k s) (ix4 b h n j) + (sums (masked (logSig (Host.negf (scores q k s)))) (ix4 b h n j) - masked (logSig (Host.negf (scores q k s))) (ix4 b h n j))) = _
    rw [el, es, ej, h1, l1f_real, EReal.add_sub_cancel_left]
  · rfl

/-- For finite queries, keys and offsets the reference's result is the call's. -/
theorem value_eq (q k v : FVec Ideal S2x8192x8x64 .f32) (s : FVec Ideal S8 .f32) (hq : ∀ i, ∃ r : ℝ, q i = r) (hk : ∀ i, ∃ r : ℝ, k i = r) (hs : ∀ i, ∃ r : ℝ, s i = r)
    (b : Fin 2) (n : Fin 8192) (e : Fin 512) : value q k v s (ix3 b n e) = total q k v s (ix3 b n e) := by
  have hT : n.val < last n.val := by unfold last; omega
  have hT' : last n.val ≤ 8192 := by unfold last; omega
  rw [value_apply]
  show _ = attn q k v s b n ⟨e.val / 64, by omega⟩ ⟨e.val % 64, by omega⟩
  unfold attn
  have ext : ∑ j ∈ Ico 0 (last n.val), weight (score q k s b ⟨e.val / 64, by omega⟩ n) n.val (last n.val) j * key v b ⟨e.val / 64, by omega⟩ j ⟨e.val % 64, by omega⟩
      = ∑ j ∈ Finset.range 8192, weight (score q k s b ⟨e.val / 64, by omega⟩ n) n.val (last n.val) j * key v b ⟨e.val / 64, by omega⟩ j ⟨e.val % 64, by omega⟩ := by
    rw [Finset.range_eq_Ico, ← Finset.sum_Ico_consecutive _ (Nat.zero_le _) hT', Finset.sum_eq_zero (s := Ico (last n.val) 8192), add_zero]
    intro j hj
    unfold weight
    rw [if_neg (by have := (Finset.mem_Ico.mp hj).1; omega), zero_mul]
  rw [ext, Finset.sum_range]
  refine Finset.sum_congr rfl fun j _ => ?_
  rw [weights_eq q k s hq hk hs, mul_comm]
  unfold key
  rw [dif_pos j.isLt]

/-- A number whose absolute value is below the greatest is real. -/
theorem real_of_lt (x : EReal) (h : BitVec.ofBool (decide (max x (-x) < Ideal.ofBits .f32 0x7F800000#32)) = 1#1) : ∃ r : ℝ, x = r := by
  induction x using EReal.rec with
  | bot => simp [Ideal.ofBits, Ideal.ieee] at h
  | coe r => exact ⟨r, rfl⟩
  | top => simp [Ideal.ofBits, Ideal.ieee] at h

/-- The precondition says that queries, keys and offsets are real numbers. -/
theorem finite (q k v : FVec Ideal S2x8192x8x64 .f32) (s : FVec Ideal S8 .f32) (j) (h : Cert.Pre_finite.fn (F := Ideal) q k v s j = 1#1) :
    (∀ i, ∃ r : ℝ, q i = r) ∧ (∀ i, ∃ r : ℝ, k i = r) ∧ ∀ i, ∃ r : ℝ, s i = r := by
  have two : ∀ a b : BitVec 1, a &&& b = 1#1 → a = 1#1 ∧ b = 1#1 := by decide
  obtain ⟨h12, h3⟩ := two _ _ h
  obtain ⟨h1, h2⟩ := two _ _ h12
  refine ⟨fun i => ?_, fun i => ?_, fun i => ?_⟩
  · exact real_of_lt _ (Host.reduce_andi_all _ _ _ _ j h1 i)
  · exact real_of_lt _ (Host.reduce_andi_all _ _ _ _ j h2 i)
  · exact real_of_lt _ (Host.reduce_andi_all _ _ _ _ j h3 i)

end Cert.AttendReferenceIdeal.Result

end
-- ==== Proof.MlstmChunk.lean ====
/-
  One chunk of the mLSTM as a function of its tokens, and that tokens of zeros past the end, their input gates at −∞, change nothing.
-/
module

public import Idealize.ShloMosaic.Lib.KernelVsHost

@[expose] public section

noncomputable section

namespace Cert.Chunk

open Idealize.ShloMosaic

variable {N : ℕ} (i x : Fin N → EReal) (q k v : Fin N → Fin 128 → EReal) (C : Fin 128 → Fin 128 → EReal) (n : Fin 128 → EReal) (m : EReal)

/-- The log forget gates summed up to a token. -/
def cum (t : Fin N) : EReal := ∑ s : Fin N, if s.val ≤ t.val then x s else 0

/-- … and over the chunk. -/
def whole : EReal := ∑ s : Fin N, x s

/-- The greatest of a list of numbers. -/
def top (f : Fin N → EReal) : EReal := Finset.univ.fold max ⊥ f

/-- A token's log weight for a later one. -/
def dlog (t s : Fin N) : EReal := if s.val ≤ t.val then cum x t - cum x s + i s else ⊥

/-- The stabilizer at a token. -/
def mt (t : Fin N) : EReal := max (cum x t + m) (top (dlog i x t))

/-- The weight of the state before the chunk. -/
def inter (t : Fin N) : EReal := Ideal.exp (cum x t + m - mt i x m t)

/-- A token's weight for a later one. -/
def sc (t s : Fin N) : EReal := (∑ d : Fin 128, q t d * k s d) * Ideal.exp (dlog i x t s - mt i x m t)

def num (t : Fin N) (e : Fin 128) : EReal := (∑ s : Fin N, sc i x q k m t s * v s e) + inter i x m t * ∑ d : Fin 128, q t d * C e d

def den (t : Fin N) : EReal :=
  max (FloatOps.absf (F := Ideal) (φ := .f32) ((∑ s : Fin N, sc i x q k m t s) + inter i x m t * ∑ d : Fin 128, q t d * n d)) (Ideal.exp (-mt i x m t))

/-- A token's result before the norm. -/
def out (t : Fin N) (e : Fin 128) : EReal := Ideal.div (num i x q k v C m t e) (den i x q k n m t)

/-- A token's log weight at the chunk's end. -/
def dec (s : Fin N) : EReal := whole x - cum x s + i s

/-- The stabilizer after the chunk. -/
def mnew : EReal := max (whole x + m) (top (dec i x))

def w (s : Fin N) : EReal := Ideal.exp (dec i x s - mnew i x m)

def keep : EReal := Ideal.exp (whole x + m - mnew i x m)

/-- The states after the chunk. -/
def Cnew (e d : Fin 128) : EReal := keep i x m * C e d + ∑ s : Fin N, w i x m s * v s e * k s d

def nnew (d : Fin 128) : EReal := keep i x m * n d + ∑ s : Fin N, w i x m s * k s d

/-- A head's mean. -/
def mean (h : Fin 128 → EReal) : EReal := Ideal.div (∑ e : Fin 128, h e) (Ideal.ofBits .f32 0x43000000#32)

/-- A head normed, weighted and gated. -/
def gated (h nw o : Fin 128 → EReal) (e : Fin 128) : EReal :=
  (h e - mean h) * Ideal.rsqrt (mean (fun e => (h e - mean h) * (h e - mean h)) + Ideal.ofBits .f32 0x3727C5AC#32) * nw e
    * Ideal.div 1 (1 + Ideal.exp (-o e))

/-- A chunk's number of a sample's token. -/
def up (s : Fin 8) : Fin 128 := ⟨s.val, by omega⟩

theorem sum_up (f : Fin 128 → EReal) (g : Fin 8 → EReal) (hz : ∀ s : Fin 128, 8 ≤ s.val → f s = 0) (h : ∀ s, f (up s) = g s) : ∑ s, f s = ∑ s, g s := by
  refine (Fintype.sum_of_injective up (fun a b hab => Fin.ext (show a.val = b.val from congrArg (fun z : Fin 128 => z.val) hab)) g f (fun s hs => hz s ?_) fun s => (h s).symm).symm
  by_contra hlt
  exact hs ⟨⟨s.val, by omega⟩, rfl⟩

theorem top_up (f : Fin 128 → EReal) (g : Fin 8 → EReal) (hz : ∀ s : Fin 128, 8 ≤ s.val → f s = ⊥) (h : ∀ s, f (up s) = g s) : top f = top g := by
  refine le_antisymm ((Finset.fold_max_le _).mpr ⟨bot_le, fun s _ => ?_⟩) ((Finset.fold_max_le _).mpr ⟨bot_le, fun s _ => ?_⟩)
  · by_cases hs : s.val < 8
    · exact (Finset.le_fold_max _).mpr (Or.inr ⟨⟨s.val, hs⟩, Finset.mem_univ _, le_of_eq (h ⟨s.val, hs⟩)⟩)
    · rw [hz s (by omega)]
      exact bot_le
  · exact (Finset.le_fold_max _).mpr (Or.inr ⟨up s, Finset.mem_univ _, le_of_eq (h s).symm⟩)

theorem bot_sub' (a : EReal) : (⊥ : EReal) - a = ⊥ := by rw [sub_eq_add_neg, EReal.bot_add]

theorem exp_bot : Ideal.exp ⊥ = 0 := rfl

section
variable (I X : Fin 128 → EReal) (Q K V : Fin 128 → Fin 128 → EReal) (i x : Fin 8 → EReal) (q k v : Fin 8 → Fin 128 → EReal)
  (hI : ∀ s, I (up s) = i s) (hI' : ∀ s : Fin 128, 8 ≤ s.val → I s = ⊥) (hX : ∀ s, X (up s) = x s) (hX' : ∀ s : Fin 128, 8 ≤ s.val → X s = 0)
  (hQ : ∀ s, Q (up s) = q s) (hQ' : ∀ (s : Fin 128) d, 8 ≤ s.val → Q s d = 0) (hK : ∀ s, K (up s) = k s) (hV : ∀ s, V (up s) = v s)

include hX hX' in
theorem cum_up (t : Fin 8) : cum X (up t) = cum x t :=
  sum_up _ _ (fun s hs => by rw [hX' s hs, ite_self]) fun s => by rw [hX]; rfl

include hX hX' in
theorem whole_up : whole X = whole x := sum_up _ _ hX' hX

include hI' in
theorem dlog_pad (t s : Fin 128) (hs : 8 ≤ s.val) : dlog I X t s = ⊥ := by
  unfold dlog
  rw [hI' s hs, EReal.add_bot, ite_self]

include hI hX hX' in
theorem dlog_up (t s : Fin 8) : dlog I X (up t) (up s) = dlog i x t s := by
  unfold dlog
  rw [cum_up X x hX hX', cum_up X x hX hX', hI]
  rfl

include hI hI' hX hX' in
theorem mt_up (t : Fin 8) : mt I X m (up t) = mt i x m t := by
  unfold mt
  rw [cum_up X x hX hX', top_up _ _ (fun s hs => dlog_pad I X hI' (up t) s hs) (dlog_up I X i x hI hX hX' t)]

include hI hI' hX hX' in
theorem inter_up (t : Fin 8) : inter I X m (up t) = inter i x m t := by
  unfold inter
  rw [cum_up X x hX hX', mt_up m I X i x hI hI' hX hX']

include hI' in
theorem sc_pad (t s : Fin 128) (hs : 8 ≤ s.val) : sc I X Q K m t s = 0 := by
  unfold sc
  rw [dlog_pad I X hI' t s hs, bot_sub', exp_bot, mul_zero]

include hI hI' hX hX' hQ hK in
theorem sc_up (t s : Fin 8) : sc I X Q K m (up t) (up s) = sc i x q k m t s := by
  unfold sc
  rw [dlog_up I X i x hI hX hX', mt_up m I X i x hI hI' hX hX', hQ, hK]

include hI hI' hX hX' hQ hK hV in
theorem out_up (t : Fin 8) (e : Fin 128) : out I X Q K V C n m (up t) e = out i x q k v C n m t e := by
  unfold out num den
  rw [sum_up (fun s => sc I X Q K m (up t) s * V s e) (fun s => sc i x q k m t s * v s e) (fun s hs => by rw [sc_pad m I X Q K hI' _ s hs, zero_mul])
      (fun s => by rw [sc_up m I X Q K i x q k hI hI' hX hX' hQ hK, hV]),
    sum_up (fun s => sc I X Q K m (up t) s) (fun s => sc i x q k m t s) (fun s hs => sc_pad m I X Q K hI' _ s hs)
      (fun s => sc_up m I X Q K i x q k hI hI' hX hX' hQ hK t s),
    inter_up m I X i x hI hI' hX hX', mt_up m I X i x hI hI' hX hX', hQ]

include hI' in
theorem dec_pad (s : Fin 128) (hs : 8 ≤ s.val) : dec I X s = ⊥ := by
  unfold dec
  rw [hI' s hs, EReal.add_bot]

include hI hX hX' in
theorem dec_up (s : Fin 8) : dec I X (up s) = dec i x s := by
  unfold dec
  rw [cum_up X x hX hX', whole_up X x hX hX', hI]

include hI hI' hX hX' in
theorem mnew_up : mnew I X m = mnew i x m := by
  unfold mnew
  rw [whole_up X x hX hX', top_up _ _ (dec_pad I X hI') (dec_up I X i x hI hX hX')]

include hI hI' hX hX' in
theorem keep_up : keep I X m = keep i x m := by
  unfold keep
  rw [whole_up X x hX hX', mnew_up m I X i x hI hI' hX hX']

include hI' in
theorem w_pad (s : Fin 128) (hs : 8 ≤ s.val) : w I X m s = 0 := by
  unfold w
  rw [dec_pad I X hI' s hs, bot_sub', exp_bot]

include hI hI' hX hX' in
theorem w_up (s : Fin 8) : w I X m (up s) = w i x m s := by
  unfold w
  rw [dec_up I X i x hI hX hX', mnew_up m I X i x hI hI' hX hX']

include hI hI' hX hX' hK hV in
theorem Cnew_up (e d : Fin 128) : Cnew I X K V C m e d = Cnew i x k v C m e d := by
  unfold Cnew
  rw [keep_up m I X i x hI hI' hX hX', sum_up (fun s => w I X m s * V s e * K s d) (fun s => w i x m s * v s e * k s d) (fun s hs => by rw [w_pad m I X hI' s hs, zero_mul, zero_mul])
    (fun s => by rw [w_up m I X i x hI hI' hX hX', hV, hK])]

include hI hI' hX hX' hK in
theorem nnew_up (d : Fin 128) : nnew I X K n m d = nnew i x k n m d := by
  unfold nnew
  rw [keep_up m I X i x hI hI' hX hX', sum_up (fun s => w I X m s * K s d) (fun s => w i x m s * k s d) (fun s hs => by rw [w_pad m I X hI' s hs, zero_mul])
    (fun s => by rw [w_up m I X i x hI hI' hX hX', hK])]

include hQ' in
/-- A token past the end has the result zero in every lane or, with an infinite stabilizer, `0 / 0` in every lane. -/
theorem out_pad (t : Fin 128) (ht : 8 ≤ t.val) : (∀ e, out I X Q K V C n m t e = 0) ∨ ∀ e, out I X Q K V C n m t e = ⊥ := by
  have e1 : ∀ f : Fin 128 → EReal, ∑ d : Fin 128, Q t d * f d = 0 := fun f => Finset.sum_eq_zero fun d _ => by rw [hQ' t d ht, zero_mul]
  have e2 : ∀ s, sc I X Q K m t s = 0 := fun s => by unfold sc; rw [e1, zero_mul]
  have e4 : ∀ e, num I X Q K V C m t e = 0 := fun e => by
    unfold num
    rw [e1, mul_zero, add_zero]
    exact Finset.sum_eq_zero fun s _ => by rw [e2, zero_mul]
  by_cases e5 : den I X Q K n m t = 0
  · right
    intro e
    unfold out Ideal.div
    rw [e4, if_pos e5, if_neg (lt_irrefl _)]
  · left
    intro e
    unfold out Ideal.div
    rw [e4, if_neg e5, zero_mul]

end

/-- A head of zeros stays one. -/
theorem gated_zero (nw o : Fin 128 → EReal) (h : Fin 128 → EReal) (hh : ∀ e, h e = 0) (e : Fin 128) : gated h nw o e = 0 := by
  have e1 : mean h = 0 := by
    unfold mean
    rw [Finset.sum_eq_zero fun e _ => hh e]
    unfold Ideal.div
    rw [if_neg, zero_mul]
    simp [Ideal.ofBits, Ideal.ieee]
  unfold gated
  rw [e1, hh e, sub_zero, zero_mul, zero_mul, zero_mul]

theorem lanes_pos : ∃ r : ℝ, 0 < r ∧ Ideal.ofBits .f32 0x43000000#32 = r := by
  refine ⟨128, by norm_num, ?_⟩
  simp [Ideal.ofBits, Ideal.ieee]
  rw [← EReal.coe_mul]
  norm_num

theorem eps_real : ∃ r : ℝ, Ideal.ofBits .f32 0x3727C5AC#32 = r := by
  unfold Ideal.ofBits Ideal.ieee
  simp
  exact ⟨_, (EReal.coe_mul _ _).symm⟩

/-- A head of `0 / 0` becomes one of zeros: its variance is infinite. -/
theorem gated_bot (nw o : Fin 128 → EReal) (h : Fin 128 → EReal) (hh : ∀ e, h e = ⊥) (e : Fin 128) : gated h nw o e = 0 := by
  obtain ⟨r, hr, h1⟩ := lanes_pos
  obtain ⟨q, h2⟩ := eps_real
  have hn : ((r : ℝ) : EReal) ≠ 0 := EReal.coe_ne_zero.mpr hr.ne'
  have hp : 0 < (((r⁻¹ : ℝ)) : EReal) := EReal.coe_pos.mpr (inv_pos.mpr hr)
  have s1 : mean h = ⊥ := by
    unfold mean Ideal.div
    rw [h1, if_neg hn, Fin.sum_univ_succ, hh, EReal.bot_add, ← EReal.coe_inv, EReal.bot_mul_of_pos hp]
  have s2 : mean (fun e => (h e - mean h) * (h e - mean h)) = ⊤ := by
    have f : ∀ e, (h e - mean h) * (h e - mean h) = ⊤ := fun e => by
      rw [hh e, s1, EReal.bot_sub, EReal.bot_mul_bot]
    simp only [f]
    have g : ∑ e : Fin 128, (⊤ : EReal) = ⊤ := by
      rw [Fin.sum_univ_succ]
      exact EReal.top_add_of_ne_bot (ne_of_gt (lt_of_lt_of_le EReal.bot_lt_zero (Finset.sum_nonneg fun _ _ => le_top)))
    unfold mean Ideal.div
    rw [h1, if_neg hn, g, ← EReal.coe_inv, EReal.top_mul_of_pos hp]
  unfold gated
  rw [s2, h2, EReal.top_add_coe, show Ideal.rsqrt ⊤ = 0 from rfl, mul_zero, zero_mul, zero_mul]

end Cert.Chunk

end
-- ==== Proof.MlstmBody.lean ====
/-
  What a grid point of the mLSTM writes: its head's chunk.
-/
module

public import proofs.«01_k».proof.Proof.MlstmChunk
public import proofs.«01_k».proof.Proof.Gen.MlstmIdeal.Value
public import Idealize.ShloMosaic.Lib.Pointwise

@[expose] public section

set_option maxRecDepth 16384

noncomputable section

namespace Cert.MlstmIdeal.Cell

open Cert.MlstmIdeal Cert.MlstmIdeal.Gen
open Cert.Chunk
open Idealize.ShloMosaic Idealize.ShloMosaic.TcCoe Idealize.ShloMosaic.Tactic

theorem sel_le (s t : Fin 128) (a b : EReal) : Scalar.select (IntOp.cmpi .sle (BitVec.ofNat 32 s.val) (BitVec.ofNat 32 t.val)) a b = if s.val ≤ t.val then a else b := by
  have h : ∀ s t : Fin 128, IntOp.cmpi .sle (BitVec.ofNat 32 s.val) (BitVec.ofNat 32 t.val) = if s.val ≤ t.val then 1#1 else 0#1 := by decide +kernel
  rw [h]
  split_ifs <;> rfl

theorem sel_lt (t : Fin 128) (a b : EReal) : Scalar.select (IntOp.cmpi .slt (BitVec.ofNat 32 t.val) 8#32) a b = if t.val < 8 then a else b := by
  have h : ∀ t : Fin 128, IntOp.cmpi .slt (BitVec.ofNat 32 t.val) 8#32 = if t.val < 8 then 1#1 else 0#1 := by decide +kernel
  rw [h]
  split_ifs <;> rfl

theorem sel_eq (s t : Fin 128) (a b : EReal) : Scalar.select (IntOp.cmpi .eq (BitVec.ofNat 32 s.val) (BitVec.ofNat 32 t.val)) a b = if s = t then a else b := by
  have h : ∀ s t : Fin 128, IntOp.cmpi .eq (BitVec.ofNat 32 s.val) (BitVec.ofNat 32 t.val) = if s = t then 1#1 else 0#1 := by decide +kernel
  rw [h]
  split_ifs <;> rfl

/-- The masked gates' constant. -/
theorem mask_bot : (Named.named (F := Ideal) κ "mask" (φ := .f32) 0xF149F2CA#32 : EReal) = ⊥ :=
  IdealRules.named_const.ideal_named_scalar _ _ _ _ rfl

/-- The logarithm of the logistic function as the call computes it. -/
def lg (z : EReal) : EReal := min z 0 - Ideal.log (1 + Ideal.exp (0 - FloatOps.absf (F := Ideal) (φ := .f32) z))

/-- A head's gates' lanes. -/
def laneI (i : grid0.Coords) : Fin 128 := ⟨(i 1).val, by have : (i 1).val < 4 := (i 1).isLt; omega⟩
def laneF (i : grid0.Coords) : Fin 128 := ⟨(i 1).val + 4, by have : (i 1).val < 4 := (i 1).isLt; omega⟩

/-- A head's input gates, −∞ past the sample's end. -/
def gi (i : grid0.Coords) (g : Vec Ideal S1x128x128 .f32) (t : Fin 128) : EReal := if t.val < 8 then g (ix3 0 t (laneI i)) else ⊥

/-- A head's log forget gates, zero past the sample's end. -/
def gx (i : grid0.Coords) (g : Vec Ideal S1x128x128 .f32) (t : Fin 128) : EReal := if t.val < 8 then lg (g (ix3 0 t (laneF i))) else 0

theorem pay14_apply (i : grid0.Coords) (g : Vec Ideal S1x128x128 .f32) (t : Fin 128) : k0_pay14 i g (ix2 t 0) = g (ix3 0 t (laneI i)) := by
  pointwise [k0_pay14, k0_pay12]
  refine (Finset.sum_congr rfl fun x _ => sel_eq x (laneI i) _ _).trans ?_
  rw [Finset.sum_ite_eq', if_pos (Finset.mem_univ _)]

theorem pay15_apply (i : grid0.Coords) (g : Vec Ideal S1x128x128 .f32) (t : Fin 128) : k0_pay15 i g (ix2 t 0) = g (ix3 0 t (laneF i)) := by
  pointwise [k0_pay15, k0_pay12]
  have h : Scalar.addi (BitVec.ofNat 32 (i 1).val) 4#32 = BitVec.ofNat 32 (laneF i).val := (BitVec.ofNat_add _ _).symm
  refine (Finset.sum_congr rfl fun x _ => (congrArg (fun w => Scalar.select (IntOp.cmpi .eq (BitVec.ofNat 32 x.val) w) _ _) h).trans (sel_eq x (laneF i) _ _)).trans ?_
  rw [Finset.sum_ite_eq', if_pos (Finset.mem_univ _)]

theorem pay18_apply (a : FVec Ideal S128x1 .f32) (t : Fin 128) : k0_pay18 a (ix2 t 0) = if t.val < 8 then a (ix2 t 0) else ⊥ := by
  pointwise [k0_pay18, k0_pay16]
  rw [sel_lt, mask_bot]

theorem pay19_apply (a : FVec Ideal S128x1 .f32) (t : Fin 128) : k0_pay19 a (ix2 t 0) = if t.val < 8 then lg (a (ix2 t 0)) else 0 := by
  pointwise [k0_pay19, k0_pay16]
  rw [sel_lt]
  rfl

theorem pay20_apply (a : Vec Ideal S1x128 .f32) (t : Fin 128) : k0_pay20 a (ix2 0 t) = if t.val < 8 then a (ix2 0 t) else ⊥ := by
  pointwise [k0_pay20, k0_pay17]
  rw [sel_lt, mask_bot]

theorem pay21_apply (a : Vec Ideal S1x128 .f32) (t : Fin 128) : k0_pay21 a (ix2 0 t) = if t.val < 8 then lg (a (ix2 0 t)) else 0 := by
  pointwise [k0_pay21, k0_pay17]
  rw [sel_lt]
  rfl

theorem pay23_apply (a : Vec Ideal S1x128 .f32) (s t : Fin 128) : k0_pay23 a (ix2 s t) = if t.val < 8 then lg (a (ix2 0 t)) else 0 := by
  refine Eq.trans ?_ (pay21_apply a t)
  pointwise [k0_pay23]

/-- The rows' and the lanes' numbers. -/
abbrev I0 : IVec S128x128 32 := iota .tc S128x128 32 [0] iota_S128x128_d0_w32
abbrev I1 : IVec S128x128 32 := iota .tc S128x128 32 [1] iota_S128x128_d1_w32

section
variable (i x : Fin 128 → EReal) (m : EReal) (v4 v10 v12 v76 : FVec Ideal S128x128 .f32) (v67 v69 v80 : FVec Ideal S128x1 .f32) (v71 v87 : FVec Ideal S1x128 .f32) (v89 v90 : FVec Ideal S1x1 .f32)
  (v110 : FVec Ideal S128x128 .f32) (v111 : FVec Ideal S1x128 .f32)
  (h67 : ∀ s, v67 (ix2 s 0) = i s) (h69 : ∀ s, v69 (ix2 s 0) = x s) (h71 : ∀ s, v71 (ix2 0 s) = i s) (h76 : ∀ t s, v76 (ix2 t s) = x s)
  (h80 : ∀ s, v80 (ix2 s 0) = cum x s) (h87 : ∀ s, v87 (ix2 0 s) = cum x s) (h89 : v89 (ix2 0 0) = whole x) (h90 : v90 (ix2 0 0) = m)

/-- The zero the call's masks select. -/
abbrev z0 : Ideal .f32 := Scalar.ofBits .f32 0x00000000#32

include h76 in
theorem pay24_apply (t : Fin 128) : k0_pay24 k0_pay22 z0 v76 (ix2 t 0) = cum x t := by
  pointwise [k0_pay24, k0_pay22, z0]
  exact Finset.sum_congr rfl fun s _ => (sel_le s t _ _).trans (by rw [h76])

include h69 in
theorem pay25_apply (t : Fin 128) : k0_pay25 I0 I1 v69 (ix2 0 t) = cum x t := by
  pointwise [k0_pay25, I0, I1]
  exact Finset.sum_congr rfl fun s _ => (sel_le s t _ _).trans (by rw [h69])

theorem sel22 (t s : Fin 128) (a b : EReal) : Scalar.select (k0_pay22 (ix2 t s)) a b = if s.val ≤ t.val then a else b := by
  refine Eq.trans ?_ (sel_le s t a b)
  pointwise [k0_pay22]

theorem neg_inf : Ideal.ofBits .f32 0xFF800000#32 = ⊥ := by simp [Ideal.ofBits, Ideal.ieee]

theorem pay27_raw (v58 v59 : IVec S128x128 32) (v74 : IVec S128x128 1) (c : Ideal .f32) (t s : Fin 128) : k0_pay27 v58 v59 v69 v71 v74 c v76 (ix2 t s)
    = Scalar.select (v74 (ix2 t s)) (k0_pay24 v74 c v76 (ix2 t 0) - k0_pay25 v58 v59 v69 (ix2 0 s) + v71 (ix2 0 s)) (Ideal.ofBits .f32 0xFF800000#32) := by
  pointwise [k0_pay27]

include h69 h71 h76 in
theorem pay27_apply (t s : Fin 128) : k0_pay27 I0 I1 v69 v71 k0_pay22 z0 v76 (ix2 t s) = dlog i x t s := by
  rw [pay27_raw, sel22, pay24_apply x v76 h76 t, pay25_apply x v69 h69 s, h71, neg_inf]
  rfl

theorem pay28_raw (v74 : IVec S128x128 1) (c : Ideal .f32) (t : Fin 128) : k0_pay28 v74 c v76 v90 (ix2 t 0) = k0_pay24 v74 c v76 (ix2 t 0) + v90 (ix2 0 0) := by
  pointwise [k0_pay28]

theorem pay29_raw (v58 v59 : IVec S128x128 32) (v74 : IVec S128x128 1) (c : Ideal .f32) (t : Fin 128) : k0_pay29 v58 v59 v69 v71 v74 c v76 v90 (ix2 t 0)
    = max (k0_pay28 v74 c v76 v90 (ix2 t 0)) (Finset.univ.fold max (Ideal.ofBits .f32 0xFF800000#32) fun s => k0_pay27 v58 v59 v69 v71 v74 c v76 (ix2 t s)) := by
  pointwise [k0_pay29]

include h69 h71 h76 h90 in
theorem pay29_apply (t : Fin 128) : k0_pay29 I0 I1 v69 v71 k0_pay22 z0 v76 v90 (ix2 t 0) = mt i x m t := by
  rw [pay29_raw, pay28_raw, pay24_apply x v76 h76 t, h90, neg_inf]
  simp only [pay27_apply i x v76 v69 v71 h69 h71 h76]
  rfl

theorem pay30_raw (v58 v59 : IVec S128x128 32) (v74 : IVec S128x128 1) (c : Ideal .f32) (t s : Fin 128) : k0_pay30 v4 v10 v58 v59 v69 v71 v74 c v76 v90 (ix2 t s)
    = (∑ d : Fin 128, v4 (ix2 t d) * v10 (ix2 s d)) * Ideal.exp (k0_pay27 v58 v59 v69 v71 v74 c v76 (ix2 t s) - k0_pay29 v58 v59 v69 v71 v74 c v76 v90 (ix2 t 0)) := by
  pointwise [k0_pay30]

include h69 h71 h76 h90 in
theorem pay30_apply (t s : Fin 128) : k0_pay30 v4 v10 I0 I1 v69 v71 k0_pay22 z0 v76 v90 (ix2 t s)
    = sc i x (fun t d => v4 (ix2 t d)) (fun s d => v10 (ix2 s d)) m t s := by
  rw [pay30_raw, pay27_apply i x v76 v69 v71 h69 h71 h76, pay29_apply i x m v76 v69 v71 v90 h69 h71 h76 h90]
  rfl

theorem pay31_raw (v58 v59 : IVec S128x128 32) (v74 : IVec S128x128 1) (c : Ideal .f32) (t : Fin 128) : k0_pay31 v58 v59 v69 v71 v74 c v76 v90 (ix2 t 0)
    = Ideal.exp (k0_pay28 v74 c v76 v90 (ix2 t 0) - k0_pay29 v58 v59 v69 v71 v74 c v76 v90 (ix2 t 0)) := by
  pointwise [k0_pay31]

include h69 h71 h76 h90 in
theorem pay31_apply (t : Fin 128) : k0_pay31 I0 I1 v69 v71 k0_pay22 z0 v76 v90 (ix2 t 0) = inter i x m t := by
  rw [pay31_raw, pay28_raw, pay24_apply x v76 h76 t, h90, pay29_apply i x m v76 v69 v71 v90 h69 h71 h76 h90]
  rfl

theorem pay32_raw (v58 v59 : IVec S128x128 32) (v74 : IVec S128x128 1) (c : Ideal .f32) (t e : Fin 128) : k0_pay32 v4 v10 v12 v58 v59 v69 v71 v74 c v76 v90 v110 (ix2 t e)
    = (∑ s : Fin 128, k0_pay30 v4 v10 v58 v59 v69 v71 v74 c v76 v90 (ix2 t s) * v12 (ix2 s e))
      + k0_pay31 v58 v59 v69 v71 v74 c v76 v90 (ix2 t 0) * ∑ d : Fin 128, v4 (ix2 t d) * v110 (ix2 e d) := by
  pointwise [k0_pay32]

include h69 h71 h76 h90 in
theorem pay32_apply (t e : Fin 128) : k0_pay32 v4 v10 v12 I0 I1 v69 v71 k0_pay22 z0 v76 v90 v110 (ix2 t e)
    = num i x (fun t d => v4 (ix2 t d)) (fun s d => v10 (ix2 s d)) (fun s e => v12 (ix2 s e)) (fun e d => v110 (ix2 e d)) m t e := by
  rw [pay32_raw, pay31_apply i x m v76 v69 v71 v90 h69 h71 h76 h90]
  simp only [pay30_apply i x m v4 v10 v76 v69 v71 v90 h69 h71 h76 h90]
  rfl

theorem pay34_raw (a : FVec Ideal S128x1 .f32) (b : FVec Ideal S128x128 .f32) (c : FVec Ideal S128x1 .f32) (d : FVec Ideal S128x128 .f32) (t e : Fin 128) :
    k0_pay34 a b c d (k0_pay33 v4 v111) (ix2 t e)
    = Ideal.div (d (ix2 t e)) (max (FloatOps.absf (F := Ideal) (φ := .f32) ((∑ s : Fin 128, b (ix2 t s)) + c (ix2 t 0) * ∑ d : Fin 128, v4 (ix2 t d) * v111 (ix2 0 d))) (Ideal.exp (-a (ix2 t 0)))) := by
  pointwise [k0_pay34, k0_pay33]
  rw [zero_sub]

include h69 h71 h76 h90 in
theorem pay34_apply (t e : Fin 128) : k0_pay34 (k0_pay29 I0 I1 v69 v71 k0_pay22 z0 v76 v90) (k0_pay30 v4 v10 I0 I1 v69 v71 k0_pay22 z0 v76 v90) (k0_pay31 I0 I1 v69 v71 k0_pay22 z0 v76 v90)
      (k0_pay32 v4 v10 v12 I0 I1 v69 v71 k0_pay22 z0 v76 v90 v110) (k0_pay33 v4 v111) (ix2 t e)
    = out i x (fun t d => v4 (ix2 t d)) (fun s d => v10 (ix2 s d)) (fun s e => v12 (ix2 s e)) (fun e d => v110 (ix2 e d)) (fun d => v111 (ix2 0 d)) m t e := by
  rw [pay34_raw, pay29_apply i x m v76 v69 v71 v90 h69 h71 h76 h90, pay31_apply i x m v76 v69 v71 v90 h69 h71 h76 h90, pay32_apply i x m v4 v10 v12 v76 v69 v71 v90 v110 h69 h71 h76 h90]
  simp only [pay30_apply i x m v4 v10 v76 v69 v71 v90 h69 h71 h76 h90]
  rfl

theorem pay26_apply (a : FVec Ideal S1x128 .f32) : k0_pay26 a (ix2 0 0) = ∑ s : Fin 128, a (ix2 0 s) := by
  pointwise [k0_pay26]

theorem pay42_apply (a : FVec Ideal S128x128 .f32) (b : Vec Ideal S1x1x128 .f32) (c : Vec Ideal S1x128x128 .bf16) (t e : Fin 128) :
    k0_pay42 a b c (ix2 t e) = gated (fun e => a (ix2 t e)) (fun e => b (ix3 0 0 e)) (fun e => c (ix3 0 t e)) e := by
  pointwise [k0_pay42]
  rw [zero_sub]
  rfl

include h71 h87 h89 h90 in
theorem pay35_apply : k0_pay35 v71 v87 v89 v90 (ix2 0 0) = mnew i x m := by
  pointwise [k0_pay35]
  rw [h89, h90, neg_inf]
  simp only [h87, h71]
  rfl

include h67 h71 h80 h87 h89 h90 in
theorem pay36_apply (s : Fin 128) : k0_pay36 v67 v71 v80 v87 v89 v90 (ix2 s 0) = w i x m s := by
  pointwise [k0_pay36]
  rw [pay35_apply i x m v71 v87 v89 v90 h71 h87 h89 h90, h89, h80, h67]
  rfl

include h71 h87 h89 h90 in
theorem pay37_apply : k0_pay37 v71 v87 v89 v90 (ix2 0 0) = keep i x m := by
  pointwise [k0_pay37]
  rw [pay35_apply i x m v71 v87 v89 v90 h71 h87 h89 h90, h89, h90]
  rfl

include h67 h71 h80 h87 h89 h90 in
theorem pay38_apply (e d : Fin 128) : k0_pay38 v10 v12 v67 v71 v80 v87 v89 v90 v110 (ix2 e d)
    = Cnew i x (fun s d => v10 (ix2 s d)) (fun s e => v12 (ix2 s e)) (fun e d => v110 (ix2 e d)) m e d := by
  pointwise [k0_pay38]
  rw [pay37_apply i x m v71 v87 v89 v90 h71 h87 h89 h90]
  unfold Cnew
  simp only [pay36_apply i x m v67 v80 v71 v87 v89 v90 h67 h71 h80 h87 h89 h90]

include h67 h71 h80 h87 h89 h90 in
theorem pay39_apply (d : Fin 128) : k0_pay39 v10 v67 v71 v80 v87 v89 v90 v111 (ix2 0 d)
    = nnew i x (fun s d => v10 (ix2 s d)) (fun d => v111 (ix2 0 d)) m d := by
  pointwise [k0_pay39]
  rw [pay37_apply i x m v71 v87 v89 v90 h71 h87 h89 h90]
  unfold nnew
  simp only [pay36_apply i x m v67 v80 v71 v87 v89 v90 h67 h71 h80 h87 h89 h90]

end

end Cert.MlstmIdeal.Cell

end
-- ==== Proof.MlstmRun.lean ====
/-
  What a grid point of the mLSTM writes, each of its four blocks, from its input blocks.
-/
module

public import proofs.«01_k».proof.Proof.MlstmBody

@[expose] public section

set_option maxRecDepth 16384

noncomputable section

namespace Cert.MlstmIdeal.Cell

open Cert.MlstmIdeal Cert.MlstmIdeal.Gen Cert.Chunk
open Idealize.ShloMosaic Idealize.ShloMosaic.TcCoe Idealize.ShloMosaic.Tactic

variable (c : Dev nD) (i : grid0.Coords) (arg3 : Memref sig .tc .vmem S1x128x128 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1x128x128 .f32) (harg7 : arg7.IsWhole) (arg8 : Memref sig .tc .vmem S1x1x128x128 .f32) (harg8 : arg8.IsWhole) (arg9 : Memref sig .tc .vmem S1x1x1x128 .f32) (harg9 : arg9.IsWhole) (arg10 : Memref sig .tc .vmem S1x1x1x128 .f32) (harg10 : arg10.IsWhole) (arg11 : Memref sig .tc .vmem S1x1x128 .f32) (harg11 : arg11.IsWhole) (arg12 : Memref sig .tc .vmem S1x128x128 .bf16) (harg12 : arg12.IsWhole) (arg13 : Memref sig .tc .vmem S1x1x128x128 .f32) (harg13 : arg13.IsWhole) (arg14 : Memref sig .tc .vmem S1x1x1x128 .f32) (harg14 : arg14.IsWhole) (arg15 : Memref sig .tc .vmem S1x1x1x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S128x128 .f32) (harg19 : arg19.IsWhole) (hc0 : cond0_0 i) (hc1 : cond0_1 i)
  (x0 : Vec Ideal S1x128x128 .bf16) (x1 : Vec Ideal S1x128x128 .bf16) (x2 : Vec Ideal S1x128x128 .bf16) (x3 : Vec Ideal S1x128x128 .bf16) (x4 : Vec Ideal S1x128x128 .f32) (x5 : Vec Ideal S1x1x128x128 .f32) (x6 : Vec Ideal S1x1x1x128 .f32) (x7 : Vec Ideal S1x1x1x128 .f32) (x8 : Vec Ideal S1x1x128 .f32)

theorem h2 : (![0, 0] : Fin 2 → ℕ) = fun _ => 0 := by funext a; fin_cases a <;> rfl
theorem h3 : (![0, 0, 0] : Fin 3 → ℕ) = fun _ => 0 := by funext a; fin_cases a <;> rfl
theorem h4 : (![0, 0, 0, 0] : Fin 4 → ℕ) = fun _ => 0 := by funext a; fin_cases a <;> rfl

/-- The scaled keys. -/
def kc (x : Vec Ideal S1x128x128 .bf16) (s d : Fin 128) : EReal := x (ix3 0 s d) * Ideal.ofBits .f32 0x3DB504F3#32

/-- A row of the transposed gates. -/
theorem row_read (off : Fin 2 → ℕ) (h : ∀ a, off a + S1x128.size a ≤ S128x128.size a) (l : Fin 128) (e0 : off 0 = l.val) (e1 : off 1 = 0) (t : Fin 128) :
    View.readAt (Elt Ideal) arg19.view (Rect.unit (s := S128x128) off S1x128.size h).toLoadRect (arg19.view.writes (Elt Ideal) arg19.view.junk (kernelRun0_A.sl.HS3_1 (F := Ideal) c arg7 harg7 x4)) (ix2 0 t)
      = x4 (ix3 0 t l) := by
  unfold kernelRun0_A.sl.HS3_1
  rw [View.readAt_writes_junk_eq_canon, View.canon_unit_zero h2, View.readAt_eq_ld, harg7.read_unread, View.ld_unit_zero h3]
  have e : (Rect.unit (s := S128x128) off S1x128.size h).toLoadRect.idx (ix2 0 t) = ix2 l t := by
    funext b
    refine Fin.ext ?_
    fin_cases b <;> simp [Rect.toLoadRect, Rect.unit, LoadRect.idx, e0, e1]
  show k0_pay13 x4 _ = _
  rw [e]
  pointwise [k0_pay13, k0_pay12]

theorem r6_apply (t : Fin 128) : kernelRun0_A.sl.r_6 (F := Ideal) c i arg7 harg7 x4 (ix2 t 0) = gi i x4 t := by
  unfold kernelRun0_A.sl.r_6 kernelRun0_A.sl.r_4
  rw [pay18_apply, pay14_apply, View.readAt_eq_ld, harg7.read_unread, View.ld_unit_zero h3]
  rfl

theorem r7_apply (t : Fin 128) : kernelRun0_A.sl.r_7 (F := Ideal) c i arg7 harg7 x4 (ix2 t 0) = gx i x4 t := by
  unfold kernelRun0_A.sl.r_7 kernelRun0_A.sl.r_5
  rw [pay19_apply, pay15_apply, View.readAt_eq_ld, harg7.read_unread, View.ld_unit_zero h3]
  rfl

theorem r8_apply (t : Fin 128) : kernelRun0_A.sl.r_8 (F := Ideal) c i arg7 harg7 arg19 x4 (ix2 0 t) = gi i x4 t := by
  unfold kernelRun0_A.sl.r_8
  rw [pay20_apply, row_read c arg7 harg7 arg19 x4 (k0_off1 i) _ (laneI i) (congrFun (k0_off1_eq i) 0) (congrFun (k0_off1_eq i) 1)]
  rfl

theorem r9_apply (t : Fin 128) : kernelRun0_A.sl.r_9 (F := Ideal) c i arg7 harg7 arg19 x4 (ix2 0 t) = gx i x4 t := by
  unfold kernelRun0_A.sl.r_9
  rw [pay21_apply, row_read c arg7 harg7 arg19 x4 (k0_off2 i) _ (laneF i) (congrFun (k0_off2_eq i) 0) (congrFun (k0_off2_eq i) 1)]
  rfl

theorem r10_apply (s t : Fin 128) : kernelRun0_A.sl.r_10 (F := Ideal) c i arg7 harg7 arg19 x4 (ix2 s t) = gx i x4 t := by
  unfold kernelRun0_A.sl.r_10
  rw [pay23_apply, row_read c arg7 harg7 arg19 x4 (k0_off2 i) _ (laneF i) (congrFun (k0_off2_eq i) 0) (congrFun (k0_off2_eq i) 1)]
  rfl

theorem r11_apply (t : Fin 128) : kernelRun0_A.sl.r_11 (F := Ideal) c i arg7 harg7 arg19 x4 (ix2 t 0) = cum (gx i x4) t :=
  pay24_apply (gx i x4) _ (r10_apply c i arg7 harg7 arg19 x4) t

theorem r12_apply (t : Fin 128) : kernelRun0_A.sl.r_12 (F := Ideal) c i arg7 harg7 x4 (ix2 0 t) = cum (gx i x4) t :=
  pay25_apply (gx i x4) _ (r7_apply c i arg7 harg7 x4) t

theorem r13_apply : kernelRun0_A.sl.r_13 (F := Ideal) c i arg7 harg7 arg19 x4 (ix2 0 0) = whole (gx i x4) := by
  unfold kernelRun0_A.sl.r_13
  rw [pay26_apply]
  exact Finset.sum_congr rfl fun s _ => r9_apply c i arg7 harg7 arg19 x4 s

theorem v90_apply : kernelRun0_A.sl.v90 (F := Ideal) c arg10 harg10 arg18 x7 (ix2 0 0) = x7 (ix4 0 0 0 0) := by
  unfold kernelRun0_A.sl.v90 kernelRun0_A.sl.HS2_1
  rw [View.readCov_eq_canon', View.canon_unit_zero h2, View.readAt_eq_ld, harg10.read_unread, View.ld_unit_zero h4]
  have e : (Rect.unit (s := S1x128) ![0, 0] S1x1.size inb_S1x128_S1x1_0_0).toLoadRect.idx (ix2 0 0) = ix2 0 0 := by
    funext b
    fin_cases b <;> rfl
  show k0_pay7 x7 _ = _
  rw [e]
  pointwise [k0_pay7]

theorem v110_apply (e d : Fin 128) : kernelRun0_A.sl.v110 (F := Ideal) c arg8 harg8 arg16 x5 (ix2 e d) = x5 (ix4 0 0 e d) := by
  unfold kernelRun0_A.sl.v110 kernelRun0_A.sl.HS0_1
  rw [View.readCov_cons_toLoadRect, View.readAt_eq_ld, harg8.read_unread, View.ld_unit_zero h4]
  pointwise [k0_pay5]

theorem v111_apply (d : Fin 128) : kernelRun0_A.sl.v111 (F := Ideal) c arg9 harg9 arg17 x6 (ix2 0 d) = x6 (ix4 0 0 0 d) := by
  unfold kernelRun0_A.sl.v111 kernelRun0_A.sl.HS1_1
  rw [View.readCov_cons_toLoadRect, View.readAt_eq_ld, harg9.read_unread, View.ld_unit_zero h4]
  pointwise [k0_pay6]

theorem r_apply (t d : Fin 128) : kernelRun0_A.sl.r (F := Ideal) c arg3 harg3 x0 (ix2 t d) = x0 (ix3 0 t d) := by
  unfold kernelRun0_A.sl.r
  rw [View.readAt_eq_ld, harg3.read_unread, View.ld_unit_zero h3]
  pointwise [k0_pay8]

theorem r1_apply (t d : Fin 128) : kernelRun0_A.sl.r_1 (F := Ideal) c arg4 harg4 x1 (ix2 t d) = kc x1 t d := by
  unfold kernelRun0_A.sl.r_1
  rw [View.readAt_eq_ld, harg4.read_unread, View.ld_unit_zero h3]
  pointwise [k0_pay9]
  rfl

theorem r2_apply (t d : Fin 128) : kernelRun0_A.sl.r_2 (F := Ideal) c arg4 harg4 x1 (ix2 t d) = kc x1 t d := by
  unfold kernelRun0_A.sl.r_2
  rw [View.readAt_eq_ld, harg4.read_unread, View.ld_unit_zero h3]
  pointwise [k0_pay9, k0_pay10]
  rfl

theorem r3_apply (t d : Fin 128) : kernelRun0_A.sl.r_3 (F := Ideal) c arg5 harg5 x2 (ix2 t d) = x2 (ix3 0 t d) := by
  unfold kernelRun0_A.sl.r_3
  rw [View.readAt_eq_ld, harg5.read_unread, View.ld_unit_zero h3]
  pointwise [k0_pay11]

/-- The state's block. -/
theorem out10_apply (e d : Fin 128) : out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 (ix4 0 0 e d)
    = Cnew (gi i x4) (gx i x4) (kc x1) (fun s e => x2 (ix3 0 s e)) (fun e d => x5 (ix4 0 0 e d)) (x7 (ix4 0 0 0 0)) e d := by
  unfold out0_A_10 kernelRun0_A
  dsimp only
  rw [View.read_writes_junk_eq_canon, View.canon_unit_zero h4]
  have e1 : ∀ a : Vec Ideal S128x128 .f32, k0_pay2 a (ix4 0 0 e d) = a (ix2 e d) := fun a => by pointwise [k0_pay2]
  rw [e1]
  unfold kernelRun0_A.sl.v217 kernelRun0_A.sl.HS0_2
  rw [View.readCov_cons_toLoadRect]
  refine (pay38_apply (gi i x4) (gx i x4) (x7 (ix4 0 0 0 0)) _ _ _ _ _ _ _ _ _ (r6_apply c i arg7 harg7 x4) (r8_apply c i arg7 harg7 arg19 x4) (r11_apply c i arg7 harg7 arg19 x4)
    (r12_apply c i arg7 harg7 x4) (r13_apply c i arg7 harg7 arg19 x4) (v90_apply c arg10 harg10 arg18 x7) e d).trans ?_
  simp only [r2_apply, r3_apply, v110_apply]

/-- The normalizer's block. -/
theorem out11_apply (d : Fin 128) : out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 (ix4 0 0 0 d)
    = nnew (gi i x4) (gx i x4) (kc x1) (fun d => x6 (ix4 0 0 0 d)) (x7 (ix4 0 0 0 0)) d := by
  unfold out0_A_11 kernelRun0_A
  dsimp only
  rw [View.read_writes_junk_eq_canon, View.canon_unit_zero h4]
  have e1 : ∀ a : Vec Ideal S1x128 .f32, k0_pay3 a (ix4 0 0 0 d) = a (ix2 0 d) := fun a => by pointwise [k0_pay3]
  rw [e1]
  unfold kernelRun0_A.sl.v221 kernelRun0_A.sl.HS1_2
  rw [View.readCov_cons_toLoadRect]
  have e2 : ∀ a : FVec Ideal S1x128 .f32, k0_pay40 a (ix2 0 d) = a (ix2 0 d) := fun a => by pointwise [k0_pay40]
  rw [e2]
  unfold kernelRun0_A.sl.r_21
  refine (pay39_apply (gi i x4) (gx i x4) (x7 (ix4 0 0 0 0)) _ _ _ _ _ _ _ _ (r6_apply c i arg7 harg7 x4) (r8_apply c i arg7 harg7 arg19 x4) (r11_apply c i arg7 harg7 arg19 x4)
    (r12_apply c i arg7 harg7 x4) (r13_apply c i arg7 harg7 arg19 x4) (v90_apply c arg10 harg10 arg18 x7) d).trans ?_
  simp only [r1_apply, v111_apply]

/-- The stabilizer's block. -/
theorem out12_apply (d : Fin 128) : out0_A_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 (ix4 0 0 0 d)
    = mnew (gi i x4) (gx i x4) (x7 (ix4 0 0 0 0)) := by
  unfold out0_A_12 kernelRun0_A
  dsimp only
  rw [View.read_writes_junk_eq_canon, View.canon_unit_zero h4]
  have e1 : ∀ a : Vec Ideal S1x128 .f32, k0_pay4 a (ix4 0 0 0 d) = a (ix2 0 d) := fun a => by pointwise [k0_pay4]
  rw [e1]
  unfold kernelRun0_A.sl.v225 kernelRun0_A.sl.HS2_2
  rw [View.readCov_cons_toLoadRect]
  have e2 : ∀ a : FVec Ideal S1x1 .f32, k0_pay41 a (ix2 0 d) = a (ix2 0 0) := fun a => by pointwise [k0_pay41]
  rw [e2]
  unfold kernelRun0_A.sl.r_20
  exact pay35_apply (gi i x4) (gx i x4) (x7 (ix4 0 0 0 0)) _ _ _ _ (r8_apply c i arg7 harg7 arg19 x4)
    (r12_apply c i arg7 harg7 x4) (r13_apply c i arg7 harg7 arg19 x4) (v90_apply c arg10 harg10 arg18 x7)

/-- The result's block. -/
theorem out9_apply (t e : Fin 128) : out0_A_9 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 (ix3 0 t e)
    = gated (out (gi i x4) (gx i x4) (fun t d => x0 (ix3 0 t d)) (kc x1) (fun s e => x2 (ix3 0 s e)) (fun e d => x5 (ix4 0 0 e d)) (fun d => x6 (ix4 0 0 0 d)) (x7 (ix4 0 0 0 0)) t)
        (fun e => x8 (ix3 0 0 e)) (fun e => x3 (ix3 0 t e)) e := by
  unfold out0_A_9 kernelRun0_A
  dsimp only
  rw [View.read_writes_junk_eq_canon, View.canon_unit_zero h3]
  have e1 : ∀ a : FVec Ideal S128x128 .bf16, k0_pay1 a (ix3 0 t e) = a (ix2 t e) := fun a => by pointwise [k0_pay1]
  rw [e1]
  unfold kernelRun0_A.sl.r_22
  rw [pay42_apply, View.readAt_eq_ld, harg11.read_unread, View.ld_unit_zero h3, View.readAt_eq_ld, harg6.read_unread, View.ld_unit_zero h3]
  refine congrArg (fun h => gated h _ _ e) (funext fun e => ?_)
  unfold kernelRun0_A.sl.r_19 kernelRun0_A.sl.r_14 kernelRun0_A.sl.r_15 kernelRun0_A.sl.r_16
  refine (pay34_apply (gi i x4) (gx i x4) (x7 (ix4 0 0 0 0)) (kernelRun0_A.sl.r (F := Ideal) c arg3 harg3 x0) (kernelRun0_A.sl.r_2 (F := Ideal) c arg4 harg4 x1) (kernelRun0_A.sl.r_3 (F := Ideal) c arg5 harg5 x2) _ _ _ _
    (kernelRun0_A.sl.v110 (F := Ideal) c arg8 harg8 arg16 x5) (kernelRun0_A.sl.v111 (F := Ideal) c arg9 harg9 arg17 x6) (r7_apply c i arg7 harg7 x4) (r8_apply c i arg7 harg7 arg19 x4) (r10_apply c i arg7 harg7 arg19 x4) (v90_apply c arg10 harg10 arg18 x7) t e).trans ?_
  simp only [r_apply, r2_apply, r3_apply, v110_apply, v111_apply]

end Cert.MlstmIdeal.Cell

end
-- ==== Proof.MlstmValue.lean ====
/-
  The sample's mLSTM call: its four result arrays over the extended reals.
-/
module

public import proofs.«01_k».proof.Proof.MlstmRun
public import Idealize.ShloMosaic.Lib.StableHlo.Run

@[expose] public section

set_option maxRecDepth 16384

noncomputable section

namespace Cert.MlstmIdeal.Result

open Cert.MlstmIdeal Cert.MlstmIdeal.Gen Cert.MlstmIdeal.Cell Cert.Chunk Idealize.ShloMosaic Idealize.ShloMosaic.TcCoe Idealize.SL.Sem Idealize.ShloMosaic.StableHlo

/-- The index maps in closed form. -/
theorem maps : ∀ t : Fin grid0.N,
    ((grid0.coords t 1).val = t.val % 4)
    ∧ (cc0_transform_0 (grid0.coords t) 0 = t.val / 4 ∧ cc0_transform_0 (grid0.coords t) 1 = 0 ∧ cc0_transform_0 (grid0.coords t) 2 = t.val % 4)
    ∧ (cc0_transform_1 (grid0.coords t) 0 = t.val / 4 ∧ cc0_transform_1 (grid0.coords t) 1 = 0 ∧ cc0_transform_1 (grid0.coords t) 2 = 4 + t.val % 4)
    ∧ (cc0_transform_2 (grid0.coords t) 0 = t.val / 4 ∧ cc0_transform_2 (grid0.coords t) 1 = 0 ∧ cc0_transform_2 (grid0.coords t) 2 = 8 + t.val % 4)
    ∧ (cc0_transform_3 (grid0.coords t) 0 = t.val / 4 ∧ cc0_transform_3 (grid0.coords t) 1 = 0 ∧ cc0_transform_3 (grid0.coords t) 2 = 12 + t.val % 4)
    ∧ (cc0_transform_4 (grid0.coords t) 0 = t.val / 4 ∧ cc0_transform_4 (grid0.coords t) 1 = 0 ∧ cc0_transform_4 (grid0.coords t) 2 = 0)
    ∧ (cc0_transform_8 (grid0.coords t) 0 = t.val % 4 ∧ cc0_transform_8 (grid0.coords t) 1 = 0 ∧ cc0_transform_8 (grid0.coords t) 2 = 0)
    ∧ (cc0_transform_9 (grid0.coords t) 0 = t.val / 4 ∧ cc0_transform_9 (grid0.coords t) 1 = 0 ∧ cc0_transform_9 (grid0.coords t) 2 = t.val % 4) := by decide +kernel
theorem maps' : ∀ t : Fin grid0.N,
    (cc0_transform_5 (grid0.coords t) = ![t.val / 4, t.val % 4, 0, 0]) ∧ (cc0_transform_6 (grid0.coords t) = ![t.val / 4, t.val % 4, 0, 0]) ∧ (cc0_transform_7 (grid0.coords t) = ![t.val / 4, t.val % 4, 0, 0])
    ∧ (cc0_transform_10 (grid0.coords t) = ![t.val / 4, t.val % 4, 0, 0]) ∧ (cc0_transform_11 (grid0.coords t) = ![t.val / 4, t.val % 4, 0, 0]) ∧ (cc0_transform_12 (grid0.coords t) = ![t.val / 4, t.val % 4, 0, 0]) := by decide +kernel

variable (m : (ℓ : Loc nD τ sig) → Buf (Elt Ideal) ℓ) (c : Dev nD) (t : Fin cfg0.N)

theorem t_lt : t.val < 128 := lt_of_lt_of_eq t.isLt (show cfg0.N = 128 from N_0)

/-- The arguments as launched. -/
abbrev A0 : Vec Ideal S32x8x4x128 .f32 := m ((c : Thread nD τ).loc main_arg0)
abbrev A1 : Vec Ideal S32x8x4x128 .f32 := m ((c : Thread nD τ).loc main_arg1)
abbrev A2 : Vec Ideal S32x8x4x128 .f32 := m ((c : Thread nD τ).loc main_arg2)
abbrev A3 : Vec Ideal S32x8x512 .f32 := m ((c : Thread nD τ).loc main_arg3)
abbrev A4 : Vec Ideal S32x8x8 .f32 := m ((c : Thread nD τ).loc main_arg4)
abbrev A5 : Vec Ideal S32x4x128x128 .f32 := m ((c : Thread nD τ).loc main_arg5)
abbrev A6 : Vec Ideal S32x4x128 .f32 := m ((c : Thread nD τ).loc main_arg6)
abbrev A7 : Vec Ideal S32x4 .f32 := m ((c : Thread nD τ).loc main_arg7)
abbrev A8 : Vec Ideal S512 .f32 := m ((c : Thread nD τ).loc main_arg8)

theorem fzero : (FloatOps.sitofp (F := Ideal) (w := 32) .f32 0#32 : EReal) = 0 := by
  show (((0#32 : BitVec 32).toInt : ℝ) : EReal) = 0
  simp

/-- The gates behind zeros. -/
theorem V_g (b : Fin 32) (n k : Fin 128) : (V m c main_v6 : Vec Ideal S32x128x128 .f32) (ix3 b n k)
    = if h : n.val < 8 ∧ k.val < 8 then A4 m c (ix3 b ⟨n.val, h.1⟩ ⟨k.val, h.2⟩) else 0 := by
  unfold V
  simp only [List.flatten_cons, List.flatten_nil, List.append_nil, List.cons_append, List.nil_append, TRef.binary, TRef.unary, TRef.ternary, TRef.toBuf, TRef.ofBuf, cast_eq]
  after_results_simp
  pointwise
  rw [fzero]

/-- Four heads side by side. -/
abbrev flat (x : Vec Ideal S32x8x4x128 .f32) (b : Fin 32) (n : Fin 8) (e : Fin 512) : EReal := x (ix4 b n ⟨e.val / 128, by omega⟩ ⟨e.val % 128, by omega⟩)

/-- The queries, keys, values and gates of the result side by side, zeros past the sample's end. -/
theorem V_u (b : Fin 32) (n : Fin 128) (k : Fin 2048) : (V m c main_v5 : Vec Ideal S32x128x2048 .bf16) (ix3 b n k)
    = if h : n.val < 8 then
        if h1 : k.val < 512 then flat (A0 m c) b ⟨n.val, h⟩ ⟨k.val, h1⟩ else if h2 : k.val < 1024 then flat (A1 m c) b ⟨n.val, h⟩ ⟨k.val - 512, by omega⟩
        else if h3 : k.val < 1536 then flat (A2 m c) b ⟨n.val, h⟩ ⟨k.val - 1024, by omega⟩ else A3 m c (ix3 b ⟨n.val, h⟩ ⟨k.val - 1536, by omega⟩)
      else 0 := by
  unfold V
  simp only [List.flatten_cons, List.flatten_nil, List.append_nil, List.cons_append, List.nil_append, TRef.binary, TRef.unary, TRef.ternary, TRef.toBuf, TRef.ofBuf, cast_eq]
  after_results_simp
  pointwise
  after_results_simp
  have cast : ∀ (x : Vec Ideal S32x8x4x128 .f32) (n : Fin 8) (e : Fin 512), (shapeCast S32x8x512 x shapeCasts_S32x8x4x128_S32x8x512 : FVec Ideal S32x8x512 .f32) (ix3 b n e) = flat x b n e := by
    intro x n e
    pointwise
  by_cases h : n.val < 8
  swap
  · rw [dif_neg h, dif_neg h]
    exact fzero
  rw [dif_pos h, dif_pos h]
  by_cases h1 : k.val < 512
  · rw [dif_pos h1, dif_pos h1]
    exact cast _ _ _
  rw [dif_neg h1, dif_neg h1]
  by_cases h2 : k.val < 1024
  · rw [dif_pos (show k.val - 512 < 512 by omega), dif_pos h2]
    exact cast _ _ _
  rw [dif_neg (show ¬ k.val - 512 < 512 by omega), dif_neg h2]
  by_cases h3 : k.val < 1536
  · rw [dif_pos (show k.val - 512 - 512 < 512 by omega), dif_pos h3]
    exact (cast _ _ _).trans (congrArg (flat (A2 m c) b ⟨n.val, h⟩) (Fin.ext (by dsimp only; omega)))
  · rw [dif_neg (show ¬ k.val - 512 - 512 < 512 by omega), dif_neg h3]
    exact congrArg (fun e => A3 m c (ix3 b ⟨n.val, h⟩ e)) (Fin.ext (by dsimp only; omega))

/-- A head's token, zero past the sample's end. -/
def row (x : Vec Ideal S32x8x4x128 .f32) (b : Fin 32) (h : Fin 4) (n d : Fin 128) : EReal := if hn : n.val < 8 then x (ix4 b ⟨n.val, hn⟩ h d) else 0

/-- … scaled. -/
def krow (x : Vec Ideal S32x8x4x128 .f32) (b : Fin 32) (h : Fin 4) (n d : Fin 128) : EReal := row x b h n d * Ideal.ofBits .f32 0x3DB504F3#32

/-- A head's gates of the result. -/
def orow (x : Vec Ideal S32x8x512 .f32) (b : Fin 32) (h : Fin 4) (n d : Fin 128) : EReal :=
  if hn : n.val < 8 then x (ix3 b ⟨n.val, hn⟩ ⟨h.val * 128 + d.val, by omega⟩) else 0

/-- A head's input gates and log forget gates. -/
def ig (g : Vec Ideal S32x8x8 .f32) (b : Fin 32) (h : Fin 4) (n : Fin 128) : EReal := if hn : n.val < 8 then g (ix3 b ⟨n.val, hn⟩ ⟨h.val, by omega⟩) else ⊥
def fg (g : Vec Ideal S32x8x8 .f32) (b : Fin 32) (h : Fin 4) (n : Fin 128) : EReal := if hn : n.val < 8 then lg (g (ix3 b ⟨n.val, hn⟩ ⟨h.val + 4, by omega⟩)) else 0

abbrev wrow (w : Vec Ideal S512 .f32) (h : Fin 4) (e : Fin 128) : EReal := w (ix1 ⟨h.val * 128 + e.val, by omega⟩)

/-- The results. -/
def total9 (q k v : Vec Ideal S32x8x4x128 .f32) (o : Vec Ideal S32x8x512 .f32) (g : Vec Ideal S32x8x8 .f32) (C0 : Vec Ideal S32x4x128x128 .f32) (n0 : Vec Ideal S32x4x128 .f32) (m0 : Vec Ideal S32x4 .f32) (w : Vec Ideal S512 .f32)
    (b : Fin 32) (n : Fin 128) (h : Fin 4) (e : Fin 128) : EReal :=
  gated (out (ig g b h) (fg g b h) (row q b h) (krow k b h) (row v b h) (fun e d => C0 (ix4 b h e d)) (fun d => n0 (ix3 b h d)) (m0 (ix2 b h)) n) (wrow w h) (orow o b h n) e
def total10 (k v : Vec Ideal S32x8x4x128 .f32) (g : Vec Ideal S32x8x8 .f32) (C0 : Vec Ideal S32x4x128x128 .f32) (m0 : Vec Ideal S32x4 .f32) : FVec Ideal S32x4x128x128 .f32 := fun i =>
  Cnew (ig g (i 0) (i 1)) (fg g (i 0) (i 1)) (krow k (i 0) (i 1)) (row v (i 0) (i 1)) (fun e d => C0 (ix4 (i 0) (i 1) e d)) (m0 (ix2 (i 0) (i 1))) (i 2) (i 3)
def total11 (k : Vec Ideal S32x8x4x128 .f32) (g : Vec Ideal S32x8x8 .f32) (n0 : Vec Ideal S32x4x128 .f32) (m0 : Vec Ideal S32x4 .f32) : FVec Ideal S32x4x1x128 .f32 := fun i =>
  nnew (ig g (i 0) (i 1)) (fg g (i 0) (i 1)) (krow k (i 0) (i 1)) (fun d => n0 (ix3 (i 0) (i 1) d)) (m0 (ix2 (i 0) (i 1))) (i 3)
def total12 (g : Vec Ideal S32x8x8 .f32) (m0 : Vec Ideal S32x4 .f32) : FVec Ideal S32x4x1x128 .f32 := fun i =>
  mnew (ig g (i 0) (i 1)) (fg g (i 0) (i 1)) (m0 (ix2 (i 0) (i 1)))

def flat9 (q k v : Vec Ideal S32x8x4x128 .f32) (o : Vec Ideal S32x8x512 .f32) (g : Vec Ideal S32x8x8 .f32) (C0 : Vec Ideal S32x4x128x128 .f32) (n0 : Vec Ideal S32x4x128 .f32) (m0 : Vec Ideal S32x4 .f32) (w : Vec Ideal S512 .f32) : FVec Ideal S32x128x512 .bf16 := fun i =>
  total9 q k v o g C0 n0 m0 w (i 0) (i 1) ⟨(i 2 : Fin 512).val / 128, Nat.div_lt_of_lt_mul (i 2 : Fin 512).isLt⟩ ⟨(i 2 : Fin 512).val % 128, Nat.mod_lt _ (by decide)⟩

/-- A point's batch and head. -/
abbrev bAt : Fin 32 := ⟨t.val / 4, by have := t_lt t; omega⟩
abbrev hAt : Fin 4 := ⟨t.val % 4, by omega⟩

theorem val0 (n d : Fin 128) : (iblk m c 0 t : Vec Ideal S1x128x128 .bf16) (ix3 0 n d) = row (A0 m c) (bAt t) (hAt t) n d := by
  have e : (iblk m c 0 t : Vec Ideal S1x128x128 .bf16) (ix3 0 n d) = (V m c main_v5 : Vec Ideal S32x128x2048 .bf16) (ix3 (bAt t) n ⟨(t.val % 4) * 128 + d.val, by omega⟩) := by
    unfold iblk
    refine (View.read_apply _ _).trans ?_
    show V m c main_v5 _ = V m c main_v5 _
    congr 1
    funext a
    apply Fin.ext
    match a with
    | ⟨0, _⟩ => show cc0_transform_0 (grid0.coords t) 0 * 1 + 1 * 0 = t.val / 4; rw [(maps t).2.1.1]; omega
    | ⟨1, _⟩ => show cc0_transform_0 (grid0.coords t) 1 * 128 + 1 * n.val = n.val; rw [(maps t).2.1.2.1]; omega
    | ⟨2, _⟩ => show cc0_transform_0 (grid0.coords t) 2 * 128 + 1 * d.val = (t.val % 4) * 128 + d.val; rw [(maps t).2.1.2.2]; omega
  rw [e, V_u]
  unfold row
  by_cases hn : n.val < 8
  · rw [dif_pos hn, dif_pos hn, dif_pos (by dsimp only; omega)]
    exact congrArg₂ (fun e f => A0 m c (ix4 (bAt t) ⟨n.val, hn⟩ e f)) (Fin.ext (by dsimp only; omega)) (Fin.ext (by dsimp only; omega))
  · rw [dif_neg hn, dif_neg hn]

theorem val1 (n d : Fin 128) : (iblk m c 1 t : Vec Ideal S1x128x128 .bf16) (ix3 0 n d) = row (A1 m c) (bAt t) (hAt t) n d := by
  have e : (iblk m c 1 t : Vec Ideal S1x128x128 .bf16) (ix3 0 n d) = (V m c main_v5 : Vec Ideal S32x128x2048 .bf16) (ix3 (bAt t) n ⟨(4 + t.val % 4) * 128 + d.val, by omega⟩) := by
    unfold iblk
    refine (View.read_apply _ _).trans ?_
    show V m c main_v5 _ = V m c main_v5 _
    congr 1
    funext a
    apply Fin.ext
    match a with
    | ⟨0, _⟩ => show cc0_transform_1 (grid0.coords t) 0 * 1 + 1 * 0 = t.val / 4; rw [(maps t).2.2.1.1]; omega
    | ⟨1, _⟩ => show cc0_transform_1 (grid0.coords t) 1 * 128 + 1 * n.val = n.val; rw [(maps t).2.2.1.2.1]; omega
    | ⟨2, _⟩ => show cc0_transform_1 (grid0.coords t) 2 * 128 + 1 * d.val = (4 + t.val % 4) * 128 + d.val; rw [(maps t).2.2.1.2.2]; omega
  rw [e, V_u]
  unfold row
  by_cases hn : n.val < 8
  · rw [dif_pos hn, dif_pos hn, dif_neg (by dsimp only; omega), dif_pos (by dsimp only; omega)]
    exact congrArg₂ (fun e f => A1 m c (ix4 (bAt t) ⟨n.val, hn⟩ e f)) (Fin.ext (by dsimp only; omega)) (Fin.ext (by dsimp only; omega))
  · rw [dif_neg hn, dif_neg hn]

theorem val2 (n d : Fin 128) : (iblk m c 2 t : Vec Ideal S1x128x128 .bf16) (ix3 0 n d) = row (A2 m c) (bAt t) (hAt t) n d := by
  have e : (iblk m c 2 t : Vec Ideal S1x128x128 .bf16) (ix3 0 n d) = (V m c main_v5 : Vec Ideal S32x128x2048 .bf16) (ix3 (bAt t) n ⟨(8 + t.val % 4) * 128 + d.val, by omega⟩) := by
    unfold iblk
    refine (View.read_apply _ _).trans ?_
    show V m c main_v5 _ = V m c main_v5 _
    congr 1
    funext a
    apply Fin.ext
    match a with
    | ⟨0, _⟩ => show cc0_transform_2 (grid0.coords t) 0 * 1 + 1 * 0 = t.val / 4; rw [(maps t).2.2.2.1.1]; omega
    | ⟨1, _⟩ => show cc0_transform_2 (grid0.coords t) 1 * 128 + 1 * n.val = n.val; rw [(maps t).2.2.2.1.2.1]; omega
    | ⟨2, _⟩ => show cc0_transform_2 (grid0.coords t) 2 * 128 + 1 * d.val = (8 + t.val % 4) * 128 + d.val; rw [(maps t).2.2.2.1.2.2]; omega
  rw [e, V_u]
  unfold row
  by_cases hn : n.val < 8
  · rw [dif_pos hn, dif_pos hn, dif_neg (by dsimp only; omega), dif_neg (by dsimp only; omega), dif_pos (by dsimp only; omega)]
    exact congrArg₂ (fun e f => A2 m c (ix4 (bAt t) ⟨n.val, hn⟩ e f)) (Fin.ext (by dsimp only; omega)) (Fin.ext (by dsimp only; omega))
  · rw [dif_neg hn, dif_neg hn]

theorem val3 (n d : Fin 128) : (iblk m c 3 t : Vec Ideal S1x128x128 .bf16) (ix3 0 n d) = orow (A3 m c) (bAt t) (hAt t) n d := by
  have e : (iblk m c 3 t : Vec Ideal S1x128x128 .bf16) (ix3 0 n d) = (V m c main_v5 : Vec Ideal S32x128x2048 .bf16) (ix3 (bAt t) n ⟨(12 + t.val % 4) * 128 + d.val, by omega⟩) := by
    unfold iblk
    refine (View.read_apply _ _).trans ?_
    show V m c main_v5 _ = V m c main_v5 _
    congr 1
    funext a
    apply Fin.ext
    match a with
    | ⟨0, _⟩ => show cc0_transform_3 (grid0.coords t) 0 * 1 + 1 * 0 = t.val / 4; rw [(maps t).2.2.2.2.1.1]; omega
    | ⟨1, _⟩ => show cc0_transform_3 (grid0.coords t) 1 * 128 + 1 * n.val = n.val; rw [(maps t).2.2.2.2.1.2.1]; omega
    | ⟨2, _⟩ => show cc0_transform_3 (grid0.coords t) 2 * 128 + 1 * d.val = (12 + t.val % 4) * 128 + d.val; rw [(maps t).2.2.2.2.1.2.2]; omega
  rw [e, V_u]
  unfold orow
  by_cases hn : n.val < 8
  · rw [dif_pos hn, dif_pos hn, dif_neg (by dsimp only; omega), dif_neg (by dsimp only; omega), dif_neg (by dsimp only; omega)]
    exact congrArg (fun e => A3 m c (ix3 (bAt t) ⟨n.val, hn⟩ e)) (Fin.ext (by dsimp only; omega))
  · rw [dif_neg hn, dif_neg hn]

theorem val4 (n k : Fin 128) : (iblk m c 4 t : Vec Ideal S1x128x128 .f32) (ix3 0 n k)
    = if h : n.val < 8 ∧ k.val < 8 then A4 m c (ix3 (bAt t) ⟨n.val, h.1⟩ ⟨k.val, h.2⟩) else 0 := by
  refine Eq.trans ?_ (V_g m c (bAt t) n k)
  unfold iblk
  refine (View.read_apply _ _).trans ?_
  show V m c main_v6 _ = V m c main_v6 _
  congr 1
  funext a
  apply Fin.ext
  match a with
  | ⟨0, _⟩ => show cc0_transform_4 (grid0.coords t) 0 * 1 + 1 * 0 = t.val / 4; rw [(maps t).2.2.2.2.2.1.1]; omega
  | ⟨1, _⟩ => show cc0_transform_4 (grid0.coords t) 1 * 128 + 1 * n.val = n.val; rw [(maps t).2.2.2.2.2.1.2.1]; omega
  | ⟨2, _⟩ => show cc0_transform_4 (grid0.coords t) 2 * 128 + 1 * k.val = k.val; rw [(maps t).2.2.2.2.2.1.2.2]; omega

theorem gi_eq : gi (grid0.coords t) (iblk m c 4 t) = ig (A4 m c) (bAt t) (hAt t) := by
  funext n
  unfold gi ig
  by_cases hn : n.val < 8
  · rw [if_pos hn, dif_pos hn, val4, dif_pos ⟨hn, by have := (maps t).1; show (grid0.coords t 1).val < 8; omega⟩]
    exact congrArg (fun e => A4 m c (ix3 (bAt t) ⟨n.val, hn⟩ e)) (Fin.ext (maps t).1)
  · rw [if_neg hn, dif_neg hn]

theorem gx_eq : gx (grid0.coords t) (iblk m c 4 t) = fg (A4 m c) (bAt t) (hAt t) := by
  funext n
  unfold gx fg
  by_cases hn : n.val < 8
  · rw [if_pos hn, dif_pos hn, val4, dif_pos ⟨hn, by have := (maps t).1; show (grid0.coords t 1).val + 4 < 8; omega⟩]
    exact congrArg (fun e => lg (A4 m c (ix3 (bAt t) ⟨n.val, hn⟩ e))) (Fin.ext (congrArg (· + 4) (maps t).1))
  · rw [if_neg hn, dif_neg hn]

theorem kc_eq : kc (iblk m c 1 t) = krow (A1 m c) (bAt t) (hAt t) := by
  funext n d
  unfold kc krow
  rw [val1]

theorem val5 (e d : Fin 128) : (iblk m c 5 t : Vec Ideal S1x1x128x128 .f32) (ix4 0 0 e d) = A5 m c (ix4 (bAt t) (hAt t) e d) := by
  refine Eq.trans ?_ (congrFun (V_main_arg5 m c) _)
  unfold iblk
  refine (View.read_apply _ _).trans ?_
  show V m c main_arg5 _ = V m c main_arg5 _
  congr 1
  funext a
  apply Fin.ext
  match a with
  | ⟨0, _⟩ => show cc0_transform_5 (grid0.coords t) 0 * 1 + 1 * 0 = t.val / 4; rw [(maps' t).1]; show t.val / 4 * 1 + 1 * 0 = t.val / 4; omega
  | ⟨1, _⟩ => show cc0_transform_5 (grid0.coords t) 1 * 1 + 1 * 0 = t.val % 4; rw [(maps' t).1]; show t.val % 4 * 1 + 1 * 0 = t.val % 4; omega
  | ⟨2, _⟩ => show cc0_transform_5 (grid0.coords t) 2 * 128 + 1 * e.val = e.val; rw [(maps' t).1]; show 0 * 128 + 1 * e.val = e.val; omega
  | ⟨3, _⟩ => show cc0_transform_5 (grid0.coords t) 3 * 128 + 1 * d.val = d.val; rw [(maps' t).1]; show 0 * 128 + 1 * d.val = d.val; omega

theorem val6 (d : Fin 128) : (iblk m c 6 t : Vec Ideal S1x1x1x128 .f32) (ix4 0 0 0 d) = A6 m c (ix3 (bAt t) (hAt t) d) := by
  have e : (V m c main_v7 : Vec Ideal S32x4x1x128 .f32) (ix4 (bAt t) (hAt t) 0 d) = A6 m c (ix3 (bAt t) (hAt t) d) := by
    unfold V
    simp only [List.flatten_cons, List.flatten_nil, List.append_nil, List.cons_append, List.nil_append, TRef.binary, TRef.unary, TRef.ternary, TRef.toBuf, TRef.ofBuf, cast_eq]
    after_results_simp
    first | (pointwise; done) | (pointwise; rfl)
  refine Eq.trans ?_ e
  unfold iblk
  refine (View.read_apply _ _).trans ?_
  show V m c main_v7 _ = V m c main_v7 _
  congr 1
  funext a
  apply Fin.ext
  match a with
  | ⟨0, _⟩ => show cc0_transform_6 (grid0.coords t) 0 * 1 + 1 * 0 = t.val / 4; rw [(maps' t).2.1]; show t.val / 4 * 1 + 1 * 0 = t.val / 4; omega
  | ⟨1, _⟩ => show cc0_transform_6 (grid0.coords t) 1 * 1 + 1 * 0 = t.val % 4; rw [(maps' t).2.1]; show t.val % 4 * 1 + 1 * 0 = t.val % 4; omega
  | ⟨2, _⟩ => show cc0_transform_6 (grid0.coords t) 2 * 1 + 1 * 0 = 0; rw [(maps' t).2.1]; rfl
  | ⟨3, _⟩ => show cc0_transform_6 (grid0.coords t) 3 * 128 + 1 * d.val = d.val; rw [(maps' t).2.1]; show 0 * 128 + 1 * d.val = d.val; omega

theorem val7 (d : Fin 128) : (iblk m c 7 t : Vec Ideal S1x1x1x128 .f32) (ix4 0 0 0 d) = A7 m c (ix2 (bAt t) (hAt t)) := by
  have e : (V m c main_v9 : Vec Ideal S32x4x1x128 .f32) (ix4 (bAt t) (hAt t) 0 d) = A7 m c (ix2 (bAt t) (hAt t)) := by
    unfold V
    simp only [List.flatten_cons, List.flatten_nil, List.append_nil, List.cons_append, List.nil_append, TRef.binary, TRef.unary, TRef.ternary, TRef.toBuf, TRef.ofBuf, cast_eq]
    after_results_simp
    first | (pointwise; done) | (pointwise; rfl)
  refine Eq.trans ?_ e
  unfold iblk
  refine (View.read_apply _ _).trans ?_
  show V m c main_v9 _ = V m c main_v9 _
  congr 1
  funext a
  apply Fin.ext
  match a with
  | ⟨0, _⟩ => show cc0_transform_7 (grid0.coords t) 0 * 1 + 1 * 0 = t.val / 4; rw [(maps' t).2.2.1]; show t.val / 4 * 1 + 1 * 0 = t.val / 4; omega
  | ⟨1, _⟩ => show cc0_transform_7 (grid0.coords t) 1 * 1 + 1 * 0 = t.val % 4; rw [(maps' t).2.2.1]; show t.val % 4 * 1 + 1 * 0 = t.val % 4; omega
  | ⟨2, _⟩ => show cc0_transform_7 (grid0.coords t) 2 * 1 + 1 * 0 = 0; rw [(maps' t).2.2.1]; rfl
  | ⟨3, _⟩ => show cc0_transform_7 (grid0.coords t) 3 * 128 + 1 * d.val = d.val; rw [(maps' t).2.2.1]; show 0 * 128 + 1 * d.val = d.val; omega

theorem val8 (d : Fin 128) : (iblk m c 8 t : Vec Ideal S1x1x128 .f32) (ix3 0 0 d) = wrow (A8 m c) (hAt t) d := by
  have e : (V m c main_v10 : Vec Ideal S4x1x128 .f32) (ix3 (hAt t) 0 d) = wrow (A8 m c) (hAt t) d := by
    unfold V
    simp only [List.flatten_cons, List.flatten_nil, List.append_nil, List.cons_append, List.nil_append, TRef.binary, TRef.unary, TRef.ternary, TRef.toBuf, TRef.ofBuf, cast_eq]
    after_results_simp
    first | (pointwise; done) | (pointwise; rfl)
  refine Eq.trans ?_ e
  unfold iblk
  refine (View.read_apply _ _).trans ?_
  show V m c main_v10 _ = V m c main_v10 _
  congr 1
  funext a
  apply Fin.ext
  match a with
  | ⟨0, _⟩ => show cc0_transform_8 (grid0.coords t) 0 * 1 + 1 * 0 = t.val % 4; rw [(maps t).2.2.2.2.2.2.1.1]; omega
  | ⟨1, _⟩ => show cc0_transform_8 (grid0.coords t) 1 * 1 + 1 * 0 = 0; rw [(maps t).2.2.2.2.2.2.1.2.1]
  | ⟨2, _⟩ => show cc0_transform_8 (grid0.coords t) 2 * 128 + 1 * d.val = d.val; rw [(maps t).2.2.2.2.2.2.1.2.2]; omega

/-- A point's block of the result. -/
abbrev o9 : Vec Ideal S1x128x128 .bf16 := out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t)

theorem out9_eq (n e : Fin 128) : o9 m c t (ix3 0 n e)
    = (flat9 (A0 m c) (A1 m c) (A2 m c) (A3 m c) (A4 m c) (A5 m c) (A6 m c) (A7 m c) (A8 m c)) (ix3 (bAt t) n ⟨t.val % 4 * 128 + e.val, by omega⟩) := by
  refine (out9_apply ..).trans ?_
  rw [gi_eq, gx_eq, kc_eq]
  simp only [val0, val2, val3, val5, val6, val7, val8]
  exact congrArg₂ (total9 (A0 m c) (A1 m c) (A2 m c) (A3 m c) (A4 m c) (A5 m c) (A6 m c) (A7 m c) (A8 m c) (bAt t) n) (Fin.ext (show t.val % 4 = (t.val % 4 * 128 + e.val) / 128 by omega)) (Fin.ext (show e.val = (t.val % 4 * 128 + e.val) % 128 by omega))

theorem blk9_read (X : Vec Ideal S32x128x512 .bf16) (n e : Fin 128) :
    (((cfg0.win 9).blk t).view.read (Elt Ideal) X : Vec Ideal S1x128x128 .bf16) (ix3 0 n e) = X (ix3 (bAt t) n ⟨t.val % 4 * 128 + e.val, by omega⟩) := by
  refine (View.read_apply _ _).trans ?_
  show X _ = X _
  congr 1
  funext a
  apply Fin.ext
  match a with
  | ⟨0, _⟩ => show cc0_transform_9 (grid0.coords t) 0 * 1 + 1 * 0 = t.val / 4; rw [(maps t).2.2.2.2.2.2.2.1]; omega
  | ⟨1, _⟩ => show cc0_transform_9 (grid0.coords t) 1 * 128 + 1 * n.val = n.val; rw [(maps t).2.2.2.2.2.2.2.2.1]; omega
  | ⟨2, _⟩ => show cc0_transform_9 (grid0.coords t) 2 * 128 + 1 * e.val = t.val % 4 * 128 + e.val; rw [(maps t).2.2.2.2.2.2.2.2.2]; omega

theorem flushed9_eq : (dats m 0 c).flushed 9 t = ((cfg0.win 9).blk t).view.read (Elt Ideal) (flat9 (A0 m c) (A1 m c) (A2 m c) (A3 m c) (A4 m c) (A5 m c) (A6 m c) (A7 m c) (A8 m c)) := by
  have key : o9 m c t
      = (((cfg0.win 9).blk t).view.read (Elt Ideal) (flat9 (A0 m c) (A1 m c) (A2 m c) (A3 m c) (A4 m c) (A5 m c) (A6 m c) (A7 m c) (A8 m c)) : Vec Ideal S1x128x128 .bf16) := by
    funext y
    rw [eq_ix3 (n0 := 1) (n1 := 128) (n2 := 128) y, show y 0 = (0 : Fin 1) from Subsingleton.elim (α := Fin 1) _ _]
    exact (out9_eq m c t _ _).trans (blk9_read t (flat9 (A0 m c) (A1 m c) (A2 m c) (A3 m c) (A4 m c) (A5 m c) (A6 m c) (A7 m c) (A8 m c)) _ _).symm
  rw [Value.flushed9_A]
  exact key

theorem final9 : (dats m 0 c).arrAt 9 cfg0.N = (flat9 (A0 m c) (A1 m c) (A2 m c) (A3 m c) (A4 m c) (A5 m c) (A6 m c) (A7 m c) (A8 m c)) :=
  (dats m 0 c).arrAt_eq_of_cover 9 (flat9 (A0 m c) (A1 m c) (A2 m c) (A3 m c) (A4 m c) (A5 m c) (A6 m c) (A7 m c) (A8 m c)) (fun t _ => flushed9_eq m c t) fun (i : S32x128x512.Idx) => by
    have h0 : ((i 0 : Fin 32) : ℕ) < 32 := (i 0 : Fin 32).isLt
    have h1 : ((i 1 : Fin 128) : ℕ) < 128 := (i 1 : Fin 128).isLt
    have h2 : ((i 2 : Fin 512) : ℕ) < 512 := (i 2 : Fin 512).isLt
    obtain ⟨t, ht⟩ : ∃ t : Fin cfg0.N, t.val = 4 * (i 0 : Fin 32).val + (i 2 : Fin 512).val / 128 := ⟨⟨4 * (i 0 : Fin 32).val + (i 2 : Fin 512).val / 128, lt_of_lt_of_eq (by omega) (show cfg0.N = 128 from N_0).symm⟩, rfl⟩
    refine ⟨t, flush0_9 _, ?_⟩
    refine (congrArg (i ∈ ·) (View.set_slice_whole main_v11_0 _)).mpr ?_
    refine Rect.mem_set_unit.mpr ?_
    intro a
    match a with
    | ⟨0, _⟩ =>
      show cc0_transform_9 (grid0.coords t) 0 * 1 ≤ (i 0 : Fin 32).val ∧ (i 0 : Fin 32).val < cc0_transform_9 (grid0.coords t) 0 * 1 + 1
      rw [(maps t).2.2.2.2.2.2.2.1]
      omega
    | ⟨1, _⟩ =>
      show cc0_transform_9 (grid0.coords t) 1 * 128 ≤ (i 1 : Fin 128).val ∧ (i 1 : Fin 128).val < cc0_transform_9 (grid0.coords t) 1 * 128 + 128
      rw [(maps t).2.2.2.2.2.2.2.2.1]
      omega
    | ⟨2, _⟩ =>
      show cc0_transform_9 (grid0.coords t) 2 * 128 ≤ (i 2 : Fin 512).val ∧ (i 2 : Fin 512).val < cc0_transform_9 (grid0.coords t) 2 * 128 + 128
      rw [(maps t).2.2.2.2.2.2.2.2.2]
      omega

/-- A point's block of result 1. -/
abbrev o10 : Vec Ideal S1x1x128x128 .f32 := out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t)

theorem out10_eq (e d : Fin 128) : o10 m c t (ix4 0 0 e d)
    = (total10 (A1 m c) (A2 m c) (A4 m c) (A5 m c) (A7 m c)) (ix4 (bAt t) (hAt t) e d) := by
  refine (out10_apply ..).trans ?_
  rw [gi_eq, gx_eq, kc_eq]
  simp only [val2, val5, val7]
  rfl

theorem blk10_read (X : Vec Ideal S32x4x128x128 .f32) (e d : Fin 128) :
    (((cfg0.win 10).blk t).view.read (Elt Ideal) X : Vec Ideal S1x1x128x128 .f32) (ix4 0 0 e d) = X (ix4 (bAt t) (hAt t) e d) := by
  refine (View.read_apply _ _).trans ?_
  show X _ = X _
  congr 1
  funext a
  apply Fin.ext
  match a with
  | ⟨0, _⟩ => show cc0_transform_10 (grid0.coords t) 0 * 1 + 1 * 0 = t.val / 4; rw [(maps' t).2.2.2.1]; show t.val / 4 * 1 + 1 * 0 = t.val / 4; omega
  | ⟨1, _⟩ => show cc0_transform_10 (grid0.coords t) 1 * 1 + 1 * 0 = t.val % 4; rw [(maps' t).2.2.2.1]; show t.val % 4 * 1 + 1 * 0 = t.val % 4; omega
  | ⟨2, _⟩ => show cc0_transform_10 (grid0.coords t) 2 * 128 + 1 * e.val = e.val; rw [(maps' t).2.2.2.1]; show 0 * 128 + 1 * e.val = e.val; omega
  | ⟨3, _⟩ => show cc0_transform_10 (grid0.coords t) 3 * 128 + 1 * d.val = d.val; rw [(maps' t).2.2.2.1]; show 0 * 128 + 1 * d.val = d.val; omega

theorem flushed10_eq : (dats m 0 c).flushed 10 t = ((cfg0.win 10).blk t).view.read (Elt Ideal) (total10 (A1 m c) (A2 m c) (A4 m c) (A5 m c) (A7 m c)) := by
  have key : o10 m c t
      = (((cfg0.win 10).blk t).view.read (Elt Ideal) (total10 (A1 m c) (A2 m c) (A4 m c) (A5 m c) (A7 m c)) : Vec Ideal S1x1x128x128 .f32) := by
    funext y
    rw [eq_ix4 (n0 := 1) (n1 := 1) (n2 := 128) (n3 := 128) y, show y 0 = (0 : Fin 1) from Subsingleton.elim (α := Fin 1) _ _, show y 1 = (0 : Fin 1) from Subsingleton.elim (α := Fin 1) _ _]
    exact (out10_eq m c t _ _).trans (blk10_read t (total10 (A1 m c) (A2 m c) (A4 m c) (A5 m c) (A7 m c)) _ _).symm
  rw [Value.flushed10_A]
  exact key

theorem final10 : (dats m 0 c).arrAt 10 cfg0.N = (total10 (A1 m c) (A2 m c) (A4 m c) (A5 m c) (A7 m c)) :=
  (dats m 0 c).arrAt_eq_of_cover 10 (total10 (A1 m c) (A2 m c) (A4 m c) (A5 m c) (A7 m c)) (fun t _ => flushed10_eq m c t) fun (i : S32x4x128x128.Idx) => by
    have h0 : ((i 0 : Fin 32) : ℕ) < 32 := (i 0 : Fin 32).isLt
    have h1 : ((i 1 : Fin 4) : ℕ) < 4 := (i 1 : Fin 4).isLt
    have h2 : ((i 2 : Fin 128) : ℕ) < 128 := (i 2 : Fin 128).isLt
    have h3 : ((i 3 : Fin 128) : ℕ) < 128 := (i 3 : Fin 128).isLt
    obtain ⟨t, ht⟩ : ∃ t : Fin cfg0.N, t.val = 4 * (i 0 : Fin 32).val + (i 1 : Fin 4).val := ⟨⟨4 * (i 0 : Fin 32).val + (i 1 : Fin 4).val, lt_of_lt_of_eq (by omega) (show cfg0.N = 128 from N_0).symm⟩, rfl⟩
    refine ⟨t, flush0_10 _, ?_⟩
    refine (congrArg (i ∈ ·) (View.set_slice_whole main_v11_1 _)).mpr ?_
    refine Rect.mem_set_unit.mpr ?_
    intro a
    match a with
    | ⟨0, _⟩ =>
      show cc0_transform_10 (grid0.coords t) 0 * 1 ≤ (i 0 : Fin 32).val ∧ (i 0 : Fin 32).val < cc0_transform_10 (grid0.coords t) 0 * 1 + 1
      rw [(maps' t).2.2.2.1]
      show t.val / 4 * 1 ≤ (i 0 : Fin 32).val ∧ (i 0 : Fin 32).val < t.val / 4 * 1 + 1
      omega
    | ⟨1, _⟩ =>
      show cc0_transform_10 (grid0.coords t) 1 * 1 ≤ (i 1 : Fin 4).val ∧ (i 1 : Fin 4).val < cc0_transform_10 (grid0.coords t) 1 * 1 + 1
      rw [(maps' t).2.2.2.1]
      show t.val % 4 * 1 ≤ (i 1 : Fin 4).val ∧ (i 1 : Fin 4).val < t.val % 4 * 1 + 1
      omega
    | ⟨2, _⟩ =>
      show cc0_transform_10 (grid0.coords t) 2 * 128 ≤ (i 2 : Fin 128).val ∧ (i 2 : Fin 128).val < cc0_transform_10 (grid0.coords t) 2 * 128 + 128
      rw [(maps' t).2.2.2.1]
      show 0 * 128 ≤ (i 2 : Fin 128).val ∧ (i 2 : Fin 128).val < 0 * 128 + 128
      omega
    | ⟨3, _⟩ =>
      show cc0_transform_10 (grid0.coords t) 3 * 128 ≤ (i 3 : Fin 128).val ∧ (i 3 : Fin 128).val < cc0_transform_10 (grid0.coords t) 3 * 128 + 128
      rw [(maps' t).2.2.2.1]
      show 0 * 128 ≤ (i 3 : Fin 128).val ∧ (i 3 : Fin 128).val < 0 * 128 + 128
      omega

/-- A point's block of result 2. -/
abbrev o11 : Vec Ideal S1x1x1x128 .f32 := out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t)

theorem out11_eq (d : Fin 128) : o11 m c t (ix4 0 0 0 d)
    = (total11 (A1 m c) (A4 m c) (A6 m c) (A7 m c)) (ix4 (bAt t) (hAt t) 0 d) := by
  refine (out11_apply ..).trans ?_
  rw [gi_eq, gx_eq, kc_eq]
  simp only [val6, val7]
  rfl

theorem blk11_read (X : Vec Ideal S32x4x1x128 .f32) (d : Fin 128) :
    (((cfg0.win 11).blk t).view.read (Elt Ideal) X : Vec Ideal S1x1x1x128 .f32) (ix4 0 0 0 d) = X (ix4 (bAt t) (hAt t) 0 d) := by
  refine (View.read_apply _ _).trans ?_
  show X _ = X _
  congr 1
  funext a
  apply Fin.ext
  match a with
  | ⟨0, _⟩ => show cc0_transform_11 (grid0.coords t) 0 * 1 + 1 * 0 = t.val / 4; rw [(maps' t).2.2.2.2.1]; show t.val / 4 * 1 + 1 * 0 = t.val / 4; omega
  | ⟨1, _⟩ => show cc0_transform_11 (grid0.coords t) 1 * 1 + 1 * 0 = t.val % 4; rw [(maps' t).2.2.2.2.1]; show t.val % 4 * 1 + 1 * 0 = t.val % 4; omega
  | ⟨2, _⟩ => show cc0_transform_11 (grid0.coords t) 2 * 1 + 1 * 0 = 0; rw [(maps' t).2.2.2.2.1]; rfl
  | ⟨3, _⟩ => show cc0_transform_11 (grid0.coords t) 3 * 128 + 1 * d.val = d.val; rw [(maps' t).2.2.2.2.1]; show 0 * 128 + 1 * d.val = d.val; omega

theorem flushed11_eq : (dats m 0 c).flushed 11 t = ((cfg0.win 11).blk t).view.read (Elt Ideal) (total11 (A1 m c) (A4 m c) (A6 m c) (A7 m c)) := by
  have key : o11 m c t
      = (((cfg0.win 11).blk t).view.read (Elt Ideal) (total11 (A1 m c) (A4 m c) (A6 m c) (A7 m c)) : Vec Ideal S1x1x1x128 .f32) := by
    funext y
    rw [eq_ix4 (n0 := 1) (n1 := 1) (n2 := 1) (n3 := 128) y, show y 0 = (0 : Fin 1) from Subsingleton.elim (α := Fin 1) _ _, show y 1 = (0 : Fin 1) from Subsingleton.elim (α := Fin 1) _ _, show y 2 = (0 : Fin 1) from Subsingleton.elim (α := Fin 1) _ _]
    exact (out11_eq m c t _).trans (blk11_read t (total11 (A1 m c) (A4 m c) (A6 m c) (A7 m c)) _).symm
  rw [Value.flushed11_A]
  exact key

theorem final11 : (dats m 0 c).arrAt 11 cfg0.N = (total11 (A1 m c) (A4 m c) (A6 m c) (A7 m c)) :=
  (dats m 0 c).arrAt_eq_of_cover 11 (total11 (A1 m c) (A4 m c) (A6 m c) (A7 m c)) (fun t _ => flushed11_eq m c t) fun (i : S32x4x1x128.Idx) => by
    have h0 : ((i 0 : Fin 32) : ℕ) < 32 := (i 0 : Fin 32).isLt
    have h1 : ((i 1 : Fin 4) : ℕ) < 4 := (i 1 : Fin 4).isLt
    have h2 : ((i 2 : Fin 1) : ℕ) < 1 := (i 2 : Fin 1).isLt
    have h3 : ((i 3 : Fin 128) : ℕ) < 128 := (i 3 : Fin 128).isLt
    obtain ⟨t, ht⟩ : ∃ t : Fin cfg0.N, t.val = 4 * (i 0 : Fin 32).val + (i 1 : Fin 4).val := ⟨⟨4 * (i 0 : Fin 32).val + (i 1 : Fin 4).val, lt_of_lt_of_eq (by omega) (show cfg0.N = 128 from N_0).symm⟩, rfl⟩
    refine ⟨t, flush0_11 _, ?_⟩
    refine (congrArg (i ∈ ·) (View.set_slice_whole main_v11_2 _)).mpr ?_
    refine Rect.mem_set_unit.mpr ?_
    intro a
    match a with
    | ⟨0, _⟩ =>
      show cc0_transform_11 (grid0.coords t) 0 * 1 ≤ (i 0 : Fin 32).val ∧ (i 0 : Fin 32).val < cc0_transform_11 (grid0.coords t) 0 * 1 + 1
      rw [(maps' t).2.2.2.2.1]
      show t.val / 4 * 1 ≤ (i 0 : Fin 32).val ∧ (i 0 : Fin 32).val < t.val / 4 * 1 + 1
      omega
    | ⟨1, _⟩ =>
      show cc0_transform_11 (grid0.coords t) 1 * 1 ≤ (i 1 : Fin 4).val ∧ (i 1 : Fin 4).val < cc0_transform_11 (grid0.coords t) 1 * 1 + 1
      rw [(maps' t).2.2.2.2.1]
      show t.val % 4 * 1 ≤ (i 1 : Fin 4).val ∧ (i 1 : Fin 4).val < t.val % 4 * 1 + 1
      omega
    | ⟨2, _⟩ =>
      show cc0_transform_11 (grid0.coords t) 2 * 1 ≤ (i 2 : Fin 1).val ∧ (i 2 : Fin 1).val < cc0_transform_11 (grid0.coords t) 2 * 1 + 1
      rw [(maps' t).2.2.2.2.1]
      show 0 * 1 ≤ (i 2 : Fin 1).val ∧ (i 2 : Fin 1).val < 0 * 1 + 1
      omega
    | ⟨3, _⟩ =>
      show cc0_transform_11 (grid0.coords t) 3 * 128 ≤ (i 3 : Fin 128).val ∧ (i 3 : Fin 128).val < cc0_transform_11 (grid0.coords t) 3 * 128 + 128
      rw [(maps' t).2.2.2.2.1]
      show 0 * 128 ≤ (i 3 : Fin 128).val ∧ (i 3 : Fin 128).val < 0 * 128 + 128
      omega

/-- A point's block of result 3. -/
abbrev o12 : Vec Ideal S1x1x1x128 .f32 := out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t)

theorem out12_eq (d : Fin 128) : o12 m c t (ix4 0 0 0 d)
    = (total12 (A4 m c) (A7 m c)) (ix4 (bAt t) (hAt t) 0 d) := by
  refine (out12_apply ..).trans ?_
  rw [gi_eq, gx_eq]
  simp only [val7]
  rfl

theorem blk12_read (X : Vec Ideal S32x4x1x128 .f32) (d : Fin 128) :
    (((cfg0.win 12).blk t).view.read (Elt Ideal) X : Vec Ideal S1x1x1x128 .f32) (ix4 0 0 0 d) = X (ix4 (bAt t) (hAt t) 0 d) := by
  refine (View.read_apply _ _).trans ?_
  show X _ = X _
  congr 1
  funext a
  apply Fin.ext
  match a with
  | ⟨0, _⟩ => show cc0_transform_12 (grid0.coords t) 0 * 1 + 1 * 0 = t.val / 4; rw [(maps' t).2.2.2.2.2]; show t.val / 4 * 1 + 1 * 0 = t.val / 4; omega
  | ⟨1, _⟩ => show cc0_transform_12 (grid0.coords t) 1 * 1 + 1 * 0 = t.val % 4; rw [(maps' t).2.2.2.2.2]; show t.val % 4 * 1 + 1 * 0 = t.val % 4; omega
  | ⟨2, _⟩ => show cc0_transform_12 (grid0.coords t) 2 * 1 + 1 * 0 = 0; rw [(maps' t).2.2.2.2.2]; rfl
  | ⟨3, _⟩ => show cc0_transform_12 (grid0.coords t) 3 * 128 + 1 * d.val = d.val; rw [(maps' t).2.2.2.2.2]; show 0 * 128 + 1 * d.val = d.val; omega

theorem flushed12_eq : (dats m 0 c).flushed 12 t = ((cfg0.win 12).blk t).view.read (Elt Ideal) (total12 (A4 m c) (A7 m c)) := by
  have key : o12 m c t
      = (((cfg0.win 12).blk t).view.read (Elt Ideal) (total12 (A4 m c) (A7 m c)) : Vec Ideal S1x1x1x128 .f32) := by
    funext y
    rw [eq_ix4 (n0 := 1) (n1 := 1) (n2 := 1) (n3 := 128) y, show y 0 = (0 : Fin 1) from Subsingleton.elim (α := Fin 1) _ _, show y 1 = (0 : Fin 1) from Subsingleton.elim (α := Fin 1) _ _, show y 2 = (0 : Fin 1) from Subsingleton.elim (α := Fin 1) _ _]
    exact (out12_eq m c t _).trans (blk12_read t (total12 (A4 m c) (A7 m c)) _).symm
  rw [Value.flushed12_A]
  exact key

theorem final12 : (dats m 0 c).arrAt 12 cfg0.N = (total12 (A4 m c) (A7 m c)) :=
  (dats m 0 c).arrAt_eq_of_cover 12 (total12 (A4 m c) (A7 m c)) (fun t _ => flushed12_eq m c t) fun (i : S32x4x1x128.Idx) => by
    have h0 : ((i 0 : Fin 32) : ℕ) < 32 := (i 0 : Fin 32).isLt
    have h1 : ((i 1 : Fin 4) : ℕ) < 4 := (i 1 : Fin 4).isLt
    have h2 : ((i 2 : Fin 1) : ℕ) < 1 := (i 2 : Fin 1).isLt
    have h3 : ((i 3 : Fin 128) : ℕ) < 128 := (i 3 : Fin 128).isLt
    obtain ⟨t, ht⟩ : ∃ t : Fin cfg0.N, t.val = 4 * (i 0 : Fin 32).val + (i 1 : Fin 4).val := ⟨⟨4 * (i 0 : Fin 32).val + (i 1 : Fin 4).val, lt_of_lt_of_eq (by omega) (show cfg0.N = 128 from N_0).symm⟩, rfl⟩
    refine ⟨t, flush0_12 _, ?_⟩
    refine (congrArg (i ∈ ·) (View.set_slice_whole main_v11_3 _)).mpr ?_
    refine Rect.mem_set_unit.mpr ?_
    intro a
    match a with
    | ⟨0, _⟩ =>
      show cc0_transform_12 (grid0.coords t) 0 * 1 ≤ (i 0 : Fin 32).val ∧ (i 0 : Fin 32).val < cc0_transform_12 (grid0.coords t) 0 * 1 + 1
      rw [(maps' t).2.2.2.2.2]
      show t.val / 4 * 1 ≤ (i 0 : Fin 32).val ∧ (i 0 : Fin 32).val < t.val / 4 * 1 + 1
      omega
    | ⟨1, _⟩ =>
      show cc0_transform_12 (grid0.coords t) 1 * 1 ≤ (i 1 : Fin 4).val ∧ (i 1 : Fin 4).val < cc0_transform_12 (grid0.coords t) 1 * 1 + 1
      rw [(maps' t).2.2.2.2.2]
      show t.val % 4 * 1 ≤ (i 1 : Fin 4).val ∧ (i 1 : Fin 4).val < t.val % 4 * 1 + 1
      omega
    | ⟨2, _⟩ =>
      show cc0_transform_12 (grid0.coords t) 2 * 1 ≤ (i 2 : Fin 1).val ∧ (i 2 : Fin 1).val < cc0_transform_12 (grid0.coords t) 2 * 1 + 1
      rw [(maps' t).2.2.2.2.2]
      show 0 * 1 ≤ (i 2 : Fin 1).val ∧ (i 2 : Fin 1).val < 0 * 1 + 1
      omega
    | ⟨3, _⟩ =>
      show cc0_transform_12 (grid0.coords t) 3 * 128 ≤ (i 3 : Fin 128).val ∧ (i 3 : Fin 128).val < cc0_transform_12 (grid0.coords t) 3 * 128 + 128
      rw [(maps' t).2.2.2.2.2]
      show 0 * 128 ≤ (i 3 : Fin 128).val ∧ (i 3 : Fin 128).val < 0 * 128 + 128
      omega

end Cert.MlstmIdeal.Result

end
-- ==== Proof.MlstmReference.lean ====
/-
  The sample's mLSTM as the reference computes it, at an element: the call's chunk without the tokens past the sample's end.
-/
module

public import proofs.«01_k».proof.Proof.MlstmValue
public import proofs.«01_k».proof.Proof.AttendReference
public import proofs.«01_k».proof.Proof.Gen.MlstmReferenceIdeal
public import proofs.«01_k».proof.Proof.Gen.MlstmReferenceIdeal.Run
public import Idealize.ShloMosaic.Lib.Pointwise

@[expose] public section

set_option maxRecDepth 16384

noncomputable section

namespace Cert.MlstmReferenceIdeal.Result

open Cert.MlstmReferenceIdeal Cert.MlstmReferenceIdeal.Gen Cert.MlstmReferenceIdeal.Value Cert.Chunk Idealize.ShloMosaic Idealize.ShloMosaic.TcCoe Idealize.SL.Sem Idealize.ShloMosaic.StableHlo
open Cert.MlstmIdeal.Cell (lg neg_inf)
open Cert.MlstmIdeal.Result (ig fg row krow orow wrow total9 flat9 total10 total11 total12)
open Cert.AttendReferenceIdeal.Result (foldl_fin corr_real max_real lbf_real)

variable (V0 : Valuation τ sig (Elt Ideal)) (b : Fin 32) (h : Fin 4)

/-- The arguments. -/
abbrev aq : FVec Ideal S32x8x4x128 .f32 := V0 (Proc.devRef .tc main_arg0)
abbrev ak : FVec Ideal S32x8x4x128 .f32 := V0 (Proc.devRef .tc main_arg1)
abbrev av : FVec Ideal S32x8x4x128 .f32 := V0 (Proc.devRef .tc main_arg2)
abbrev ao : FVec Ideal S32x8x512 .f32 := V0 (Proc.devRef .tc main_arg3)
abbrev ag : FVec Ideal S32x8x8 .f32 := V0 (Proc.devRef .tc main_arg4)
abbrev aC : FVec Ideal S32x4x128x128 .f32 := V0 (Proc.devRef .tc main_arg5)
abbrev an : FVec Ideal S32x4x128 .f32 := V0 (Proc.devRef .tc main_arg6)
abbrev am : FVec Ideal S32x4 .f32 := V0 (Proc.devRef .tc main_arg7)
abbrev aw : FVec Ideal S512 .f32 := V0 (Proc.devRef .tc main_arg8)

/-- … of one head. -/
def I8 (t : Fin 8) : EReal := ag V0 (ix3 b t ⟨h.val, by omega⟩)
def X8 (t : Fin 8) : EReal := lg (ag V0 (ix3 b t ⟨h.val + 4, by omega⟩))
def q8 (t : Fin 8) (d : Fin 128) : EReal := aq V0 (ix4 b t h d)
def k8 (t : Fin 8) (d : Fin 128) : EReal := ak V0 (ix4 b t h d) * Ideal.ofBits .f32 0x3DB504F3#32
def v8 (t : Fin 8) (d : Fin 128) : EReal := av V0 (ix4 b t h d)
def C8 (e d : Fin 128) : EReal := aC V0 (ix4 b h e d)
def n8 (d : Fin 128) : EReal := an V0 (ix3 b h d)
def m8 : EReal := am V0 (ix2 b h)

theorem sel_le (s t : Fin 8) (a b : EReal) : Scalar.select (IntOp.cmpi .sle (BitVec.ofNat 32 s.val) (BitVec.ofNat 32 t.val)) a b = if s.val ≤ t.val then a else b := by
  have h : ∀ s t : Fin 8, IntOp.cmpi .sle (BitVec.ofNat 32 s.val) (BitVec.ofNat 32 t.val) = if s.val ≤ t.val then 1#1 else 0#1 := by decide +kernel
  rw [h]
  split_ifs <;> rfl

/-- The greatest of the elements behind an element of a reduced array. -/
theorem fold_fiber {ι κ : Type} [Fintype ι] [DecidableEq κ] (D : ι → EReal) (drop : ι → κ) (j : κ) (g : Fin 8 → ι) (h1 : ∀ s, drop (g s) = j) (h2 : ∀ i, drop i = j → ∃ s, i = g s)
    (inst : DecidablePred fun i => drop i = j) :
    Finset.fold max (Ideal.ofBits .f32 0xFF800000#32) D (Finset.univ.filter fun i => drop i = j) = top fun s => D (g s) := by
  rw [neg_inf]
  refine le_antisymm ((Finset.fold_max_le _).mpr ⟨bot_le, fun i hi => ?_⟩) ((Finset.fold_max_le _).mpr ⟨bot_le, fun s _ => ?_⟩)
  · obtain ⟨s, rfl⟩ := h2 i (Finset.mem_filter.mp hi).2
    exact (Finset.le_fold_max _).mpr (Or.inr ⟨s, Finset.mem_univ _, le_refl _⟩)
  · exact (Finset.le_fold_max _).mpr (Or.inr ⟨g s, Finset.mem_filter.mpr ⟨Finset.mem_univ _, h1 s⟩, le_refl _⟩)

theorem v1_apply (t : Fin 8) (d : Fin 128) : res_main_v1 V0 (ix4 b t h d) = k8 V0 b h t d := by
  pointwise [res_main_v1]
  rfl

theorem v3_apply (t : Fin 8) : res_main_v3 V0 (ix3 b h t) = I8 V0 b h t := by
  pointwise [res_main_v3]
  rfl

/-- The logarithm of the logistic function of the forget gates. -/
def logs : FVec Ideal S32x8x4 .f32 :=
  Host.negf (select (cmpf .une (res_main_call0_call0_v3 V0) (res_main_call0_call0_v3 V0)) (addf (res_main_call0_v0 V0) (broadcastInDim S32x8x4 ![] bcast_S_S32x8x4 (res_main_call0_call0_cst V0))) (addf (maximumf (res_main_call0_v0 V0) (broadcastInDim S32x8x4 ![] bcast_S_S32x8x4 (res_main_call0_call0_cst V0))) (Host.log1p (Host.exp (Host.negf (Host.absf (res_main_call0_call0_v3 V0)))))))

/-- Running sums along the tokens. -/
def sums (x : FVec Ideal S32x8x4 .f32) : FVec Ideal S32x8x4 .f32 :=
  Host.reduceWindowAdd ![1, 8, 1] ![1, 1, 1] ![0, 7, 0] ![0, 0, 0] x (broadcastInDim S_ ![] bcast_S_S_ (constant S_ .f32 0x00000000#32)) reduceWindows_S32x8x4_S32x8x4_w1s1p0_0_w8s1p7_0_w1s1p0_0 h_S_

theorem sums_apply (x : FVec Ideal S32x8x4 .f32) (t : Fin 8) : sums x (ix3 b t h) = cum (fun s => x (ix3 b s h)) t := by
  have z : (broadcastInDim S_ ![] bcast_S_S_ (constant S_ .f32 0x00000000#32) : FVec Ideal S_ .f32) (Shape.Idx.first h_S_) = 0 := Ideal.ofBits_zero_f32
  have e : sums x (ix3 b t h) = (List.finRange (⟨3, ![1, 8, 1]⟩ : Shape).numel).foldl (fun r w => r + (fun w : (⟨3, ![1, 8, 1]⟩ : Shape).Idx =>
      if hw : 7 ≤ t.val + (w 1).val ∧ t.val + (w 1).val - 7 < 8 then x (ix3 b ⟨t.val + (w 1).val - 7, hw.2⟩ h) else 0) ((⟨3, ![1, 8, 1]⟩ : Shape).rowMajor.symm w)) 0 := by
    unfold sums Host.reduceWindowAdd
    rw [Ideal.hostReduceWindowAdd_def, z]
    unfold Ideal.hostReduceWindowAdd Host.reduceWindow
    dsimp only
    congr 1
    funext r w
    congr 1
    have y0 : ((⟨3, ![1, 8, 1]⟩ : Shape).rowMajor.symm w 0).val = 0 := Nat.lt_one_iff.mp ((⟨3, ![1, 8, 1]⟩ : Shape).rowMajor.symm w 0).isLt
    have y2 : ((⟨3, ![1, 8, 1]⟩ : Shape).rowMajor.symm w 2).val = 0 := Nat.lt_one_iff.mp ((⟨3, ![1, 8, 1]⟩ : Shape).rowMajor.symm w 2).isLt
    by_cases hj : 7 ≤ t.val + ((⟨3, ![1, 8, 1]⟩ : Shape).rowMajor.symm w 1).val ∧ t.val + ((⟨3, ![1, 8, 1]⟩ : Shape).rowMajor.symm w 1).val - 7 < 8
    · rw [dif_pos hj, dif_pos (fun a => by
        match a with
        | ⟨0, _⟩ => show 0 ≤ b.val * 1 + ((⟨3, ![1, 8, 1]⟩ : Shape).rowMajor.symm w 0).val ∧ b.val * 1 + ((⟨3, ![1, 8, 1]⟩ : Shape).rowMajor.symm w 0).val - 0 < 32; omega
        | ⟨1, _⟩ => show 7 ≤ t.val * 1 + ((⟨3, ![1, 8, 1]⟩ : Shape).rowMajor.symm w 1).val ∧ t.val * 1 + ((⟨3, ![1, 8, 1]⟩ : Shape).rowMajor.symm w 1).val - 7 < 8; omega
        | ⟨2, _⟩ => show 0 ≤ h.val * 1 + ((⟨3, ![1, 8, 1]⟩ : Shape).rowMajor.symm w 2).val ∧ h.val * 1 + ((⟨3, ![1, 8, 1]⟩ : Shape).rowMajor.symm w 2).val - 0 < 4; omega)]
      refine congrArg x (funext fun a => Fin.ext ?_)
      match a with
      | ⟨0, _⟩ => show b.val * 1 + ((⟨3, ![1, 8, 1]⟩ : Shape).rowMajor.symm w 0).val - 0 = b.val; omega
      | ⟨1, _⟩ => show t.val * 1 + ((⟨3, ![1, 8, 1]⟩ : Shape).rowMajor.symm w 1).val - 7 = t.val + ((⟨3, ![1, 8, 1]⟩ : Shape).rowMajor.symm w 1).val - 7; omega
      | ⟨2, _⟩ => show h.val * 1 + ((⟨3, ![1, 8, 1]⟩ : Shape).rowMajor.symm w 2).val - 0 = h.val; omega
    · rw [dif_neg hj, dif_neg fun hin => hj (by
        have := hin 1
        change 7 ≤ t.val * 1 + ((⟨3, ![1, 8, 1]⟩ : Shape).rowMajor.symm w 1).val ∧ t.val * 1 + ((⟨3, ![1, 8, 1]⟩ : Shape).rowMajor.symm w 1).val - 7 < 8 at this
        omega)]
  rw [e, foldl_fin, zero_add, Equiv.sum_comp ((⟨3, ![1, 8, 1]⟩ : Shape).rowMajor.symm) (fun w : (⟨3, ![1, 8, 1]⟩ : Shape).Idx =>
      if hw : 7 ≤ t.val + (w 1).val ∧ t.val + (w 1).val - 7 < 8 then x (ix3 b ⟨t.val + (w 1).val - 7, hw.2⟩ h) else 0)]
  have f : ∑ w : (⟨3, ![1, 8, 1]⟩ : Shape).Idx, (if hw : 7 ≤ t.val + (w 1).val ∧ t.val + (w 1).val - 7 < 8 then x (ix3 b ⟨t.val + (w 1).val - 7, hw.2⟩ h) else 0)
      = ∑ y : Fin 8, if hw : 7 ≤ t.val + y.val ∧ t.val + y.val - 7 < 8 then x (ix3 b ⟨t.val + y.val - 7, hw.2⟩ h) else 0 := by
    symm
    refine Fintype.sum_bijective (fun y : Fin 8 => (ix3 0 y 0 : (⟨3, ![1, 8, 1]⟩ : Shape).Idx)) ⟨fun y y' hy => congrFun hy 1, fun w => ⟨w 1, ?_⟩⟩ _ _ fun y => rfl
    funext a
    match a with
    | ⟨0, _⟩ => exact Subsingleton.elim (α := Fin 1) _ _
    | ⟨1, _⟩ => rfl
    | ⟨2, _⟩ => exact Subsingleton.elim (α := Fin 1) _ _
  rw [f]
  unfold cum
  fin_cases t <;> simp [Fin.sum_univ_eight]

/-- The reference's logarithm of the logistic function is the call's. -/
theorem lg_eq (z : EReal) : -(if -z ≠ -z then -z else max (-z) 0 + Ideal.log1p (Ideal.exp (-FloatOps.absf (F := Ideal) (φ := .f32) (-z)))) = lg z := by
  have e0 : Ideal.log (1 + 0) = 0 := by rw [add_zero, ← EReal.coe_one, Ideal.log_coe, if_neg (not_le.mpr one_pos), Real.log_one, EReal.coe_zero]
  have a0 : FloatOps.absf (F := Ideal) (φ := .f32) (⊥ : EReal) = (⊤ : EReal) := by
    show max (⊥ : EReal) (-⊥) = ⊤
    rw [EReal.neg_bot, max_eq_right bot_le]
  have a1 : FloatOps.absf (F := Ideal) (φ := .f32) (⊤ : EReal) = (⊤ : EReal) := max_eq_left le_top
  have x0 : Ideal.exp ⊥ = 0 := rfl
  rw [if_neg (fun h => h rfl)]
  induction z using EReal.rec with
  | bot =>
    unfold lg Ideal.log1p
    rw [EReal.neg_bot, a0, a1, zero_sub, EReal.neg_top, x0, e0, max_eq_left le_top, add_zero, EReal.neg_top, min_eq_left bot_le, sub_zero]
  | top =>
    unfold lg Ideal.log1p
    rw [EReal.neg_top, a0, a1, zero_sub, EReal.neg_top, x0, e0, max_eq_right bot_le, add_zero, neg_zero, min_eq_right le_top, sub_zero]
  | coe r =>
    refine Eq.trans ?_ (lbf_real r).symm
    rw [← EReal.coe_neg r]
    unfold Ideal.log1p
    rw [corr_real, ← EReal.coe_zero, max_real, ← EReal.coe_add, ← EReal.coe_neg, abs_neg]

theorem logs_apply (t : Fin 8) : logs V0 (ix3 b t h) = X8 V0 b h t := by
  have e4 : ag V0 (ix3 b t ⟨4 + h.val, by omega⟩) = ag V0 (ix3 b t ⟨h.val + 4, by omega⟩) := congrArg (fun z => ag V0 (ix3 b t z)) (Fin.ext (Nat.add_comm 4 h.val))
  unfold X8
  rw [← e4]
  pointwise [logs, res_main_call0_call0_v3, res_main_call0_v0, res_main_call0_call0_cst]
  exact lg_eq _

theorem v7_apply (t : Fin 8) : res_main_v7 V0 (ix3 b h t) = cum (X8 V0 b h) t := by
  have e : res_main_v7 V0 (ix3 b h t) = sums (logs V0) (ix3 b t h) := by
    show transpose S32x4x8 [0, 2, 1] (sums (logs V0)) transposes_S32x8x4_S32x4x8_0_2_1 (ix3 b h t) = _
    pointwise
  rw [e, sums_apply]
  exact congrArg (fun f => cum f t) (funext fun s => logs_apply V0 b h s)

theorem v22_apply (t s : Fin 8) : res_main_v22 V0 (ix4 b h t s) = dlog (I8 V0 b h) (X8 V0 b h) t s := by
  unfold res_main_v22
  generalize hF : res_main_v7 V0 = F
  generalize hI : res_main_v3 V0 = I
  pointwise [res_main_v8]
  rw [sel_le, ← hF, ← hI, v7_apply V0 b h, v7_apply V0 b h, v3_apply]
  unfold dlog
  exact congrArg _ neg_inf

theorem v25_apply (t : Fin 8) : res_main_v25 V0 (ix3 b h t) = cum (X8 V0 b h) t + m8 V0 b h := by
  unfold res_main_v25
  generalize hF : res_main_v7 V0 = F
  pointwise
  rw [← hF, v7_apply V0 b h]
  rfl

theorem v27_apply (t : Fin 8) : res_main_v27 V0 (ix3 b h t) = Cert.Chunk.mt (I8 V0 b h) (X8 V0 b h) (m8 V0 b h) t := by
  unfold res_main_v27
  generalize hF : res_main_v25 V0 = F
  generalize hD : res_main_v22 V0 = D
  pointwise
  rw [fold_fiber D _ _ (fun s => ix4 b h t s) (fun s => by funext a; match a with | ⟨0, _⟩ => rfl | ⟨1, _⟩ => rfl | ⟨2, _⟩ => rfl)
    (fun i hi => ⟨i 3, by
      funext a
      match a with
      | ⟨0, _⟩ => exact congrFun hi 0
      | ⟨1, _⟩ => exact congrFun hi 1
      | ⟨2, _⟩ => exact congrFun hi 2
      | ⟨3, _⟩ => rfl⟩)]
  rw [← hF, ← hD, v25_apply V0 b h]
  unfold Cert.Chunk.mt
  simp only [v22_apply V0 b h]

theorem v33_apply (t s : Fin 8) : res_main_v33 V0 (ix4 b h t s) = sc (I8 V0 b h) (X8 V0 b h) (q8 V0 b h) (k8 V0 b h) (m8 V0 b h) t s := by
  unfold res_main_v33
  generalize hK : res_main_v1 V0 = K
  generalize hF : res_main_v27 V0 = F
  generalize hD : res_main_v22 V0 = D
  pointwise
  rw [← hK, ← hF, ← hD, v27_apply V0 b h, v22_apply V0 b h]
  simp only [v1_apply]
  rfl

theorem v35_apply (t : Fin 8) : res_main_v35 V0 (ix3 b h t) = inter (I8 V0 b h) (X8 V0 b h) (m8 V0 b h) t := by
  unfold res_main_v35
  generalize hF : res_main_v25 V0 = F
  generalize hD : res_main_v27 V0 = D
  pointwise
  rw [← hF, ← hD, v25_apply V0 b h, v27_apply V0 b h]
  rfl

theorem v56_apply (t : Fin 8) (e : Fin 128) : res_main_v56 V0 (ix4 b t h e)
    = out (I8 V0 b h) (X8 V0 b h) (q8 V0 b h) (k8 V0 b h) (v8 V0 b h) (C8 V0 b h) (n8 V0 b h) (m8 V0 b h) t e := by
  unfold res_main_v56
  generalize hK : res_main_v33 V0 = K
  generalize hF : res_main_v35 V0 = F
  generalize hD : res_main_v27 V0 = D
  pointwise
  rw [← hK, ← hF, ← hD, v35_apply V0 b h, v27_apply V0 b h]
  simp only [v33_apply V0 b h]
  unfold out num den
  refine congrArg₂ Ideal.div (congrArg (· + _) (Finset.sum_congr rfl fun s _ => mul_comm _ _)) ?_
  exact congrArg (fun z => max (FloatOps.absf (F := Ideal) (φ := .f32) (_ + inter (I8 V0 b h) (X8 V0 b h) (m8 V0 b h) t * z)) _) (Finset.sum_congr rfl fun s _ => mul_comm _ _)

theorem v58_apply : res_main_v58 V0 (ix2 b h) = whole (X8 V0 b h) := by
  unfold res_main_v58
  generalize hD : res_main_v7 V0 = D
  pointwise
  rw [← hD, v7_apply V0 b h]
  show (∑ s : Fin 8, (if s.val ≤ 7 then X8 V0 b h s else 0) : EReal) = ∑ s : Fin 8, X8 V0 b h s
  exact Finset.sum_congr rfl fun s _ => if_pos (show s.val ≤ 7 by omega)

theorem v62_apply (t : Fin 8) : res_main_v62 V0 (ix3 b h t) = dec (I8 V0 b h) (X8 V0 b h) t := by
  unfold res_main_v62
  generalize h1 : res_main_v58 V0 = D
  generalize h2 : res_main_v7 V0 = D7
  generalize h3 : res_main_v3 V0 = D3
  pointwise
  rw [← h1, ← h2, ← h3, v58_apply V0 b h, v7_apply V0 b h, v3_apply]
  rfl

theorem v65_apply : res_main_v65 V0 (ix2 b h) = mnew (I8 V0 b h) (X8 V0 b h) (m8 V0 b h) := by
  unfold res_main_v65
  generalize h1 : res_main_v58 V0 = F
  generalize h2 : res_main_v62 V0 = D
  pointwise
  rw [fold_fiber D _ _ (fun s => ix3 b h s) (fun s => by funext a; match a with | ⟨0, _⟩ => rfl | ⟨1, _⟩ => rfl)
    (fun i hi => ⟨i 2, by
      funext a
      match a with
      | ⟨0, _⟩ => exact congrFun hi 0
      | ⟨1, _⟩ => exact congrFun hi 1
      | ⟨2, _⟩ => rfl⟩)]
  rw [← h1, ← h2, v58_apply V0 b h]
  unfold mnew
  simp only [v62_apply V0 b h]
  rfl

theorem v69_apply (t : Fin 8) : res_main_v69 V0 (ix3 b h t) = w (I8 V0 b h) (X8 V0 b h) (m8 V0 b h) t := by
  unfold res_main_v69
  generalize h1 : res_main_v65 V0 = D
  generalize h2 : res_main_v62 V0 = D7
  pointwise
  rw [← h1, ← h2, v65_apply V0 b h, v62_apply V0 b h]
  rfl

theorem v72_apply : res_main_v72 V0 (ix2 b h) = keep (I8 V0 b h) (X8 V0 b h) (m8 V0 b h) := by
  unfold res_main_v72
  generalize h1 : res_main_v65 V0 = D
  generalize h2 : res_main_v58 V0 = D7
  pointwise
  rw [← h1, ← h2, v65_apply V0 b h, v58_apply V0 b h]
  rfl

theorem v90_apply (t : Fin 8) : res_main_v90 V0 (ix4 b t h 0) = mean (fun e => out (I8 V0 b h) (X8 V0 b h) (q8 V0 b h) (k8 V0 b h) (v8 V0 b h) (C8 V0 b h) (n8 V0 b h) (m8 V0 b h) t e) := by
  unfold res_main_v90
  generalize h1 : res_main_v56 V0 = D
  pointwise
  simp only [← h1, v56_apply V0 b h]
  rfl

/-- The reference's results over its arguments. -/
def value9 : FVec Ideal S32x128x512 .bf16 :=
  pad S32x128x512 ![0, 0, 0] ![0, 120, 0] ![0, 0, 0] (truncf .bf16 (mulf (shapeCast S32x8x512 (mulf (mulf (subf (res_main_v56 V0) (broadcastInDim S32x8x4x128 ![0, 1, 2, 3] bcast_S32x8x4x1_S32x8x4x128_0_1_2_3 (res_main_v90 V0))) (broadcastInDim S32x8x4x128 ![0, 1, 2, 3] bcast_S32x8x4x1_S32x8x4x128_0_1_2_3 (Host.rsqrt (addf (Host.divf (broadcastInDim S32x8x4x1 ![0, 1, 2] bcast_S32x8x4_S32x8x4x1_0_1_2 (Host.reduceAdd (mulf (res_main_v92 V0) (res_main_v92 V0)) (constant S_ .f32 0x00000000#32) reducesTo_S32x8x4x128_S32x8x4_d3 h_S_)) (broadcastInDim S32x8x4x1 ![] bcast_S_S32x8x4x1 (constant S_ .f32 0x43000000#32))) (broadcastInDim S32x8x4x1 ![] bcast_S_S32x8x4x1 (constant S_ .f32 0x3727C5AC#32)))))) (broadcastInDim S32x8x4x128 ![0, 1, 2, 3] bcast_S1x1x4x128_S32x8x4x128_0_1_2_3 (broadcastInDim S1x1x4x128 ![2, 3] bcast_S4x128_S1x1x4x128_2_3 (shapeCast S4x128 (V0 (Proc.devRef .tc main_arg8)) shapeCasts_S512_S4x128)))) shapeCasts_S32x8x4x128_S32x8x512) (Host.divf (broadcastInDim S32x8x512 ![] bcast_S_S32x8x512 (constant S_ .f32 0x3F800000#32)) (addf (broadcastInDim S32x8x512 ![] bcast_S_S32x8x512 (constant S_ .f32 0x3F800000#32)) (Host.exp (Host.negf (V0 (Proc.devRef .tc main_arg3))))))) bitsLt_bf16_f32) (sitofp .bf16 (constantI S_ 32 0#32)) pads_S32x8x512_S32x128x512_000_01200_000 h_S_
def value10 : FVec Ideal S32x4x128x128 .f32 :=
  addf (mulf (broadcastInDim S32x4x128x128 ![0, 1, 2, 3] bcast_S32x4x1x1_S32x4x128x128_0_1_2_3 (broadcastInDim S32x4x1x1 ![0, 1] bcast_S32x4_S32x4x1x1_0_1 (res_main_v72 V0))) (V0 (Proc.devRef .tc main_arg5))) (Host.dotGeneral (φ₁ := .f32) (φ₂ := .f32) dot_S32x8x4x128_S32x8x4x128_S32x4x128x128_1_1_3_3_02_02 none (mulf (φ := .f32) (broadcastInDim S32x8x4x128 ![0, 1, 2, 3] bcast_S32x8x4x1_S32x8x4x128_0_1_2_3 (broadcastInDim S32x8x4x1 ![0, 1, 2] bcast_S32x8x4_S32x8x4x1_0_1_2 (transpose S32x8x4 [0, 2, 1] (res_main_v69 V0) transposes_S32x4x8_S32x8x4_0_2_1))) (V0 (Proc.devRef .tc main_arg2))) (res_main_v1 V0))
def value11 : FVec Ideal S32x4x1x128 .f32 :=
  broadcastInDim S32x4x1x128 ![0, 1, 3] bcast_S32x4x128_S32x4x1x128_0_1_3 (addf (mulf (broadcastInDim S32x4x128 ![0, 1, 2] bcast_S32x4x1_S32x4x128_0_1_2 (broadcastInDim S32x4x1 ![0, 1] bcast_S32x4_S32x4x1_0_1 (res_main_v72 V0))) (V0 (Proc.devRef .tc main_arg6))) (Host.dotGeneral (φ₁ := .f32) (φ₂ := .f32) dot_S32x4x8_S32x8x4x128_S32x4x128_2_1_n_3_01_02 none (res_main_v69 V0) (res_main_v1 V0)))
def value12 : FVec Ideal S32x4x1x128 .f32 :=
  broadcastInDim S32x4x1x128 ![0, 1, 2, 3] bcast_S32x4x1x1_S32x4x1x128_0_1_2_3 (broadcastInDim S32x4x1x1 ![0, 1] bcast_S32x4_S32x4x1x1_0_1 (res_main_v65 V0))

/-- The call's padded chunk and the sample's. -/
theorem hI (s : Fin 8) : ig (ag V0) b h (up s) = I8 V0 b h s := dif_pos s.isLt
theorem hI' (s : Fin 128) (hs : 8 ≤ s.val) : ig (ag V0) b h s = ⊥ := dif_neg (by omega)
theorem hX (s : Fin 8) : fg (ag V0) b h (up s) = X8 V0 b h s := dif_pos s.isLt
theorem hX' (s : Fin 128) (hs : 8 ≤ s.val) : fg (ag V0) b h s = 0 := dif_neg (by omega)
theorem hQ (s : Fin 8) : row (aq V0) b h (up s) = q8 V0 b h s := funext fun d => dif_pos s.isLt
theorem hQ' (s : Fin 128) (d : Fin 128) (hs : 8 ≤ s.val) : row (aq V0) b h s d = 0 := dif_neg (by omega)
theorem hK (s : Fin 8) : krow (ak V0) b h (up s) = k8 V0 b h s := funext fun d => congrArg (· * Ideal.ofBits .f32 0x3DB504F3#32) (dif_pos s.isLt)
theorem hV (s : Fin 8) : row (av V0) b h (up s) = v8 V0 b h s := funext fun d => dif_pos s.isLt

theorem value10_eq (e d : Fin 128) : value10 V0 (ix4 b h e d) = total10 (ak V0) (av V0) (ag V0) (aC V0) (am V0) (ix4 b h e d) := by
  refine Eq.trans ?_ (Cnew_up (C8 V0 b h) (m8 V0 b h) (ig (ag V0) b h) (fg (ag V0) b h) (krow (ak V0) b h) (row (av V0) b h) (I8 V0 b h) (X8 V0 b h) (k8 V0 b h) (v8 V0 b h) (hI V0 b h) (hI' V0 b h) (hX V0 b h) (hX' V0 b h) (hK V0 b h) (hV V0 b h) e d).symm
  unfold value10
  generalize h1 : res_main_v1 V0 = K
  generalize h2 : res_main_v69 V0 = W
  generalize h3 : res_main_v72 V0 = Z
  pointwise
  rw [← h3, v72_apply V0 b h]
  simp only [← h1, ← h2, v69_apply V0 b h, v1_apply]
  rfl

theorem value11_eq (d : Fin 128) : value11 V0 (ix4 b h 0 d) = total11 (ak V0) (ag V0) (an V0) (am V0) (ix4 b h 0 d) := by
  refine Eq.trans ?_ (nnew_up (n8 V0 b h) (m8 V0 b h) (ig (ag V0) b h) (fg (ag V0) b h) (krow (ak V0) b h) (I8 V0 b h) (X8 V0 b h) (k8 V0 b h) (hI V0 b h) (hI' V0 b h) (hX V0 b h) (hX' V0 b h) (hK V0 b h) d).symm
  unfold value11
  generalize h1 : res_main_v1 V0 = K
  generalize h2 : res_main_v69 V0 = W
  generalize h3 : res_main_v72 V0 = Z
  pointwise
  rw [← h3, v72_apply V0 b h]
  simp only [← h1, ← h2, v69_apply V0 b h, v1_apply]
  rfl

theorem value12_eq (d : Fin 128) : value12 V0 (ix4 b h 0 d) = total12 (ag V0) (am V0) (ix4 b h 0 d) := by
  refine Eq.trans ?_ (mnew_up (m8 V0 b h) (ig (ag V0) b h) (fg (ag V0) b h) (I8 V0 b h) (X8 V0 b h) (hI V0 b h) (hI' V0 b h) (hX V0 b h) (hX' V0 b h)).symm
  unfold value12
  generalize h1 : res_main_v65 V0 = M
  pointwise
  rw [← h1, v65_apply V0 b h]

theorem v92_apply (t : Fin 8) (e : Fin 128) : res_main_v92 V0 (ix4 b t h e)
    = (out (I8 V0 b h) (X8 V0 b h) (q8 V0 b h) (k8 V0 b h) (v8 V0 b h) (C8 V0 b h) (n8 V0 b h) (m8 V0 b h) t e
      - mean (fun e => out (I8 V0 b h) (X8 V0 b h) (q8 V0 b h) (k8 V0 b h) (v8 V0 b h) (C8 V0 b h) (n8 V0 b h) (m8 V0 b h) t e) : EReal) := by
  rw [← v56_apply V0 b h t e, ← v90_apply V0 b h t]
  unfold res_main_v92
  generalize res_main_v56 V0 = D
  generalize res_main_v90 V0 = M
  pointwise

/-- A row of the sample's tokens. -/
theorem value9_head (t : Fin 8) (d : Fin 128) : value9 V0 (ix3 b (up t) ⟨h.val * 128 + d.val, by omega⟩)
      = gated (fun e => out (I8 V0 b h) (X8 V0 b h) (q8 V0 b h) (k8 V0 b h) (v8 V0 b h) (C8 V0 b h) (n8 V0 b h) (m8 V0 b h) t e) (wrow (aw V0) h) (orow (ao V0) b h (up t)) d := by
  have eo : orow (ao V0) b h (up t) d = ao V0 (ix3 b t ⟨h.val * 128 + d.val, by omega⟩) := dif_pos t.isLt
  have eD := v56_apply V0 b h t
  have eM := v90_apply V0 b h t
  have eS := v92_apply V0 b h t
  unfold value9 up
  generalize res_main_v56 V0 = D at *
  generalize res_main_v90 V0 = M at *
  generalize res_main_v92 V0 = S at *
  generalize out (I8 V0 b h) (X8 V0 b h) (q8 V0 b h) (k8 V0 b h) (v8 V0 b h) (C8 V0 b h) (n8 V0 b h) (m8 V0 b h) t = f at *
  pointwise
  rw [dif_pos (by omega)]
  simp only [eS]
  rw [eD, eM]
  unfold gated
  rw [show orow (ao V0) b h ⟨t.val, by omega⟩ d = _ from eo]
  rfl

theorem value9_eq (n : Fin 128) (e : Fin 512) : value9 V0 (ix3 b n e) = flat9 (aq V0) (ak V0) (av V0) (ao V0) (ag V0) (aC V0) (an V0) (am V0) (aw V0) (ix3 b n e) := by
  show _ = total9 (aq V0) (ak V0) (av V0) (ao V0) (ag V0) (aC V0) (an V0) (am V0) (aw V0) b n ⟨e.val / 128, by omega⟩ ⟨e.val % 128, by omega⟩
  generalize hh : (⟨e.val / 128, by omega⟩ : Fin 4) = h
  generalize hd : (⟨e.val % 128, by omega⟩ : Fin 128) = d
  have h1 : e.val / 128 = h.val := congrArg Fin.val hh
  have d1 : e.val % 128 = d.val := congrArg Fin.val hd
  unfold total9
  by_cases hn : n.val < 8
  · have en : n = up ⟨n.val, hn⟩ := rfl
    have ee : e = ⟨h.val * 128 + d.val, by omega⟩ := Fin.ext (by dsimp only; omega)
    rw [en, ee, value9_head V0 b h]
    refine congrArg (fun f => gated f _ _ d) (funext fun e => ?_)
    exact (out_up (C8 V0 b h) (n8 V0 b h) (m8 V0 b h) (ig (ag V0) b h) (fg (ag V0) b h) (row (aq V0) b h) (krow (ak V0) b h) (row (av V0) b h) (I8 V0 b h) (X8 V0 b h) (q8 V0 b h) (k8 V0 b h) (v8 V0 b h)
      (hI V0 b h) (hI' V0 b h) (hX V0 b h) (hX' V0 b h) (hQ V0 b h) (hK V0 b h) (hV V0 b h) ⟨n.val, hn⟩ e).symm
  · have z : value9 V0 (ix3 b n e) = 0 := by
      unfold value9
      generalize res_main_v56 V0 = D
      generalize res_main_v90 V0 = M
      generalize res_main_v92 V0 = S
      pointwise
      rw [dif_neg hn]
      exact Cert.MlstmIdeal.Result.fzero
    rw [z]
    symm
    rcases out_pad (C8 V0 b h) (n8 V0 b h) (m8 V0 b h) (ig (ag V0) b h) (fg (ag V0) b h) (row (aq V0) b h) (krow (ak V0) b h) (row (av V0) b h) (fun s d hs => hQ' V0 b h s d hs) n (by omega) with ho | ho
    · exact gated_zero _ _ _ ho d
    · exact gated_bot _ _ _ ho d

/-- The reference's four arrays are the call's. -/
theorem value9_all : value9 V0 = flat9 (aq V0) (ak V0) (av V0) (ao V0) (ag V0) (aC V0) (an V0) (am V0) (aw V0) := by
  funext y
  rw [eq_ix3 (n0 := 32) (n1 := 128) (n2 := 512) y]
  exact value9_eq V0 (y 0) (y 1) (y 2)

theorem value10_all : value10 V0 = total10 (ak V0) (av V0) (ag V0) (aC V0) (am V0) := by
  funext y
  rw [eq_ix4 (n0 := 32) (n1 := 4) (n2 := 128) (n3 := 128) y]
  exact value10_eq V0 (y 0) (y 1) (y 2) (y 3)

theorem value11_all : value11 V0 = total11 (ak V0) (ag V0) (an V0) (am V0) := by
  funext y
  rw [eq_ix4 (n0 := 32) (n1 := 4) (n2 := 1) (n3 := 128) y, show y 2 = (0 : Fin 1) from Subsingleton.elim (α := Fin 1) _ _]
  exact value11_eq V0 (y 0) (y 1) (y 3)

theorem value12_all : value12 V0 = total12 (ag V0) (am V0) := by
  funext y
  rw [eq_ix4 (n0 := 32) (n1 := 4) (n2 := 1) (n3 := 128) y, show y 2 = (0 : Fin 1) from Subsingleton.elim (α := Fin 1) _ _]
  exact value12_eq V0 (y 0) (y 1) (y 3)

end Cert.MlstmReferenceIdeal.Result

end
-- ==== Proof.lean ====
/- The certificate: the frames and the values of the routed experts', the closing norm's, the input projection's, the attention's and the sample's recurrence's calls. -/
module

public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Pre_gates_nonneg
public import proofs.«01_k».proof.Proof.Gen.Final
public import proofs.«01_k».proof.Proof.Gen.FinalIdeal
public import proofs.«01_k».proof.Proof.Gen.FinalIdeal.Value
public import proofs.«01_k».proof.Proof.Gen.FinalReferenceIdeal
public import proofs.«01_k».proof.Proof.Gen.FinalReferenceIdeal.Run
public import proofs.«01_k».proof.Proof.Gen.InProj
public import proofs.«01_k».proof.Proof.Gen.InProjIdeal
public import proofs.«01_k».proof.Proof.Gen.InProjIdeal.Frame
public import proofs.«01_k».proof.Proof.Gen.InProjIdeal.Skeleton
public import proofs.«01_k».proof.Proof.Gen.InProjReferenceIdeal
public import proofs.«01_k».proof.Proof.Gen.InProjReferenceIdeal.Run
public import proofs.«01_k».proof.Proof.Gen.Attend
public import proofs.«01_k».proof.Proof.Gen.AttendIdeal
public import proofs.«01_k».proof.Proof.Gen.AttendIdeal.Frame
public import proofs.«01_k».proof.Proof.Gen.AttendIdeal.Value
public import proofs.«01_k».proof.Proof.Gen.AttendReferenceIdeal
public import proofs.«01_k».proof.Proof.Gen.AttendReferenceIdeal.Run
public import proofs.«01_k».proof.Proof.Gen.Pre_finite
public import proofs.«01_k».proof.Proof.Gen.Mlstm
public import proofs.«01_k».proof.Proof.Gen.Mlstm.Frame
public import proofs.«01_k».proof.Proof.Gen.MlstmIdeal
public import proofs.«01_k».proof.Proof.Gen.MlstmIdeal.Frame
public import proofs.«01_k».proof.Proof.Gen.MlstmIdeal.Value
public import proofs.«01_k».proof.Proof.Gen.MlstmReferenceIdeal
public import proofs.«01_k».proof.Proof.Gen.MlstmReferenceIdeal.Run
public import proofs.«01_k».proof.Proof.Launch
public import proofs.«01_k».proof.Proof.Reference
public import proofs.«01_k».proof.Proof.FinalValue
public import proofs.«01_k».proof.Proof.InProjValue
public import proofs.«01_k».proof.Proof.AttendReference
public import proofs.«01_k».proof.Proof.MlstmReference
public import Idealize.ShloMosaic.Adequacy
public import Idealize.ShloMosaic.Init

@[expose] public section

noncomputable section

namespace Cert.Proof

open Idealize.ShloMosaic Idealize.SL.Sem Cert.Kernel

-- the two programs' texts are compared to the end, their matches unfolded too
set_option smartUnfolding false in
set_option maxHeartbeats 2000000 in
/-- The kernel runs, leaves its arguments alone and ends with every counter at zero: the idealized kernel's run, which holds over any values. -/
theorem frame_kernel : Cert.quiescent_Kernel := fun m ρ _ =>
  (θ_run Cert.KernelIdeal.defs _ _).mono (fun _ h => h)
    (Cert.KernelIdeal.Moe.frame (F := Bits) m ρ (Cert.KernelIdeal.Moe.ok m) (Cert.KernelIdeal.Moe.hyps m))

theorem frame_kernelIdeal : Cert.quiescent_KernelIdeal := fun m ρ _ =>
  Cert.KernelIdeal.Moe.frame (F := Ideal) m ρ (Cert.KernelIdeal.Moe.ok m) (Cert.KernelIdeal.Moe.hyps m)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two results are the same array: at every element the experts' shares summed. -/
theorem algebraic : Cert.algebraic_KernelIdeal_ReferenceIdeal_pre_gates_nonneg := by
  intro m ρ m' ρ' hpre hagree
  have hg : ∀ (c : Dev Cert.KernelIdeal.nD) (n : Fin 16384) (e : Fin 32), 0 ≤ Cert.KernelIdeal.Moe.A1 m c (ix2 n e) :=
    fun c => Cert.ReferenceIdeal.Moe.nonneg _ _ _ _ _ _ _ (congrFun (hpre c) ix0)
  refine ⟨fun c => Cert.KernelIdeal.Moe.total m c, ?_, ?_⟩
  · refine (θ_run Cert.KernelIdeal.defs _ _).mono (fun _ h c => ⟨?_, h.2 c⟩)
      (θ_run_and (Cert.KernelIdeal.Moe.run_main m ρ (Cert.KernelIdeal.Moe.ok m) (Cert.KernelIdeal.Moe.hyps m))
        (Cert.KernelIdeal.Moe.unchanged m ρ (Cert.KernelIdeal.Moe.ok m) (Cert.KernelIdeal.Moe.hyps m)))
    exact ((h.1 c).1 7).trans (Cert.KernelIdeal.Moe.final_o m c (hg c))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    rw [h0, h1, h2, h3, h4, h5]
    funext y
    exact (congrArg _ (eq_ix2 (n0 := 16384) (n1 := 1024) y)).trans
      ((Cert.ReferenceIdeal.Moe.value_eq _ _ _ _ _ _ (y 0) (y 1)))

-- the two programs' texts are compared to the end, their matches unfolded too
set_option smartUnfolding false in
set_option maxHeartbeats 2000000 in
theorem frame_final : Cert.quiescent_Final := fun m ρ _ =>
  (θ_run Cert.FinalIdeal.defs _ _).mono (fun _ h => h) (Cert.FinalIdeal.Gen.frame (F := Bits) m ρ)

theorem frame_finalIdeal : Cert.quiescent_FinalIdeal := fun m ρ _ => Cert.FinalIdeal.Gen.frame (F := Ideal) m ρ

theorem frame_finalReferenceIdeal : Cert.quiescent_FinalReferenceIdeal := fun m ρ _ =>
  (θ_run Cert.FinalReferenceIdeal.defs _ _).mono (fun r h => ⟨fun c => (h c).2, sem_eq_zero_of_no_sems (by decide) r.2⟩)
    (Cert.FinalReferenceIdeal.Value.run (F := Ideal) m ρ)

/-- The closing norm's two results are the same array. -/
theorem algebraic_final : Cert.algebraic_FinalIdeal_FinalReferenceIdeal := by
  intro m ρ m' ρ' hpre hagree
  refine ⟨fun c => Cert.FinalIdeal.Result.total (Cert.FinalIdeal.Result.A0 m c) (Cert.FinalIdeal.Result.A1 m c) (Cert.FinalIdeal.Result.A2 m c) (Cert.FinalIdeal.Result.A3 m c), ?_, ?_⟩
  · refine (θ_run Cert.FinalIdeal.defs _ _).mono (fun _ h c => ⟨?_, (h c).2⟩) (Cert.FinalIdeal.Value.run_blocks (F := Ideal) m ρ)
    exact (h c).1.trans (Cert.FinalIdeal.Result.final_o m c)
  · refine (θ_run Cert.FinalReferenceIdeal.defs _ _).mono (fun _ h c => ⟨(h c).1.trans ?_, (h c).2⟩)
      (Cert.FinalReferenceIdeal.Value.run (F := Ideal) m' ρ')
    obtain ⟨h0, h1, h2, h3⟩ := hagree c
    rw [h0, h1, h2, h3]
    funext y
    exact (congrArg _ (eq_ix3 (n0 := 2) (n1 := 8192) (n2 := 1024) y)).trans
      ((Cert.FinalReferenceIdeal.Result.value_eq _ _ _ _ (y 0) (y 1) (y 2)).trans (congrArg _ (eq_ix3 (n0 := 2) (n1 := 8192) (n2 := 1024) y).symm))

-- the two programs' texts are compared to the end, their matches unfolded too
set_option smartUnfolding false in
set_option maxHeartbeats 2000000 in
theorem frame_inProj : Cert.quiescent_InProj := fun m ρ _ =>
  (θ_run Cert.InProjIdeal.defs _ _).mono (fun _ h => h) (Cert.InProjIdeal.Body.frame (F := Bits) m ρ)

theorem frame_inProjIdeal : Cert.quiescent_InProjIdeal := fun m ρ _ => Cert.InProjIdeal.Body.frame (F := Ideal) m ρ

theorem frame_inProjReferenceIdeal : Cert.quiescent_InProjReferenceIdeal := fun m ρ _ =>
  (θ_run Cert.InProjReferenceIdeal.defs _ _).mono (fun r h => ⟨fun c => (h c).2.2.2.2, sem_eq_zero_of_no_sems (by decide) r.2⟩)
    (Cert.InProjReferenceIdeal.Value.run (F := Ideal) m ρ)

section
open Cert.InProjIdeal.Result

/-- The input projection's four results are the same arrays. -/
theorem algebraic_inProj : Cert.algebraic_InProjIdeal_InProjReferenceIdeal := by
  intro m ρ m' ρ' hpre hagree
  refine ⟨fun c => total9 (A0 m c) (A1 m c) (A2 m c) (A3 m c) (A4 m c) (A5 m c) (A6 m c),
    fun c => total10 (A0 m c) (A1 m c) (A2 m c) (A3 m c) (A4 m c) (A5 m c) (A6 m c),
    fun c => total11 (A0 m c) (A1 m c) (A2 m c) (A3 m c) (A4 m c) (A5 m c) (A6 m c) (A7 m c),
    fun c => total12 (A0 m c) (A1 m c) (A2 m c), ?_, ?_⟩
  · refine (θ_run Cert.InProjIdeal.defs _ _).mono (fun _ h c => ⟨?_, ?_, ?_, ?_, h.2 c⟩)
      (θ_run_and (Cert.InProjIdeal.Body.run_main (F := Ideal) m ρ) (Cert.InProjIdeal.Body.unchanged (F := Ideal) m ρ))
    · exact ((h.1 c).1 9).trans (final9 m c)
    · exact ((h.1 c).1 10).trans (final10 m c)
    · exact ((h.1 c).1 11).trans (final11 m c)
    · exact ((h.1 c).1 12).trans (final12 m c)
  · refine (θ_run Cert.InProjReferenceIdeal.defs _ _).mono (fun _ h c => ⟨(h c).1.trans ?_, (h c).2.1.trans ?_, (h c).2.2.1.trans ?_, (h c).2.2.2.1.trans ?_, (h c).2.2.2.2⟩)
      (Cert.InProjReferenceIdeal.Value.run (F := Ideal) m' ρ')
    all_goals
      obtain ⟨h0, h1, h2, h3, h4, h5, h6, h7⟩ := hagree c
    · unfold Cert.InProjReferenceIdeal.Value.res_main_v29
      rw [h0, h1, h2, h3, h4, h5, h6]
      funext y
      exact (congrArg _ (eq_ix3 (n0 := 2) (n1 := 8192) (n2 := 7680) y)).trans
        ((Cert.InProjReferenceIdeal.Result.value9_eq _ _ _ _ _ _ _ (y 0) (y 1) (y 2)).trans (congrArg _ (eq_ix3 (n0 := 2) (n1 := 8192) (n2 := 7680) y).symm))
    · rw [h0, h1, h2, h3, h4, h5, h6]
      funext y
      exact (congrArg _ (eq_ix3 (n0 := 2) (n1 := 8192) (n2 := 1024) y)).trans
        ((Cert.InProjReferenceIdeal.Result.value10_eq _ _ _ _ _ _ _ (y 0) (y 1) (y 2)).trans (congrArg _ (eq_ix3 (n0 := 2) (n1 := 8192) (n2 := 1024) y).symm))
    · rw [h0, h1, h2, h3, h4, h5, h6, h7]
      funext y
      exact (congrArg _ (eq_ix3 (n0 := 2) (n1 := 8192) (n2 := 128) y)).trans
        ((Cert.InProjReferenceIdeal.Result.value11_eq _ _ _ _ _ _ _ _ (y 0) (y 1) (y 2)).trans (congrArg _ (eq_ix3 (n0 := 2) (n1 := 8192) (n2 := 128) y).symm))
    · rw [h0, h1, h2]
      funext y
      exact (congrArg _ (eq_ix3 (n0 := 2) (n1 := 8192) (n2 := 1024) y)).trans
        ((Cert.InProjReferenceIdeal.Result.value12_eq _ _ _ (y 0) (y 1) (y 2)).trans (congrArg _ (eq_ix3 (n0 := 2) (n1 := 8192) (n2 := 1024) y).symm))

end

-- the two programs' texts are compared to the end, their matches unfolded too
set_option smartUnfolding false in
set_option maxHeartbeats 2000000 in
theorem frame_attend : Cert.quiescent_Attend := fun m ρ _ =>
  (θ_run Cert.AttendIdeal.defs _ _).mono (fun _ h => h) (Cert.AttendIdeal.Gen.frame (F := Bits) m ρ)

theorem frame_attendIdeal : Cert.quiescent_AttendIdeal := fun m ρ _ => Cert.AttendIdeal.Gen.frame (F := Ideal) m ρ

theorem frame_attendReferenceIdeal : Cert.quiescent_AttendReferenceIdeal := fun m ρ _ =>
  (θ_run Cert.AttendReferenceIdeal.defs _ _).mono (fun r h => ⟨fun c => (h c).2, sem_eq_zero_of_no_sems (by decide) r.2⟩)
    (Cert.AttendReferenceIdeal.Value.run (F := Ideal) m ρ)

section
open Cert.AttendIdeal.Result

/-- The attention's two results are the same array. -/
theorem algebraic_attend : Cert.algebraic_AttendIdeal_AttendReferenceIdeal_pre_finite := by
  intro m ρ m' ρ' hpre hagree
  refine ⟨fun c => total (A0 m c) (A1 m c) (A2 m c) (A3 m c), ?_, ?_⟩
  · refine (θ_run Cert.AttendIdeal.defs _ _).mono (fun _ h c => ⟨?_, (h c).2⟩) (Cert.AttendIdeal.Value.run_blocks (F := Ideal) m ρ)
    exact (h c).1.trans (final_o m c)
  · refine (θ_run Cert.AttendReferenceIdeal.defs _ _).mono (fun _ h c => ⟨(h c).1.trans ?_, (h c).2⟩)
      (Cert.AttendReferenceIdeal.Value.run (F := Ideal) m' ρ')
    obtain ⟨h0, h1, h2, h3⟩ := hagree c
    obtain ⟨hq, hk, hs⟩ := Cert.AttendReferenceIdeal.Result.finite (A0 m c) (A1 m c) (A2 m c) (A3 m c) ix0 (congrFun (hpre c) ix0)
    refine (Cert.AttendReferenceIdeal.Result.res_eq m' c).trans ?_
    rw [h0, h1, h2, h3]
    funext y
    exact (congrArg _ (eq_ix3 (n0 := 2) (n1 := 8192) (n2 := 512) y)).trans
      ((Cert.AttendReferenceIdeal.Result.value_eq (A0 m c) (A1 m c) (A2 m c) (A3 m c) hq hk hs (y 0) (y 1) (y 2)).trans (congrArg _ (eq_ix3 (n0 := 2) (n1 := 8192) (n2 := 512) y).symm))

end

theorem frame_mlstm : Cert.quiescent_Mlstm := fun m ρ _ => Cert.Mlstm.Gen.frame (F := Bits) m ρ

theorem frame_mlstmIdeal : Cert.quiescent_MlstmIdeal := fun m ρ _ => Cert.MlstmIdeal.Gen.frame (F := Ideal) m ρ

theorem frame_mlstmReferenceIdeal : Cert.quiescent_MlstmReferenceIdeal := fun m ρ _ =>
  (θ_run Cert.MlstmReferenceIdeal.defs _ _).mono (fun r h => ⟨fun c => (h c).2.2.2.2, sem_eq_zero_of_no_sems (by decide) r.2⟩)
    (Cert.MlstmReferenceIdeal.Value.run (F := Ideal) m ρ)

/-- The mask's fill is the named constant's value. -/
theorem preserves_mlstm : Cert.preserves_Mlstm_MlstmIdeal :=
  IdealRules.named_const.statement Cert.MlstmIdeal.κ "mask" .f32 0xF149F2CA#32 ⊥ rfl

section
open Cert.MlstmIdeal.Result
open Cert.MlstmReferenceIdeal.Result (value9_all value10_all value11_all value12_all)

/-- The recurrence's four results are the same arrays. -/
theorem algebraic_mlstm : Cert.algebraic_MlstmIdeal_MlstmReferenceIdeal := by
  intro m ρ m' ρ' hpre hagree
  refine ⟨fun c => flat9 (A0 m c) (A1 m c) (A2 m c) (A3 m c) (A4 m c) (A5 m c) (A6 m c) (A7 m c) (A8 m c),
    fun c => total10 (A1 m c) (A2 m c) (A4 m c) (A5 m c) (A7 m c),
    fun c => total11 (A1 m c) (A4 m c) (A6 m c) (A7 m c),
    fun c => total12 (A4 m c) (A7 m c), ?_, ?_⟩
  · refine (θ_run Cert.MlstmIdeal.defs _ _).mono (fun _ h c => ⟨?_, ?_, ?_, ?_, (h c).2.2.2.2⟩) (Cert.MlstmIdeal.Value.run_blocks (F := Ideal) m ρ)
    · exact (h c).1.trans (final9 m c)
    · exact (h c).2.1.trans (final10 m c)
    · exact (h c).2.2.1.trans (final11 m c)
    · exact (h c).2.2.2.1.trans (final12 m c)
  · refine (θ_run Cert.MlstmReferenceIdeal.defs _ _).mono (fun _ h c => ⟨(h c).1.trans ?_, (h c).2.1.trans ?_, (h c).2.2.1.trans ?_, (h c).2.2.2.1.trans ?_, (h c).2.2.2.2⟩)
      (Cert.MlstmReferenceIdeal.Value.run (F := Ideal) m' ρ')
    all_goals
      obtain ⟨h0, h1, h2, h3, h4, h5, h6, h7, h8⟩ := hagree c
    · refine (value9_all (StableHlo.launchContents m' c)).trans ?_
      exact congr (congr (congr (congr (congr (congr (congr (congr (congrArg flat9 h0) h1) h2) h3) h4) h5) h6) h7) h8
    · refine (value10_all (StableHlo.launchContents m' c)).trans ?_
      exact congr (congr (congr (congr (congrArg total10 h1) h2) h4) h5) h7
    · refine (value11_all (StableHlo.launchContents m' c)).trans ?_
      exact congr (congr (congr (congrArg total11 h1) h4) h6) h7
    · refine (value12_all (StableHlo.launchContents m' c)).trans ?_
      exact congr (congrArg total12 h4) h7

end

theorem claim : Cert.Claim := ⟨Cert.Kernel.Gen.facts, Cert.KernelIdeal.Gen.facts, Cert.ReferenceIdeal.Gen.facts,
  Cert.Final.Gen.facts, Cert.FinalIdeal.Gen.facts, Cert.FinalReferenceIdeal.Gen.facts,
  Cert.InProj.Gen.facts, Cert.InProjIdeal.Gen.facts, Cert.InProjReferenceIdeal.Gen.facts,
  Cert.Attend.Gen.facts, Cert.AttendIdeal.Gen.facts, Cert.AttendReferenceIdeal.Gen.facts,
  Cert.Mlstm.Gen.facts, Cert.MlstmIdeal.Gen.facts, Cert.MlstmReferenceIdeal.Gen.facts, Cert.Pre_gates_nonneg.Gen.facts, Cert.Pre_finite.Gen.facts,
  frame_kernel, frame_kernelIdeal, fun m ρ h => frame_kernelIdeal m ρ trivial, frame_referenceIdeal, fun m ρ h => frame_referenceIdeal m ρ trivial,
  frame_final, frame_finalIdeal, frame_finalReferenceIdeal, frame_inProj, frame_inProjIdeal, frame_inProjReferenceIdeal,
  frame_attend, frame_attendIdeal, fun m ρ h => frame_attendIdeal m ρ trivial, frame_attendReferenceIdeal, fun m ρ h => frame_attendReferenceIdeal m ρ trivial,
  frame_mlstm, frame_mlstmIdeal, frame_mlstmReferenceIdeal,
  trivial, algebraic, trivial, algebraic_final, trivial, algebraic_inProj, trivial, algebraic_attend,
  preserves_mlstm, algebraic_mlstm⟩

end Cert.Proof

end
